-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v111_0)) (v1 : (c : Dev Cert.KernelIdeal.nD) → Buf (Elt Ideal) ((c.tc : Thread Cert.KernelIdeal.nD Cert.KernelIdeal.τ).loc Cert.KernelIdeal.main_v111_2)) (v2 : (c : Dev Cert.KernelIdeal.nD) → Buf (Elt Ideal) ((c.tc : Thread Cert.KernelIdeal.nD Cert.KernelIdeal.τ).loc Cert.KernelIdeal.main_v111_4)) (v3 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111_0) = v0 c
          ∧ r.2.mem ((c.tc : Thread Cert.KernelIdeal.nD Cert.KernelIdeal.τ).loc Cert.KernelIdeal.main_v111_2) = v1 c
          ∧ r.2.mem ((c.tc : Thread Cert.KernelIdeal.nD Cert.KernelIdeal.τ).loc Cert.KernelIdeal.main_v111_4) = v2 c
          ∧ r.2.mem ((c.tc : Thread Cert.KernelIdeal.nD Cert.KernelIdeal.τ).loc Cert.KernelIdeal.main_v118) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_v75) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v17_0)) (v1 : (c : Dev Cert.Kernel8Ideal.nD) → Buf (Elt Ideal) ((c.tc : Thread Cert.Kernel8Ideal.nD Cert.Kernel8Ideal.τ).loc Cert.Kernel8Ideal.main_v17_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v17_0) = v0 c
          ∧ r.2.mem ((c.tc : Thread Cert.Kernel8Ideal.nD Cert.Kernel8Ideal.τ).loc Cert.Kernel8Ideal.main_v17_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  bcast_S_S8192x16 : S_.BroadcastsInDim S8192x16 (![] : Fin 0 → Fin S8192x16.rank)

variable [Facts]

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S8192x1024 1 × IVec S8192x1024 1 × IVec S8192x1024 1 × IVec S8192x16 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x16 .f32 := Host.absf main_arg3
  let main_cst_2 : FVec F S_ .f32 := constant S_ .f32 0x7F800000#32
  let main_v10 : FVec F S8192x16 .f32 := broadcastInDim S8192x16 ![] bcast_S_S8192x16 main_cst_2
  let main_v11 : IVec S8192x16 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite2.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

class Facts : Prop where
  bcast_S_S8192x2816 : S_.BroadcastsInDim S8192x2816 (![] : Fin 0 → Fin S8192x2816.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x2816 .f32) (main_arg1 : FVec F S8192x2816 .f32) (main_arg2 : FVec F S2816x1024 .f32) (main_arg3 : FVec F S8192x1024 .f32) : IVec S8192x2816 1 × IVec S8192x2816 1 × IVec S2816x1024 1 × IVec S8192x1024 1 :=
  let main_v0 : FVec F S8192x2816 .f32 := Host.absf main_arg0
  let main_cst : FVec F S_ .f32 := constant S_ .f32 0x7F800000#32
  let main_v1 : FVec F S8192x2816 .f32 := broadcastInDim S8192x2816 ![] bcast_S_S8192x2816 main_cst
  let main_v2 : IVec S8192x2816 1 := cmpf .olt main_v0 main_v1
  let main_v3 : FVec F S8192x2816 .f32 := Host.absf main_arg1
  let main_cst_0 : FVec F S_ .f32 := constant S_ .f32 0x7F800000#32
  let main_v4 : FVec F S8192x2816 .f32 := broadcastInDim S8192x2816 ![] bcast_S_S8192x2816 main_cst_0
  let main_v5 : IVec S8192x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Kernel.lean ====
abbrev S8192x1024 : Shape := ⟨2, ![8192, 1024]⟩
abbrev S8192x16 : Shape := ⟨2, ![8192, 16]⟩
abbrev S_ : Shape := ⟨0, ![]⟩
abbrev S8192x16x64 : Shape := ⟨3, ![8192, 16, 64]⟩
abbrev S16x8192x64 : Shape := ⟨3, ![16, 8192, 64]⟩
abbrev S16x8192 : Shape := ⟨2, ![16, 8192]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8192x3072 : Shape := ⟨2, ![8192, 3072]⟩
abbrev S8192x8x2 : Shape := ⟨3, ![8192, 8, 2]⟩
abbrev S8x8192x2 : Shape := ⟨3, ![8, 8192, 2]⟩
abbrev S8x8192x1 : Shape := ⟨3, ![8, 8192, 1]⟩
abbrev S8x8192 : Shape := ⟨2, ![8, 8192]⟩
abbrev S8192x8 : Shape := ⟨2, ![8192, 8]⟩
abbrev S8192x8x1 : Shape := ⟨3, ![8192, 8, 1]⟩
abbrev S8192x8x128 : Shape := ⟨3, ![8192, 8, 128]⟩
abbrev S8192x8x8 : Shape := ⟨3, ![8192, 8, 8]⟩
abbrev S8192x8x120 : Shape := ⟨3, ![8192, 8, 120]⟩
abbrev S8192x8x256 : Shape := ⟨3, ![8192, 8, 256]⟩
abbrev S8192x2048 : Shape := ⟨2, ![8192, 2048]⟩
abbrev S8192x8x118 : Shape := ⟨3, ![8192, 8, 118]⟩
abbrev S8x1024x8x2 : Shape := ⟨4, ![8, 1024, 8, 2]⟩
abbrev S8x8x2x1024 : Shape := ⟨4, ![8, 8, 2, 1024]⟩
abbrev S8x16x8192 : Shape := ⟨3, ![8, 16, 8192]⟩
abbrev S8x8x16x1024 : Shape := ⟨4, ![8, 8, 16, 1024]⟩
abbrev S1024x256 : Shape := ⟨2, ![1024, 256]⟩
abbrev S1024x128 : Shape := ⟨2, ![1024, 128]⟩
abbrev S8192x256 : Shape := ⟨2, ![8192, 256]⟩
abbrev S8192x128 : Shape := ⟨2, ![8192, 128]⟩
abbrev S1x8x2x1024 : Shape := ⟨4, ![1, 8, 2, 1024]⟩
abbrev S1x16x8192 : Shape := ⟨3, ![1, 16, 8192]⟩
abbrev S1x1x16x1024 : Shape := ⟨4, ![1, 1, 16, 1024]⟩
abbrev S1024x1024 : Shape := ⟨2, ![1024, 1024]⟩
abbrev S1x1x1x1024 : Shape := ⟨4, ![1, 1, 1, 1024]⟩
abbrev S1x1024 : Shape := ⟨2, ![1, 1024]⟩
abbrev S128x1024 : Shape := ⟨2, ![128, 1024]⟩
abbrev S16x1024 : Shape := ⟨2, ![16, 1024]⟩
abbrev S1x16x1024 : Shape := ⟨3, ![1, 16, 1024]⟩
abbrev S8x2x8192 : Shape := ⟨3, ![8, 2, 8192]⟩

abbrev nBuf : Space → Nat
  | .hbm => 143
  | .vmem => 23
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x16, .f32⟩
  | 4 => ⟨S8192x1024, .f32⟩
  | 5 => ⟨S_, .f32⟩
  | 6 => ⟨S_, .f32⟩
  | 7 => ⟨S8192x16x64, .f32⟩
  | 8 => ⟨S16x8192x64, .f32⟩
  | 9 => ⟨S8192x16x64, .f32⟩
  | 10 => ⟨S16x8192x64, .f32⟩
  | 11 => ⟨S16x8192, .f32⟩
  | 12 => ⟨S16x8192x8192, .f32⟩
  | 13 => ⟨S_, .f32⟩
  | 14 => ⟨S16x8192x8192, .f32⟩
  | 15 => ⟨S16x8192x8192, .f32⟩
  | 16 => ⟨S16x8192x1, .f32⟩
  | 17 => ⟨S16x1x8192, .f32⟩
  | 18 => ⟨S16x8192x8192, .f32⟩
  | 19 => ⟨S16x8192x8192, .f32⟩
  | 20 => ⟨S16x8192x8192, .f32⟩
  | 21 => ⟨S16x8192x8192, .f32⟩
  | 22 => ⟨S8192, .i32⟩
  | 23 => ⟨S1x8192, .i32⟩
  | 24 => ⟨S8192, .i32⟩
  | 25 => ⟨S8192x1, .i32⟩
  | 26 => ⟨S8192x8192, .i32⟩
  | 27 => ⟨S8192x8192, .i32⟩
  | 28 => ⟨S8192x8192, .i1⟩
  | 29 => ⟨S_, .f32⟩
  | 30 => ⟨S_, .f32⟩
  | 31 => ⟨S16x8192x8192, .i1⟩
  | 32 => ⟨S16x8192x8192, .f32⟩
  | 33 => ⟨S16x8192x8192, .f32⟩
  | 34 => ⟨S_, .f32⟩
  | 35 => ⟨S16x8192, .f32⟩
  | 36 => ⟨S16x8192x1, .f32⟩
  | 37 => ⟨S16x8192x8192, .f32⟩
  | 38 => ⟨S16x8192x8192, .f32⟩
  | 39 => ⟨S16x8192x8192, .f32⟩
  | 40 => ⟨S_, .f32⟩
  | 41 => ⟨S16x8192, .f32⟩
  | 42 => ⟨S16x8192x1, .f32⟩
  | 43 => ⟨S16x8192x1, .f32⟩
  | 44 => ⟨S16x8192x1, .f32⟩
  | 45 => ⟨S16x8192, .f32⟩
  | 46 => ⟨S8192x16, .f32⟩
  | 47 => ⟨S8192x16, .f32⟩
  | 48 => ⟨S8192x16, .f32⟩
  | 49 => ⟨S8192x16, .f32⟩
  | 50 => ⟨S16x8192x8192, .f32⟩
  | 51 => ⟨S16x8192x8192, .f32⟩
  | 52 => ⟨S8192x16x64, .f32⟩
  | 53 => ⟨S16x8192x64, .f32⟩
  | 54 => ⟨S16x8192x64, .f32⟩
  | 55 => ⟨S8192x16x64, .f32⟩
  | 56 => ⟨S8192x1024, .f32⟩
  | 57 => ⟨S8192x1024, .f32⟩
  | 58 => ⟨S8192x16x64, .f32⟩
  | 59 => ⟨S_, .f32⟩
  | 60 => ⟨S8192x16, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S8192x1024, .bf16⟩
  | 67 => ⟨S8192x1024, .bf16⟩
  | 68 => ⟨S8192x1024, .bf16⟩
  | 69 => ⟨S8192x3072, .bf16⟩
  | 70 => ⟨S8192x8x2, .f32⟩
  | 71 => ⟨S8x8192x2, .f32⟩
  | 72 => ⟨S8x8192x1, .f32⟩
  | 73 => ⟨S8x8192, .f32⟩
  | 74 => ⟨S8x8192, .f32⟩
  | 75 => ⟨S8x8192, .f32⟩
  | 76 => ⟨S8x8192, .f32⟩
  | 77 => ⟨S8x8192, .bf16⟩
  | 78 => ⟨S8x8192, .f32⟩
  | 79 => ⟨S8x8192, .f32⟩
  | 80 => ⟨S8x8192, .bf16⟩
  | 81 => ⟨S8x8192, .f32⟩
  | 82 => ⟨S8x8192, .f32⟩
  | 83 => ⟨S8x8192, .bf16⟩
  | 84 => ⟨S8192x8, .bf16⟩
  | 85 => ⟨S8192x8x1, .bf16⟩
  | 86 => ⟨S8192x8, .bf16⟩
  | 87 => ⟨S8192x8x1, .bf16⟩
  | 88 => ⟨S8192x8, .bf16⟩
  | 89 => ⟨S8192x8x1, .bf16⟩
  | 90 => ⟨S8x8192x1, .f32⟩
  | 91 => ⟨S8x8192, .f32⟩
  | 92 => ⟨S8x8192, .f32⟩
  | 93 => ⟨S8x8192, .f32⟩
  | 94 => ⟨S8x8192, .f32⟩
  | 95 => ⟨S8x8192, .bf16⟩
  | 96 => ⟨S8x8192, .f32⟩
  | 97 => ⟨S8x8192, .f32⟩
  | 98 => ⟨S8x8192, .bf16⟩
  | 99 => ⟨S8x8192, .f32⟩
  | 100 => ⟨S8x8192, .f32⟩
  | 101 => ⟨S8x8192, .bf16⟩
  | 102 => ⟨S8192x8, .bf16⟩
  | 103 => ⟨S8192x8x1, .bf16⟩
  | 104 => ⟨S8192x8, .bf16⟩
  | 105 => ⟨S8192x8x1, .bf16⟩
  | 106 => ⟨S8192x8, .bf16⟩
  | 107 => ⟨S8192x8x1, .bf16⟩
  | 108 => ⟨S8192x1024, .bf16⟩
  | 109 => ⟨S8192x8x128, .bf16⟩
  | 110 => ⟨S_, .bf16⟩
  | 111 => ⟨S8192x8x8, .bf16⟩
  | 112 => ⟨S_, .bf16⟩
  | 113 => ⟨S8192x8x120, .bf16⟩
  | 114 => ⟨S8192x8x256, .bf16⟩
  | 115 => ⟨S8192x2048, .bf16⟩
  | 116 => ⟨S8192x1024, .bf16⟩
  | 117 => ⟨S8192x8x128, .bf16⟩
  | 118 => ⟨S_, .bf16⟩
  | 119 => ⟨S8192x8x2, .bf16⟩
  | 120 => ⟨S_, .bf16⟩
  | 121 => ⟨S8192x8x2, .bf16⟩
  | 122 => ⟨S_, .bf16⟩
  | 123 => ⟨S8192x8x118, .bf16⟩
  | 124 => ⟨S8192x8x256, .bf16⟩
  | 125 => ⟨S8192x2048, .bf16⟩
  | 126 => ⟨S8192x1024, .bf16⟩
  | 127 => ⟨S8x1024x8x2, .f32⟩
  | _ => ⟨S8192x1024, .f32⟩

abbrev hbmTy0_1 (i : Nat) : BufTy := match i % 128 with
  | 0 => ⟨S8x8x2x1024, .f32⟩
  | 1 => ⟨S8x1024x8x2, .f32⟩
  | 2 => ⟨S8x8x2x1024, .f32⟩
  | 3 => ⟨S8192x1024, .bf16⟩
  | 4 => ⟨S8x16x8192, .f32⟩
  | 5 => ⟨S8192x1024, .bf16⟩
  | 6 => ⟨S8x8x16x1024, .f32⟩
  | 7 => ⟨S8192x1024, .bf16⟩
  | 8 => ⟨S8x2x8192, .f32⟩
  | 9 => ⟨S8192x8x2, .f32⟩
  | 10 => ⟨S8192x16, .f32⟩
  | 11 => ⟨S8x8x2x1024, .f32⟩
  | 12 => ⟨S8x1024x8x2, .f32⟩
  | 13 => ⟨S8192x16, .f32⟩
  | 14 => ⟨S8192x16, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S1x8x2x1024, .f32⟩
  | .local _ .vmem, ⟨9, _⟩ => ⟨S1x8x2x1024, .f32⟩
  | .local _ .vmem, ⟨10, _⟩ => ⟨S1x8x2x1024, .f32⟩
  | .local _ .vmem, ⟨11, _⟩ => ⟨S1x8x2x1024, .f32⟩
  | .local _ .vmem, ⟨12, _⟩ => ⟨S8192x128, .bf16⟩
  | .local _ .vmem, ⟨13, _⟩ => ⟨S8192x128, .bf16⟩
  | .local _ .vmem, ⟨14, _⟩ => ⟨S1x16x8192, .f32⟩
  | .local _ .vmem, ⟨15, _⟩ => ⟨S1x16x8192, .f32⟩
  | .local _ .vmem, ⟨16, _⟩ => ⟨S1024x128, .bf16⟩
  | .local _ .vmem, ⟨17, _⟩ => ⟨S1024x128, .bf16⟩
  | .local _ .vmem, ⟨18, _⟩ => ⟨S1x1x16x1024, .f32⟩
  | .local _ .vmem, ⟨19, _⟩ => ⟨S1x1x16x1024, .f32⟩
  | .local _ .vmem, ⟨20, _⟩ => ⟨S1024x128, .bf16⟩
  | .local _ .vmem, ⟨21, _⟩ => ⟨S1024x128, .bf16⟩
  | .local _ .vmem, ⟨22, _⟩ => ⟨S8192x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_6 : Ref sig .tc := ⟨.hbm, 110, rfl⟩
abbrev main_v95 : Ref sig .tc := ⟨.hbm, 111, rfl⟩
abbrev main_cst_7 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_8 : Ref sig .tc := ⟨.hbm, 118, rfl⟩
abbrev main_v101 : Ref sig .tc := ⟨.hbm, 119, rfl⟩
abbrev main_cst_9 : Ref sig .tc := ⟨.hbm, 120, rfl⟩
abbrev main_v102 : Ref sig .tc := ⟨.hbm, 121, rfl⟩
abbrev main_cst_10 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111_0 : Ref sig .tc := ⟨.hbm, 131, rfl⟩
abbrev main_v111_1 : Ref sig .tc := ⟨.hbm, 132, rfl⟩
abbrev main_v111_2 : Ref sig .tc := ⟨.hbm, 133, rfl⟩
abbrev main_v111_3 : Ref sig .tc := ⟨.hbm, 134, rfl⟩
abbrev main_v111_4 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v82 : BitVec 32 := Scalar.muli arg1 c1024_i32
  v82
def k0_off1 (i : grid0.Coords) : Fin 2 → Nat :=
  let arg1 : BitVec 32 := BitVec.ofNat 32 (i 1).val
  let c1024_i32 : BitVec 32 := 1024#32
  let v82 : BitVec 32 := Scalar.muli arg1 c1024_i32
  let v83 : BitVec 32 := v82
  let v84 : Index := Scalar.indexCast v83
  let c0_24 : Index := 0#32
  ![v84.toNat, 0]
def k0_off2 (i : grid0.Coords) : Fin 2 → Nat :=
  let arg1 : BitVec 32 := BitVec.ofNat 32 (i 1).val
  let c1024_i32 : BitVec 32 := 1024#32
  let v82 : BitVec 32 := Scalar.muli arg1 c1024_i32
  let v83 : BitVec 32 := v82
  let v87 : Index := Scalar.indexCast v83
  let c0_25 : Index := 0#32
  ![v87.toNat, 0]
def k0_off3 (i : grid0.Coords) : Fin 4 → Nat :=
  let c0_30 : Index := 0#32
  let arg1 : BitVec 32 := BitVec.ofNat 32 (i 1).val
  let v98 : Index := Scalar.indexCast arg1
  let c0_31 : Index := 0#32
  let c0_32 : Index := 0#32
  ![0, v98.toNat, 0, 0]
@[reducible] def k0_t1_loop (i : grid0.Coords) : Scf.Loop 32 :=
  let arg1 : BitVec 32 := BitVec.ofNat 32 (i 1).val
  let c1_i32 : BitVec 32 := 1#32
  let v125 : BitVec 32 := Scalar.addi arg1 c1_i32
  let c8_i32_42 : BitVec 32 := 8#32
  let v126 : BitVec 32 := Scalar.subi c8_i32_42 v125
  let c1_i32_43 : BitVec 32 := 1#32
  let v128 : BitVec 32 := Scalar.divsi v126 c1_i32_43
  let v129 : BitVec 32 := Scalar.muli v128 c1_i32_43
  let v130 : BitVec 32 := Scalar.addi v125 v129
  let c1_i32_44 : BitVec 32 := 1#32
  ⟨v125, v130, c1_i32_44⟩
def k0_mult2 (i : grid0.Coords) (k0_t1 : Fin (k0_t1_loop i).trips) : BitVec 32 :=
  let arg1 : BitVec 32 := BitVec.ofNat 32 (i 1).val
  let c1_i32 : BitVec 32 := 1#32
  let v125 : BitVec 32 := Scalar.addi arg1 c1_i32
  let c1_i32_44 : BitVec 32 := 1#32
  let arg14 : BitVec 32 := Scf.iv v125 c1_i32_44 k0_t1
  let c1024_i32_82 : BitVec 32 := 1024#32
  let v204 : BitVec 32 := Scalar.muli arg14 c1024_i32_82
  v204
def k0_off4 (i : grid0.Coords) (k0_t1 : Fin (k0_t1_loop i).trips) : Fin 2 → Nat :=
  let arg1 : BitVec 32 := BitVec.ofNat 32 (i 1).val
  let c1_i32 : BitVec 32 := 1#32
  let v125 : BitVec 32 := Scalar.addi arg1 c1_i32
  let c1_i32_44 : BitVec 32 := 1#32
  let arg14 : BitVec 32 := Scf.iv v125 c1_i32_44 k0_t1
  let c1024_i32_82 : BitVec 32 := 1024#32
  let v204 : BitVec 32 := Scalar.muli arg14 c1024_i32_82
  let v205 : BitVec 32 := v204
  let v206 : Index := Scalar.indexCast v205
  let c0_83 : Index := 0#32
  ![v206.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v125 : BitVec 32 := Scalar.addi arg1 c1_i32
  let c1_i32_44 : BitVec 32 := 1#32
  let arg14 : BitVec 32 := Scf.iv v125 c1_i32_44 k0_t1
  let c1024_i32_82 : BitVec 32 := 1024#32
  let v204 : BitVec 32 := Scalar.muli arg14 c1024_i32_82
  let v205 : BitVec 32 := v204
  let v209 : Index := Scalar.indexCast v205
  let c0_84 : Index := 0#32
  ![v209.toNat, 0]
def k0_off6 (i : grid0.Coords) (k0_t1 : Fin (k0_t1_loop i).trips) : Fin 4 → Nat :=
  let c0_88 : Index := 0#32
  let arg1 : BitVec 32 := BitVec.ofNat 32 (i 1).val
  let c1_i32 : BitVec 32 := 1#32
  let v125 : BitVec 32 := Scalar.addi arg1 c1_i32
  let c1_i32_44 : BitVec 32 := 1#32
  let arg14 : BitVec 32 := Scf.iv v125 c1_i32_44 k0_t1
  let v217 : Index := Scalar.indexCast arg14
  let c0_89 : Index := 0#32
  let c0_90 : Index := 0#32
  ![0, v217.toNat, 0, 0]
@[reducible] def k0_t2_loop (i : grid0.Coords) : Scf.Loop 32 :=
  let arg1 : BitVec 32 := BitVec.ofNat 32 (i 1).val
  let c1_i32 : BitVec 32 := 1#32
  let v125 : BitVec 32 := Scalar.addi arg1 c1_i32
  let c8_i32_42 : BitVec 32 := 8#32
  let v126 : BitVec 32 := Scalar.subi c8_i32_42 v125
  let c1_i32_43 : BitVec 32 := 1#32
  let v128 : BitVec 32 := Scalar.divsi v126 c1_i32_43
  let v129 : BitVec 32 := Scalar.muli v128 c1_i32_43
  let v130 : BitVec 32 := Scalar.addi v125 v129
  let v127 : BitVec 32 := Scalar.addi v125 v126
  let c1_i32_45 : BitVec 32 := 1#32
  ⟨v130, v127, c1_i32_45⟩
def k0_mult3 (i : grid0.Coords) (k0_t2 : Fin (k0_t2_loop i).trips) : BitVec 32 :=
  let arg1 : BitVec 32 := BitVec.ofNat 32 (i 1).val
  let c1_i32 : BitVec 32 := 1#32
  let v125 : BitVec 32 := Scalar.addi arg1 c1_i32
  let c8_i32_42 : BitVec 32 := 8#32
  let v126 : BitVec 32 := Scalar.subi c8_i32_42 v125
  let c1_i32_43 : BitVec 32 := 1#32
  let v128 : BitVec 32 := Scalar.divsi v126 c1_i32_43
  let v129 : BitVec 32 := Scalar.muli v128 c1_i32_43
  let v130 : BitVec 32 := Scalar.addi v125 v129
  let c1_i32_45 : BitVec 32 := 1#32
  let arg14 : BitVec 32 := Scf.iv v130 c1_i32_45 k0_t2
  let c1024_i32_82 : BitVec 32 := 1024#32
  let v204 : BitVec 32 := Scalar.muli arg14 c1024_i32_82
  v204
def k0_off7 (i : grid0.Coords) (k0_t2 : Fin (k0_t2_loop i).trips) : Fin 2 → Nat :=
  let arg1 : BitVec 32 := BitVec.ofNat 32 (i 1).val
  let c1_i32 : BitVec 32 := 1#32
  let v125 : BitVec 32 := Scalar.addi arg1 c1_i32
  let c8_i32_42 : BitVec 32 := 8#32
  let v126 : BitVec 32 := Scalar.subi c8_i32_42 v125
  let c1_i32_43 : BitVec 32 := 1#32
  let v128 : BitVec 32 := Scalar.divsi v126 c1_i32_43
  let v129 : BitVec 32 := Scalar.muli v128 c1_i32_43
  let v130 : BitVec 32 := Scalar.addi v125 v129
  let c1_i32_45 : BitVec 32 := 1#32
  let arg14 : BitVec 32 := Scf.iv v130 c1_i32_45 k0_t2
  let c1024_i32_82 : BitVec 32 := 1024#32
  let v204 : BitVec 32 := Scalar.muli arg14 c1024_i32_82
  let v205 : BitVec 32 := v204
  let v206 : Index := Scalar.indexCast v205
  let c0_83 : Index := 0#32
  ![v206.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v125 : BitVec 32 := Scalar.addi arg1 c1_i32
  let c8_i32_42 : BitVec 32 := 8#32
  let v126 : BitVec 32 := Scalar.subi c8_i32_42 v125
  let c1_i32_43 : BitVec 32 := 1#32
  let v128 : BitVec 32 := Scalar.divsi v126 c1_i32_43
  let v129 : BitVec 32 := Scalar.muli v128 c1_i32_43
  let v130 : BitVec 32 := Scalar.addi v125 v129
  let c1_i32_45 : BitVec 32 := 1#32
  let arg14 : BitVec 32 := Scf.iv v130 c1_i32_45 k0_t2
  let c1024_i32_82 : BitVec 32 := 1024#32
  let v204 : BitVec 32 := Scalar.muli arg14 c1024_i32_82
  let v205 : BitVec 32 := v204
  let v209 : Index := Scalar.indexCast v205
  let c0_84 : Index := 0#32
  ![v209.toNat, 0]
def k0_off9 (i : grid0.Coords) (k0_t2 : Fin (k0_t2_loop i).trips) : Fin 4 → Nat :=
  let c0_88 : Index := 0#32
  let arg1 : BitVec 32 := BitVec.ofNat 32 (i 1).val
  let c1_i32 : BitVec 32 := 1#32
  let v125 : BitVec 32 := Scalar.addi arg1 c1_i32
  let c8_i32_42 : BitVec 32 := 8#32
  let v126 : BitVec 32 := Scalar.subi c8_i32_42 v125
  let c1_i32_43 : BitVec 32 := 1#32
  let v128 : BitVec 32 := Scalar.divsi v126 c1_i32_43
  let v129 : BitVec 32 := Scalar.muli v128 c1_i32_43
  let v130 : BitVec 32 := Scalar.addi v125 v129
  let c1_i32_45 : BitVec 32 := 1#32
  let arg14 : BitVec 32 := Scf.iv v130 c1_i32_45 k0_t2
  let v217 : Index := Scalar.indexCast arg14
  let c0_89 : Index := 0#32
  let c0_90 : Index := 0#32
  ![0, v217.toNat, 0, 0]
def k0_mult4 (i : grid0.Coords) : BitVec 32 :=
  let arg1 : BitVec 32 := BitVec.ofNat 32 (i 1).val
  let c1024_i32_48 : BitVec 32 := 1024#32
  let v137 : BitVec 32 := Scalar.muli arg1 c1024_i32_48
  v137
def k0_off10 (i : grid0.Coords) : Fin 4 → Nat :=
  let c0_55 : Index := 0#32
  let arg1 : BitVec 32 := BitVec.ofNat 32 (i 1).val
  let v153 : Index := Scalar.indexCast arg1
  let c1 : Index := 1#32
  let c0_56 : Index := 0#32
  ![0, v153.toNat, 1, 0]
@[reducible] def k0_t3_loop (i : grid0.Coords) : Scf.Loop 32 :=
  let arg1 : BitVec 32 := BitVec.ofNat 32 (i 1).val
  let c1_i32_66 : BitVec 32 := 1#32
  let v180 : BitVec 32 := Scalar.addi arg1 c1_i32_66
  let c8_i32_67 : BitVec 32 := 8#32
  let v181 : BitVec 32 := Scalar.subi c8_i32_67 v180
  let c1_i32_68 : BitVec 32 := 1#32
  let v183 : BitVec 32 := Scalar.divsi v181 c1_i32_68
  let v184 : BitVec 32 := Scalar.muli v183 c1_i32_68
  let v185 : BitVec 32 := Scalar.addi v180 v184
  let c1_i32_69 : BitVec 32 := 1#32
  ⟨v180, v185, c1_i32_69⟩
def k0_mult5 (i : grid0.Coords) (k0_t3 : Fin (k0_t3_loop i).trips) : BitVec 32 :=
  let arg1 : BitVec 32 := BitVec.ofNat 32 (i 1).val
  let c1_i32_66 : BitVec 32 := 1#32
  let v180 : BitVec 32 := Scalar.addi arg1 c1_i32_66
  let c1_i32_69 : BitVec 32 := 1#32
  let arg14 : BitVec 32 := Scf.iv v180 c1_i32_69 k0_t3
  let c1024_i32_82 : BitVec 32 := 1024#32
  let v204 : BitVec 32 := Scalar.muli arg14 c1024_i32_82
  v204
def k0_off11 (i : grid0.Coords) (k0_t3 : Fin (k0_t3_loop i).trips) : Fin 2 → Nat :=
  let arg1 : BitVec 32 := BitVec.ofNat 32 (i 1).val
  let c1_i32_66 : BitVec 32 := 1#32
  let v180 : BitVec 32 := Scalar.addi arg1 c1_i32_66
  let c1_i32_69 : BitVec 32 := 1#32
  let arg14 : BitVec 32 := Scf.iv v180 c1_i32_69 k0_t3
  let c1024_i32_82 : BitVec 32 := 1024#32
  let v204 : BitVec 32 := Scalar.muli arg14 c1024_i32_82
  let v205 : BitVec 32 := v204
  let v206 : Index := Scalar.indexCast v205
  let c0_83 : Index := 0#32
  ![v206.toNat, 0]
def k0_off12 (i : grid0.Coords) (k0_t3 : Fin (k0_t3_loop i).trips) : Fin 2 → Nat :=
  let arg1 : BitVec 32 := BitVec.ofNat 32 (i 1).val
  let c1_i32_66 : BitVec 32 := 1#32
  let v180 : BitVec 32 := Scalar.addi arg1 c1_i32_66
  let c1_i32_69 : BitVec 32 := 1#32
  let arg14 : BitVec 32 := Scf.iv v180 c1_i32_69 k0_t3
  let c1024_i32_82 : BitVec 32 := 1024#32
  let v204 : BitVec 32 := Scalar.muli arg14 c1024_i32_82
  let v205 : BitVec 32 := v204
  let v209 : Index := Scalar.indexCast v205
  let c0_84 : Index := 0#32
  ![v209.toNat, 0]
def k0_off13 (i : grid0.Coords) (k0_t3 : Fin (k0_t3_loop i).trips) : Fin 4 → Nat :=
  let c0_88 : Index := 0#32
  let arg1 : BitVec 32 := BitVec.ofNat 32 (i 1).val
  let c1_i32_66 : BitVec 32 := 1#32
  let v180 : BitVec 32 := Scalar.addi arg1 c1_i32_66
  let c1_i32_69 : BitVec 32 := 1#32
  let arg14 : BitVec 32 := Scf.iv v180 c1_i32_69 k0_t3
  let v217 : Index := Scalar.indexCast arg14
  let c1_89 : Index := 1#32
  let c0_90 : Index := 0#32
  ![0, v217.toNat, 1, 0]
@[reducible] def k0_t4_loop (i : grid0.Coords) : Scf.Loop 32 :=
  let arg1 : BitVec 32 := BitVec.ofNat 32 (i 1).val
  let c1_i32_66 : BitVec 32 := 1#32
  let v180 : BitVec 32 := Scalar.addi arg1 c1_i32_66
  let c8_i32_67 : BitVec 32 := 8#32
  let v181 : BitVec 32 := Scalar.subi c8_i32_67 v180
  let c1_i32_68 : BitVec 32 := 1#32
  let v183 : BitVec 32 := Scalar.divsi v181 c1_i32_68
  let v184 : BitVec 32 := Scalar.muli v183 c1_i32_68
  let v185 : BitVec 32 := Scalar.addi v180 v184
  let v182 : BitVec 32 := Scalar.addi v180 v181
  let c1_i32_70 : BitVec 32 := 1#32
  ⟨v185, v182, c1_i32_70⟩
def k0_mult6 (i : grid0.Coords) (k0_t4 : Fin (k0_t4_loop i).trips) : BitVec 32 :=
  let arg1 : BitVec 32 := BitVec.ofNat 32 (i 1).val
  let c1_i32_66 : BitVec 32 := 1#32
  let v180 : BitVec 32 := Scalar.addi arg1 c1_i32_66
  let c8_i32_67 : BitVec 32 := 8#32
  let v181 : BitVec 32 := Scalar.subi c8_i32_67 v180
  let c1_i32_68 : BitVec 32 := 1#32
  let v183 : BitVec 32 := Scalar.divsi v181 c1_i32_68
  let v184 : BitVec 32 := Scalar.muli v183 c1_i32_68
  let v185 : BitVec 32 := Scalar.addi v180 v184
  let c1_i32_70 : BitVec 32 := 1#32
  let arg14 : BitVec 32 := Scf.iv v185 c1_i32_70 k0_t4
  let c1024_i32_82 : BitVec 32 := 1024#32
  let v204 : BitVec 32 := Scalar.muli arg14 c1024_i32_82
  v204
def k0_off14 (i : grid0.Coords) (k0_t4 : Fin (k0_t4_loop i).trips) : Fin 2 → Nat :=
  let arg1 : BitVec 32 := BitVec.ofNat 32 (i 1).val
  let c1_i32_66 : BitVec 32 := 1#32
  let v180 : BitVec 32 := Scalar.addi arg1 c1_i32_66
  let c8_i32_67 : BitVec 32 := 8#32
  let v181 : BitVec 32 := Scalar.subi c8_i32_67 v180
  let c1_i32_68 : BitVec 32 := 1#32
  let v183 : BitVec 32 := Scalar.divsi v181 c1_i32_68
  let v184 : BitVec 32 := Scalar.muli v183 c1_i32_68
  let v185 : BitVec 32 := Scalar.addi v180 v184
  let c1_i32_70 : BitVec 32 := 1#32
  let arg14 : BitVec 32 := Scf.iv v185 c1_i32_70 k0_t4
  let c1024_i32_82 : BitVec 32 := 1024#32
  let v204 : BitVec 32 := Scalar.muli arg14 c1024_i32_82
  let v205 : BitVec 32 := v204
  let v206 : Index := Scalar.indexCast v205
  let c0_83 : Index := 0#32
  ![v206.toNat, 0]
def k0_off15 (i : grid0.Coords) (k0_t4 : Fin (k0_t4_loop i).trips) : Fin 2 → Nat :=
  let arg1 : BitVec 32 := BitVec.ofNat 32 (i 1).val
  let c1_i32_66 : BitVec 32 := 1#32
  let v180 : BitVec 32 := Scalar.addi arg1 c1_i32_66
  let c8_i32_67 : BitVec 32 := 8#32
  let v181 : BitVec 32 := Scalar.subi c8_i32_67 v180
  let c1_i32_68 : BitVec 32 := 1#32
  let v183 : BitVec 32 := Scalar.divsi v181 c1_i32_68
  let v184 : BitVec 32 := Scalar.muli v183 c1_i32_68
  let v185 : BitVec 32 := Scalar.addi v180 v184
  let c1_i32_70 : BitVec 32 := 1#32
  let arg14 : BitVec 32 := Scf.iv v185 c1_i32_70 k0_t4
  let c1024_i32_82 : BitVec 32 := 1024#32
  let v204 : BitVec 32 := Scalar.muli arg14 c1024_i32_82
  let v205 : BitVec 32 := v204
  let v209 : Index := Scalar.indexCast v205
  let c0_84 : Index := 0#32
  ![v209.toNat, 0]
def k0_off16 (i : grid0.Coords) (k0_t4 : Fin (k0_t4_loop i).trips) : Fin 4 → Nat :=
  let c0_88 : Index := 0#32
  let arg1 : BitVec 32 := BitVec.ofNat 32 (i 1).val
  let c1_i32_66 : BitVec 32 := 1#32
  let v180 : BitVec 32 := Scalar.addi arg1 c1_i32_66
  let c8_i32_67 : BitVec 32 := 8#32
  let v181 : BitVec 32 := Scalar.subi c8_i32_67 v180
  let c1_i32_68 : BitVec 32 := 1#32
  let v183 : BitVec 32 := Scalar.divsi v181 c1_i32_68
  let v184 : BitVec 32 := Scalar.muli v183 c1_i32_68
  let v185 : BitVec 32 := Scalar.addi v180 v184
  let c1_i32_70 : BitVec 32 := 1#32
  let arg14 : BitVec 32 := Scf.iv v185 c1_i32_70 k0_t4
  let v217 : Index := Scalar.indexCast arg14
  let c1_89 : Index := 1#32
  let c0_90 : Index := 0#32
  ![0, v217.toNat, 1, 0]
def k0_cond2 (i : grid0.Coords) : BitVec 1 :=
  let arg1 : BitVec 32 := BitVec.ofNat 32 (i 1).val
  let c7_i32_80 : BitVec 32 := 7#32
  let v201 : BitVec 1 := Scalar.cmpi .eq arg1 c7_i32_80
  let v202 : BitVec 32 := Scalar.extui v201
  let c0_i32_81 : BitVec 32 := 0#32
  let v203 : BitVec 1 := Scalar.cmpi .ne v202 c0_i32_81
  v203

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x1024 : Shape := ⟨2, ![8192, 1024]⟩
abbrev S8192x16 : Shape := ⟨2, ![8192, 16]⟩
abbrev S8192x16x64 : Shape := ⟨3, ![8192, 16, 64]⟩
abbrev S16x8192x64 : Shape := ⟨3, ![16, 8192, 64]⟩
abbrev S16x8192 : Shape := ⟨2, ![16, 8192]⟩
abbrev S16x8192x8192 : Shape := ⟨3, ![16, 8192, 8192]⟩
abbrev S_ : Shape := ⟨0, ![]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S16x8192x64, .f32⟩
  | .hbm, ⟨7, _⟩ => ⟨S8192x16x64, .f32⟩
  | .hbm, ⟨8, _⟩ => ⟨S16x8192x64, .f32⟩
  | .hbm, ⟨9, _⟩ => ⟨S8192x16x64, .f32⟩
  | .hbm, ⟨10, _⟩ => ⟨S16x8192x64, .f32⟩
  | .hbm, ⟨11, _⟩ => ⟨S16x8192, .f32⟩
  | .hbm, ⟨12, _⟩ => ⟨S16x8192x8192, .f32⟩
  | .hbm, ⟨13, _⟩ => ⟨S_, .f32⟩
  | .hbm, ⟨14, _⟩ => ⟨S16x8192x8192, .f32⟩
  | .hbm, ⟨15, _⟩ => ⟨S16x8192x8192, .f32⟩
  | .hbm, ⟨16, _⟩ => ⟨S16x8192x1, .f32⟩
  | .hbm, ⟨17, _⟩ => ⟨S16x1x8192, .f32⟩
  | .hbm, ⟨18, _⟩ => ⟨S16x8192x8192, .f32⟩
  | .hbm, ⟨19, _⟩ => ⟨S16x8192x8192, .f32⟩
  | .hbm, ⟨20, _⟩ => ⟨S16x8192x8192, .f32⟩
  | .hbm, ⟨21, _⟩ => ⟨S16x8192x8192, .f32⟩
  | .hbm, ⟨22, _⟩ => ⟨S8192, .i32⟩
  | .hbm, ⟨23, _⟩ => ⟨S1x8192, .i32⟩
  | .hbm, ⟨24, _⟩ => ⟨S8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S16x8192x8192, .i1⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S16x8192x1, .f32⟩
  | .hbm, ⟨39, _⟩ => ⟨S16x8192x8192, .f32⟩
  | .hbm, ⟨40, _⟩ => ⟨S16x8192x8192, .i1⟩
  | .hbm, ⟨41, _⟩ => ⟨S16x8192x8192, .f32⟩
  | .hbm, ⟨42, _⟩ => ⟨S_, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S16x8192, .f32⟩
  | .hbm, ⟨47, _⟩ => ⟨S_, .f32⟩
  | .hbm, ⟨48, _⟩ => ⟨S16x8192, .f32⟩
  | .hbm, ⟨49, _⟩ => ⟨S16x8192, .i1⟩
  | .hbm, ⟨50, _⟩ => ⟨S_, .f32⟩
  | .hbm, ⟨51, _⟩ => ⟨S16x8192, .f32⟩
  | .hbm, ⟨52, _⟩ => ⟨S16x8192, .i1⟩
  | .hbm, ⟨53, _⟩ => ⟨S_, .f32⟩
  | .hbm, ⟨54, _⟩ => ⟨S16x8192, .f32⟩
  | .hbm, ⟨55, _⟩ => ⟨S_, .f32⟩
  | .hbm, ⟨56, _⟩ => ⟨S16x8192, .f32⟩
  | .hbm, ⟨57, _⟩ => ⟨S_, .f32⟩
  | .hbm, ⟨58, _⟩ => ⟨S16x8192, .f32⟩
  | .hbm, ⟨59, _⟩ => ⟨S16x8192, .f32⟩
  | .hbm, ⟨60, _⟩ => ⟨S16x8192, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S16x8192x8192, .f32⟩
  | .hbm, ⟨65, _⟩ => ⟨S_, .f32⟩
  | .hbm, ⟨66, _⟩ => ⟨S16x8192, .f32⟩
  | .hbm, ⟨67, _⟩ => ⟨S16x8192x1, .f32⟩
  | .hbm, ⟨68, _⟩ => ⟨S16x8192x8192, .f32⟩
  | .hbm, ⟨69, _⟩ => ⟨S16x8192x8192, .f32⟩
  | .hbm, ⟨70, _⟩ => ⟨S16x8192x1, .f32⟩
  | .hbm, ⟨71, _⟩ => ⟨S_, .f32⟩
  | .hbm, ⟨72, _⟩ => ⟨S16x8192x1, .f32⟩
  | .hbm, ⟨73, _⟩ => ⟨S16x8192x1, .f32⟩
  | .hbm, ⟨74, _⟩ => ⟨S16x8192x64, .f32⟩
  | .hbm, ⟨75, _⟩ => ⟨S8192x16x64, .f32⟩
  | .hbm, ⟨76, _⟩ => ⟨S8192x1024, .f32⟩
  | .hbm, ⟨77, _⟩ => ⟨S8192x16x64, .f32⟩
  | .hbm, ⟨78, _⟩ => ⟨S16x8192x64, .f32⟩
  | .hbm, ⟨79, _⟩ => ⟨S16x64x8192, .f32⟩
  | .hbm, ⟨80, _⟩ => ⟨S16x8192x64, .f32⟩
  | .hbm, ⟨81, _⟩ => ⟨S16x8192x8192, .f32⟩
  | .hbm, ⟨82, _⟩ => ⟨S16x8192x8192, .f32⟩
  | .hbm, ⟨83, _⟩ => ⟨S16x8192x8192, .f32⟩
  | .hbm, ⟨84, _⟩ => ⟨S16x8192x8192, .f32⟩
  | .hbm, ⟨85, _⟩ => ⟨S_, .f32⟩
  | .hbm, ⟨86, _⟩ => ⟨S16x8192, .f32⟩
  | .hbm, ⟨87, _⟩ => ⟨S16x8192x1, .f32⟩
  | .hbm, ⟨88, _⟩ => ⟨S16x8192x1, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192, .f32⟩
  | .hbm, ⟨93, _⟩ => ⟨S16x8192x8192, .f32⟩
  | .hbm, ⟨94, _⟩ => ⟨S16x8192x8192, .f32⟩
  | .hbm, ⟨95, _⟩ => ⟨S16x8192x8192, .f32⟩
  | .hbm, ⟨96, _⟩ => ⟨S_, .f32⟩
  | .hbm, ⟨97, _⟩ => ⟨S16x8192x8192, .f32⟩
  | .hbm, ⟨98, _⟩ => ⟨S16x8192x8192, .f32⟩
  | .hbm, ⟨99, _⟩ => ⟨S_, .f32⟩
  | .hbm, ⟨100, _⟩ => ⟨S16x8192, .f32⟩
  | .hbm, ⟨101, _⟩ => ⟨S16x8192x1, .f32⟩
  | .hbm, ⟨102, _⟩ => ⟨S16x8192x8192, .f32⟩
  | .hbm, ⟨103, _⟩ => ⟨S_, .f32⟩
  | .hbm, ⟨104, _⟩ => ⟨S16x8192, .f32⟩
  | .hbm, ⟨105, _⟩ => ⟨S16x1x8192, .f32⟩
  | .hbm, ⟨106, _⟩ => ⟨S_, .f32⟩
  | .hbm, ⟨107, _⟩ => ⟨S16x8192, .f32⟩
  | .hbm, ⟨108, _⟩ => ⟨S_, .f32⟩
  | .hbm, ⟨109, _⟩ => ⟨S16x8192, .f32⟩
  | .hbm, ⟨110, _⟩ => ⟨S16x8192, .f32⟩
  | .hbm, ⟨111, _⟩ => ⟨S_, .f32⟩
  | .hbm, ⟨112, _⟩ => ⟨S16x8192x8192, .f32⟩
  | .hbm, ⟨113, _⟩ => ⟨S16x8192x8192, .f32⟩
  | .hbm, ⟨114, _⟩ => ⟨S16x8192x64, .f32⟩
  | .hbm, ⟨115, _⟩ => ⟨S16x8192x64, .f32⟩
  | .hbm, ⟨116, _⟩ => ⟨S8192x16, .f32⟩
  | .hbm, ⟨117, _⟩ => ⟨S8192x16x64, .f32⟩
  | .hbm, ⟨118, _⟩ => ⟨S8192x1024, .f32⟩
  | .hbm, ⟨119, _⟩ => ⟨S8192x16x64, .f32⟩
  | .hbm, ⟨120, _⟩ => ⟨S8192x1024, .f32⟩
  | .hbm, ⟨121, _⟩ => ⟨S8192x16x64, .f32⟩
  | .hbm, ⟨122, _⟩ => ⟨S8192x1024, .f32⟩
  | .hbm, ⟨123, _⟩ => ⟨S8192x1024, .bf16⟩
  | .hbm, ⟨124, _⟩ => ⟨S8192x1024, .bf16⟩
  | .hbm, ⟨125, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_call0_v0 : Ref sig .tc := ⟨.hbm, 30, rfl⟩
abbrev main_v23_1 : Ref sig .tc := ⟨.hbm, 31, rfl⟩
abbrev main_call0_v2 : Ref sig .tc := ⟨.hbm, 32, rfl⟩
abbrev main_v23_0 : Ref sig .tc := ⟨.hbm, 33, rfl⟩
abbrev main_call0_cst : Ref sig .tc := ⟨.hbm, 34, rfl⟩
abbrev main_v23_2 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_14 : Ref sig .tc := ⟨.hbm, 103, rfl⟩
abbrev main_v76 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_cst_17 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩

abbrev nD : Nat := 1
abbrev τ : Topo := Topo.v7x

variable {F : FTy → Type} [FloatOps F]
-- ==== Kernel2.lean ====
abbrev S8192x2816 : Shape := ⟨2, ![8192, 2816]⟩
abbrev S2816x1024 : Shape := ⟨2, ![2816, 1024]⟩
abbrev S8192x1024 : Shape := ⟨2, ![8192, 1024]⟩
abbrev S256x1024 : Shape := ⟨2, ![256, 1024]⟩
abbrev S256x2816 : Shape := ⟨2, ![256, 2816]⟩

abbrev nBuf : Space → Nat
  | .hbm => 10
  | .vmem => 11
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x1024, .bf16⟩
  | .hbm, ⟨5, _⟩ => ⟨S2816x1024, .bf16⟩
  | .hbm, ⟨6, _⟩ => ⟨S8192x2816, .bf16⟩
  | .hbm, ⟨7, _⟩ => ⟨S8192x2816, .bf16⟩
  | .hbm, ⟨8, _⟩ => ⟨S8192x2816, .bf16⟩
  | .hbm, ⟨9, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S2816x1024, .f32⟩
  | .hbm, ⟨3, _⟩ => ⟨S8192x1024, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x1024, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S8x1024 : Shape := ⟨2, ![8, 1024]⟩
abbrev S256x2816 : Shape := ⟨2, ![256, 2816]⟩
abbrev S256x1024 : Shape := ⟨2, ![256, 1024]⟩
abbrev S1024x2816 : Shape := ⟨2, ![1024, 2816]⟩
abbrev S256 : Shape := ⟨1, ![256]⟩
abbrev S256x1 : Shape := ⟨2, ![256, 1]⟩
abbrev S1024 : Shape := ⟨1, ![1024]⟩

abbrev nBuf : Space → Nat
  | .hbm => 31
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .bf16⟩
  | .hbm, ⟨25, _⟩ => ⟨S8192x2816, .f32⟩
  | .hbm, ⟨26, _⟩ => ⟨S8192x2816, .bf16⟩
  | .hbm, ⟨27, _⟩ => ⟨S1024x5632, .bf16⟩
  | .hbm, ⟨28, _⟩ => ⟨S8192x1024, .f32⟩
  | .hbm, ⟨29, _⟩ => ⟨S8192x1024, .bf16⟩
  | .hbm, ⟨30, _⟩ => ⟨S8x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1024x5632, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S8192x1024 : Shape := ⟨2, ![8192, 1024]⟩
abbrev S1x1024 : Shape := ⟨2, ![1, 1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩
abbrev S6x1024 : Shape := ⟨2, ![6, 1024]⟩
abbrev S8x1024 : Shape := ⟨2, ![8, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5632, .f32⟩
  | .hbm, ⟨5, _⟩ => ⟨S8192x5632, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x5632, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S6x1024, .f32⟩
  | .hbm, ⟨98, _⟩ => ⟨S8x1024, .f32⟩
  | .hbm, ⟨99, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel4Ideal.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S8192x1024 : Shape := ⟨2, ![8192, 1024]⟩
abbrev S8192x2816 : Shape := ⟨2, ![8192, 2816]⟩
abbrev S1024x2816 : Shape := ⟨2, ![1024, 2816]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S8192x1024, .bf16⟩
  | .hbm, ⟨3, _⟩ => ⟨S8192x2816, .bf16⟩
  | .hbm, ⟨4, _⟩ => ⟨S1024x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2816, .f32⟩
  | .hbm, ⟨2, _⟩ => ⟨S_, .f32⟩
  | .hbm, ⟨3, _⟩ => ⟨S1024x2816, .f32⟩
  | .hbm, ⟨4, _⟩ => ⟨S8192x2816, .f32⟩
  | .hbm, ⟨5, _⟩ => ⟨S2816x1024, .f32⟩
  | .hbm, ⟨6, _⟩ => ⟨S1024x2816, .f32⟩
  | .hbm, ⟨7, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S8192x1024, .bf16⟩
  | .hbm, ⟨3, _⟩ => ⟨S8192x3072, .bf16⟩
  | .hbm, ⟨4, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x3072, .f32⟩
  | .hbm, ⟨2, _⟩ => ⟨S_, .f32⟩
  | .hbm, ⟨3, _⟩ => ⟨S1024x3072, .f32⟩
  | .hbm, ⟨4, _⟩ => ⟨S8192x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x9216 : Shape := ⟨2, ![1024, 9216]⟩
abbrev S1024x128 : Shape := ⟨2, ![1024, 128]⟩
abbrev S8192x9216 : Shape := ⟨2, ![8192, 9216]⟩
abbrev S8192x128 : Shape := ⟨2, ![8192, 128]⟩
abbrev S8192x3072 : Shape := ⟨2, ![8192, 3072]⟩
abbrev S8x1024 : Shape := ⟨2, ![8, 1024]⟩
abbrev S256x1024 : Shape := ⟨2, ![256, 1024]⟩
abbrev S256x3072 : Shape := ⟨2, ![256, 3072]⟩
abbrev S256x128 : Shape := ⟨2, ![256, 128]⟩
abbrev S_ : Shape := ⟨0, ![]⟩
abbrev S1024x1024 : Shape := ⟨2, ![1024, 1024]⟩
abbrev S1024x3072 : Shape := ⟨2, ![1024, 3072]⟩
abbrev S256 : Shape := ⟨1, ![256]⟩
abbrev S256x1 : Shape := ⟨2, ![256, 1]⟩
abbrev S1024 : Shape := ⟨1, ![1024]⟩

abbrev nBuf : Space → Nat
  | .hbm => 26
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x9216, .f32⟩
  | .hbm, ⟨3, _⟩ => ⟨S1024x128, .f32⟩
  | .hbm, ⟨4, _⟩ => ⟨S8192x9216, .f32⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S8192x1024, .f32⟩
  | .hbm, ⟨14, _⟩ => ⟨S8192x1024, .bf16⟩
  | .hbm, ⟨15, _⟩ => ⟨S8192x1024, .f32⟩
  | .hbm, ⟨16, _⟩ => ⟨S8192x1024, .bf16⟩
  | .hbm, ⟨17, _⟩ => ⟨S8192x1024, .f32⟩
  | .hbm, ⟨18, _⟩ => ⟨S8192x1024, .bf16⟩
  | .hbm, ⟨19, _⟩ => ⟨S8192x3072, .f32⟩
  | .hbm, ⟨20, _⟩ => ⟨S8192x3072, .bf16⟩
  | .hbm, ⟨21, _⟩ => ⟨S8192x128, .bf16⟩
  | .hbm, ⟨22, _⟩ => ⟨S1024x9216, .bf16⟩
  | .hbm, ⟨23, _⟩ => ⟨S1024x128, .bf16⟩
  | .hbm, ⟨24, _⟩ => ⟨S8192x1024, .f32⟩
  | .hbm, ⟨25, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x3072, .bf16⟩
  | .local _ .vmem, ⟨13, _⟩ => ⟨S256x3072, .bf16⟩
  | .local _ .vmem, ⟨14, _⟩ => ⟨S256x128, .bf16⟩
  | .local _ .vmem, ⟨15, _⟩ => ⟨S256x128, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1x1024, .f32⟩
  | .local _ .vmem, ⟨21, _⟩ => ⟨S1024x128, .bf16⟩
  | .local _ .vmem, ⟨22, _⟩ => ⟨S256x1024, .f32⟩
  | .local _ .vmem, ⟨23, _⟩ => ⟨S256x1024, .f32⟩
  | .local _ .vmem, ⟨24, _⟩ => ⟨S8x1024, .f32⟩
  | .local _ .vmem, ⟨25, _⟩ => ⟨S1024x9216, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17_0 : Ref sig .tc := ⟨.hbm, 24, rfl⟩
abbrev main_v17_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference8Ideal.lean ====
abbrev S8192x1024 : Shape := ⟨2, ![8192, 1024]⟩
abbrev S1x1024 : Shape := ⟨2, ![1, 1024]⟩
abbrev S1024x9216 : Shape := ⟨2, ![1024, 9216]⟩
abbrev S1024x128 : Shape := ⟨2, ![1024, 128]⟩
abbrev S8192x9216 : Shape := ⟨2, ![8192, 9216]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x9216, .f32⟩
  | .hbm, ⟨3, _⟩ => ⟨S1024x128, .f32⟩
  | .hbm, ⟨4, _⟩ => ⟨S8192x9216, .f32⟩
  | .hbm, ⟨5, _⟩ => ⟨S8192x128, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x9216, .f32⟩
  | .hbm, ⟨27, _⟩ => ⟨S8192x128, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S7x1024, .f32⟩
  | .hbm, ⟨57, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== Kernel9.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1024x128, .bf16⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .bf16⟩
  | .local _ .vmem, ⟨5, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | .hbm, ⟨7, _⟩ => ⟨S1024x128, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x1024, .bf16⟩
  | .hbm, ⟨3, _⟩ => ⟨S1024x5632, .bf16⟩
  | .hbm, ⟨4, _⟩ => ⟨S8192x2816, .bf16⟩
  | .hbm, ⟨5, _⟩ => ⟨S8192x2816, .bf16⟩
  | .hbm, ⟨6, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .bf16⟩
  | .hbm, ⟨6, _⟩ => ⟨S8192x2816, .bf16⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Proof.RunB.lean ====
/- The body of the gradient kernel at a key tile that is neither the first nor the last of its pair of heads:
   what one run of it leaves in the accumulator and in the windows it stores. -/
module

public import proofs.«01_k».proof.Proof.Gen.KernelIdeal.Loops
public import proofs.«01_k».proof.Proof.Gen.KernelIdeal.Frame

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point is the first key tile of its pair of heads: there the accumulator is cleared. -/
abbrev first (i : grid0.Coords) : Prop :=
  (Scalar.cmpi .ne (Scalar.extui (Scalar.cmpi .eq (BitVec.ofNat 32 (i 1).val) 0#32)) 0#32) = 1#1

/-- The point is the last key tile of its pair of heads: there the accumulator is written out. -/
abbrev last (i : grid0.Coords) : Prop := k0_cond2 i = 1#1

set_option maxHeartbeats 4000000 in
/-- The run at a middle key tile: the accumulator's contents after it, and the pieces stored into the key tile's three
    results. -/
def runB (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole)
    (hc0 : ¬first i) (hc1 : ¬last i)
    (x2 : Vec F S1024x256 .bf16) (x3 : Vec F S1024x128 .bf16) (x4 : Vec F S8192x256 .bf16) (x5 : Vec F S8192x128 .bf16) (x6 x7 : Vec F S1x8x2x1024 .f32) (s : Vec F S8192x256 .f32) :
    Σ' (S' : BufTy.Contents (Elt F) arg13.view.ty) (L10 : List (View.Piece (Elt F) S1024x128 .bf16)) (L11 : List (View.Piece (Elt F) S1x1x16x1024 .f32)),
    { L12 : List (View.Piece (Elt F) S1024x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
              ∗ (∃ f, arg10.view.loc (c : Thread nD τ) ↦[arg10.view.set]{fullShare} arg10.view.writes (Elt F) f L10)
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (arg13.view.loc (c : Thread nD τ) ↦[arg13.view.set]{fullShare} S')) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_fox_bwd_eq_skeleton]; unfold cc0_fox_bwd_skel
    simp only [k0_part6_eq_skeleton, k0_part7_eq_skeleton, k0_part8_eq_skeleton, k0_part9_eq_skeleton, k0_part10_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg13.eq_unread hf13
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]; · iexists _; iexact H10
    isplitl [H11]; · iexists _; iexact H11
    isplitl [H12]; · iexists _; iexact H12
    iexact H13

end Cert.KernelIdeal.Fox

end
-- ==== Proof.RunA.lean ====
/- The body of the gradient kernel at the first key tile of its pair of heads:
   what one run of it leaves in the accumulator and in the windows it stores. -/
module

public import proofs.«01_k».proof.Proof.RunB
public import Idealize.ShloMosaic.Lib.VecWindow

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run at the first key tile: the accumulator's contents after it, and the pieces stored into the key tile's three
    results. -/
def runA (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole)
    (hc0 : first i) (hc1 : ¬last i)
    (x2 : Vec F S1024x256 .bf16) (x3 : Vec F S1024x128 .bf16) (x4 : Vec F S8192x256 .bf16) (x5 : Vec F S8192x128 .bf16) (x6 x7 : Vec F S1x8x2x1024 .f32) :
    Σ' (S' : BufTy.Contents (Elt F) arg13.view.ty) (L10 : List (View.Piece (Elt F) S1024x128 .bf16)) (L11 : List (View.Piece (Elt F) S1x1x16x1024 .f32)),
    { L12 : List (View.Piece (Elt F) S1024x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
              ∗ (∃ f, arg10.view.loc (c : Thread nD τ) ↦[arg10.view.set]{fullShare} arg10.view.writes (Elt F) f L10)
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (arg13.view.loc (c : Thread nD τ) ↦[arg13.view.set]{fullShare} S')) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_fox_bwd_eq_skeleton]; unfold cc0_fox_bwd_skel
    simp only [k0_part6_eq_skeleton, k0_part7_eq_skeleton, k0_part8_eq_skeleton, k0_part9_eq_skeleton, k0_part10_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, ⟨%d13, %f13, -, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7
    rw [wp_bind]
    generalize hk : (fun b => wp frame (wpE (defs₀ (F := F)) Variants.none c none) E _ K) = Kc
    sl_exec (disch := first | sl_exact hc0 | sl_exact hc1)
    have hz : ∀ f, arg13.view.writes (Elt F) f [⟨Rect.unit (s := S8192x256) ![0, 0] S8192x256.size inb_S8192x256_S8192x256_0_0, k0_pay38 (F := F)⟩] = harg13.unread (k0_pay38 (F := F)) :=
      fun f => harg13.eq_unread (View.read_writes_full _ _ _ _ _)
    rw [hz]
    subst hk
    sl_step
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]; · iexists _; iexact H10
    isplitl [H11]; · iexists _; iexact H11
    isplitl [H12]; · iexists _; iexact H12
    iexact H13

end Cert.KernelIdeal.Fox

end
-- ==== Proof.RunC.lean ====
/- The body of the gradient kernel at the last key tile of its pair of heads:
   what one run of it leaves in the accumulator and in the windows it stores. -/
module

public import proofs.«01_k».proof.Proof.RunB

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The run at the last key tile: the accumulator's contents after it, the pieces stored into the key tile's three results, and
    those stored into the pair's two results. -/
def runC (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole)
    (hc0 : ¬first i) (hc1 : last i)
    (x2 : Vec F S1024x256 .bf16) (x3 : Vec F S1024x128 .bf16) (x4 : Vec F S8192x256 .bf16) (x5 : Vec F S8192x128 .bf16) (x6 x7 : Vec F S1x8x2x1024 .f32) (s : Vec F S8192x256 .f32) :
    Σ' (S' : BufTy.Contents (Elt F) arg13.view.ty) (L10 : List (View.Piece (Elt F) S1024x128 .bf16)) (L11 : List (View.Piece (Elt F) S1x1x16x1024 .f32)) (L8 : List (View.Piece (Elt F) S8192x128 .bf16)) (L9 : List (View.Piece (Elt F) S1x16x8192 .f32)),
    { L12 : List (View.Piece (Elt F) S1024x128 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
              ∗ (∃ f, arg8.view.loc (c : Thread nD τ) ↦[arg8.view.set]{fullShare} arg8.view.writes (Elt F) f L8)
              ∗ (∃ f, arg9.view.loc (c : Thread nD τ) ↦[arg9.view.set]{fullShare} arg9.view.writes (Elt F) f L9)
              ∗ (∃ f, arg10.view.loc (c : Thread nD τ) ↦[arg10.view.set]{fullShare} arg10.view.writes (Elt F) f L10)
              ∗ (∃ f, arg11.view.loc (c : Thread nD τ) ↦[arg11.view.set]{fullShare} arg11.view.writes (Elt F) f L11)
              ∗ (∃ f, arg12.view.loc (c : Thread nD τ) ↦[arg12.view.set]{fullShare} arg12.view.writes (Elt F) f L12)
              ∗ (arg13.view.loc (c : Thread nD τ) ↦[arg13.view.set]{fullShare} S')) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton, k0_part9_eq_skeleton, k0_part10_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg13.eq_unread hf13
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    iexact H13

end Cert.KernelIdeal.Fox

end
-- ==== Proof.Body.lean ====
/- What the gradient kernel's body does at a generic point of its grid: the three cases of its conditionals put together, the
   contents of the accumulator point by point, the pipeline's proof data, the body obligation, and the run of the whole
   program. -/
module

public import proofs.«01_k».proof.Proof.RunA
public import proofs.«01_k».proof.Proof.RunC
public import Idealize.ShloMosaic.Lib.WordCmp
public import Idealize.ShloMosaic.Lib.Ring
public import Idealize.ShloMosaic.Lib.Claim

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body clears the accumulator at the points ≡ 0 (mod 8). -/
theorem first_iff (t : Fin grid0.N) : first (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [first, e1]
  word_cmp

/-- It writes the accumulator out at the points ≡ 7 (mod 8). -/
theorem last_iff (t : Fin grid0.N) : last (grid0.coords t) ↔ t.val % 8 = 7 := by
  have ht : t.val < 64 := Nat.lt_of_lt_of_eq t.isLt N_0
  have e1 : (grid0.coords t 1).val = t.val / 1 % 8 := Pipeline.Grid.coords_val t 1 (by decide) rfl
  simp only [last, k0_cond2, e1]
  word_cmp

/-- The accumulator, as a memref. -/
abbrev scM : Memref sig .tc .vmem S8192x256 .f32 := Memref.whole cc0_scratch0

/-- What the launch hands the region: the accumulator at some contents and the generator register at some state. -/
theorem PhiA0_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem hst0 (t : Fin cfg0.N) : (st0_0 t).IsWhole := hstage0_0 ((cfg0.slots t 0).cast nbuf0_0)
theorem hst1 (t : Fin cfg0.N) : (st0_1 t).IsWhole := hstage0_1 ((cfg0.slots t 1).cast nbuf0_1)
theorem hst2 (t : Fin cfg0.N) : (st0_2 t).IsWhole := hstage0_2 ((cfg0.slots t 2).cast nbuf0_2)
theorem hst3 (t : Fin cfg0.N) : (st0_3 t).IsWhole := hstage0_3 ((cfg0.slots t 3).cast nbuf0_3)
theorem hst4 (t : Fin cfg0.N) : (st0_4 t).IsWhole := hstage0_4 ((cfg0.slots t 4).cast nbuf0_4)
theorem hst5 (t : Fin cfg0.N) : (st0_5 t).IsWhole := hstage0_5 ((cfg0.slots t 5).cast nbuf0_5)
theorem hst6 (t : Fin cfg0.N) : (st0_6 t).IsWhole := hstage0_6 ((cfg0.slots t 6).cast nbuf0_6)
theorem hst7 (t : Fin cfg0.N) : (st0_7 t).IsWhole := hstage0_7 ((cfg0.slots t 7).cast nbuf0_7)
theorem hst8 (t : Fin cfg0.N) : (st0_8 t).IsWhole := hstage0_8 ((cfg0.slots t 8).cast nbuf0_8)
theorem hst9 (t : Fin cfg0.N) : (st0_9 t).IsWhole := hstage0_9 ((cfg0.slots t 9).cast nbuf0_9)
theorem hst10 (t : Fin cfg0.N) : (st0_10 t).IsWhole := hstage0_10 ((cfg0.slots t 10).cast nbuf0_10)

/-- What the body leaves: the accumulator, the pair's two results, and the key tile's three. -/
structure Left (F : FTy → Type) where
  acc : Vec F S8192x256 .f32
  o8 : Vec F S8192x128 .bf16
  o9 : Vec F S1x16x8192 .f32
  o10 : Vec F S1024x128 .bf16
  o11 : Vec F S1x1x16x1024 .f32
  o12 : Vec F S1024x128 .bf16

/-- The run of case A at a point's memrefs and blocks. -/
abbrev atA (c : Dev nD) (t : Fin cfg0.N) (h0 : t.val % 8 = 0) (h1 : ¬t.val % 8 = 7) :=
  runA c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) ((first_iff t).mpr h0) (fun h => h1 ((last_iff t).mp h)) (iblk m c 0 t) (iblk m c 1 t) (iblk m c 2 t) (iblk m c 3 t) (iblk m c 4 t) (iblk m c 5 t)

theorem covA10 (c : Dev nD) (t : Fin cfg0.N) (h0 : t.val % 8 = 0) (h1 : ¬t.val % 8 = 7) (y : S1024x128.Idx) : ∃ pc ∈ (atA m c t h0 h1).2.1, y ∈ pc.1.set :=
  View.cover_of_tiledL (atA m c t h0 h1).2.1 S1024x128.size (by sl_kernel_rfl) y

theorem covA11 (c : Dev nD) (t : Fin cfg0.N) (h0 : t.val % 8 = 0) (h1 : ¬t.val % 8 = 7) (y : S1x1x16x1024.Idx) : ∃ pc ∈ (atA m c t h0 h1).2.2.1, y ∈ pc.1.set :=
  View.cover_of_tiledL (atA m c t h0 h1).2.2.1 S1x1x16x1024.size (by sl_kernel_rfl) y

theorem covA12 (c : Dev nD) (t : Fin cfg0.N) (h0 : t.val % 8 = 0) (h1 : ¬t.val % 8 = 7) (y : S1024x128.Idx) : ∃ pc ∈ (atA m c t h0 h1).2.2.2.1, y ∈ pc.1.set :=
  View.cover_of_tiledL (atA m c t h0 h1).2.2.2.1 S1024x128.size (by sl_kernel_rfl) y

/-- What case A leaves. -/
def leftA (c : Dev nD) (t : Fin cfg0.N) (h0 : t.val % 8 = 0) (h1 : ¬t.val % 8 = 7) : Left F where
  acc := scM.view.read (Elt F) (atA m c t h0 h1).1
  o8 := Pipeline.Dat.unnamed (cfg := cfg0) 6 t
  o9 := Pipeline.Dat.unnamed (cfg := cfg0) 7 t
  o10 := (st0_8 t).view.read (Elt F) ((st0_8 t).view.writes (Elt F) (st0_8 t).view.junk (atA m c t h0 h1).2.1)
  o11 := (st0_9 t).view.read (Elt F) ((st0_9 t).view.writes (Elt F) (st0_9 t).view.junk (atA m c t h0 h1).2.2.1)
  o12 := (st0_10 t).view.read (Elt F) ((st0_10 t).view.writes (Elt F) (st0_10 t).view.junk (atA m c t h0 h1).2.2.2.1)

/-- The run of case B at a point's memrefs and blocks. -/
abbrev atB (c : Dev nD) (t : Fin cfg0.N) (h0 : ¬t.val % 8 = 0) (h1 : ¬t.val % 8 = 7) (s : Vec F S8192x256 .f32) :=
  runB c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (fun h => h0 ((first_iff t).mp h)) (fun h => h1 ((last_iff t).mp h)) (iblk m c 0 t) (iblk m c 1 t) (iblk m c 2 t) (iblk m c 3 t) (iblk m c 4 t) (iblk m c 5 t) s

theorem covB10 (c : Dev nD) (t : Fin cfg0.N) (h0 : ¬t.val % 8 = 0) (h1 : ¬t.val % 8 = 7) (s : Vec F S8192x256 .f32) (y : S1024x128.Idx) : ∃ pc ∈ (atB m c t h0 h1 s).2.1, y ∈ pc.1.set :=
  View.cover_of_tiledL (atB m c t h0 h1 s).2.1 S1024x128.size (by sl_kernel_rfl) y

theorem covB11 (c : Dev nD) (t : Fin cfg0.N) (h0 : ¬t.val % 8 = 0) (h1 : ¬t.val % 8 = 7) (s : Vec F S8192x256 .f32) (y : S1x1x16x1024.Idx) : ∃ pc ∈ (atB m c t h0 h1 s).2.2.1, y ∈ pc.1.set :=
  View.cover_of_tiledL (atB m c t h0 h1 s).2.2.1 S1x1x16x1024.size (by sl_kernel_rfl) y

theorem covB12 (c : Dev nD) (t : Fin cfg0.N) (h0 : ¬t.val % 8 = 0) (h1 : ¬t.val % 8 = 7) (s : Vec F S8192x256 .f32) (y : S1024x128.Idx) : ∃ pc ∈ (atB m c t h0 h1 s).2.2.2.1, y ∈ pc.1.set :=
  View.cover_of_tiledL (atB m c t h0 h1 s).2.2.2.1 S1024x128.size (by sl_kernel_rfl) y

/-- What case B leaves. -/
def leftB (c : Dev nD) (t : Fin cfg0.N) (h0 : ¬t.val % 8 = 0) (h1 : ¬t.val % 8 = 7) (s : Vec F S8192x256 .f32) : Left F where
  acc := scM.view.read (Elt F) (atB m c t h0 h1 s).1
  o8 := Pipeline.Dat.unnamed (cfg := cfg0) 6 t
  o9 := Pipeline.Dat.unnamed (cfg := cfg0) 7 t
  o10 := (st0_8 t).view.read (Elt F) ((st0_8 t).view.writes (Elt F) (st0_8 t).view.junk (atB m c t h0 h1 s).2.1)
  o11 := (st0_9 t).view.read (Elt F) ((st0_9 t).view.writes (Elt F) (st0_9 t).view.junk (atB m c t h0 h1 s).2.2.1)
  o12 := (st0_10 t).view.read (Elt F) ((st0_10 t).view.writes (Elt F) (st0_10 t).view.junk (atB m c t h0 h1 s).2.2.2.1)

/-- The run of case C at a point's memrefs and blocks. -/
abbrev atC (c : Dev nD) (t : Fin cfg0.N) (h0 : ¬t.val % 8 = 0) (h1 : t.val % 8 = 7) (s : Vec F S8192x256 .f32) :=
  runC c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (fun h => h0 ((first_iff t).mp h)) ((last_iff t).mpr h1) (iblk m c 0 t) (iblk m c 1 t) (iblk m c 2 t) (iblk m c 3 t) (iblk m c 4 t) (iblk m c 5 t) s

theorem covC8 (c : Dev nD) (t : Fin cfg0.N) (h0 : ¬t.val % 8 = 0) (h1 : t.val % 8 = 7) (s : Vec F S8192x256 .f32) (y : S8192x128.Idx) : ∃ pc ∈ (atC m c t h0 h1 s).2.2.2.1, y ∈ pc.1.set :=
  View.cover_of_tiledL (atC m c t h0 h1 s).2.2.2.1 S8192x128.size (by sl_kernel_rfl) y

theorem covC9 (c : Dev nD) (t : Fin cfg0.N) (h0 : ¬t.val % 8 = 0) (h1 : t.val % 8 = 7) (s : Vec F S8192x256 .f32) (y : S1x16x8192.Idx) : ∃ pc ∈ (atC m c t h0 h1 s).2.2.2.2.1, y ∈ pc.1.set :=
  View.cover_of_tiledL (atC m c t h0 h1 s).2.2.2.2.1 S1x16x1024.size (by sl_kernel_rfl) y

theorem covC10 (c : Dev nD) (t : Fin cfg0.N) (h0 : ¬t.val % 8 = 0) (h1 : t.val % 8 = 7) (s : Vec F S8192x256 .f32) (y : S1024x128.Idx) : ∃ pc ∈ (atC m c t h0 h1 s).2.1, y ∈ pc.1.set :=
  View.cover_of_tiledL (atC m c t h0 h1 s).2.1 S1024x128.size (by sl_kernel_rfl) y

theorem covC11 (c : Dev nD) (t : Fin cfg0.N) (h0 : ¬t.val % 8 = 0) (h1 : t.val % 8 = 7) (s : Vec F S8192x256 .f32) (y : S1x1x16x1024.Idx) : ∃ pc ∈ (atC m c t h0 h1 s).2.2.1, y ∈ pc.1.set :=
  View.cover_of_tiledL (atC m c t h0 h1 s).2.2.1 S1x1x16x1024.size (by sl_kernel_rfl) y

theorem covC12 (c : Dev nD) (t : Fin cfg0.N) (h0 : ¬t.val % 8 = 0) (h1 : t.val % 8 = 7) (s : Vec F S8192x256 .f32) (y : S1024x128.Idx) : ∃ pc ∈ (atC m c t h0 h1 s).2.2.2.2.2.1, y ∈ pc.1.set :=
  View.cover_of_tiledL (atC m c t h0 h1 s).2.2.2.2.2.1 S1024x128.size (by sl_kernel_rfl) y

/-- What case C leaves. -/
def leftC (c : Dev nD) (t : Fin cfg0.N) (h0 : ¬t.val % 8 = 0) (h1 : t.val % 8 = 7) (s : Vec F S8192x256 .f32) : Left F where
  acc := scM.view.read (Elt F) (atC m c t h0 h1 s).1
  o8 := (st0_6 t).view.read (Elt F) ((st0_6 t).view.writes (Elt F) (st0_6 t).view.junk (atC m c t h0 h1 s).2.2.2.1)
  o9 := (st0_7 t).view.read (Elt F) ((st0_7 t).view.writes (Elt F) (st0_7 t).view.junk (atC m c t h0 h1 s).2.2.2.2.1)
  o10 := (st0_8 t).view.read (Elt F) ((st0_8 t).view.writes (Elt F) (st0_8 t).view.junk (atC m c t h0 h1 s).2.1)
  o11 := (st0_9 t).view.read (Elt F) ((st0_9 t).view.writes (Elt F) (st0_9 t).view.junk (atC m c t h0 h1 s).2.2.1)
  o12 := (st0_10 t).view.read (Elt F) ((st0_10 t).view.writes (Elt F) (st0_10 t).view.junk (atC m c t h0 h1 s).2.2.2.2.2.1)

/-- What a point leaves, over what the accumulator held before it. -/
def left (c : Dev nD) (t : Fin cfg0.N) (s : Vec F S8192x256 .f32) : Left F :=
  if h0 : t.val % 8 = 0 then leftA m c t h0 (by omega)
  else if h1 : t.val % 8 = 7 then leftC m c t h0 h1 s
  else leftB m c t h0 h1 s

/-- The accumulator before position `n` (before the first point nothing is known of it; a fixed value stands there). -/
def scr (c : Dev nD) : (n : ℕ) → Vec F S8192x256 .f32
  | 0 => k0_pay38
  | n + 1 => if h : n < cfg0.N then (left m c ⟨n, h⟩ (scr c n)).acc else k0_pay38

/-- What point `t` leaves. -/
def outs (c : Dev nD) (t : Fin cfg0.N) : Left F := left m c t (scr m c t.val)

theorem scr_succ (c : Dev nD) (t : Fin cfg0.N) : scr m c (t.val + 1) = (outs m c t).acc := dif_pos t.isLt

theorem outs_A (c : Dev nD) (t : Fin cfg0.N) (h0 : t.val % 8 = 0) (h1 : ¬t.val % 8 = 7) : outs m c t = leftA m c t h0 h1 := dif_pos h0
theorem outs_B (c : Dev nD) (t : Fin cfg0.N) (h0 : ¬t.val % 8 = 0) (h1 : ¬t.val % 8 = 7) : outs m c t = leftB m c t h0 h1 (scr m c t.val) := (dif_neg h0).trans (dif_neg h1)
theorem outs_C (c : Dev nD) (t : Fin cfg0.N) (h0 : ¬t.val % 8 = 0) (h1 : t.val % 8 = 7) : outs m c t = leftC m c t h0 h1 (scr m c t.val) := (dif_neg h0).trans (dif_pos h1)

/-- The region's invariant before position `n`: at the start what the launch hands over, afterwards the accumulator at what
    the points so far left in it. -/
def PhiS (c : Dev nD) : (n : ℕ) → n ≤ cfg0.N → sProp 𝕄
  | 0, _ => Pipeline.ΦA spec0 c
  | n + 1, _ => iprop(owns (c : Thread nD τ) scM fullShare (scr m c (n + 1)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(owns (c : Thread nD τ) scM fullShare (scr m c n) ∗ (∃ r, prngReg c r)) := by
  cases n with
  | zero => exact absurd rfl hz
  | succ n => rfl

/-- At any position the accumulator is held at some contents. -/
theorem PhiS_any (c : Dev nD) (n : ℕ) (h : n ≤ cfg0.N) :
    PhiS m c n h ⊢ iprop((∃ d, owns (c : Thread nD τ) scM fullShare d) ∗ (∃ r, prngReg c r)) := by
  cases n with
  | zero => rw [PhiS_zero m c 0 h rfl, PhiA0_eq]
            try exact Idealize.SL.BI.Entails.refl _
  | succ n =>
    rw [PhiS_pos m c _ h (Nat.succ_ne_zero n)]
    iintro ⟨H, Hg⟩
    isplitl [H]
    · iexists _; iexact H
    iexact Hg

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t).o8
    | ⟨7, _⟩ => (outs m c t).o9
    | ⟨8, _⟩ => (outs m c t).o10
    | ⟨9, _⟩ => (outs m c t).o11
    | ⟨10, _⟩ => (outs m c t).o12
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outs m c t).o8 := by dsimp only [dats]
theorem after0_7 (c : Dev nD) (t : Fin cfg0.N) : (dats m 0 c).after 7 t = (outs m c t).o9 := by dsimp only [dats]
theorem after0_8 (c : Dev nD) (t : Fin cfg0.N) : (dats m 0 c).after 8 t = (outs m c t).o10 := by dsimp only [dats]
theorem after0_9 (c : Dev nD) (t : Fin cfg0.N) : (dats m 0 c).after 9 t = (outs m c t).o11 := by dsimp only [dats]
theorem after0_10 (c : Dev nD) (t : Fin cfg0.N) : (dats m 0 c).after 10 t = (outs m c t).o12 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves8 (c : Dev nD) (t : Fin cfg0.N) : (dats m 0 c).leavesExact 8 t = owns (c : Thread nD τ) (st0_8 t) fullShare (outs m c t).o10 := by
  unfold Dat.leavesExact; rw [show cfg0.idle 8 (grid0.coords t) = false from rfl, after0_8]
theorem leaves9 (c : Dev nD) (t : Fin cfg0.N) : (dats m 0 c).leavesExact 9 t = owns (c : Thread nD τ) (st0_9 t) fullShare (outs m c t).o11 := by
  unfold Dat.leavesExact; rw [show cfg0.idle 9 (grid0.coords t) = false from rfl, after0_9]
theorem leaves10 (c : Dev nD) (t : Fin cfg0.N) : (dats m 0 c).leavesExact 10 t = owns (c : Thread nD τ) (st0_10 t) fullShare (outs m c t).o12 := by
  unfold Dat.leavesExact; rw [show cfg0.idle 10 (grid0.coords t) = false from rfl, after0_10]

theorem idle6 (t : Fin cfg0.N) (h1 : ¬t.val % 8 = 7) : cfg0.idle 6 (grid0.coords t) = true := by
  have h : ¬last (grid0.coords t) := fun h => h1 ((last_iff t).mp h)
  show (!(k0_cond2 (grid0.coords t) == 1#1)) = true
  simpa using h
theorem live6 (t : Fin cfg0.N) (h1 : t.val % 8 = 7) : cfg0.idle 6 (grid0.coords t) = false := by
  have h : last (grid0.coords t) := (last_iff t).mpr h1
  show (!(k0_cond2 (grid0.coords t) == 1#1)) = false
  simpa using h
theorem leaves6_last (c : Dev nD) (t : Fin cfg0.N) (h1 : t.val % 8 = 7) : (dats m 0 c).leavesExact 6 t = owns (c : Thread nD τ) (st0_6 t) fullShare (outs m c t).o8 := by
  unfold Dat.leavesExact; rw [live6 t h1, after0_6]
theorem leaves6_idle (c : Dev nD) (t : Fin cfg0.N) (h1 : ¬t.val % 8 = 7) : (dats m 0 c).leavesExact 6 t = iprop(∃ d, owns (c : Thread nD τ) (st0_6 t) fullShare ((dats m 0 c).before 6 t d)) :=
  Pipeline.Dat.leavesExact_idle (dats m 0 c) 6 t (idle6 t h1) (by
    have h := flush0_6 t
    cases hf : (cfg0.win 6).flush t
    · rfl
    · exact absurd (h.mp hf) h1)

theorem idle7 (t : Fin cfg0.N) (h1 : ¬t.val % 8 = 7) : cfg0.idle 7 (grid0.coords t) = true := by
  have h : ¬last (grid0.coords t) := fun h => h1 ((last_iff t).mp h)
  show (!(k0_cond2 (grid0.coords t) == 1#1)) = true
  simpa using h
theorem live7 (t : Fin cfg0.N) (h1 : t.val % 8 = 7) : cfg0.idle 7 (grid0.coords t) = false := by
  have h : last (grid0.coords t) := (last_iff t).mpr h1
  show (!(k0_cond2 (grid0.coords t) == 1#1)) = false
  simpa using h
theorem leaves7_last (c : Dev nD) (t : Fin cfg0.N) (h1 : t.val % 8 = 7) : (dats m 0 c).leavesExact 7 t = owns (c : Thread nD τ) (st0_7 t) fullShare (outs m c t).o9 := by
  unfold Dat.leavesExact; rw [live7 t h1, after0_7]
theorem leaves7_idle (c : Dev nD) (t : Fin cfg0.N) (h1 : ¬t.val % 8 = 7) : (dats m 0 c).leavesExact 7 t = iprop(∃ d, owns (c : Thread nD τ) (st0_7 t) fullShare ((dats m 0 c).before 7 t d)) :=
  Pipeline.Dat.leavesExact_idle (dats m 0 c) 7 t (idle7 t h1) (by
    have h := flush0_7 t
    cases hf : (cfg0.win 7).flush t
    · rfl
    · exact absurd (h.mp hf) h1)

/-- What the body is called with at point `t`, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t)

set_option maxHeartbeats 4000000 in
/-- The body at a point of case A. -/
theorem soundA (c : Dev nD) (t : Fin cfg0.N) (h0 : t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0, leaves1, leaves2, leaves3, leaves4, leaves5, leaves8, leaves9, leaves10]
  rw [leaves6_idle m c t h1, leaves7_idle m c t h1]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), scr_succ, PhiS_castSucc m c t]
  refine (sep_mono_left (PhiS_any m c t.val (Nat.le_of_lt t.isLt))).trans ?_
  rw [outs_A m c t h0 h1]
  unfold leftA
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atA m c t h0 h1).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H10]; · iexists _; iexact H10
  isplitl [HS]; · iexact HS
  iintro ⟨H0, H1, H2, H3, H4, H5, ⟨%e8, H8⟩, ⟨%e9, H9⟩, ⟨%e10, H10⟩, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]
  · unfold owns; iexists _; isplitr
    swap; · iexact H8
    ipureintro; exact View.read_writes_of_cover _ _ _ _ _ (covA10 m c t h0 h1)
  isplitl [H9]
  · unfold owns; iexists _; isplitr
    swap; · iexact H9
    ipureintro; exact View.read_writes_of_cover _ _ _ _ _ (covA11 m c t h0 h1)
  unfold owns; iexists _; isplitr
  swap; · iexact H10
  ipureintro; exact View.read_writes_of_cover _ _ _ _ _ (covA12 m c t h0 h1)

set_option maxHeartbeats 4000000 in
/-- The body at a point of case B. -/
theorem soundB (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0, leaves1, leaves2, leaves3, leaves4, leaves5, leaves8, leaves9, leaves10]
  rw [leaves6_idle m c t h1, leaves7_idle m c t h1]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), scr_succ, PhiS_castSucc m c t]
  rw [PhiS_pos m c _ _ (fun h => h0 (by rw [h]))]
  rw [outs_B m c t h0 h1]
  unfold leftB
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atB m c t h0 h1 _).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H8]; · iexists _; iexact H8
  isplitl [H9]; · iexists _; iexact H9
  isplitl [H10]; · iexists _; iexact H10
  isplitl [HS]; · iexact HS
  iintro ⟨H0, H1, H2, H3, H4, H5, ⟨%e8, H8⟩, ⟨%e9, H9⟩, ⟨%e10, H10⟩, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]
  · unfold owns; iexists _; isplitr
    swap; · iexact H8
    ipureintro; exact View.read_writes_of_cover _ _ _ _ _ (covB10 m c t h0 h1 _)
  isplitl [H9]
  · unfold owns; iexists _; isplitr
    swap; · iexact H9
    ipureintro; exact View.read_writes_of_cover _ _ _ _ _ (covB11 m c t h0 h1 _)
  unfold owns; iexists _; isplitr
  swap; · iexact H10
  ipureintro; exact View.read_writes_of_cover _ _ _ _ _ (covB12 m c t h0 h1 _)

set_option maxHeartbeats 4000000 in
/-- The body at a point of case C. -/
theorem soundC (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, leaves0, leaves1, leaves2, leaves3, leaves4, leaves5, leaves8, leaves9, leaves10]
  rw [leaves6_last m c t h1, leaves7_last m c t h1]
  rw [show (dats m 0 c).owesAt () t.succ = (dats m 0 c).owesAt () t.castSucc from rfl]
  rw [show (dats m 0 c).Φ t.succ = PhiS m c (t.val + 1) t.isLt from rfl, PhiS_pos m c (t.val + 1) t.isLt (Nat.succ_ne_zero _), scr_succ, PhiS_castSucc m c t]
  rw [PhiS_pos m c _ _ (fun h => h0 (by rw [h]))]
  rw [outs_C m c t h0 h1]
  unfold leftC
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((atC m c t h0 h1 _).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS]; · iexact HS
  iintro ⟨H0, H1, H2, H3, H4, H5, ⟨%e6, H6⟩, ⟨%e7, H7⟩, ⟨%e8, H8⟩, ⟨%e9, H9⟩, ⟨%e10, H10⟩, HS⟩
  isplitl [HS Hg]
  · isplitl [HS]
    · unfold owns; iexists _; isplitr
      swap; · iexact HS
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (covC8 m c t h0 h1 _)
  isplitl [H7]
  · unfold owns; iexists _; isplitr
    swap; · iexact H7
    ipureintro; exact View.read_writes_of_cover _ _ _ _ _ (covC9 m c t h0 h1 _)
  isplitl [H8]
  · unfold owns; iexists _; isplitr
    swap; · iexact H8
    ipureintro; exact View.read_writes_of_cover _ _ _ _ _ (covC10 m c t h0 h1 _)
  isplitl [H9]
  · unfold owns; iexists _; isplitr
    swap; · iexact H9
    ipureintro; exact View.read_writes_of_cover _ _ _ _ _ (covC11 m c t h0 h1 _)
  unfold owns; iexists _; isplitr
  swap; · iexact H10
  ipureintro; exact View.read_writes_of_cover _ _ _ _ _ (covC12 m c t h0 h1 _)

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact soundA m c t h0 (by omega)
  · by_cases h1 : t.val % 8 = 7
    · exact soundC m c t h0 h1
    · exact soundB m c t h0 h1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_any m c _ _

set_option backward.isDefEq.respectTransparency.types false in
set_option maxHeartbeats 1600000 in
/-- The run: from any memory with zero counters every fair execution ends, the arrays at what the proof data say, and every
    semaphore counter back at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments are unchanged and every semaphore counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Fox

end
-- ==== Proof.Claims.lean ====
/- The frames of the three programs and the named constant's statement, from the runs of Proof/Body.lean, Proof/Printed/Body.lean
   and the reference's own. -/
module

public import proofs.«01_k».proof.Defs
public import proofs.«01_k».proof.Proof.Body
public import proofs.«01_k».proof.Proof.Printed.Body
public import proofs.«01_k».proof.Proof.Gen.ReferenceIdeal.Run
public import Idealize.ShloMosaic.Lib.Quiescent

@[expose] public section

noncomputable section

namespace Cert.FoxClaims

open Idealize.ShloMosaic Idealize.SL.Sem

theorem frame_kernel : Cert.quiescent_Kernel := fun m ρ _ => Cert.Kernel.Fox.frame m ρ
theorem frame_ideal : Cert.quiescent_KernelIdeal := fun m ρ _ => Cert.KernelIdeal.Fox.frame m ρ
/-- The reference is host operations alone: it has no semaphore whose count could be anything but zero. -/
theorem frame_reference : Cert.quiescent_ReferenceIdeal := fun m ρ _ =>
  (θ_run _ _ _).mono (fun r h => ⟨fun c => (h c).2.2.2.2, sem_eq_zero_of_no_sems (by decide) r.2⟩) (Cert.ReferenceIdeal.Value.run (F := Ideal) m ρ)

/-- The one named constant, the natural logarithm of two. -/
theorem preserves : Cert.preserves_Kernel_KernelIdeal :=
  IdealRules.named_const.statement Cert.KernelIdeal.κ "ln2" .f32 0x3F317218#32 ((Real.log 2 : ℝ) : EReal) rfl

end Cert.FoxClaims

end
-- ==== Proof.RefDefs.lean ====
/- The reference's operations that its results read, one definition for each, of the five arguments. -/
module

public import proofs.«01_k».proof.Proof.Gen.ReferenceIdeal.Run
public import Idealize.ShloMosaic.PureOps.Ideal

@[expose] public section

set_option maxRecDepth 16384

noncomputable section

namespace Cert.ReferenceIdeal.Fox

open Cert.ReferenceIdeal Cert.ReferenceIdeal.Gen
open Idealize.ShloMosaic Idealize.ShloMosaic.TcCoe

def r_v0 (x0 x1 x2 : FVec Ideal S8192x1024 .f32) (x3 : FVec Ideal S8192x16 .f32) (x4 : FVec Ideal S8192x1024 .f32) : FVec Ideal S8192x16x64 .f32 :=
  shapeCast _ x2 shapeCasts_S8192x1024_S8192x16x64
def r_v1 (x0 x1 x2 : FVec Ideal S8192x1024 .f32) (x3 : FVec Ideal S8192x16 .f32) (x4 : FVec Ideal S8192x1024 .f32) : FVec Ideal S16x8192x64 .f32 :=
  transpose S16x8192x64 [1, 0, 2] (r_v0 x0 x1 x2 x3 x4) transposes_S8192x16x64_S16x8192x64_1_0_2
def r_v2 (x0 x1 x2 : FVec Ideal S8192x1024 .f32) (x3 : FVec Ideal S8192x16 .f32) (x4 : FVec Ideal S8192x1024 .f32) : FVec Ideal S8192x16x64 .f32 :=
  shapeCast _ x0 shapeCasts_S8192x1024_S8192x16x64
def r_v3 (x0 x1 x2 : FVec Ideal S8192x1024 .f32) (x3 : FVec Ideal S8192x16 .f32) (x4 : FVec Ideal S8192x1024 .f32) : FVec Ideal S16x8192x64 .f32 :=
  transpose S16x8192x64 [1, 0, 2] (r_v2 x0 x1 x2 x3 x4) transposes_S8192x16x64_S16x8192x64_1_0_2
def r_v4 (x0 x1 x2 : FVec Ideal S8192x1024 .f32) (x3 : FVec Ideal S8192x16 .f32) (x4 : FVec Ideal S8192x1024 .f32) : FVec Ideal S8192x16x64 .f32 :=
  shapeCast _ x1 shapeCasts_S8192x1024_S8192x16x64
def r_v5 (x0 x1 x2 : FVec Ideal S8192x1024 .f32) (x3 : FVec Ideal S8192x16 .f32) (x4 : FVec Ideal S8192x1024 .f32) : FVec Ideal S16x8192x64 .f32 :=
  transpose S16x8192x64 [1, 0, 2] (r_v4 x0 x1 x2 x3 x4) transposes_S8192x16x64_S16x8192x64_1_0_2
def r_v6 (x0 x1 x2 : FVec Ideal S8192x1024 .f32) (x3 : FVec Ideal S8192x16 .f32) (x4 : FVec Ideal S8192x1024 .f32) : FVec Ideal S16x8192 .f32 :=
  transpose S16x8192 [1, 0] x3 transposes_S8192x16_S16x8192_1_0
def r_v7 (x0 x1 x2 : FVec Ideal S8192x1024 .f32) (x3 : FVec Ideal S8192x16 .f32) (x4 : FVec Ideal S8192x1024 .f32) : FVec Ideal S16x8192x8192 .f32 :=
  (fun l r => Host.dotGeneral dot_S16x8192x64_S16x8192x64_S16x8192x8192_2_2_1_1_0_0 none l r) (r_v3 x0 x1 x2 x3 x4) (r_v5 x0 x1 x2 x3 x4)
def r_cst (x0 x1 x2 : FVec Ideal S8192x1024 .f32) (x3 : FVec Ideal S8192x16 .f32) (x4 : FVec Ideal S8192x1024 .f32) : FVec Ideal S_ .f32 :=
  constant S_ .f32 0x3E000000#32
def r_v8 (x0 x1 x2 : FVec Ideal S8192x1024 .f32) (x3 : FVec Ideal S8192x16 .f32) (x4 : FVec Ideal S8192x1024 .f32) : FVec Ideal S16x8192x8192 .f32 :=
  broadcastInDim S16x8192x8192 ![] bcast_S_S16x8192x8192 (r_cst x0 x1 x2 x3 x4)
def r_v9 (x0 x1 x2 : FVec Ideal S8192x1024 .f32) (x3 : FVec Ideal S8192x16 .f32) (x4 : FVec Ideal S8192x1024 .f32) : FVec Ideal S16x8192x8192 .f32 :=
  mulf (r_v7 x0 x1 x2 x3 x4) (r_v8 x0 x1 x2 x3 x4)
def r_v10 (x0 x1 x2 : FVec Ideal S8192x1024 .f32) (x3 : FVec Ideal S8192x16 .f32) (x4 : FVec Ideal S8192x1024 .f32) : FVec Ideal S16x8192x1 .f32 :=
  broadcastInDim S16x8192x1 ![0, 1] bcast_S16x8192_S16x8192x1_0_1 (r_v6 x0 x1 x2 x3 x4)
def r_v11 (x0 x1 x2 : FVec Ideal S8192x1024 .f32) (x3 : FVec Ideal S8192x16 .f32) (x4 : FVec Ideal S8192x1024 .f32) : FVec Ideal S16x1x8192 .f32 :=
  broadcastInDim S16x1x8192 ![0, 2] bcast_S16x8192_S16x1x8192_0_2 (r_v6 x0 x1 x2 x3 x4)
def r_v12 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (r_v10 x0 x1 x2 x3 x4)
def r_v13 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x1x8192_S16x8192x8192_0_1_2 (r_v11 x0 x1 x2 x3 x4)
def r_v14 (x0 x1 x2 : FVec Ideal S8192x1024 .f32) (x3 : FVec Ideal S8192x16 .f32) (x4 : FVec Ideal S8192x1024 .f32) : FVec Ideal S16x8192x8192 .f32 :=
  subf (r_v12 x0 x1 x2 x3 x4) (r_v13 x0 x1 x2 x3 x4)
def r_v15 (x0 x1 x2 : FVec Ideal S8192x1024 .f32) (x3 : FVec Ideal S8192x16 .f32) (x4 : FVec Ideal S8192x1024 .f32) : FVec Ideal S16x8192x8192 .f32 :=
  addf (r_v9 x0 x1 x2 x3 x4) (r_v14 x0 x1 x2 x3 x4)
def r_v16 (x0 x1 x2 : FVec Ideal S8192x1024 .f32) (x3 : FVec Ideal S8192x16 .f32) (x4 : FVec Ideal S8192x1024 .f32) : Vec Ideal S8192 .i32 :=
  iotaInDim S8192 32 0
def r_v17 (x0 x1 x2 : FVec Ideal S8192x1024 .f32) (x3 : FVec Ideal S8192x16 .f32) (x4 : FVec Ideal S8192x1024 .f32) : Vec Ideal S1x8192 .i32 :=
  broadcastInDim S1x8192 ![1] bcast_S8192_S1x8192_1 (r_v16 x0 x1 x2 x3 x4)
def r_v18 (x0 x1 x2 : FVec Ideal S8192x1024 .f32) (x3 : FVec Ideal S8192x16 .f32) (x4 : FVec Ideal S8192x1024 .f32) : Vec Ideal S8192 .i32 :=
  iotaInDim S8192 32 0
def r_v19 (x0 x1 x2 : FVec Ideal S8192x1024 .f32) (x3 : FVec Ideal S8192x16 .f32) (x4 : FVec Ideal S8192x1024 .f32) : Vec Ideal S8192x1 .i32 :=
  broadcastInDim S8192x1 ![0] bcast_S8192_S8192x1_0 (r_v18 x0 x1 x2 x3 x4)
def r_v20 (x0 x1 x2 : FVec Ideal S8192x1024 .f32) (x3 : FVec Ideal S8192x16 .f32) (x4 : FVec Ideal S8192x1024 .f32) : Vec Ideal S8192x8192 .i32 :=
  broadcastInDim S8192x8192 ![0, 1] bcast_S1x8192_S8192x8192_0_1 (r_v17 x0 x1 x2 x3 x4)
def r_v21 (x0 x1 x2 : FVec Ideal S8192x1024 .f32) (x3 : FVec Ideal S8192x16 .f32) (x4 : FVec Ideal S8192x1024 .f32) : Vec Ideal S8192x8192 .i32 :=
  broadcastInDim S8192x8192 ![0, 1] bcast_S8192x1_S8192x8192_0_1 (r_v19 x0 x1 x2 x3 x4)
def r_v22 (x0 x1 x2 : FVec Ideal S8192x1024 .f32) (x3 : FVec Ideal S8192x16 .f32) (x4 : FVec Ideal S8192x1024 .f32) : Vec Ideal S8192x8192 .i1 :=
  cmpi .sle (r_v20 x0 x1 x2 x3 x4) (r_v21 x0 x1 x2 x3 x4)
def r_cst_0 (x0 x1 x2 : FVec Ideal S8192x1024 .f32) (x3 : FVec Ideal S8192x16 .f32) (x4 : FVec Ideal S8192x1024 .f32) : FVec Ideal S_ .f32 :=
  constant S_ .f32 0xFF800000#32
def r_call0_v0 (x0 x1 x2 : FVec Ideal S8192x1024 .f32) (x3 : FVec Ideal S8192x16 .f32) (x4 : FVec Ideal S8192x1024 .f32) : FVec Ideal S_ .f32 :=
  (r_cst_0 x0 x1 x2 x3 x4)
def r_v23_1 (x0 x1 x2 : FVec Ideal S8192x1024 .f32) (x3 : FVec Ideal S8192x16 .f32) (x4 : FVec Ideal S8192x1024 .f32) : Vec Ideal S16x8192x8192 .i1 :=
  broadcastInDim S16x8192x8192 ![1, 2] bcast_S8192x8192_S16x8192x8192_1_2 (r_v22 x0 x1 x2 x3 x4)
def r_call0_v2 (x0 x1 x2 : FVec Ideal S8192x1024 .f32) (x3 : FVec Ideal S8192x16 .f32) (x4 : FVec Ideal S8192x1024 .f32) : FVec Ideal S16x8192x8192 .f32 :=
  broadcastInDim S16x8192x8192 ![] bcast_S_S16x8192x8192 (r_call0_v0 x0 x1 x2 x3 x4)
def r_v23_0 (x0 x1 x2 : FVec Ideal S8192x1024 .f32) (x3 : FVec Ideal S8192x16 .f32) (x4 : FVec Ideal S8192x1024 .f32) : FVec Ideal S16x8192x8192 .f32 :=
  select (r_v23_1 x0 x1 x2 x3 x4) (r_v15 x0 x1 x2 x3 x4) (r_call0_v2 x0 x1 x2 x3 x4)
def r_cst_1 (x0 x1 x2 : FVec Ideal S8192x1024 .f32) (x3 : FVec Ideal S8192x16 .f32) (x4 : FVec Ideal S8192x1024 .f32) : FVec Ideal S_ .f32 :=
  constant S_ .f32 0xFF800000#32
def r_v24 (x0 x1 x2 : FVec Ideal S8192x1024 .f32) (x3 : FVec Ideal S8192x16 .f32) (x4 : FVec Ideal S8192x1024 .f32) : FVec Ideal S16x8192 .f32 :=
  (fun x v => Host.reduce FloatOps.maximumf x v reducesTo_S16x8192x8192_S16x8192_d2 h_S_) (r_v23_0 x0 x1 x2 x3 x4) (r_cst_1 x0 x1 x2 x3 x4)
def r_cst_3 (x0 x1 x2 : FVec Ideal S8192x1024 .f32) (x3 : FVec Ideal S8192x16 .f32) (x4 : FVec Ideal S8192x1024 .f32) : FVec Ideal S_ .f32 :=
  constant S_ .f32 0xFF800000#32
def r_v30 (x0 x1 x2 : FVec Ideal S8192x1024 .f32) (x3 : FVec Ideal S8192x16 .f32) (x4 : FVec Ideal S8192x1024 .f32) : FVec Ideal S16x8192 .f32 :=
  broadcastInDim S16x8192 ![] bcast_S_S16x8192 (r_cst_3 x0 x1 x2 x3 x4)
def r_v31 (x0 x1 x2 : FVec Ideal S8192x1024 .f32) (x3 : FVec Ideal S8192x16 .f32) (x4 : FVec Ideal S8192x1024 .f32) : FVec Ideal S16x8192 .f32 :=
  maximumf (r_v30 x0 x1 x2 x3 x4) (r_v24 x0 x1 x2 x3 x4)
def r_v41 (x0 x1 x2 : FVec Ideal S8192x1024 .f32) (x3 : FVec Ideal S8192x16 .f32) (x4 : FVec Ideal S8192x1024 .f32) : FVec Ideal S16x8192x1 .f32 :=
  broadcastInDim S16x8192x1 ![0, 1] bcast_S16x8192_S16x8192x1_0_1 (r_v31 x0 x1 x2 x3 x4)
def r_v42 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (r_v41 x0 x1 x2 x3 x4)
def r_v43 (x0 x1 x2 : FVec Ideal S8192x1024 .f32) (x3 : FVec Ideal S8192x16 .f32) (x4 : FVec Ideal S8192x1024 .f32) : FVec Ideal S16x8192x8192 .f32 :=
  subf (r_v23_0 x0 x1 x2 x3 x4) (r_v42 x0 x1 x2 x3 x4)
def r_v44 (x0 x1 x2 : FVec Ideal S8192x1024 .f32) (x3 : FVec Ideal S8192x16 .f32) (x4 : FVec Ideal S8192x1024 .f32) : FVec Ideal S16x8192x8192 .f32 :=
  Host.exp (r_v43 x0 x1 x2 x3 x4)
def r_cst_9 (x0 x1 x2 : FVec Ideal S8192x1024 .f32) (x3 : FVec Ideal S8192x16 .f32) (x4 : FVec Ideal S8192x1024 .f32) : FVec Ideal S_ .f32 :=
  constant S_ .f32 0x00000000#32
def r_v45 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x8192_S16x8192_d2 h_S_) (r_v44 x0 x1 x2 x3 x4) (r_cst_9 x0 x1 x2 x3 x4)
def r_v46 (x0 x1 x2 : FVec Ideal S8192x1024 .f32) (x3 : FVec Ideal S8192x16 .f32) (x4 : FVec Ideal S8192x1024 .f32) : FVec Ideal S16x8192x1 .f32 :=
  broadcastInDim S16x8192x1 ![0, 1] bcast_S16x8192_S16x8192x1_0_1 (r_v45 x0 x1 x2 x3 x4)
def r_v47 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (r_v46 x0 x1 x2 x3 x4)
def r_v48 (x0 x1 x2 : FVec Ideal S8192x1024 .f32) (x3 : FVec Ideal S8192x16 .f32) (x4 : FVec Ideal S8192x1024 .f32) : FVec Ideal S16x8192x8192 .f32 :=
  Host.divf (r_v44 x0 x1 x2 x3 x4) (r_v47 x0 x1 x2 x3 x4)
def r_v49 (x0 x1 x2 : FVec Ideal S8192x1024 .f32) (x3 : FVec Ideal S8192x16 .f32) (x4 : FVec Ideal S8192x1024 .f32) : FVec Ideal S16x8192x1 .f32 :=
  mulf (r_v46 x0 x1 x2 x3 x4) (r_v46 x0 x1 x2 x3 x4)
def r_cst_10 (x0 x1 x2 : FVec Ideal S8192x1024 .f32) (x3 : FVec Ideal S8192x16 .f32) (x4 : FVec Ideal S8192x1024 .f32) : FVec Ideal S_ .f32 :=
  constant S_ .f32 0x3F800000#32
def r_v50 (x0 x1 x2 : FVec Ideal S8192x1024 .f32) (x3 : FVec Ideal S8192x16 .f32) (x4 : FVec Ideal S8192x1024 .f32) : FVec Ideal S16x8192x1 .f32 :=
  broadcastInDim S16x8192x1 ![] bcast_S_S16x8192x1 (r_cst_10 x0 x1 x2 x3 x4)
def r_v51 (x0 x1 x2 : FVec Ideal S8192x1024 .f32) (x3 : FVec Ideal S8192x16 .f32) (x4 : FVec Ideal S8192x1024 .f32) : FVec Ideal S16x8192x1 .f32 :=
  Host.divf (r_v50 x0 x1 x2 x3 x4) (r_v49 x0 x1 x2 x3 x4)
def r_v55 (x0 x1 x2 : FVec Ideal S8192x1024 .f32) (x3 : FVec Ideal S8192x16 .f32) (x4 : FVec Ideal S8192x1024 .f32) : FVec Ideal S8192x16x64 .f32 :=
  shapeCast _ x4 shapeCasts_S8192x1024_S8192x16x64
def r_v56 (x0 x1 x2 : FVec Ideal S8192x1024 .f32) (x3 : FVec Ideal S8192x16 .f32) (x4 : FVec Ideal S8192x1024 .f32) : FVec Ideal S16x8192x64 .f32 :=
  transpose S16x8192x64 [1, 0, 2] (r_v55 x0 x1 x2 x3 x4) transposes_S8192x16x64_S16x8192x64_1_0_2
def r_v57 (x0 x1 x2 : FVec Ideal S8192x1024 .f32) (x3 : FVec Ideal S8192x16 .f32) (x4 : FVec Ideal S8192x1024 .f32) : FVec Ideal S16x64x8192 .f32 :=
  (fun l r => Host.dotGeneral dot_S16x8192x64_S16x8192x8192_S16x64x8192_1_1_2_2_0_0 none l r) (r_v56 x0 x1 x2 x3 x4) (r_v48 x0 x1 x2 x3 x4)
def r_v58 (x0 x1 x2 : FVec Ideal S8192x1024 .f32) (x3 : FVec Ideal S8192x16 .f32) (x4 : FVec Ideal S8192x1024 .f32) : FVec Ideal S16x8192x64 .f32 :=
  transpose S16x8192x64 [0, 2, 1] (r_v57 x0 x1 x2 x3 x4) transposes_S16x64x8192_S16x8192x64_0_2_1
def r_v59 (x0 x1 x2 : FVec Ideal S8192x1024 .f32) (x3 : FVec Ideal S8192x16 .f32) (x4 : FVec Ideal S8192x1024 .f32) : FVec Ideal S16x8192x8192 .f32 :=
  (fun l r => Host.dotGeneral dot_S16x8192x64_S16x8192x64_S16x8192x8192_2_2_1_1_0_0 none l r) (r_v56 x0 x1 x2 x3 x4) (r_v1 x0 x1 x2 x3 x4)
def r_v60 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (r_v51 x0 x1 x2 x3 x4)
def r_v61 (x0 x1 x2 : FVec Ideal S8192x1024 .f32) (x3 : FVec Ideal S8192x16 .f32) (x4 : FVec Ideal S8192x1024 .f32) : FVec Ideal S16x8192x8192 .f32 :=
  mulf (r_v59 x0 x1 x2 x3 x4) (r_v60 x0 x1 x2 x3 x4)
def r_v62 (x0 x1 x2 : FVec Ideal S8192x1024 .f32) (x3 : FVec Ideal S8192x16 .f32) (x4 : FVec Ideal S8192x1024 .f32) : FVec Ideal S16x8192x8192 .f32 :=
  mulf (r_v61 x0 x1 x2 x3 x4) (r_v44 x0 x1 x2 x3 x4)
def r_cst_11 (x0 x1 x2 : FVec Ideal S8192x1024 .f32) (x3 : FVec Ideal S8192x16 .f32) (x4 : FVec Ideal S8192x1024 .f32) : FVec Ideal S_ .f32 :=
  constant S_ .f32 0x00000000#32
def r_v63 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x8192_S16x8192_d2 h_S_) (r_v62 x0 x1 x2 x3 x4) (r_cst_11 x0 x1 x2 x3 x4)
def r_v64 (x0 x1 x2 : FVec Ideal S8192x1024 .f32) (x3 : FVec Ideal S8192x16 .f32) (x4 : FVec Ideal S8192x1024 .f32) : FVec Ideal S16x8192x1 .f32 :=
  shapeCast _ (r_v63 x0 x1 x2 x3 x4) shapeCasts_S16x8192_S16x8192x1
def r_v65 (x0 x1 x2 : FVec Ideal S8192x1024 .f32) (x3 : FVec Ideal S8192x16 .f32) (x4 : FVec Ideal S8192x1024 .f32) : FVec Ideal S16x8192x1 .f32 :=
  Host.negf (r_v64 x0 x1 x2 x3 x4)
def r_v66 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (r_v46 x0 x1 x2 x3 x4)
def r_v67 (x0 x1 x2 : FVec Ideal S8192x1024 .f32) (x3 : FVec Ideal S8192x16 .f32) (x4 : FVec Ideal S8192x1024 .f32) : FVec Ideal S16x8192x8192 .f32 :=
  Host.divf (r_v59 x0 x1 x2 x3 x4) (r_v66 x0 x1 x2 x3 x4)
def r_cst_12 (x0 x1 x2 : FVec Ideal S8192x1024 .f32) (x3 : FVec Ideal S8192x16 .f32) (x4 : FVec Ideal S8192x1024 .f32) : FVec Ideal S_ .f32 :=
  constant S_ .f32 0x00000000#32
def r_v68 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x1_S16x8192_d2 h_S_) (r_v65 x0 x1 x2 x3 x4) (r_cst_12 x0 x1 x2 x3 x4)
def r_v69 (x0 x1 x2 : FVec Ideal S8192x1024 .f32) (x3 : FVec Ideal S8192x16 .f32) (x4 : FVec Ideal S8192x1024 .f32) : FVec Ideal S16x8192x8192 .f32 :=
  broadcastInDim S16x8192x8192 ![0, 1] bcast_S16x8192_S16x8192x8192_0_1 (r_v68 x0 x1 x2 x3 x4)
def r_v70 (x0 x1 x2 : FVec Ideal S8192x1024 .f32) (x3 : FVec Ideal S8192x16 .f32) (x4 : FVec Ideal S8192x1024 .f32) : FVec Ideal S16x8192x8192 .f32 :=
  addf (r_v67 x0 x1 x2 x3 x4) (r_v69 x0 x1 x2 x3 x4)
def r_v71 (x0 x1 x2 : FVec Ideal S8192x1024 .f32) (x3 : FVec Ideal S8192x16 .f32) (x4 : FVec Ideal S8192x1024 .f32) : FVec Ideal S16x8192x8192 .f32 :=
  mulf (r_v70 x0 x1 x2 x3 x4) (r_v44 x0 x1 x2 x3 x4)
def r_call1_cst (x0 x1 x2 : FVec Ideal S8192x1024 .f32) (x3 : FVec Ideal S8192x16 .f32) (x4 : FVec Ideal S8192x1024 .f32) : FVec Ideal S_ .f32 :=
  constant S_ .f32 0x00000000#32
def r_call1_v0 (x0 x1 x2 : FVec Ideal S8192x1024 .f32) (x3 : FVec Ideal S8192x16 .f32) (x4 : FVec Ideal S8192x1024 .f32) : FVec Ideal S16x8192x8192 .f32 :=
  broadcastInDim S16x8192x8192 ![] bcast_S_S16x8192x8192 (r_call1_cst x0 x1 x2 x3 x4)
def r_v72 (x0 x1 x2 : FVec Ideal S8192x1024 .f32) (x3 : FVec Ideal S8192x16 .f32) (x4 : FVec Ideal S8192x1024 .f32) : FVec Ideal S16x8192x8192 .f32 :=
  select (r_v23_1 x0 x1 x2 x3 x4) (r_v71 x0 x1 x2 x3 x4) (r_call1_v0 x0 x1 x2 x3 x4)
def r_cst_13 (x0 x1 x2 : FVec Ideal S8192x1024 .f32) (x3 : FVec Ideal S8192x16 .f32) (x4 : FVec Ideal S8192x1024 .f32) : FVec Ideal S_ .f32 :=
  constant S_ .f32 0x00000000#32
def r_v73 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x8192_S16x8192_d2 h_S_) (r_v72 x0 x1 x2 x3 x4) (r_cst_13 x0 x1 x2 x3 x4)
def r_v74 (x0 x1 x2 : FVec Ideal S8192x1024 .f32) (x3 : FVec Ideal S8192x16 .f32) (x4 : FVec Ideal S8192x1024 .f32) : FVec Ideal S16x8192x1 .f32 :=
  shapeCast _ (r_v73 x0 x1 x2 x3 x4) shapeCasts_S16x8192_S16x8192x1
def r_v75 (x0 x1 x2 : FVec Ideal S8192x1024 .f32) (x3 : FVec Ideal S8192x16 .f32) (x4 : FVec Ideal S8192x1024 .f32) : FVec Ideal S16x8192x8192 .f32 :=
  Host.negf (r_v72 x0 x1 x2 x3 x4)
def r_cst_14 (x0 x1 x2 : FVec Ideal S8192x1024 .f32) (x3 : FVec Ideal S8192x16 .f32) (x4 : FVec Ideal S8192x1024 .f32) : FVec Ideal S_ .f32 :=
  constant S_ .f32 0x00000000#32
def r_v76 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x8192_S16x8192_d1 h_S_) (r_v75 x0 x1 x2 x3 x4) (r_cst_14 x0 x1 x2 x3 x4)
def r_v77 (x0 x1 x2 : FVec Ideal S8192x1024 .f32) (x3 : FVec Ideal S8192x16 .f32) (x4 : FVec Ideal S8192x1024 .f32) : FVec Ideal S16x1x8192 .f32 :=
  shapeCast _ (r_v76 x0 x1 x2 x3 x4) shapeCasts_S16x8192_S16x1x8192
def r_cst_15 (x0 x1 x2 : FVec Ideal S8192x1024 .f32) (x3 : FVec Ideal S8192x16 .f32) (x4 : FVec Ideal S8192x1024 .f32) : FVec Ideal S_ .f32 :=
  constant S_ .f32 0x00000000#32
def r_v78 (x0 x1 x2 : FVec Ideal S8192x1024 .f32) (x3 : FVec Ideal S8192x16 .f32) (x4 : FVec Ideal S8192x1024 .f32) : FVec Ideal S16x8192 .f32 :=
  (fun x v => Host.reduceAdd x v reducesTo_S16x1x8192_S16x8192_d1 h_S_) (r_v77 x0 x1 x2 x3 x4) (r_cst_15 x0 x1 x2 x3 x4)
def r_cst_16 (x0 x1 x2 : FVec Ideal S8192x1024 .f32) (x3 : FVec Ideal S8192x16 .f32) (x4 : FVec Ideal S8192x1024 .f32) : FVec Ideal S_ .f32 :=
  constant S_ .f32 0x00000000#32
def r_v79 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x1_S16x8192_d2 h_S_) (r_v74 x0 x1 x2 x3 x4) (r_cst_16 x0 x1 x2 x3 x4)
def r_v80 (x0 x1 x2 : FVec Ideal S8192x1024 .f32) (x3 : FVec Ideal S8192x16 .f32) (x4 : FVec Ideal S8192x1024 .f32) : FVec Ideal S16x8192 .f32 :=
  addf (r_v78 x0 x1 x2 x3 x4) (r_v79 x0 x1 x2 x3 x4)
def r_cst_17 (x0 x1 x2 : FVec Ideal S8192x1024 .f32) (x3 : FVec Ideal S8192x16 .f32) (x4 : FVec Ideal S8192x1024 .f32) : FVec Ideal S_ .f32 :=
  constant S_ .f32 0x3E000000#32
def r_v81 (x0 x1 x2 : FVec Ideal S8192x1024 .f32) (x3 : FVec Ideal S8192x16 .f32) (x4 : FVec Ideal S8192x1024 .f32) : FVec Ideal S16x8192x8192 .f32 :=
  broadcastInDim S16x8192x8192 ![] bcast_S_S16x8192x8192 (r_cst_17 x0 x1 x2 x3 x4)
def r_v82 (x0 x1 x2 : FVec Ideal S8192x1024 .f32) (x3 : FVec Ideal S8192x16 .f32) (x4 : FVec Ideal S8192x1024 .f32) : FVec Ideal S16x8192x8192 .f32 :=
  mulf (r_v72 x0 x1 x2 x3 x4) (r_v81 x0 x1 x2 x3 x4)
def r_v83 (x0 x1 x2 : FVec Ideal S8192x1024 .f32) (x3 : FVec Ideal S8192x16 .f32) (x4 : FVec Ideal S8192x1024 .f32) : FVec Ideal S16x8192x64 .f32 :=
  (fun l r => Host.dotGeneral dot_S16x8192x8192_S16x8192x64_S16x8192x64_1_1_2_2_0_0 none l r) (r_v82 x0 x1 x2 x3 x4) (r_v3 x0 x1 x2 x3 x4)
def r_v84 (x0 x1 x2 : FVec Ideal S8192x1024 .f32) (x3 : FVec Ideal S8192x16 .f32) (x4 : FVec Ideal S8192x1024 .f32) : FVec Ideal S16x8192x64 .f32 :=
  (fun l r => Host.dotGeneral dot_S16x8192x8192_S16x8192x64_S16x8192x64_2_1_1_2_0_0 none l r) (r_v82 x0 x1 x2 x3 x4) (r_v5 x0 x1 x2 x3 x4)
def r_v85 (x0 x1 x2 : FVec Ideal S8192x1024 .f32) (x3 : FVec Ideal S8192x16 .f32) (x4 : FVec Ideal S8192x1024 .f32) : FVec Ideal S8192x16 .f32 :=
  transpose S8192x16 [1, 0] (r_v80 x0 x1 x2 x3 x4) transposes_S16x8192_S8192x16_1_0
def r_v86 (x0 x1 x2 : FVec Ideal S8192x1024 .f32) (x3 : FVec Ideal S8192x16 .f32) (x4 : FVec Ideal S8192x1024 .f32) : FVec Ideal S8192x16x64 .f32 :=
  transpose S8192x16x64 [1, 0, 2] (r_v83 x0 x1 x2 x3 x4) transposes_S16x8192x64_S8192x16x64_1_0_2
def r_v87 (x0 x1 x2 : FVec Ideal S8192x1024 .f32) (x3 : FVec Ideal S8192x16 .f32) (x4 : FVec Ideal S8192x1024 .f32) : FVec Ideal S8192x1024 .f32 :=
  shapeCast _ (r_v86 x0 x1 x2 x3 x4) shapeCasts_S8192x16x64_S8192x1024
def r_v88 (x0 x1 x2 : FVec Ideal S8192x1024 .f32) (x3 : FVec Ideal S8192x16 .f32) (x4 : FVec Ideal S8192x1024 .f32) : FVec Ideal S8192x16x64 .f32 :=
  transpose S8192x16x64 [1, 0, 2] (r_v84 x0 x1 x2 x3 x4) transposes_S16x8192x64_S8192x16x64_1_0_2
def r_v89 (x0 x1 x2 : FVec Ideal S8192x1024 .f32) (x3 : FVec Ideal S8192x16 .f32) (x4 : FVec Ideal S8192x1024 .f32) : FVec Ideal S8192x1024 .f32 :=
  shapeCast _ (r_v88 x0 x1 x2 x3 x4) shapeCasts_S8192x16x64_S8192x1024
def r_v90 (x0 x1 x2 : FVec Ideal S8192x1024 .f32) (x3 : FVec Ideal S8192x16 .f32) (x4 : FVec Ideal S8192x1024 .f32) : FVec Ideal S8192x16x64 .f32 :=
  transpose S8192x16x64 [1, 0, 2] (r_v58 x0 x1 x2 x3 x4) transposes_S16x8192x64_S8192x16x64_1_0_2
def r_v91 (x0 x1 x2 : FVec Ideal S8192x1024 .f32) (x3 : FVec Ideal S8192x16 .f32) (x4 : FVec Ideal S8192x1024 .f32) : FVec Ideal S8192x1024 .f32 :=
  shapeCast _ (r_v90 x0 x1 x2 x3 x4) shapeCasts_S8192x16x64_S8192x1024
def r_v92 (x0 x1 x2 : FVec Ideal S8192x1024 .f32) (x3 : FVec Ideal S8192x16 .f32) (x4 : FVec Ideal S8192x1024 .f32) : FVec Ideal S8192x1024 .bf16 :=
  truncf .bf16 (r_v89 x0 x1 x2 x3 x4) bitsLt_bf16_f32
def r_v93 (x0 x1 x2 : FVec Ideal S8192x1024 .f32) (x3 : FVec Ideal S8192x16 .f32) (x4 : FVec Ideal S8192x1024 .f32) : FVec Ideal S8192x1024 .bf16 :=
  truncf .bf16 (r_v87 x0 x1 x2 x3 x4) bitsLt_bf16_f32
def r_v94 (x0 x1 x2 : FVec Ideal S8192x1024 .f32) (x3 : FVec Ideal S8192x16 .f32) (x4 : FVec Ideal S8192x1024 .f32) : FVec Ideal S8192x1024 .bf16 :=
  truncf .bf16 (r_v91 x0 x1 x2 x3 x4) bitsLt_bf16_f32

variable (m : (ℓ : Loc nD τ sig) → Buf (Elt Ideal) ℓ) (c : Dev nD)

theorem res_v92 : Value.res_main_v92 m c = r_v92 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v92
  rfl

theorem res_v93 : Value.res_main_v93 m c = r_v93 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v93
  rfl

theorem res_v94 : Value.res_main_v94 m c = r_v94 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v94
  rfl

theorem res_v85 : Value.res_main_v85 m c = r_v85 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Value.res_main_v85
  rfl

end Cert.ReferenceIdeal.Fox

end
-- ==== Proof.Arr.lean ====
/- Arrays of extended reals whose elements are reals given by a function of the index's numbers, and what the vector
   operations of the gradient kernel make of them. -/
module

public import proofs.«01_k».proof.Proof.Gen.KernelIdeal.Skeleton
public import Idealize.ShloMosaic.Lib.Pointwise
public import Idealize.ShloMosaic.Lib.IdealHost
public import Idealize.ShloMosaic.Lib.VecWindow
public import Idealize.ShloMosaic.Lib.WordCmp

@[expose] public section

set_option maxRecDepth 16384

noncomputable section

namespace Cert.KernelIdeal.Fox

open Cert.KernelIdeal Cert.KernelIdeal.Gen
open Idealize.ShloMosaic

/-- The matrix whose element in row `a`, column `b` is the real `f a b`. -/
def co2 {m n : ℕ} (f : ℕ → ℕ → ℝ) : (⟨2, ![m, n]⟩ : Shape).Idx → EReal := fun i => ((f (i 0).val (i 1).val : ℝ) : EReal)

/-- The row (with two more axes of extent one before it) whose element `r` is the real `f r`. -/
def coR {n : ℕ} (f : ℕ → ℝ) : (⟨4, ![1, 1, 1, n]⟩ : Shape).Idx → EReal := fun i => ((f (i 3).val : ℝ) : EReal)

/-- The table of rows of the two heads, tile by tile: head `a`, position `t` of the whole sequence. -/
def co4 (f : ℕ → ℕ → ℝ) : S1x8x2x1024.Idx → EReal := fun i => ((f (i 2).val (1024 * (i 1).val + (i 3).val) : ℝ) : EReal)

theorem co2_congr {m n : ℕ} {f g : ℕ → ℕ → ℝ} (h : ∀ a < m, ∀ b < n, f a b = g a b) : (co2 f : (⟨2, ![m, n]⟩ : Shape).Idx → EReal) = co2 g :=
  funext fun i => congrArg _ (h _ (i 0).isLt _ (i 1).isLt)

theorem coe_sum {n : ℕ} (f : ℕ → ℝ) : (∑ k : Fin n, ((f k.val : ℝ) : EReal)) = ((∑ k ∈ Finset.range n, f k : ℝ) : EReal) := by
  rw [Finset.sum_range]
  induction (Finset.univ : Finset (Fin n)) using Finset.induction_on with
  | empty => simp
  | insert a s ha ih => rw [Finset.sum_insert ha, Finset.sum_insert ha, ih, EReal.coe_add]

theorem coe_sum_mul {n : ℕ} (f g : ℕ → ℝ) : (∑ k : Fin n, ((f k.val : ℝ) : EReal) * ((g k.val : ℝ) : EReal)) = ((∑ k ∈ Finset.range n, f k * g k : ℝ) : EReal) := by
  rw [← coe_sum]; simp only [EReal.coe_mul]

/-- The mask over lanes that is set where `p` says so. -/
def maskL {m n : ℕ} (p : ℕ → Bool) : (⟨2, ![m, n]⟩ : Shape).Idx → BitVec 1 := fun i => if p (i 1).val then 1#1 else 0#1

theorem dotKQ (A B : ℕ → ℕ → ℝ) :
    matmul (F := Ideal) (φ₁ := .bf16) (φ₂ := .bf16) dot_S1024x256_S1024x256_S1024x1024_1_1_0_0_n_n none (co2 A) (co2 B) (constant S1024x1024 .f32 0x00000000#32)
      = co2 fun u r => ∑ x ∈ Finset.range 256, A u x * B r x := by
  funext j; pointwise; exact coe_sum_mul (n := 256) (A (j 0).val) (B (j 1).val)

theorem dotVD (A B : ℕ → ℕ → ℝ) :
    matmul (F := Ideal) (φ₁ := .bf16) (φ₂ := .bf16) dot_S1024x128_S1024x128_S1024x1024_1_1_0_0_n_n none (co2 A) (co2 B) (constant S1024x1024 .f32 0x00000000#32)
      = co2 fun u r => ∑ x ∈ Finset.range 128, A u x * B r x := by
  funext j; pointwise; exact coe_sum_mul (n := 128) (A (j 0).val) (B (j 1).val)

theorem dotPD (A B : ℕ → ℕ → ℝ) :
    matmul (F := Ideal) (φ₁ := .bf16) (φ₂ := .bf16) dot_S1024x1024_S1024x128_S1024x128_1_0_0_1_n_n none (co2 A) (co2 B) (constant S1024x128 .f32 0x00000000#32)
      = co2 fun u x => ∑ r ∈ Finset.range 1024, A u r * B r x := by
  funext j; pointwise; exact coe_sum_mul (n := 1024) (A (j 0).val) (fun r => B r (j 1).val)

theorem dotSQ (A B : ℕ → ℕ → ℝ) :
    matmul (F := Ideal) (φ₁ := .bf16) (φ₂ := .bf16) dot_S1024x1024_S1024x256_S1024x256_1_0_0_1_n_n none (co2 A) (co2 B) (constant S1024x256 .f32 0x00000000#32)
      = co2 fun u x => ∑ r ∈ Finset.range 1024, A u r * B r x := by
  funext j; pointwise; exact coe_sum_mul (n := 1024) (A (j 0).val) (fun r => B r (j 1).val)

theorem dotSK (A B : ℕ → ℕ → ℝ) :
    matmul (F := Ideal) (φ₁ := .bf16) (φ₂ := .bf16) dot_S1024x1024_S1024x256_S1024x256_0_0_1_1_n_n none (co2 A) (co2 B) (constant S1024x256 .f32 0x00000000#32)
      = co2 fun r x => ∑ u ∈ Finset.range 1024, A u r * B u x := by
  funext j; pointwise; exact coe_sum_mul (n := 1024) (fun u => A u (j 0).val) (fun u => B u (j 1).val)

theorem addf_co2 {m n : ℕ} (f g : ℕ → ℕ → ℝ) :
    addf (F := Ideal) (φ := .f32) (s := ⟨2, ![m, n]⟩) (co2 f) (co2 g) = co2 fun a b => f a b + g a b := by
  funext j; pointwise; exact (EReal.coe_add _ _).symm

theorem subf_co2 {m n : ℕ} (f g : ℕ → ℕ → ℝ) :
    subf (F := Ideal) (φ := .f32) (s := ⟨2, ![m, n]⟩) (co2 f) (co2 g) = co2 fun a b => f a b - g a b := by
  funext j; pointwise; exact (EReal.coe_sub _ _).symm

theorem mulf_co2 {m n : ℕ} (f g : ℕ → ℕ → ℝ) :
    mulf (F := Ideal) (φ := .f32) (s := ⟨2, ![m, n]⟩) (co2 f) (co2 g) = co2 fun a b => f a b * g a b := by
  funext j; pointwise; exact (EReal.coe_mul _ _).symm

theorem exp2_co2 {m n : ℕ} (f : ℕ → ℕ → ℝ) :
    exp2 (F := Ideal) (φ := .f32) (s := ⟨2, ![m, n]⟩) (co2 f) = co2 fun a b => (2 : ℝ) ^ f a b := rfl

theorem row_coR (l : ℕ → ℝ) : broadcastTo S1024x1024 (shapeCast S1x1024 (coR l : S1x1x1x1024.Idx → EReal) shapeCasts_S1x1x1x1024_S1x1024) broadcasts_S1x1024_S1024x1024
      = (co2 fun _ r => l r : S1024x1024.Idx → EReal) := by
  funext j; pointwise; rfl

theorem ninf_word : (Ideal.ofBits FTy.f32 0xFF800000#32 : EReal) = ⊥ := by
  simp [Ideal.ofBits, Ideal.ieee]

theorem select_co2 {m n : ℕ} (p : ℕ → Bool) (f : ℕ → ℕ → ℝ) :
    select (s := ⟨2, ![m, n]⟩) (maskL p) (co2 f) (broadcast ⟨2, ![m, n]⟩ (Scalar.ofBits (F := Ideal) .bf16 0x0000#16))
      = co2 fun a b => if p b then f a b else 0 := by
  funext j; pointwise
  show (if maskL p j = 1 then co2 f j else 0) = _
  unfold maskL co2
  by_cases h : p (j 1).val = true <;> simp [h]

/-- A square block's row numbers. -/
def io0 : IVec S1024x1024 32 := iota .tc S1024x1024 32 [0] iota_S1024x1024_d0_w32
/-- A square block's column numbers. -/
def io1 : IVec S1024x1024 32 := iota .tc S1024x1024 32 [1] iota_S1024x1024_d1_w32

theorem diag_co2 (f g : ℕ → ℕ → ℝ) :
    exp2 (F := Ideal) (φ := .f32) (subf (select (cmpi .sge io1 io0) (co2 f)
        (broadcast S1024x1024 (Scalar.ofBits (F := Ideal) .f32 0xFF800000#32))) (co2 g))
      = co2 fun u r => if u ≤ r then (2 : ℝ) ^ (f u r - g u r) else 0 := by
  funext j; pointwise [io0, io1]
  have h0 : (j 0).val < 1024 := (j 0).isLt
  have h1 : (j 1).val < 1024 := (j 1).isLt
  rw [ninf_word, WordCmp.cmpi_sge_eq, WordCmp.toInt_ofNat_of_lt (by omega), WordCmp.toInt_ofNat_of_lt (by omega)]
  unfold co2 Scalar.select
  by_cases h : (j 0).val ≤ (j 1).val
  · simp only [Int.ofNat_le, h, decide_true, BitVec.ofBool_true, if_true]
    rw [← EReal.coe_sub]; rfl
  · simp only [Int.ofNat_le, h, decide_false, if_false]
    rw [if_neg (by decide), EReal.bot_sub]; rfl

theorem diag_co2' (f g : ℕ → ℕ → ℝ) :
    exp2 (F := Ideal) (φ := .f32) (subf (select (cmpi .sge io1 io0) (co2 f)
        (broadcast S1024x1024 (FloatOps.ofBits (F := Ideal) .f32 0xFF800000#32))) (co2 g))
      = co2 fun u r => if u ≤ r then (2 : ℝ) ^ (f u r - g u r) else 0 := diag_co2 f g

/-- The lanes of head `a` on the key side: its own, its bias terms and its one. -/
def km (a x : ℕ) : Bool := (decide (64 * a ≤ x) && decide (x < 64 * a + 64)) || (decide (128 + 3 * a ≤ x) && decide (x < 131 + 3 * a)) || decide (x = 136 + a)
/-- The lanes of head `a` on the query side. -/
def qm (a x : ℕ) : Bool := (decide (64 * a ≤ x) && decide (x < 64 * a + 64)) || (decide (128 + 3 * a ≤ x) && decide (x < 131 + 3 * a)) || decide (x = 134 + a)
/-- The lanes of head `a` of a pair of 128. -/
def hm (a x : ℕ) : Bool := decide (64 * a ≤ x) && decide (x < 64 * a + 64)

theorem mask42 : k0_pay42 = maskL (km 0) := by
  funext j; pointwise [k0_pay42, k0_pay41]
  have h1 : (j 1).val < 256 := (j 1).isLt
  unfold maskL
  generalize (j 1).val = x at h1
  revert x; decide +kernel

theorem mask43 : k0_pay43 = maskL (km 1) := by
  funext j; pointwise [k0_pay43, k0_pay41]
  have h1 : (j 1).val < 256 := (j 1).isLt
  unfold maskL
  generalize (j 1).val = x at h1
  revert x; decide +kernel

theorem mask45 : k0_pay45 (iota .tc S1024x256 32 [1] iota_S1024x256_d1_w32) 128#32 = maskL (qm 0) := by
  funext j; pointwise [k0_pay45, k0_pay44]
  have h1 : (j 1).val < 256 := (j 1).isLt
  unfold maskL
  generalize (j 1).val = x at h1
  revert x; decide +kernel

theorem mask46 : k0_pay46 (iota .tc S1024x256 32 [1] iota_S1024x256_d1_w32) 128#32 = maskL (qm 1) := by
  funext j; pointwise [k0_pay46, k0_pay44]
  have h1 : (j 1).val < 256 := (j 1).isLt
  unfold maskL
  generalize (j 1).val = x at h1
  revert x; decide +kernel

theorem mask47 : k0_pay47 = maskL (hm 0) := by
  funext j; pointwise [k0_pay47]
  have h1 : (j 1).val < 128 := (j 1).isLt
  unfold maskL
  generalize (j 1).val = x at h1
  revert x; decide +kernel

theorem mask48 : k0_pay48 = maskL (hm 1) := by
  funext j; pointwise [k0_pay48]
  have h1 : (j 1).val < 128 := (j 1).isLt
  unfold maskL
  generalize (j 1).val = x at h1
  revert x; decide +kernel

/-- A block's scores: the products of its keys' and queries' lanes. -/
def STr (K Q : ℕ → ℕ → ℝ) (u r : ℕ) : ℝ := ∑ x ∈ Finset.range 256, K u x * Q r x
/-- A block's probabilities, two to the scores less the queries' rows. -/
def PTr (K Q : ℕ → ℕ → ℝ) (l : ℕ → ℝ) (u r : ℕ) : ℝ := (2 : ℝ) ^ (STr K Q u r - l r)
/-- The same in a block on the diagonal, where a query sees the keys up to its own. -/
def PDr (K Q : ℕ → ℕ → ℝ) (l : ℕ → ℝ) (u r : ℕ) : ℝ := if u ≤ r then (2 : ℝ) ^ (STr K Q u r - l r) else 0
/-- The products of a block's values with the gradients of the queries' outputs. -/
def DPr (V D : ℕ → ℕ → ℝ) (u r : ℕ) : ℝ := ∑ y ∈ Finset.range 128, V u y * D r y
/-- The gradient of a block's scores. -/
def DSr (P : ℕ → ℕ → ℝ) (V D : ℕ → ℕ → ℝ) (d : ℕ → ℝ) (u r : ℕ) : ℝ := P u r * (DPr V D u r - d r)
/-- The lanes that a mask keeps. -/
def mk (p : ℕ → Bool) (f : ℕ → ℕ → ℝ) (a b : ℕ) : ℝ := if p b then f a b else 0

theorem select_mk {m n : ℕ} (p : ℕ → Bool) (f : ℕ → ℕ → ℝ) :
    select (s := ⟨2, ![m, n]⟩) (maskL p) (co2 f) (broadcast ⟨2, ![m, n]⟩ (Scalar.ofBits (F := Ideal) .bf16 0x0000#16)) = co2 (mk p f) := select_co2 p f

theorem truncf_co2 {m n : ℕ} (f : ℕ → ℕ → ℝ) :
    truncf (F := Ideal) (φ := .f32) (s := ⟨2, ![m, n]⟩) .bf16 (co2 f) bitsLt_bf16_f32 = (co2 f : (⟨2, ![m, n]⟩ : Shape).Idx → EReal) := by
  funext j; pointwise

section Pays

variable (p p' : ℕ → Bool) (K V Q D f P B : ℕ → ℕ → ℝ) (l d : ℕ → ℝ)

theorem pay5_co : k0_pay5 (F := Ideal) (co2 Q) = co2 Q := by
  simp only [k0_pay5, dotKQ, dotVD, dotPD, dotSQ, dotSK, addf_co2, subf_co2, mulf_co2, exp2_co2, row_coR, select_mk, diag_co2, diag_co2', truncf_co2, shapeCast_self]
  first | done | rfl

theorem pay6_co : k0_pay6 (F := Ideal) (co2 D) = co2 D := by
  simp only [k0_pay6, dotKQ, dotVD, dotPD, dotSQ, dotSK, addf_co2, subf_co2, mulf_co2, exp2_co2, row_coR, select_mk, diag_co2, diag_co2', truncf_co2, shapeCast_self]
  first | done | rfl

theorem pay7_co : k0_pay7 (F := Ideal) (co2 K) (co2 Q) (coR l) = co2 (PTr K Q l) := by
  simp only [k0_pay7, k0_pay5, dotKQ, dotVD, dotPD, dotSQ, dotSK, addf_co2, subf_co2, mulf_co2, exp2_co2, row_coR, select_mk, diag_co2, diag_co2', truncf_co2, shapeCast_self]
  first | done | rfl

theorem pay8_co : k0_pay8 (F := Ideal) (maskL p) (co2 K) (co2 f) (co2 Q) (co2 D) (coR l) = co2 (fun u y => f u y + ∑ r ∈ Finset.range 1024, PTr K Q l u r * mk p D r y) := by
  simp only [k0_pay8, k0_pay6, pay7_co, dotKQ, dotVD, dotPD, dotSQ, dotSK, addf_co2, subf_co2, mulf_co2, exp2_co2, row_coR, select_mk, diag_co2, diag_co2', truncf_co2, shapeCast_self]
  first | done | rfl

theorem pay9_co : k0_pay9 (F := Ideal) (co2 K) (co2 V) (co2 Q) (co2 D) (coR l) (coR d) = co2 (DSr (PTr K Q l) V D d) := by
  simp only [k0_pay9, k0_pay6, pay7_co, dotKQ, dotVD, dotPD, dotSQ, dotSK, addf_co2, subf_co2, mulf_co2, exp2_co2, row_coR, select_mk, diag_co2, diag_co2', truncf_co2, shapeCast_self]
  first | done | rfl

theorem pay10_co : k0_pay10 (F := Ideal) (maskL p) (co2 K) (co2 V) (co2 f) (co2 Q) (co2 D) (coR l) (coR d) = co2 (fun u x => f u x + ∑ r ∈ Finset.range 1024, DSr (PTr K Q l) V D d u r * mk p Q r x) := by
  simp only [k0_pay10, k0_pay5, pay9_co, dotKQ, dotVD, dotPD, dotSQ, dotSK, addf_co2, subf_co2, mulf_co2, exp2_co2, row_coR, select_mk, diag_co2, diag_co2', truncf_co2, shapeCast_self]
  first | done | rfl

theorem pay11_co : k0_pay11 (F := Ideal) (co2 K) (co2 V) (co2 Q) (co2 D) (coR l) (coR d) (co2 f) = co2 (fun r x => f r x + ∑ u ∈ Finset.range 1024, DSr (PTr K Q l) V D d u r * K u x) := by
  simp only [k0_pay11, pay9_co, dotKQ, dotVD, dotPD, dotSQ, dotSK, addf_co2, subf_co2, mulf_co2, exp2_co2, row_coR, select_mk, diag_co2, diag_co2', truncf_co2, shapeCast_self]
  first | done | rfl

theorem pay19_co : k0_pay19 (F := Ideal) (co2 Q) = co2 Q := by
  simp only [k0_pay19, dotKQ, dotVD, dotPD, dotSQ, dotSK, addf_co2, subf_co2, mulf_co2, exp2_co2, row_coR, select_mk, diag_co2, diag_co2', truncf_co2, shapeCast_self]
  first | done | rfl

theorem pay20_co : k0_pay20 (F := Ideal) (co2 D) = co2 D := by
  simp only [k0_pay20, dotKQ, dotVD, dotPD, dotSQ, dotSK, addf_co2, subf_co2, mulf_co2, exp2_co2, row_coR, select_mk, diag_co2, diag_co2', truncf_co2, shapeCast_self]
  first | done | rfl

theorem pay21_co : k0_pay21 (F := Ideal) (co2 K) (co2 Q) (coR l) = co2 (PTr K Q l) := by
  simp only [k0_pay21, k0_pay19, dotKQ, dotVD, dotPD, dotSQ, dotSK, addf_co2, subf_co2, mulf_co2, exp2_co2, row_coR, select_mk, diag_co2, diag_co2', truncf_co2, shapeCast_self]
  first | done | rfl

theorem pay22_co : k0_pay22 (F := Ideal) (maskL p) (co2 K) (co2 f) (co2 Q) (co2 D) (coR l) = co2 (fun u y => f u y + ∑ r ∈ Finset.range 1024, PTr K Q l u r * mk p D r y) := by
  simp only [k0_pay22, k0_pay20, pay21_co, dotKQ, dotVD, dotPD, dotSQ, dotSK, addf_co2, subf_co2, mulf_co2, exp2_co2, row_coR, select_mk, diag_co2, diag_co2', truncf_co2, shapeCast_self]
  first | done | rfl

theorem pay23_co : k0_pay23 (F := Ideal) (co2 K) (co2 V) (co2 Q) (co2 D) (coR l) (coR d) = co2 (DSr (PTr K Q l) V D d) := by
  simp only [k0_pay23, k0_pay20, pay21_co, dotKQ, dotVD, dotPD, dotSQ, dotSK, addf_co2, subf_co2, mulf_co2, exp2_co2, row_coR, select_mk, diag_co2, diag_co2', truncf_co2, shapeCast_self]
  first | done | rfl

theorem pay24_co : k0_pay24 (F := Ideal) (maskL p) (co2 K) (co2 V) (co2 f) (co2 Q) (co2 D) (coR l) (coR d) = co2 (fun u x => f u x + ∑ r ∈ Finset.range 1024, DSr (PTr K Q l) V D d u r * mk p Q r x) := by
  simp only [k0_pay24, k0_pay19, pay23_co, dotKQ, dotVD, dotPD, dotSQ, dotSK, addf_co2, subf_co2, mulf_co2, exp2_co2, row_coR, select_mk, diag_co2, diag_co2', truncf_co2, shapeCast_self]
  first | done | rfl

theorem pay25_co : k0_pay25 (F := Ideal) (co2 K) (co2 V) (co2 Q) (co2 D) (coR l) (coR d) (co2 f) = co2 (fun r x => f r x + ∑ u ∈ Finset.range 1024, DSr (PTr K Q l) V D d u r * K u x) := by
  simp only [k0_pay25, pay23_co, dotKQ, dotVD, dotPD, dotSQ, dotSK, addf_co2, subf_co2, mulf_co2, exp2_co2, row_coR, select_mk, diag_co2, diag_co2', truncf_co2, shapeCast_self]
  first | done | rfl

theorem zeros_co {m n : ℕ} : broadcast ⟨2, ![m, n]⟩ (FloatOps.ofBits (F := Ideal) .f32 0x00000000#32) = (co2 (fun _ _ => 0) : (⟨2, ![m, n]⟩ : Shape).Idx → EReal) := by
  funext j; pointwise; rfl

theorem pay39_co : k0_pay39 (F := Ideal) (co2 K) = co2 K := by
  simp only [k0_pay39, dotKQ, dotVD, dotPD, dotSQ, dotSK, addf_co2, subf_co2, mulf_co2, exp2_co2, row_coR, select_mk, diag_co2, diag_co2', truncf_co2, shapeCast_self]
  first | done | rfl

theorem pay40_co : k0_pay40 (F := Ideal) (co2 V) = co2 V := by
  simp only [k0_pay40, dotKQ, dotVD, dotPD, dotSQ, dotSK, addf_co2, subf_co2, mulf_co2, exp2_co2, row_coR, select_mk, diag_co2, diag_co2', truncf_co2, shapeCast_self]
  first | done | rfl

theorem pay49_co : k0_pay49 (F := Ideal)  = co2 (fun _ _ => 0) := by
  simp only [k0_pay49, zeros_co, dotKQ, dotVD, dotPD, dotSQ, dotSK, addf_co2, subf_co2, mulf_co2, exp2_co2, row_coR, select_mk, diag_co2, diag_co2', truncf_co2, shapeCast_self]
  first | done | rfl

theorem pay50_co : k0_pay50 (F := Ideal)  = co2 (fun _ _ => 0) := by
  simp only [k0_pay50, zeros_co, dotKQ, dotVD, dotPD, dotSQ, dotSK, addf_co2, subf_co2, mulf_co2, exp2_co2, row_coR, select_mk, diag_co2, diag_co2', truncf_co2, shapeCast_self]
  first | done | rfl

theorem pay38_co : k0_pay38 (F := Ideal)  = co2 (fun _ _ => 0) := by
  simp only [k0_pay38, zeros_co, dotKQ, dotVD, dotPD, dotSQ, dotSK, addf_co2, subf_co2, mulf_co2, exp2_co2, row_coR, select_mk, diag_co2, diag_co2', truncf_co2, shapeCast_self]
  first | done | rfl

theorem pay51_co : k0_pay51 (F := Ideal) (co2 K) (maskL p) = co2 (mk p K) := by
  simp only [k0_pay51, dotKQ, dotVD, dotPD, dotSQ, dotSK, addf_co2, subf_co2, mulf_co2, exp2_co2, row_coR, select_mk, diag_co2, diag_co2', truncf_co2, shapeCast_self]
  first | done | rfl

theorem pay52_co : k0_pay52 (F := Ideal) (co2 V) = co2 (mk (hm 0) V) := by
  simp only [k0_pay52, mask47, dotKQ, dotVD, dotPD, dotSQ, dotSK, addf_co2, subf_co2, mulf_co2, exp2_co2, row_coR, select_mk, diag_co2, diag_co2', truncf_co2, shapeCast_self]
  first | done | rfl

theorem pay55_co : k0_pay55 (F := Ideal) io0 io1 (co2 K) (co2 Q) (coR l) = co2 (PDr K Q l) := by
  simp only [k0_pay55, k0_pay53, dotKQ, dotVD, dotPD, dotSQ, dotSK, addf_co2, subf_co2, mulf_co2, exp2_co2, row_coR, select_mk, diag_co2, diag_co2', truncf_co2, shapeCast_self]
  first | done | rfl

theorem pay56_co : k0_pay56 (F := Ideal) (maskL p) io0 io1 (co2 f) (co2 K) (co2 Q) (co2 D) (coR l) = co2 (fun u y => f u y + ∑ r ∈ Finset.range 1024, PDr K Q l u r * mk p D r y) := by
  simp only [k0_pay56, k0_pay54, pay55_co, dotKQ, dotVD, dotPD, dotSQ, dotSK, addf_co2, subf_co2, mulf_co2, exp2_co2, row_coR, select_mk, diag_co2, diag_co2', truncf_co2, shapeCast_self]
  first | done | rfl

theorem pay57_co : k0_pay57 (F := Ideal) io0 io1 (co2 K) (co2 V) (co2 Q) (co2 D) (coR l) (coR d) = co2 (DSr (PDr K Q l) V D d) := by
  simp only [k0_pay57, k0_pay54, pay55_co, dotKQ, dotVD, dotPD, dotSQ, dotSK, addf_co2, subf_co2, mulf_co2, exp2_co2, row_coR, select_mk, diag_co2, diag_co2', truncf_co2, shapeCast_self]
  first | done | rfl

theorem pay58_co : k0_pay58 (F := Ideal) (maskL p) io0 io1 (co2 f) (co2 K) (co2 V) (co2 Q) (co2 D) (coR l) (coR d) = co2 (fun u x => f u x + ∑ r ∈ Finset.range 1024, DSr (PDr K Q l) V D d u r * mk p Q r x) := by
  simp only [k0_pay58, k0_pay53, pay57_co, dotKQ, dotVD, dotPD, dotSQ, dotSK, addf_co2, subf_co2, mulf_co2, exp2_co2, row_coR, select_mk, diag_co2, diag_co2', truncf_co2, shapeCast_self]
  first | done | rfl

theorem pay59_co : k0_pay59 (F := Ideal) io0 io1 (co2 K) (co2 V) (co2 Q) (co2 D) (coR l) (coR d) (co2 f) = co2 (fun r x => f r x + ∑ u ∈ Finset.range 1024, DSr (PDr K Q l) V D d u r * K u x) := by
  simp only [k0_pay59, pay57_co, dotKQ, dotVD, dotPD, dotSQ, dotSK, addf_co2, subf_co2, mulf_co2, exp2_co2, row_coR, select_mk, diag_co2, diag_co2', truncf_co2, shapeCast_self]
  first | done | rfl

theorem pay60_co : k0_pay60 (F := Ideal) (co2 f) = co2 f := by
  simp only [k0_pay60, dotKQ, dotVD, dotPD, dotSQ, dotSK, addf_co2, subf_co2, mulf_co2, exp2_co2, row_coR, select_mk, diag_co2, diag_co2', truncf_co2, shapeCast_self]
  first | done | rfl

theorem pay61_co : k0_pay61 (F := Ideal) (co2 K) (maskL p) = co2 (mk p K) := by
  simp only [k0_pay61, dotKQ, dotVD, dotPD, dotSQ, dotSK, addf_co2, subf_co2, mulf_co2, exp2_co2, row_coR, select_mk, diag_co2, diag_co2', truncf_co2, shapeCast_self]
  first | done | rfl

theorem pay62_co : k0_pay62 (F := Ideal) (co2 V) (maskL p) = co2 (mk p V) := by
  simp only [k0_pay62, dotKQ, dotVD, dotPD, dotSQ, dotSK, addf_co2, subf_co2, mulf_co2, exp2_co2, row_coR, select_mk, diag_co2, diag_co2', truncf_co2, shapeCast_self]
  first | done | rfl

theorem pay65_co : k0_pay65 (F := Ideal) (maskL p) (co2 Q) = co2 (mk p Q) := by
  simp only [k0_pay65, k0_pay63, dotKQ, dotVD, dotPD, dotSQ, dotSK, addf_co2, subf_co2, mulf_co2, exp2_co2, row_coR, select_mk, diag_co2, diag_co2', truncf_co2, shapeCast_self]
  first | done | rfl

theorem pay66_co : k0_pay66 (F := Ideal) (co2 K) (maskL p) io0 io1 (co2 Q) (coR l) = co2 (PDr (mk p K) Q l) := by
  simp only [k0_pay66, k0_pay63, pay61_co, dotKQ, dotVD, dotPD, dotSQ, dotSK, addf_co2, subf_co2, mulf_co2, exp2_co2, row_coR, select_mk, diag_co2, diag_co2', truncf_co2, shapeCast_self]
  first | done | rfl

theorem pay67_co : k0_pay67 (F := Ideal) (co2 K) (maskL p) (maskL p') io0 io1 (co2 f) (co2 Q) (co2 D) (coR l) = co2 (fun u y => f u y + ∑ r ∈ Finset.range 1024, PDr (mk p K) Q l u r * mk p' D r y) := by
  simp only [k0_pay67, k0_pay64, pay66_co, dotKQ, dotVD, dotPD, dotSQ, dotSK, addf_co2, subf_co2, mulf_co2, exp2_co2, row_coR, select_mk, diag_co2, diag_co2', truncf_co2, shapeCast_self]
  first | done | rfl

theorem pay68_co : k0_pay68 (F := Ideal) (co2 V) (maskL p) (co2 D) = co2 (DPr (mk p V) D) := by
  simp only [k0_pay68, k0_pay64, pay62_co, dotKQ, dotVD, dotPD, dotSQ, dotSK, addf_co2, subf_co2, mulf_co2, exp2_co2, row_coR, select_mk, diag_co2, diag_co2', truncf_co2, shapeCast_self]
  first | done | rfl

theorem pay69_co : k0_pay69 (F := Ideal) (co2 P) (co2 B) (coR d) = co2 (fun u r => P u r * (B u r - d r)) := by
  simp only [k0_pay69, dotKQ, dotVD, dotPD, dotSQ, dotSK, addf_co2, subf_co2, mulf_co2, exp2_co2, row_coR, select_mk, diag_co2, diag_co2', truncf_co2, shapeCast_self]
  first | done | rfl

theorem pay70_co : k0_pay70 (F := Ideal) (co2 f) (co2 Q) (co2 P) (co2 B) (coR d) = co2 (fun u x => f u x + ∑ r ∈ Finset.range 1024, P u r * (B u r - d r) * Q r x) := by
  simp only [k0_pay70, pay69_co, dotKQ, dotVD, dotPD, dotSQ, dotSK, addf_co2, subf_co2, mulf_co2, exp2_co2, row_coR, select_mk, diag_co2, diag_co2', truncf_co2, shapeCast_self]
  first | done | rfl

theorem pay71_co : k0_pay71 (F := Ideal) (co2 K) (co2 P) (co2 B) (coR d) (co2 f) = co2 (fun r x => f r x + ∑ u ∈ Finset.range 1024, P u r * (B u r - d r) * K u x) := by
  simp only [k0_pay71, pay69_co, dotKQ, dotVD, dotPD, dotSQ, dotSK, addf_co2, subf_co2, mulf_co2, exp2_co2, row_coR, select_mk, diag_co2, diag_co2', truncf_co2, shapeCast_self]
  first | done | rfl

theorem pay74_co : k0_pay74 (F := Ideal) (co2 f) = co2 f := by
  simp only [k0_pay74, truncf_co2]

theorem ln2_named : (Named.named (F := Ideal) κ "ln2" (φ := .f32) 0x3F317218#32 : EReal) = ((Real.log 2 : ℝ) : EReal) := rfl

theorem eighth : (Ideal.ofBits FTy.f32 0x3E000000#32 : EReal) = ((0.125 : ℝ) : EReal) := by
  simp [Ideal.ofBits, Ideal.ieee, -EReal.coe_mul]; norm_num

theorem pay72_co : k0_pay72 (F := Ideal) (co2 f) = co2 fun u x => f u x * Real.log 2 := by
  funext j; pointwise [k0_pay72]
  rw [ln2_named]
  show (_ : EReal) * _ = _
  unfold co2
  exact (EReal.coe_mul _ _).symm

theorem pay33_co : k0_pay33 (F := Ideal) (co2 f) = co2 fun u x => f u x * 0.125 := by
  funext j; pointwise [k0_pay33]
  rw [eighth]
  exact (EReal.coe_mul _ _).symm

theorem pay73_co : k0_pay73 (F := Ideal) (co2 f) = fun i : S1x1x16x1024.Idx => ((f (i 3).val (128 + (i 2).val) : ℝ) : EReal) := by
  funext j; pointwise [k0_pay73]
  rfl

theorem pay34_co : k0_pay34 (F := Ideal) (co2 f) = fun i : S1x16x1024.Idx => ((f (i 2).val (i 1).val : ℝ) : EReal) := by
  funext j; pointwise [k0_pay34]
  rfl

theorem pay35_co : k0_pay35 (F := Ideal) (co2 f) = fun i : S1x16x1024.Idx => ((f (i 2).val (i 1).val : ℝ) : EReal) := by
  funext j; pointwise [k0_pay35]
  rfl

theorem pay36_co : k0_pay36 (F := Ideal) (co2 f) = fun i : S1x16x1024.Idx => ((f (i 2).val (i 1).val : ℝ) : EReal) := by
  funext j; pointwise [k0_pay36]
  rfl

theorem pay37_co : k0_pay37 (F := Ideal) (co2 f) = fun i : S1x16x1024.Idx => ((f (i 2).val (i 1).val : ℝ) : EReal) := by
  funext j; pointwise [k0_pay37]
  rfl

theorem pay1_co : k0_pay1 (F := Ideal) (co2 f) = fun i : S1x16x1024.Idx => ((f (i 2).val (i 1).val : ℝ) : EReal) := by
  funext j; pointwise [k0_pay1]
  rfl

theorem pay2_co : k0_pay2 (F := Ideal) (co2 f) = fun i : S1x16x1024.Idx => ((f (i 2).val (i 1).val : ℝ) : EReal) := by
  funext j; pointwise [k0_pay2]
  rfl

theorem pay3_co : k0_pay3 (F := Ideal) (co2 f) = fun i : S1x16x1024.Idx => ((f (i 2).val (i 1).val : ℝ) : EReal) := by
  funext j; pointwise [k0_pay3]
  rfl

theorem pay4_co : k0_pay4 (F := Ideal) (co2 f) = fun i : S1x16x1024.Idx => ((f (i 2).val (i 1).val : ℝ) : EReal) := by
  funext j; pointwise [k0_pay4]
  rfl

end Pays

/-- A window of 1024 rows. -/
theorem window_co2 {R n : ℕ} (f : ℕ → ℕ → ℝ) (a : ℕ) (inb) :
    VecWindow.window (s := ⟨2, ![R, n]⟩) (co2 f) ![a, 0] ![1024, n] inb = (co2 (fun r x => f (a + r) x) : (⟨2, ![1024, n]⟩ : Shape).Idx → EReal) := by
  funext y
  show ((f (a + 1 * (y 0).val) (0 + 1 * (y 1).val) : ℝ) : EReal) = _
  rw [one_mul, one_mul, zero_add]; rfl

/-- A window of the lanes from `b` on. -/
theorem window_lanes {R n m : ℕ} (f : ℕ → ℕ → ℝ) (a b : ℕ) (inb) :
    VecWindow.window (s := ⟨2, ![R, n]⟩) (co2 f) ![a, b] ![1024, m] inb = (co2 (fun r x => f (a + r) (b + x)) : (⟨2, ![1024, m]⟩ : Shape).Idx → EReal) := by
  funext y
  show ((f (a + 1 * (y 0).val) (b + 1 * (y 1).val) : ℝ) : EReal) = _
  rw [one_mul, one_mul]; rfl

/-- A row of the table of rows: tile `n`, head `h`. -/
theorem window_co4 (f : ℕ → ℕ → ℝ) (n h : ℕ) (inb) :
    VecWindow.window (s := S1x8x2x1024) (co4 f) ![0, n, h, 0] ![1, 1, 1, 1024] inb = (coR (fun r => f h (1024 * n + r)) : S1x1x1x1024.Idx → EReal) := by
  funext y
  have h1 : (y 1).val = 0 := Nat.lt_one_iff.mp (y 1).isLt
  have h2 : (y 2).val = 0 := Nat.lt_one_iff.mp (y 2).isLt
  show ((f (h + 1 * (y 2).val) (1024 * (n + 1 * (y 1).val) + (0 + 1 * (y 3).val)) : ℝ) : EReal) = _
  simp only [h1, h2, one_mul, zero_add, mul_zero, add_zero]; rfl

/-- Rows put over a matrix. -/
theorem put_co2 {R n : ℕ} (f g : ℕ → ℕ → ℝ) (a : ℕ) :
    VecWindow.put (s := ⟨2, ![R, n]⟩) (co2 f) ![a, 0] ![1024, n] (co2 g : (⟨2, ![1024, n]⟩ : Shape).Idx → EReal)
      = (co2 (fun r x => if a ≤ r ∧ r < a + 1024 then g (r - a) x else f r x) : (⟨2, ![R, n]⟩ : Shape).Idx → EReal) := by
  funext y
  unfold VecWindow.put
  have hy : (y 1).val < n := (y 1).isLt
  by_cases h : a ≤ (y 0).val ∧ (y 0).val < a + 1024
  · have h' : ∀ b : Fin 2, (![a, 0] : Fin 2 → ℕ) b ≤ (y b).val ∧ (y b).val < (![a, 0] : Fin 2 → ℕ) b + (![1024, n] : Fin 2 → ℕ) b := by
      intro b; fin_cases b
      · exact h
      · exact ⟨Nat.zero_le _, by show (y 1).val < 0 + n; omega⟩
    rw [dif_pos h']
    show _ = (((if _ then _ else _ : ℝ)) : EReal)
    rw [if_pos h]; rfl
  · have h' : ¬ ∀ b : Fin 2, (![a, 0] : Fin 2 → ℕ) b ≤ (y b).val ∧ (y b).val < (![a, 0] : Fin 2 → ℕ) b + (![1024, n] : Fin 2 → ℕ) b := fun hh => h (hh 0)
    rw [dif_neg h']
    show _ = (((if _ then _ else _ : ℝ)) : EReal)
    rw [if_neg h]; rfl

end Cert.KernelIdeal.Fox

end
-- ==== Proof.Math.lean ====
/- The mathematics of the forgetting attention's gradients, on the reals, and the arrays of extended reals it lives in. -/
module

public import proofs.«01_k».proof.Proof.Arr

@[expose] public section

noncomputable section

namespace Cert.KernelIdeal.Fox

open Idealize.ShloMosaic

/-- The three-axis array whose element at `a`, `b`, `c` is the real `f a b c`. -/
def co3 {a b c : ℕ} (f : ℕ → ℕ → ℕ → ℝ) : (⟨3, ![a, b, c]⟩ : Shape).Idx → EReal := fun i => ((f (i 0).val (i 1).val (i 2).val : ℝ) : EReal)

theorem co3_congr {a b c : ℕ} {f g : ℕ → ℕ → ℕ → ℝ} (h : ∀ x < a, ∀ y < b, ∀ z < c, f x y z = g x y z) :
    (co3 f : (⟨3, ![a, b, c]⟩ : Shape).Idx → EReal) = co3 g :=
  funext fun i => congrArg _ (h _ (i 0).isLt _ (i 1).isLt _ (i 2).isLt)

section

variable (q k v g d : ℕ → ℕ → ℝ)

/-- The logit of head `h`, query `t`, key `u`. -/
def Lr (h t u : ℕ) : ℝ := (∑ x ∈ Finset.range 64, q t (64 * h + x) * k u (64 * h + x)) * 0.125 + (g t h - g u h)
/-- The largest logit of a row, over the keys up to the query. -/
def Mr (h t : ℕ) : ℝ := (Finset.range (t + 1)).sup' ⟨0, Finset.mem_range.mpr (Nat.succ_pos t)⟩ (Lr q k g h t)
/-- The exponential of a logit, relative to its row's largest; zero past the query. -/
def Er (h t u : ℕ) : ℝ := if u ≤ t then Real.exp (Lr q k g h t u - Mr q k g h t) else 0
/-- The row's sum of exponentials. -/
def Zr (h t : ℕ) : ℝ := ∑ u ∈ Finset.range 8192, Er q k g h t u
/-- The attention weight. -/
def Pr (h t u : ℕ) : ℝ := Er q k g h t u * (Zr q k g h t)⁻¹
/-- The attention's output. -/
def Or (t c : ℕ) : ℝ := ∑ u ∈ Finset.range 8192, Pr q k g (c / 64) t u * v u c
/-- The gradient of the weights. -/
def DPw (h t u : ℕ) : ℝ := ∑ x ∈ Finset.range 64, d t (64 * h + x) * v u (64 * h + x)
/-- The row's sum of output times gradient. -/
def Dl (h t : ℕ) : ℝ := ∑ x ∈ Finset.range 64, d t (64 * h + x) * Or q k v g t (64 * h + x)
/-- The base-two logarithm of a row's sum, without the row's own bias. -/
def Ls (h t : ℕ) : ℝ := (Mr q k g h t + Real.log (Zr q k g h t) - g t h) * (Real.log 2)⁻¹

theorem Er_pos (h t u : ℕ) (hu : u ≤ t) : 0 < Er q k g h t u := by
  unfold Er; rw [if_pos hu]; exact Real.exp_pos _

theorem Er_nonneg (h t u : ℕ) : 0 ≤ Er q k g h t u := by
  unfold Er; split
  · exact (Real.exp_pos _).le
  · exact le_rfl

theorem Zr_pos (h t : ℕ) : 0 < Zr q k g h t :=
  Finset.sum_pos' (fun u _ => Er_nonneg q k g h t u) ⟨0, Finset.mem_range.mpr (by norm_num), Er_pos q k g h t 0 (Nat.zero_le t)⟩

end

theorem fold_max (n t : ℕ) (ht : t < n) (f : ℕ → ℝ) :
    Finset.fold max (⊥ : EReal) (fun x : Fin n => if x.val ≤ t then ((f x.val : ℝ) : EReal) else ⊥) Finset.univ
      = (((Finset.range (t + 1)).sup' ⟨0, Finset.mem_range.mpr (Nat.succ_pos t)⟩ f : ℝ) : EReal) := by
  have e : Finset.fold max (⊥ : EReal) (fun x : Fin n => if x.val ≤ t then ((f x.val : ℝ) : EReal) else ⊥) Finset.univ
      = Finset.univ.sup (fun x : Fin n => if x.val ≤ t then ((f x.val : ℝ) : EReal) else ⊥) := rfl
  rw [e]
  apply le_antisymm
  · refine Finset.sup_le fun x _ => ?_
    split
    · rename_i hx
      exact EReal.coe_le_coe_iff.mpr (Finset.le_sup' f (Finset.mem_range.mpr (Nat.lt_succ_of_le hx)))
    · exact bot_le
  · obtain ⟨u, hu, hm⟩ := Finset.exists_mem_eq_sup' (s := Finset.range (t + 1)) ⟨0, Finset.mem_range.mpr (Nat.succ_pos t)⟩ f
    rw [hm]
    have hu' : u ≤ t := Nat.le_of_lt_succ (Finset.mem_range.mp hu)
    have := Finset.le_sup (f := fun x : Fin n => if x.val ≤ t then ((f x.val : ℝ) : EReal) else ⊥) (Finset.mem_univ (⟨u, by omega⟩ : Fin n))
    simpa only [if_pos hu'] using this

theorem cmp_sle (a b : ℕ) (ha : a < 8192) (hb : b < 8192) :
    IntOp.cmpi .sle (BitVec.ofNat 32 a) (BitVec.ofNat 32 b) = if a ≤ b then 1#1 else 0#1 := by
  have h1 : (BitVec.ofNat 32 a).toInt = a := by
    rw [BitVec.toInt_eq_toNat_of_lt] <;> simp only [BitVec.toNat_ofNat] <;> omega
  have h2 : (BitVec.ofNat 32 b).toInt = b := by
    rw [BitVec.toInt_eq_toNat_of_lt] <;> simp only [BitVec.toNat_ofNat] <;> omega
  unfold IntOp.cmpi
  simp only [BitVec.sle, h1, h2]
  by_cases h : a ≤ b <;> simp [h]

theorem eighth_word : Ideal.ofBits .f32 0x3E000000#32 = ((0.125 : ℝ) : EReal) := by simp [Ideal.ofBits, Ideal.ieee, -EReal.coe_mul]; norm_num
theorem two_word : Ideal.ofBits .f32 0x40000000#32 = ((2 : ℝ) : EReal) := by simp [Ideal.ofBits, Ideal.ieee, -EReal.coe_mul]; try norm_num
theorem one_word : Ideal.ofBits .f32 0x3F800000#32 = ((1 : ℝ) : EReal) := by simp [Ideal.ofBits, Ideal.ieee, -EReal.coe_mul]; try norm_num
theorem one_half_word : Ideal.ofBits .bf16 0x3F80#16 = ((1 : ℝ) : EReal) := by simp [Ideal.ofBits, Ideal.ieee, -EReal.coe_mul]; try norm_num

theorem div_co (x y : ℝ) (hy : y ≠ 0) : Ideal.div (x : EReal) (y : EReal) = ((x * y⁻¹ : ℝ) : EReal) := by
  unfold Ideal.div
  rw [if_neg (by exact_mod_cast hy), EReal.coe_mul]
  rfl

theorem log_co (x : ℝ) (hx : 0 < x) : Ideal.log (x : EReal) = ((Real.log x : ℝ) : EReal) := by
  show (if x ≤ 0 then (⊥ : EReal) else ((Real.log x : ℝ) : EReal)) = _
  rw [if_neg (not_le.mpr hx)]

end Cert.KernelIdeal.Fox

end
-- ==== Proof.RefA.lean ====
/- The reference's four gradients, as real numbers. -/
module

public import proofs.«01_k».proof.Proof.RefDefs
public import proofs.«01_k».proof.Proof.Math

@[expose] public section

set_option maxRecDepth 16384

noncomputable section

namespace Cert.ReferenceIdeal.Fox

open Cert.ReferenceIdeal Cert.ReferenceIdeal.Gen
open Cert.KernelIdeal.Fox (co2 co3 coe_sum coe_sum_mul Lr Mr Er Zr Pr DPw Zr_pos eighth_word ninf_word one_word cmp_sle fold_max div_co log_co)
open Idealize.ShloMosaic Idealize.ShloMosaic.TcCoe

variable (q k v g d : ℕ → ℕ → ℝ)

/-- A head's logits, with the masked ones at minus infinity. -/
def lgE : S16x8192x8192.Idx → EReal := fun j => if (j 2).val ≤ (j 1).val then ((Lr q k g (j 0).val (j 1).val (j 2).val : ℝ) : EReal) else ⊥

/-- The inverse square of a row's sum. -/
def Wr (h t : ℕ) : ℝ := (Zr q k g h t * Zr q k g h t)⁻¹
/-- The reference's row sum of weight gradient times weight. -/
def Ar (h t : ℕ) : ℝ := ∑ u ∈ Finset.range 8192, DPw v d h t u * Wr q k g h t * Er q k g h t u
/-- The reference's gradient of the logits. -/
def Sr (h t u : ℕ) : ℝ := if u ≤ t then (DPw v d h t u * (Zr q k g h t)⁻¹ + -Ar q k v g d h t) * Er q k g h t u else 0

theorem r1 : r_v1 (co2 q) (co2 k) (co2 v) (co2 g) (co2 d) = co3 fun h t x => v t (64 * h + x) := by
  funext j; pointwise [r_v1, r_v0]
  exact congrArg (fun y => ((v (j 1).val y : ℝ) : EReal)) (by show (j 0).val * 64 + (j 2).val = 64 * (j 0).val + (j 2).val; omega)

theorem r3 : r_v3 (co2 q) (co2 k) (co2 v) (co2 g) (co2 d) = co3 fun h t x => q t (64 * h + x) := by
  funext j; pointwise [r_v3, r_v2]
  exact congrArg (fun y => ((q (j 1).val y : ℝ) : EReal)) (by show (j 0).val * 64 + (j 2).val = 64 * (j 0).val + (j 2).val; omega)

theorem r5 : r_v5 (co2 q) (co2 k) (co2 v) (co2 g) (co2 d) = co3 fun h t x => k t (64 * h + x) := by
  funext j; pointwise [r_v5, r_v4]
  exact congrArg (fun y => ((k (j 1).val y : ℝ) : EReal)) (by show (j 0).val * 64 + (j 2).val = 64 * (j 0).val + (j 2).val; omega)

theorem r56 : r_v56 (co2 q) (co2 k) (co2 v) (co2 g) (co2 d) = co3 fun h t x => d t (64 * h + x) := by
  funext j; pointwise [r_v56, r_v55]
  exact congrArg (fun y => ((d (j 1).val y : ℝ) : EReal)) (by show (j 0).val * 64 + (j 2).val = 64 * (j 0).val + (j 2).val; omega)

theorem r7 : r_v7 (co2 q) (co2 k) (co2 v) (co2 g) (co2 d) = co3 fun h t u => ∑ x ∈ Finset.range 64, q t (64 * h + x) * k u (64 * h + x) := by
  unfold r_v7
  rw [r3, r5]
  funext j; pointwise
  exact coe_sum_mul (n := 64) (fun x => q (j 1).val (64 * (j 0).val + x)) (fun x => k (j 2).val (64 * (j 0).val + x))

theorem r14 : r_v14 (co2 q) (co2 k) (co2 v) (co2 g) (co2 d) = co3 fun h t u => g t h - g u h := by
  funext j; pointwise [r_v14, r_v13, r_v12, r_v11, r_v10, r_v6]
  exact (EReal.coe_sub _ _).symm

theorem r15 : r_v15 (co2 q) (co2 k) (co2 v) (co2 g) (co2 d) = co3 (Lr q k g) := by
  unfold r_v15 r_v9
  rw [r7, r14]
  funext j; pointwise [r_v8, r_cst]
  rw [eighth_word]
  unfold co3
  rw [← EReal.coe_mul, ← EReal.coe_add]
  rfl

theorem r23m : r_v23_1 (co2 q) (co2 k) (co2 v) (co2 g) (co2 d) = fun j => if (j 2).val ≤ (j 1).val then 1#1 else 0#1 := by
  funext j; pointwise [r_v23_1, r_v22, r_v21, r_v20, r_v19, r_v18, r_v17, r_v16]
  exact cmp_sle _ _ (j 2).isLt (j 1).isLt

theorem r23 : r_v23_0 (co2 q) (co2 k) (co2 v) (co2 g) (co2 d) = lgE q k g := by
  unfold r_v23_0
  rw [r23m, r15]
  funext j; pointwise [r_call0_v2, r_call0_v0, r_cst_0]
  rw [ninf_word]
  unfold Scalar.select lgE co3
  by_cases h : (j 2).val ≤ (j 1).val <;> simp [h]

theorem r24 : r_v24 (co2 q) (co2 k) (co2 v) (co2 g) (co2 d) = co2 (Mr q k g) := by
  unfold r_v24
  rw [r23]
  funext j
  pointwise [r_cst_1]
  rw [ninf_word]
  exact fold_max 8192 (j 1).val (j 1).isLt (Lr q k g (j 0).val (j 1).val)

theorem r31 : r_v31 (co2 q) (co2 k) (co2 v) (co2 g) (co2 d) = co2 (Mr q k g) := by
  unfold r_v31
  rw [r24]
  funext j
  pointwise [r_v30, r_cst_3]
  rw [ninf_word]
  exact max_eq_right bot_le

theorem r44 : r_v44 (co2 q) (co2 k) (co2 v) (co2 g) (co2 d) = co3 (Er q k g) := by
  unfold r_v44 r_v43 r_v42 r_v41
  rw [r23, r31]
  funext j
  pointwise
  unfold lgE co3 Er co2
  by_cases h : (j 2).val ≤ (j 1).val
  · simp only [h, if_true]
    exact (congrArg Ideal.exp (EReal.coe_sub _ _).symm).trans rfl
  · simp only [h, if_false]
    exact congrArg Ideal.exp (EReal.bot_sub _)

theorem r45 : r_v45 (co2 q) (co2 k) (co2 v) (co2 g) (co2 d) = co2 (Zr q k g) := by
  unfold r_v45
  rw [r44]
  funext j
  pointwise [r_cst_9]
  exact coe_sum (n := 8192) (Er q k g (j 0).val (j 1).val)

theorem r46 : r_v46 (co2 q) (co2 k) (co2 v) (co2 g) (co2 d) = co3 fun h t _ => Zr q k g h t := by
  unfold r_v46
  rw [r45]
  funext j
  pointwise
  rfl

theorem r48 : r_v48 (co2 q) (co2 k) (co2 v) (co2 g) (co2 d) = co3 (Pr q k g) := by
  unfold r_v48 r_v47
  rw [r44, r46]
  funext j
  pointwise
  exact div_co _ _ (Zr_pos q k g _ _).ne'

theorem r51 : r_v51 (co2 q) (co2 k) (co2 v) (co2 g) (co2 d) = co3 fun h t _ => Wr q k g h t := by
  unfold r_v51 r_v49
  rw [r46]
  funext j
  pointwise [r_v50, r_cst_10]
  unfold co3
  rw [← EReal.coe_mul, ← EReal.coe_one, div_co _ _ (mul_pos (Zr_pos q k g _ _) (Zr_pos q k g _ _)).ne', one_mul]
  rfl

theorem r59 : r_v59 (co2 q) (co2 k) (co2 v) (co2 g) (co2 d) = co3 (DPw v d) := by
  unfold r_v59
  rw [r56, r1]
  funext j; pointwise
  exact coe_sum_mul (n := 64) (fun x => d (j 1).val (64 * (j 0).val + x)) (fun x => v (j 2).val (64 * (j 0).val + x))

theorem r62 : r_v62 (co2 q) (co2 k) (co2 v) (co2 g) (co2 d)
    = co3 fun h t u => DPw v d h t u * Wr q k g h t * Er q k g h t u := by
  unfold r_v62 r_v61 r_v60
  rw [r59, r51, r44]
  funext j; pointwise
  unfold co3
  rw [← EReal.coe_mul, ← EReal.coe_mul]
  rfl

theorem r63 : r_v63 (co2 q) (co2 k) (co2 v) (co2 g) (co2 d) = co2 (Ar q k v g d) := by
  unfold r_v63
  rw [r62]
  funext j
  pointwise [r_cst_11]
  exact coe_sum (n := 8192) fun u => DPw v d (j 0).val (j 1).val u * Wr q k g (j 0).val (j 1).val * Er q k g (j 0).val (j 1).val u

theorem r65 : r_v65 (co2 q) (co2 k) (co2 v) (co2 g) (co2 d) = co3 fun h t _ => -Ar q k v g d h t := by
  unfold r_v65 r_v64
  rw [r63]
  funext j
  pointwise
  unfold co2 co3
  rw [EReal.coe_neg]
  rfl

theorem r68 : r_v68 (co2 q) (co2 k) (co2 v) (co2 g) (co2 d) = co2 fun h t => -Ar q k v g d h t := by
  unfold r_v68
  rw [r65]
  funext j
  pointwise [r_cst_12]
  exact Fin.sum_univ_one (fun x : Fin 1 => ((-Ar q k v g d (j 0).val (j 1).val : ℝ) : EReal))

theorem r72 : r_v72 (co2 q) (co2 k) (co2 v) (co2 g) (co2 d) = co3 (Sr q k v g d) := by
  unfold r_v72 r_v71 r_v70 r_v69 r_v67 r_v66
  rw [r23m, r59, r46, r68, r44]
  funext j
  pointwise [r_call1_v0, r_call1_cst]
  unfold co3 co2
  rw [div_co _ _ (Zr_pos q k g _ _).ne', ← EReal.coe_add, ← EReal.coe_mul]
  unfold Scalar.select Sr
  by_cases h : (j 2).val ≤ (j 1).val
  · simp only [h, if_true]
    rfl
  · simp only [h, if_false]
    exact EReal.coe_zero.symm

/-- A head's column sums. -/
theorem r76 : r_v76 (co2 q) (co2 k) (co2 v) (co2 g) (co2 d) = co2 fun h u => ∑ t ∈ Finset.range 8192, -Sr q k v g d h t u := by
  unfold r_v76 r_v75
  rw [r72]
  funext j
  pointwise [r_cst_14]
  unfold co3 co2
  simp only [← EReal.coe_neg]
  exact coe_sum (n := 8192) fun t => -Sr q k v g d (j 0).val t (j 1).val

theorem r73 : r_v73 (co2 q) (co2 k) (co2 v) (co2 g) (co2 d) = co2 fun h t => ∑ u ∈ Finset.range 8192, Sr q k v g d h t u := by
  unfold r_v73
  rw [r72]
  funext j
  pointwise [r_cst_13]
  exact coe_sum (n := 8192) fun u => Sr q k v g d (j 0).val (j 1).val u

theorem r85 : r_v85 (co2 q) (co2 k) (co2 v) (co2 g) (co2 d)
    = co2 fun t h => (∑ s ∈ Finset.range 8192, -Sr q k v g d h s t) + ∑ u ∈ Finset.range 8192, Sr q k v g d h t u := by
  unfold r_v85 r_v80 r_v79 r_v78 r_v77 r_v74
  rw [r73, r76]
  funext j
  pointwise [r_cst_15, r_cst_16]
  unfold co2
  rw [EReal.coe_add]
  exact congrArg₂ (fun a b : EReal => a + b)
    (Fin.sum_univ_one (fun _ : Fin 1 => ((∑ s ∈ Finset.range 8192, -Sr q k v g d (j 1).val s (j 0).val : ℝ) : EReal)))
    (Fin.sum_univ_one (fun _ : Fin 1 => ((∑ u ∈ Finset.range 8192, Sr q k v g d (j 1).val (j 0).val u : ℝ) : EReal)))

theorem r82 : r_v82 (co2 q) (co2 k) (co2 v) (co2 g) (co2 d) = co3 fun h t u => Sr q k v g d h t u * 0.125 := by
  unfold r_v82
  rw [r72]
  funext j
  pointwise [r_v81, r_cst_17]
  rw [eighth_word]
  exact (EReal.coe_mul _ _).symm

theorem r92 : r_v92 (co2 q) (co2 k) (co2 v) (co2 g) (co2 d)
    = co2 fun t c => ∑ u ∈ Finset.range 8192, Sr q k v g d (c / 64) t u * 0.125 * k u c := by
  unfold r_v92 r_v89 r_v88 r_v84
  rw [r82, r5]
  funext j
  pointwise
  refine (coe_sum_mul (n := 8192) (fun u => Sr q k v g d ((j 1).val / 64) (j 0).val u * 0.125) (fun u => k u (64 * ((j 1).val / 64) + (j 1).val % 64))).trans ?_
  simp only [Nat.div_add_mod]
  rfl

theorem r93 : r_v93 (co2 q) (co2 k) (co2 v) (co2 g) (co2 d)
    = co2 fun u c => ∑ t ∈ Finset.range 8192, Sr q k v g d (c / 64) t u * 0.125 * q t c := by
  unfold r_v93 r_v87 r_v86 r_v83
  rw [r82, r3]
  funext j
  pointwise
  refine (coe_sum_mul (n := 8192) (fun t => Sr q k v g d ((j 1).val / 64) t (j 0).val * 0.125) (fun t => q t (64 * ((j 1).val / 64) + (j 1).val % 64))).trans ?_
  simp only [Nat.div_add_mod]
  rfl

theorem r94 : r_v94 (co2 q) (co2 k) (co2 v) (co2 g) (co2 d)
    = co2 fun u c => ∑ t ∈ Finset.range 8192, d t c * Pr q k g (c / 64) t u := by
  unfold r_v94 r_v91 r_v90 r_v58 r_v57
  rw [r48, r56]
  funext j
  pointwise
  refine (coe_sum_mul (n := 8192) (fun t => d t (64 * ((j 1).val / 64) + (j 1).val % 64)) (fun t => Pr q k g ((j 1).val / 64) t (j 0).val)).trans ?_
  simp only [Nat.div_add_mod]
  rfl

end Cert.ReferenceIdeal.Fox

end
-- ==== Proof.HostDefs.lean ====
/- The host lines before the call, one definition for each operation, of the five arguments. -/
module

public import proofs.«01_k».proof.Proof.Gen.KernelIdeal.Launch
public import Idealize.ShloMosaic.PureOps.Ideal

@[expose] public section

set_option maxRecDepth 16384

noncomputable section

namespace Cert.KernelIdeal.Fox

open Cert.KernelIdeal Cert.KernelIdeal.Gen
open Idealize.ShloMosaic Idealize.ShloMosaic.TcCoe

def k_cst (x0 x1 x2 : FVec Ideal S8192x1024 .f32) (x3 : FVec Ideal S8192x16 .f32) (x4 : FVec Ideal S8192x1024 .f32) : FVec Ideal S_ .f32 :=
  constant S_ .f32 0x40000000#32
def k_v0 (x0 x1 x2 : FVec Ideal S8192x1024 .f32) (x3 : FVec Ideal S8192x16 .f32) (x4 : FVec Ideal S8192x1024 .f32) : FVec Ideal S_ .f32 :=
  Host.log (k_cst x0 x1 x2 x3 x4)
def k_v1 (x0 x1 x2 : FVec Ideal S8192x1024 .f32) (x3 : FVec Ideal S8192x16 .f32) (x4 : FVec Ideal S8192x1024 .f32) : FVec Ideal S8192x16x64 .f32 :=
  shapeCast _ x0 shapeCasts_S8192x1024_S8192x16x64
def k_v2 (x0 x1 x2 : FVec Ideal S8192x1024 .f32) (x3 : FVec Ideal S8192x16 .f32) (x4 : FVec Ideal S8192x1024 .f32) : FVec Ideal S16x8192x64 .f32 :=
  transpose S16x8192x64 [1, 0, 2] (k_v1 x0 x1 x2 x3 x4) transposes_S8192x16x64_S16x8192x64_1_0_2
def k_v3 (x0 x1 x2 : FVec Ideal S8192x1024 .f32) (x3 : FVec Ideal S8192x16 .f32) (x4 : FVec Ideal S8192x1024 .f32) : FVec Ideal S8192x16x64 .f32 :=
  shapeCast _ x1 shapeCasts_S8192x1024_S8192x16x64
def k_v4 (x0 x1 x2 : FVec Ideal S8192x1024 .f32) (x3 : FVec Ideal S8192x16 .f32) (x4 : FVec Ideal S8192x1024 .f32) : FVec Ideal S16x8192x64 .f32 :=
  transpose S16x8192x64 [1, 0, 2] (k_v3 x0 x1 x2 x3 x4) transposes_S8192x16x64_S16x8192x64_1_0_2
def k_v5 (x0 x1 x2 : FVec Ideal S8192x1024 .f32) (x3 : FVec Ideal S8192x16 .f32) (x4 : FVec Ideal S8192x1024 .f32) : FVec Ideal S16x8192 .f32 :=
  transpose S16x8192 [1, 0] x3 transposes_S8192x16_S16x8192_1_0
def k_v6 (x0 x1 x2 : FVec Ideal S8192x1024 .f32) (x3 : FVec Ideal S8192x16 .f32) (x4 : FVec Ideal S8192x1024 .f32) : FVec Ideal S16x8192x8192 .f32 :=
  (fun l r => Host.dotGeneral dot_S16x8192x64_S16x8192x64_S16x8192x8192_2_2_1_1_0_0 none l r) (k_v2 x0 x1 x2 x3 x4) (k_v4 x0 x1 x2 x3 x4)
def k_cst_0 (x0 x1 x2 : FVec Ideal S8192x1024 .f32) (x3 : FVec Ideal S8192x16 .f32) (x4 : FVec Ideal S8192x1024 .f32) : FVec Ideal S_ .f32 :=
  constant S_ .f32 0x3E000000#32
def k_v7 (x0 x1 x2 : FVec Ideal S8192x1024 .f32) (x3 : FVec Ideal S8192x16 .f32) (x4 : FVec Ideal S8192x1024 .f32) : FVec Ideal S16x8192x8192 .f32 :=
  broadcastInDim S16x8192x8192 ![] bcast_S_S16x8192x8192 (k_cst_0 x0 x1 x2 x3 x4)
def k_v8 (x0 x1 x2 : FVec Ideal S8192x1024 .f32) (x3 : FVec Ideal S8192x16 .f32) (x4 : FVec Ideal S8192x1024 .f32) : FVec Ideal S16x8192x8192 .f32 :=
  mulf (k_v6 x0 x1 x2 x3 x4) (k_v7 x0 x1 x2 x3 x4)
def k_v9 (x0 x1 x2 : FVec Ideal S8192x1024 .f32) (x3 : FVec Ideal S8192x16 .f32) (x4 : FVec Ideal S8192x1024 .f32) : FVec Ideal S16x8192x1 .f32 :=
  broadcastInDim S16x8192x1 ![0, 1] bcast_S16x8192_S16x8192x1_0_1 (k_v5 x0 x1 x2 x3 x4)
def k_v10 (x0 x1 x2 : FVec Ideal S8192x1024 .f32) (x3 : FVec Ideal S8192x16 .f32) (x4 : FVec Ideal S8192x1024 .f32) : FVec Ideal S16x1x8192 .f32 :=
  broadcastInDim S16x1x8192 ![0, 2] bcast_S16x8192_S16x1x8192_0_2 (k_v5 x0 x1 x2 x3 x4)
def k_v11 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (k_v9 x0 x1 x2 x3 x4)
def k_v12 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x1x8192_S16x8192x8192_0_1_2 (k_v10 x0 x1 x2 x3 x4)
def k_v13 (x0 x1 x2 : FVec Ideal S8192x1024 .f32) (x3 : FVec Ideal S8192x16 .f32) (x4 : FVec Ideal S8192x1024 .f32) : FVec Ideal S16x8192x8192 .f32 :=
  subf (k_v11 x0 x1 x2 x3 x4) (k_v12 x0 x1 x2 x3 x4)
def k_v14 (x0 x1 x2 : FVec Ideal S8192x1024 .f32) (x3 : FVec Ideal S8192x16 .f32) (x4 : FVec Ideal S8192x1024 .f32) : FVec Ideal S16x8192x8192 .f32 :=
  addf (k_v8 x0 x1 x2 x3 x4) (k_v13 x0 x1 x2 x3 x4)
def k_v15 (x0 x1 x2 : FVec Ideal S8192x1024 .f32) (x3 : FVec Ideal S8192x16 .f32) (x4 : FVec Ideal S8192x1024 .f32) : Vec Ideal S8192 .i32 :=
  iotaInDim S8192 32 0
def k_v16 (x0 x1 x2 : FVec Ideal S8192x1024 .f32) (x3 : FVec Ideal S8192x16 .f32) (x4 : FVec Ideal S8192x1024 .f32) : Vec Ideal S1x8192 .i32 :=
  broadcastInDim S1x8192 ![1] bcast_S8192_S1x8192_1 (k_v15 x0 x1 x2 x3 x4)
def k_v17 (x0 x1 x2 : FVec Ideal S8192x1024 .f32) (x3 : FVec Ideal S8192x16 .f32) (x4 : FVec Ideal S8192x1024 .f32) : Vec Ideal S8192 .i32 :=
  iotaInDim S8192 32 0
def k_v18 (x0 x1 x2 : FVec Ideal S8192x1024 .f32) (x3 : FVec Ideal S8192x16 .f32) (x4 : FVec Ideal S8192x1024 .f32) : Vec Ideal S8192x1 .i32 :=
  broadcastInDim S8192x1 ![0] bcast_S8192_S8192x1_0 (k_v17 x0 x1 x2 x3 x4)
def k_v19 (x0 x1 x2 : FVec Ideal S8192x1024 .f32) (x3 : FVec Ideal S8192x16 .f32) (x4 : FVec Ideal S8192x1024 .f32) : Vec Ideal S8192x8192 .i32 :=
  broadcastInDim S8192x8192 ![0, 1] bcast_S1x8192_S8192x8192_0_1 (k_v16 x0 x1 x2 x3 x4)
def k_v20 (x0 x1 x2 : FVec Ideal S8192x1024 .f32) (x3 : FVec Ideal S8192x16 .f32) (x4 : FVec Ideal S8192x1024 .f32) : Vec Ideal S8192x8192 .i32 :=
  broadcastInDim S8192x8192 ![0, 1] bcast_S8192x1_S8192x8192_0_1 (k_v18 x0 x1 x2 x3 x4)
def k_v21 (x0 x1 x2 : FVec Ideal S8192x1024 .f32) (x3 : FVec Ideal S8192x16 .f32) (x4 : FVec Ideal S8192x1024 .f32) : Vec Ideal S8192x8192 .i1 :=
  cmpi .sle (k_v19 x0 x1 x2 x3 x4) (k_v20 x0 x1 x2 x3 x4)
def k_cst_1 (x0 x1 x2 : FVec Ideal S8192x1024 .f32) (x3 : FVec Ideal S8192x16 .f32) (x4 : FVec Ideal S8192x1024 .f32) : FVec Ideal S_ .f32 :=
  constant S_ .f32 0xFF800000#32
def k_call0_v0 (x0 x1 x2 : FVec Ideal S8192x1024 .f32) (x3 : FVec Ideal S8192x16 .f32) (x4 : FVec Ideal S8192x1024 .f32) : FVec Ideal S_ .f32 :=
  (k_cst_1 x0 x1 x2 x3 x4)
def k_call0_v1 (x0 x1 x2 : FVec Ideal S8192x1024 .f32) (x3 : FVec Ideal S8192x16 .f32) (x4 : FVec Ideal S8192x1024 .f32) : Vec Ideal S16x8192x8192 .i1 :=
  broadcastInDim S16x8192x8192 ![1, 2] bcast_S8192x8192_S16x8192x8192_1_2 (k_v21 x0 x1 x2 x3 x4)
def k_call0_v2 (x0 x1 x2 : FVec Ideal S8192x1024 .f32) (x3 : FVec Ideal S8192x16 .f32) (x4 : FVec Ideal S8192x1024 .f32) : FVec Ideal S16x8192x8192 .f32 :=
  broadcastInDim S16x8192x8192 ![] bcast_S_S16x8192x8192 (k_call0_v0 x0 x1 x2 x3 x4)
def k_v22 (x0 x1 x2 : FVec Ideal S8192x1024 .f32) (x3 : FVec Ideal S8192x16 .f32) (x4 : FVec Ideal S8192x1024 .f32) : FVec Ideal S16x8192x8192 .f32 :=
  select (k_call0_v1 x0 x1 x2 x3 x4) (k_v14 x0 x1 x2 x3 x4) (k_call0_v2 x0 x1 x2 x3 x4)
def k_cst_2 (x0 x1 x2 : FVec Ideal S8192x1024 .f32) (x3 : FVec Ideal S8192x16 .f32) (x4 : FVec Ideal S8192x1024 .f32) : FVec Ideal S_ .f32 :=
  constant S_ .f32 0xFF800000#32
def k_v23 (x0 x1 x2 : FVec Ideal S8192x1024 .f32) (x3 : FVec Ideal S8192x16 .f32) (x4 : FVec Ideal S8192x1024 .f32) : FVec Ideal S16x8192 .f32 :=
  (fun x v => Host.reduce FloatOps.maximumf x v reducesTo_S16x8192x8192_S16x8192_d2 h_S_) (k_v22 x0 x1 x2 x3 x4) (k_cst_2 x0 x1 x2 x3 x4)
def k_v24 (x0 x1 x2 : FVec Ideal S8192x1024 .f32) (x3 : FVec Ideal S8192x16 .f32) (x4 : FVec Ideal S8192x1024 .f32) : FVec Ideal S16x8192x1 .f32 :=
  broadcastInDim S16x8192x1 ![0, 1] bcast_S16x8192_S16x8192x1_0_1 (k_v23 x0 x1 x2 x3 x4)
def k_v25 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (k_v24 x0 x1 x2 x3 x4)
def k_v26 (x0 x1 x2 : FVec Ideal S8192x1024 .f32) (x3 : FVec Ideal S8192x16 .f32) (x4 : FVec Ideal S8192x1024 .f32) : FVec Ideal S16x8192x8192 .f32 :=
  subf (k_v22 x0 x1 x2 x3 x4) (k_v25 x0 x1 x2 x3 x4)
def k_v27 (x0 x1 x2 : FVec Ideal S8192x1024 .f32) (x3 : FVec Ideal S8192x16 .f32) (x4 : FVec Ideal S8192x1024 .f32) : FVec Ideal S16x8192x8192 .f32 :=
  Host.exp (k_v26 x0 x1 x2 x3 x4)
def k_cst_3 (x0 x1 x2 : FVec Ideal S8192x1024 .f32) (x3 : FVec Ideal S8192x16 .f32) (x4 : FVec Ideal S8192x1024 .f32) : FVec Ideal S_ .f32 :=
  constant S_ .f32 0x00000000#32
def k_v28 (x0 x1 x2 : FVec Ideal S8192x1024 .f32) (x3 : FVec Ideal S8192x16 .f32) (x4 : FVec Ideal S8192x1024 .f32) : FVec Ideal S16x8192 .f32 :=
  (fun x v => Host.reduceAdd x v reducesTo_S16x8192x8192_S16x8192_d2 h_S_) (k_v27 x0 x1 x2 x3 x4) (k_cst_3 x0 x1 x2 x3 x4)
def k_v29 (x0 x1 x2 : FVec Ideal S8192x1024 .f32) (x3 : FVec Ideal S8192x16 .f32) (x4 : FVec Ideal S8192x1024 .f32) : FVec Ideal S16x8192x1 .f32 :=
  broadcastInDim S16x8192x1 ![0, 1] bcast_S16x8192_S16x8192x1_0_1 (k_v28 x0 x1 x2 x3 x4)
def k_v30 (x0 x1 x2 : FVec Ideal S8192x1024 .f32) (x3 : FVec Ideal S8192x16 .f32) (x4 : FVec Ideal S8192x1024 .f32) : FVec Ideal S16x8192x1 .f32 :=
  Host.log (k_v29 x0 x1 x2 x3 x4)
def k_v31 (x0 x1 x2 : FVec Ideal S8192x1024 .f32) (x3 : FVec Ideal S8192x16 .f32) (x4 : FVec Ideal S8192x1024 .f32) : FVec Ideal S16x8192x1 .f32 :=
  addf (k_v24 x0 x1 x2 x3 x4) (k_v30 x0 x1 x2 x3 x4)
def k_v32 (x0 x1 x2 : FVec Ideal S8192x1024 .f32) (x3 : FVec Ideal S8192x16 .f32) (x4 : FVec Ideal S8192x1024 .f32) : FVec Ideal S16x8192 .f32 :=
  shapeCast _ (k_v31 x0 x1 x2 x3 x4) shapeCasts_S16x8192x1_S16x8192
def k_v33 (x0 x1 x2 : FVec Ideal S8192x1024 .f32) (x3 : FVec Ideal S8192x16 .f32) (x4 : FVec Ideal S8192x1024 .f32) : FVec Ideal S8192x16 .f32 :=
  transpose S8192x16 [1, 0] (k_v32 x0 x1 x2 x3 x4) transposes_S16x8192_S8192x16_1_0
def k_v34 (x0 x1 x2 : FVec Ideal S8192x1024 .f32) (x3 : FVec Ideal S8192x16 .f32) (x4 : FVec Ideal S8192x1024 .f32) : FVec Ideal S8192x16 .f32 :=
  subf (k_v33 x0 x1 x2 x3 x4) x3
def k_v35 (x0 x1 x2 : FVec Ideal S8192x1024 .f32) (x3 : FVec Ideal S8192x16 .f32) (x4 : FVec Ideal S8192x1024 .f32) : FVec Ideal S8192x16 .f32 :=
  broadcastInDim S8192x16 ![] bcast_S_S8192x16 (k_v0 x0 x1 x2 x3 x4)
def k_v36 (x0 x1 x2 : FVec Ideal S8192x1024 .f32) (x3 : FVec Ideal S8192x16 .f32) (x4 : FVec Ideal S8192x1024 .f32) : FVec Ideal S8192x16 .f32 :=
  Host.divf (k_v34 x0 x1 x2 x3 x4) (k_v35 x0 x1 x2 x3 x4)
def k_v37 (x0 x1 x2 : FVec Ideal S8192x1024 .f32) (x3 : FVec Ideal S8192x16 .f32) (x4 : FVec Ideal S8192x1024 .f32) : FVec Ideal S16x8192x8192 .f32 :=
  broadcastInDim S16x8192x8192 ![0, 1, 2] bcast_S16x8192x1_S16x8192x8192_0_1_2 (k_v29 x0 x1 x2 x3 x4)
def k_v38 (x0 x1 x2 : FVec Ideal S8192x1024 .f32) (x3 : FVec Ideal S8192x16 .f32) (x4 : FVec Ideal S8192x1024 .f32) : FVec Ideal S16x8192x8192 .f32 :=
  Host.divf (k_v27 x0 x1 x2 x3 x4) (k_v37 x0 x1 x2 x3 x4)
def k_v39 (x0 x1 x2 : FVec Ideal S8192x1024 .f32) (x3 : FVec Ideal S8192x16 .f32) (x4 : FVec Ideal S8192x1024 .f32) : FVec Ideal S8192x16x64 .f32 :=
  shapeCast _ x2 shapeCasts_S8192x1024_S8192x16x64
def k_v40 (x0 x1 x2 : FVec Ideal S8192x1024 .f32) (x3 : FVec Ideal S8192x16 .f32) (x4 : FVec Ideal S8192x1024 .f32) : FVec Ideal S16x8192x64 .f32 :=
  transpose S16x8192x64 [1, 0, 2] (k_v39 x0 x1 x2 x3 x4) transposes_S8192x16x64_S16x8192x64_1_0_2
def k_v41 (x0 x1 x2 : FVec Ideal S8192x1024 .f32) (x3 : FVec Ideal S8192x16 .f32) (x4 : FVec Ideal S8192x1024 .f32) : FVec Ideal S16x8192x64 .f32 :=
  (fun l r => Host.dotGeneral dot_S16x8192x8192_S16x8192x64_S16x8192x64_2_1_1_2_0_0 none l r) (k_v38 x0 x1 x2 x3 x4) (k_v40 x0 x1 x2 x3 x4)
def k_v42 (x0 x1 x2 : FVec Ideal S8192x1024 .f32) (x3 : FVec Ideal S8192x16 .f32) (x4 : FVec Ideal S8192x1024 .f32) : FVec Ideal S8192x16x64 .f32 :=
  transpose S8192x16x64 [1, 0, 2] (k_v41 x0 x1 x2 x3 x4) transposes_S16x8192x64_S8192x16x64_1_0_2
def k_v43 (x0 x1 x2 : FVec Ideal S8192x1024 .f32) (x3 : FVec Ideal S8192x16 .f32) (x4 : FVec Ideal S8192x1024 .f32) : FVec Ideal S8192x1024 .f32 :=
  shapeCast _ (k_v42 x0 x1 x2 x3 x4) shapeCasts_S8192x16x64_S8192x1024
def k_v44 (x0 x1 x2 : FVec Ideal S8192x1024 .f32) (x3 : FVec Ideal S8192x16 .f32) (x4 : FVec Ideal S8192x1024 .f32) : FVec Ideal S8192x1024 .f32 :=
  mulf x4 (k_v43 x0 x1 x2 x3 x4)
def k_v45 (x0 x1 x2 : FVec Ideal S8192x1024 .f32) (x3 : FVec Ideal S8192x16 .f32) (x4 : FVec Ideal S8192x1024 .f32) : FVec Ideal S8192x16x64 .f32 :=
  shapeCast _ (k_v44 x0 x1 x2 x3 x4) shapeCasts_S8192x1024_S8192x16x64
def k_cst_4 (x0 x1 x2 : FVec Ideal S8192x1024 .f32) (x3 : FVec Ideal S8192x16 .f32) (x4 : FVec Ideal S8192x1024 .f32) : FVec Ideal S_ .f32 :=
  constant S_ .f32 0x00000000#32
def k_v46 (x0 x1 x2 : FVec Ideal S8192x1024 .f32) (x3 : FVec Ideal S8192x16 .f32) (x4 : FVec Ideal S8192x1024 .f32) : FVec Ideal S8192x16 .f32 :=
  (fun x v => Host.reduceAdd x v reducesTo_S8192x16x64_S8192x16_d2 h_S_) (k_v45 x0 x1 x2 x3 x4) (k_cst_4 x0 x1 x2 x3 x4)
def k_cst_5 (x0 x1 x2 : FVec Ideal S8192x1024 .f32) (x3 : FVec Ideal S8192x16 .f32) (x4 : FVec Ideal S8192x1024 .f32) : FVec Ideal S_ .f32 :=
  constant S_ .f32 0x3E000000#32
def k_v47 (x0 x1 x2 : FVec Ideal S8192x1024 .f32) (x3 : FVec Ideal S8192x16 .f32) (x4 : FVec Ideal S8192x1024 .f32) : FVec Ideal S8192x1024 .f32 :=
  broadcastInDim S8192x1024 ![] bcast_S_S8192x1024 (k_cst_5 x0 x1 x2 x3 x4)
def k_v48 (x0 x1 x2 : FVec Ideal S8192x1024 .f32) (x3 : FVec Ideal S8192x16 .f32) (x4 : FVec Ideal S8192x1024 .f32) : FVec Ideal S8192x1024 .f32 :=
  mulf x0 (k_v47 x0 x1 x2 x3 x4)
def k_v49 (x0 x1 x2 : FVec Ideal S8192x1024 .f32) (x3 : FVec Ideal S8192x16 .f32) (x4 : FVec Ideal S8192x1024 .f32) : FVec Ideal S8192x1024 .f32 :=
  broadcastInDim S8192x1024 ![] bcast_S_S8192x1024 (k_v0 x0 x1 x2 x3 x4)
def k_v50 (x0 x1 x2 : FVec Ideal S8192x1024 .f32) (x3 : FVec Ideal S8192x16 .f32) (x4 : FVec Ideal S8192x1024 .f32) : FVec Ideal S8192x1024 .f32 :=
  Host.divf (k_v48 x0 x1 x2 x3 x4) (k_v49 x0 x1 x2 x3 x4)
def k_v51 (x0 x1 x2 : FVec Ideal S8192x1024 .f32) (x3 : FVec Ideal S8192x16 .f32) (x4 : FVec Ideal S8192x1024 .f32) : FVec Ideal S8192x1024 .bf16 :=
  truncf .bf16 (k_v50 x0 x1 x2 x3 x4) bitsLt_bf16_f32
def k_v52 (x0 x1 x2 : FVec Ideal S8192x1024 .f32) (x3 : FVec Ideal S8192x16 .f32) (x4 : FVec Ideal S8192x1024 .f32) : FVec Ideal S8192x1024 .bf16 :=
  truncf .bf16 x1 bitsLt_bf16_f32
def k_v53 (x0 x1 x2 : FVec Ideal S8192x1024 .f32) (x3 : FVec Ideal S8192x16 .f32) (x4 : FVec Ideal S8192x1024 .f32) : FVec Ideal S8192x1024 .bf16 :=
  truncf .bf16 x2 bitsLt_bf16_f32
def k_v54 (x0 x1 x2 : FVec Ideal S8192x1024 .f32) (x3 : FVec Ideal S8192x16 .f32) (x4 : FVec Ideal S8192x1024 .f32) : FVec Ideal S8192x3072 .bf16 :=
  concatenate S8192x3072 1 [⟨S8192x1024, (k_v51 x0 x1 x2 x3 x4)⟩, ⟨S8192x1024, (k_v52 x0 x1 x2 x3 x4)⟩, ⟨S8192x1024, (k_v53 x0 x1 x2 x3 x4)⟩] concatenates_S8192x1024_S8192x1024_S8192x1024_S8192x3072_d1
def k_v55 (x0 x1 x2 : FVec Ideal S8192x1024 .f32) (x3 : FVec Ideal S8192x16 .f32) (x4 : FVec Ideal S8192x1024 .f32) : FVec Ideal S8192x8x2 .f32 :=
  shapeCast _ x3 shapeCasts_S8192x16_S8192x8x2
def k_v56 (x0 x1 x2 : FVec Ideal S8192x1024 .f32) (x3 : FVec Ideal S8192x16 .f32) (x4 : FVec Ideal S8192x1024 .f32) : FVec Ideal S8x8192x2 .f32 :=
  transpose S8x8192x2 [1, 0, 2] (k_v55 x0 x1 x2 x3 x4) transposes_S8192x8x2_S8x8192x2_1_0_2
def k_v57 (x0 x1 x2 : FVec Ideal S8192x1024 .f32) (x3 : FVec Ideal S8192x16 .f32) (x4 : FVec Ideal S8192x1024 .f32) : FVec Ideal S8x8192x1 .f32 :=
  extractStridedSlice S8x8192x1 ![0, 0, 0] (k_v56 x0 x1 x2 x3 x4) slices_S8x8192x2_S8x8192x1_0_0_0
def k_v58 (x0 x1 x2 : FVec Ideal S8192x1024 .f32) (x3 : FVec Ideal S8192x16 .f32) (x4 : FVec Ideal S8192x1024 .f32) : FVec Ideal S8x8192 .f32 :=
  shapeCast _ (k_v57 x0 x1 x2 x3 x4) shapeCasts_S8x8192x1_S8x8192
def k_v59 (x0 x1 x2 : FVec Ideal S8192x1024 .f32) (x3 : FVec Ideal S8192x16 .f32) (x4 : FVec Ideal S8192x1024 .f32) : FVec Ideal S8x8192 .f32 :=
  Host.negf (k_v58 x0 x1 x2 x3 x4)
def k_v60 (x0 x1 x2 : FVec Ideal S8192x1024 .f32) (x3 : FVec Ideal S8192x16 .f32) (x4 : FVec Ideal S8192x1024 .f32) : FVec Ideal S8x8192 .f32 :=
  broadcastInDim S8x8192 ![] bcast_S_S8x8192 (k_v0 x0 x1 x2 x3 x4)
def k_v61 (x0 x1 x2 : FVec Ideal S8192x1024 .f32) (x3 : FVec Ideal S8192x16 .f32) (x4 : FVec Ideal S8192x1024 .f32) : FVec Ideal S8x8192 .f32 :=
  Host.divf (k_v59 x0 x1 x2 x3 x4) (k_v60 x0 x1 x2 x3 x4)
def k_v62 (x0 x1 x2 : FVec Ideal S8192x1024 .f32) (x3 : FVec Ideal S8192x16 .f32) (x4 : FVec Ideal S8192x1024 .f32) : FVec Ideal S8x8192 .bf16 :=
  truncf .bf16 (k_v61 x0 x1 x2 x3 x4) bitsLt_bf16_f32
def k_v63 (x0 x1 x2 : FVec Ideal S8192x1024 .f32) (x3 : FVec Ideal S8192x16 .f32) (x4 : FVec Ideal S8192x1024 .f32) : FVec Ideal S8x8192 .f32 :=
  extf .f32 (k_v62 x0 x1 x2 x3 x4) bitsLt_bf16_f32
def k_v64 (x0 x1 x2 : FVec Ideal S8192x1024 .f32) (x3 : FVec Ideal S8192x16 .f32) (x4 : FVec Ideal S8192x1024 .f32) : FVec Ideal S8x8192 .f32 :=
  subf (k_v61 x0 x1 x2 x3 x4) (k_v63 x0 x1 x2 x3 x4)
def k_v65 (x0 x1 x2 : FVec Ideal S8192x1024 .f32) (x3 : FVec Ideal S8192x16 .f32) (x4 : FVec Ideal S8192x1024 .f32) : FVec Ideal S8x8192 .bf16 :=
  truncf .bf16 (k_v64 x0 x1 x2 x3 x4) bitsLt_bf16_f32
def k_v66 (x0 x1 x2 : FVec Ideal S8192x1024 .f32) (x3 : FVec Ideal S8192x16 .f32) (x4 : FVec Ideal S8192x1024 .f32) : FVec Ideal S8x8192 .f32 :=
  extf .f32 (k_v65 x0 x1 x2 x3 x4) bitsLt_bf16_f32
def k_v67 (x0 x1 x2 : FVec Ideal S8192x1024 .f32) (x3 : FVec Ideal S8192x16 .f32) (x4 : FVec Ideal S8192x1024 .f32) : FVec Ideal S8x8192 .f32 :=
  subf (k_v64 x0 x1 x2 x3 x4) (k_v66 x0 x1 x2 x3 x4)
def k_v68 (x0 x1 x2 : FVec Ideal S8192x1024 .f32) (x3 : FVec Ideal S8192x16 .f32) (x4 : FVec Ideal S8192x1024 .f32) : FVec Ideal S8x8192 .bf16 :=
  truncf .bf16 (k_v67 x0 x1 x2 x3 x4) bitsLt_bf16_f32
def k_v69 (x0 x1 x2 : FVec Ideal S8192x1024 .f32) (x3 : FVec Ideal S8192x16 .f32) (x4 : FVec Ideal S8192x1024 .f32) : FVec Ideal S8192x8 .bf16 :=
  transpose S8192x8 [1, 0] (k_v62 x0 x1 x2 x3 x4) transposes_S8x8192_S8192x8_1_0
def k_v70 (x0 x1 x2 : FVec Ideal S8192x1024 .f32) (x3 : FVec Ideal S8192x16 .f32) (x4 : FVec Ideal S8192x1024 .f32) : FVec Ideal S8192x8x1 .bf16 :=
  broadcastInDim S8192x8x1 ![0, 1] bcast_S8192x8_S8192x8x1_0_1 (k_v69 x0 x1 x2 x3 x4)
def k_v71 (x0 x1 x2 : FVec Ideal S8192x1024 .f32) (x3 : FVec Ideal S8192x16 .f32) (x4 : FVec Ideal S8192x1024 .f32) : FVec Ideal S8192x8 .bf16 :=
  transpose S8192x8 [1, 0] (k_v65 x0 x1 x2 x3 x4) transposes_S8x8192_S8192x8_1_0
def k_v72 (x0 x1 x2 : FVec Ideal S8192x1024 .f32) (x3 : FVec Ideal S8192x16 .f32) (x4 : FVec Ideal S8192x1024 .f32) : FVec Ideal S8192x8x1 .bf16 :=
  broadcastInDim S8192x8x1 ![0, 1] bcast_S8192x8_S8192x8x1_0_1 (k_v71 x0 x1 x2 x3 x4)
def k_v73 (x0 x1 x2 : FVec Ideal S8192x1024 .f32) (x3 : FVec Ideal S8192x16 .f32) (x4 : FVec Ideal S8192x1024 .f32) : FVec Ideal S8192x8 .bf16 :=
  transpose S8192x8 [1, 0] (k_v68 x0 x1 x2 x3 x4) transposes_S8x8192_S8192x8_1_0
def k_v74 (x0 x1 x2 : FVec Ideal S8192x1024 .f32) (x3 : FVec Ideal S8192x16 .f32) (x4 : FVec Ideal S8192x1024 .f32) : FVec Ideal S8192x8x1 .bf16 :=
  broadcastInDim S8192x8x1 ![0, 1] bcast_S8192x8_S8192x8x1_0_1 (k_v73 x0 x1 x2 x3 x4)
def k_v75 (x0 x1 x2 : FVec Ideal S8192x1024 .f32) (x3 : FVec Ideal S8192x16 .f32) (x4 : FVec Ideal S8192x1024 .f32) : FVec Ideal S8x8192x1 .f32 :=
  extractStridedSlice S8x8192x1 ![0, 0, 1] (k_v56 x0 x1 x2 x3 x4) slices_S8x8192x2_S8x8192x1_0_0_1
def k_v76 (x0 x1 x2 : FVec Ideal S8192x1024 .f32) (x3 : FVec Ideal S8192x16 .f32) (x4 : FVec Ideal S8192x1024 .f32) : FVec Ideal S8x8192 .f32 :=
  shapeCast _ (k_v75 x0 x1 x2 x3 x4) shapeCasts_S8x8192x1_S8x8192
def k_v77 (x0 x1 x2 : FVec Ideal S8192x1024 .f32) (x3 : FVec Ideal S8192x16 .f32) (x4 : FVec Ideal S8192x1024 .f32) : FVec Ideal S8x8192 .f32 :=
  Host.negf (k_v76 x0 x1 x2 x3 x4)
def k_v78 (x0 x1 x2 : FVec Ideal S8192x1024 .f32) (x3 : FVec Ideal S8192x16 .f32) (x4 : FVec Ideal S8192x1024 .f32) : FVec Ideal S8x8192 .f32 :=
  broadcastInDim S8x8192 ![] bcast_S_S8x8192 (k_v0 x0 x1 x2 x3 x4)
def k_v79 (x0 x1 x2 : FVec Ideal S8192x1024 .f32) (x3 : FVec Ideal S8192x16 .f32) (x4 : FVec Ideal S8192x1024 .f32) : FVec Ideal S8x8192 .f32 :=
  Host.divf (k_v77 x0 x1 x2 x3 x4) (k_v78 x0 x1 x2 x3 x4)
def k_v80 (x0 x1 x2 : FVec Ideal S8192x1024 .f32) (x3 : FVec Ideal S8192x16 .f32) (x4 : FVec Ideal S8192x1024 .f32) : FVec Ideal S8x8192 .bf16 :=
  truncf .bf16 (k_v79 x0 x1 x2 x3 x4) bitsLt_bf16_f32
def k_v81 (x0 x1 x2 : FVec Ideal S8192x1024 .f32) (x3 : FVec Ideal S8192x16 .f32) (x4 : FVec Ideal S8192x1024 .f32) : FVec Ideal S8x8192 .f32 :=
  extf .f32 (k_v80 x0 x1 x2 x3 x4) bitsLt_bf16_f32
def k_v82 (x0 x1 x2 : FVec Ideal S8192x1024 .f32) (x3 : FVec Ideal S8192x16 .f32) (x4 : FVec Ideal S8192x1024 .f32) : FVec Ideal S8x8192 .f32 :=
  subf (k_v79 x0 x1 x2 x3 x4) (k_v81 x0 x1 x2 x3 x4)
def k_v83 (x0 x1 x2 : FVec Ideal S8192x1024 .f32) (x3 : FVec Ideal S8192x16 .f32) (x4 : FVec Ideal S8192x1024 .f32) : FVec Ideal S8x8192 .bf16 :=
  truncf .bf16 (k_v82 x0 x1 x2 x3 x4) bitsLt_bf16_f32
def k_v84 (x0 x1 x2 : FVec Ideal S8192x1024 .f32) (x3 : FVec Ideal S8192x16 .f32) (x4 : FVec Ideal S8192x1024 .f32) : FVec Ideal S8x8192 .f32 :=
  extf .f32 (k_v83 x0 x1 x2 x3 x4) bitsLt_bf16_f32
def k_v85 (x0 x1 x2 : FVec Ideal S8192x1024 .f32) (x3 : FVec Ideal S8192x16 .f32) (x4 : FVec Ideal S8192x1024 .f32) : FVec Ideal S8x8192 .f32 :=
  subf (k_v82 x0 x1 x2 x3 x4) (k_v84 x0 x1 x2 x3 x4)
def k_v86 (x0 x1 x2 : FVec Ideal S8192x1024 .f32) (x3 : FVec Ideal S8192x16 .f32) (x4 : FVec Ideal S8192x1024 .f32) : FVec Ideal S8x8192 .bf16 :=
  truncf .bf16 (k_v85 x0 x1 x2 x3 x4) bitsLt_bf16_f32
def k_v87 (x0 x1 x2 : FVec Ideal S8192x1024 .f32) (x3 : FVec Ideal S8192x16 .f32) (x4 : FVec Ideal S8192x1024 .f32) : FVec Ideal S8192x8 .bf16 :=
  transpose S8192x8 [1, 0] (k_v80 x0 x1 x2 x3 x4) transposes_S8x8192_S8192x8_1_0
def k_v88 (x0 x1 x2 : FVec Ideal S8192x1024 .f32) (x3 : FVec Ideal S8192x16 .f32) (x4 : FVec Ideal S8192x1024 .f32) : FVec Ideal S8192x8x1 .bf16 :=
  broadcastInDim S8192x8x1 ![0, 1] bcast_S8192x8_S8192x8x1_0_1 (k_v87 x0 x1 x2 x3 x4)
def k_v89 (x0 x1 x2 : FVec Ideal S8192x1024 .f32) (x3 : FVec Ideal S8192x16 .f32) (x4 : FVec Ideal S8192x1024 .f32) : FVec Ideal S8192x8 .bf16 :=
  transpose S8192x8 [1, 0] (k_v83 x0 x1 x2 x3 x4) transposes_S8x8192_S8192x8_1_0
def k_v90 (x0 x1 x2 : FVec Ideal S8192x1024 .f32) (x3 : FVec Ideal S8192x16 .f32) (x4 : FVec Ideal S8192x1024 .f32) : FVec Ideal S8192x8x1 .bf16 :=
  broadcastInDim S8192x8x1 ![0, 1] bcast_S8192x8_S8192x8x1_0_1 (k_v89 x0 x1 x2 x3 x4)
def k_v91 (x0 x1 x2 : FVec Ideal S8192x1024 .f32) (x3 : FVec Ideal S8192x16 .f32) (x4 : FVec Ideal S8192x1024 .f32) : FVec Ideal S8192x8 .bf16 :=
  transpose S8192x8 [1, 0] (k_v86 x0 x1 x2 x3 x4) transposes_S8x8192_S8192x8_1_0
def k_v92 (x0 x1 x2 : FVec Ideal S8192x1024 .f32) (x3 : FVec Ideal S8192x16 .f32) (x4 : FVec Ideal S8192x1024 .f32) : FVec Ideal S8192x8x1 .bf16 :=
  broadcastInDim S8192x8x1 ![0, 1] bcast_S8192x8_S8192x8x1_0_1 (k_v91 x0 x1 x2 x3 x4)
def k_v93 (x0 x1 x2 : FVec Ideal S8192x1024 .f32) (x3 : FVec Ideal S8192x16 .f32) (x4 : FVec Ideal S8192x1024 .f32) : FVec Ideal S8192x1024 .bf16 :=
  extractStridedSlice S8192x1024 ![0, 0] (k_v54 x0 x1 x2 x3 x4) slices_S8192x3072_S8192x1024_0_0
def k_v94 (x0 x1 x2 : FVec Ideal S8192x1024 .f32) (x3 : FVec Ideal S8192x16 .f32) (x4 : FVec Ideal S8192x1024 .f32) : FVec Ideal S8192x8x128 .bf16 :=
  shapeCast _ (k_v93 x0 x1 x2 x3 x4) shapeCasts_S8192x1024_S8192x8x128
def k_cst_6 (x0 x1 x2 : FVec Ideal S8192x1024 .f32) (x3 : FVec Ideal S8192x16 .f32) (x4 : FVec Ideal S8192x1024 .f32) : FVec Ideal S_ .bf16 :=
  constant S_ .bf16 0x3F80#16
def k_v95 (x0 x1 x2 : FVec Ideal S8192x1024 .f32) (x3 : FVec Ideal S8192x16 .f32) (x4 : FVec Ideal S8192x1024 .f32) : FVec Ideal S8192x8x8 .bf16 :=
  broadcastInDim S8192x8x8 ![] bcast_S_S8192x8x8 (k_cst_6 x0 x1 x2 x3 x4)
def k_cst_7 (x0 x1 x2 : FVec Ideal S8192x1024 .f32) (x3 : FVec Ideal S8192x16 .f32) (x4 : FVec Ideal S8192x1024 .f32) : FVec Ideal S_ .bf16 :=
  constant S_ .bf16 0x0000#16
def k_v96 (x0 x1 x2 : FVec Ideal S8192x1024 .f32) (x3 : FVec Ideal S8192x16 .f32) (x4 : FVec Ideal S8192x1024 .f32) : FVec Ideal S8192x8x120 .bf16 :=
  broadcastInDim S8192x8x120 ![] bcast_S_S8192x8x120 (k_cst_7 x0 x1 x2 x3 x4)
def k_v97 (x0 x1 x2 : FVec Ideal S8192x1024 .f32) (x3 : FVec Ideal S8192x16 .f32) (x4 : FVec Ideal S8192x1024 .f32) : FVec Ideal S8192x8x256 .bf16 :=
  concatenate S8192x8x256 2 [⟨S8192x8x128, (k_v94 x0 x1 x2 x3 x4)⟩, ⟨S8192x8x8, (k_v95 x0 x1 x2 x3 x4)⟩, ⟨S8192x8x120, (k_v96 x0 x1 x2 x3 x4)⟩] concatenates_S8192x8x128_S8192x8x8_S8192x8x120_S8192x8x256_d2
def k_v98 (x0 x1 x2 : FVec Ideal S8192x1024 .f32) (x3 : FVec Ideal S8192x16 .f32) (x4 : FVec Ideal S8192x1024 .f32) : FVec Ideal S8192x2048 .bf16 :=
  shapeCast _ (k_v97 x0 x1 x2 x3 x4) shapeCasts_S8192x8x256_S8192x2048
def k_v99 (x0 x1 x2 : FVec Ideal S8192x1024 .f32) (x3 : FVec Ideal S8192x16 .f32) (x4 : FVec Ideal S8192x1024 .f32) : FVec Ideal S8192x1024 .bf16 :=
  extractStridedSlice S8192x1024 ![0, 1024] (k_v54 x0 x1 x2 x3 x4) slices_S8192x3072_S8192x1024_0_1024
def k_v100 (x0 x1 x2 : FVec Ideal S8192x1024 .f32) (x3 : FVec Ideal S8192x16 .f32) (x4 : FVec Ideal S8192x1024 .f32) : FVec Ideal S8192x8x128 .bf16 :=
  shapeCast _ (k_v99 x0 x1 x2 x3 x4) shapeCasts_S8192x1024_S8192x8x128
def k_cst_8 (x0 x1 x2 : FVec Ideal S8192x1024 .f32) (x3 : FVec Ideal S8192x16 .f32) (x4 : FVec Ideal S8192x1024 .f32) : FVec Ideal S_ .bf16 :=
  constant S_ .bf16 0x0000#16
def k_v101 (x0 x1 x2 : FVec Ideal S8192x1024 .f32) (x3 : FVec Ideal S8192x16 .f32) (x4 : FVec Ideal S8192x1024 .f32) : FVec Ideal S8192x8x2 .bf16 :=
  broadcastInDim S8192x8x2 ![] bcast_S_S8192x8x2 (k_cst_8 x0 x1 x2 x3 x4)
def k_cst_9 (x0 x1 x2 : FVec Ideal S8192x1024 .f32) (x3 : FVec Ideal S8192x16 .f32) (x4 : FVec Ideal S8192x1024 .f32) : FVec Ideal S_ .bf16 :=
  constant S_ .bf16 0x3F80#16
def k_v102 (x0 x1 x2 : FVec Ideal S8192x1024 .f32) (x3 : FVec Ideal S8192x16 .f32) (x4 : FVec Ideal S8192x1024 .f32) : FVec Ideal S8192x8x2 .bf16 :=
  broadcastInDim S8192x8x2 ![] bcast_S_S8192x8x2 (k_cst_9 x0 x1 x2 x3 x4)
def k_cst_10 (x0 x1 x2 : FVec Ideal S8192x1024 .f32) (x3 : FVec Ideal S8192x16 .f32) (x4 : FVec Ideal S8192x1024 .f32) : FVec Ideal S_ .bf16 :=
  constant S_ .bf16 0x0000#16
def k_v103 (x0 x1 x2 : FVec Ideal S8192x1024 .f32) (x3 : FVec Ideal S8192x16 .f32) (x4 : FVec Ideal S8192x1024 .f32) : FVec Ideal S8192x8x118 .bf16 :=
  broadcastInDim S8192x8x118 ![] bcast_S_S8192x8x118 (k_cst_10 x0 x1 x2 x3 x4)
def k_v104 (x0 x1 x2 : FVec Ideal S8192x1024 .f32) (x3 : FVec Ideal S8192x16 .f32) (x4 : FVec Ideal S8192x1024 .f32) : FVec Ideal S8192x8x256 .bf16 :=
  concatenate S8192x8x256 2 [⟨S8192x8x128, (k_v100 x0 x1 x2 x3 x4)⟩, ⟨S8192x8x1, (k_v70 x0 x1 x2 x3 x4)⟩, ⟨S8192x8x1, (k_v72 x0 x1 x2 x3 x4)⟩, ⟨S8192x8x1, (k_v74 x0 x1 x2 x3 x4)⟩, ⟨S8192x8x1, (k_v88 x0 x1 x2 x3 x4)⟩, ⟨S8192x8x1, (k_v90 x0 x1 x2 x3 x4)⟩, ⟨S8192x8x1, (k_v92 x0 x1 x2 x3 x4)⟩, ⟨S8192x8x2, (k_v101 x0 x1 x2 x3 x4)⟩, ⟨S8192x8x2, (k_v102 x0 x1 x2 x3 x4)⟩, ⟨S8192x8x118, (k_v103 x0 x1 x2 x3 x4)⟩] concatenates_S8192x8x128_S8192x8x1_S8192x8x1_S8192x8x1_S8192x8x1_S8192x8x1_S8192x8x1_S8192x8x2_S8192x8x2_S8192x8x118_S8192x8x256_d2
def k_v105 (x0 x1 x2 : FVec Ideal S8192x1024 .f32) (x3 : FVec Ideal S8192x16 .f32) (x4 : FVec Ideal S8192x1024 .f32) : FVec Ideal S8192x2048 .bf16 :=
  shapeCast _ (k_v104 x0 x1 x2 x3 x4) shapeCasts_S8192x8x256_S8192x2048
def k_v106 (x0 x1 x2 : FVec Ideal S8192x1024 .f32) (x3 : FVec Ideal S8192x16 .f32) (x4 : FVec Ideal S8192x1024 .f32) : FVec Ideal S8192x1024 .bf16 :=
  truncf .bf16 x4 bitsLt_bf16_f32
def k_v107 (x0 x1 x2 : FVec Ideal S8192x1024 .f32) (x3 : FVec Ideal S8192x16 .f32) (x4 : FVec Ideal S8192x1024 .f32) : FVec Ideal S8x1024x8x2 .f32 :=
  shapeCast _ (k_v36 x0 x1 x2 x3 x4) shapeCasts_S8192x16_S8x1024x8x2
def k_v108 (x0 x1 x2 : FVec Ideal S8192x1024 .f32) (x3 : FVec Ideal S8192x16 .f32) (x4 : FVec Ideal S8192x1024 .f32) : FVec Ideal S8x8x2x1024 .f32 :=
  transpose S8x8x2x1024 [2, 0, 3, 1] (k_v107 x0 x1 x2 x3 x4) transposes_S8x1024x8x2_S8x8x2x1024_2_0_3_1
def k_v109 (x0 x1 x2 : FVec Ideal S8192x1024 .f32) (x3 : FVec Ideal S8192x16 .f32) (x4 : FVec Ideal S8192x1024 .f32) : FVec Ideal S8x1024x8x2 .f32 :=
  shapeCast _ (k_v46 x0 x1 x2 x3 x4) shapeCasts_S8192x16_S8x1024x8x2
def k_v110 (x0 x1 x2 : FVec Ideal S8192x1024 .f32) (x3 : FVec Ideal S8192x16 .f32) (x4 : FVec Ideal S8192x1024 .f32) : FVec Ideal S8x8x2x1024 .f32 :=
  transpose S8x8x2x1024 [2, 0, 3, 1] (k_v109 x0 x1 x2 x3 x4) transposes_S8x1024x8x2_S8x8x2x1024_2_0_3_1

end Cert.KernelIdeal.Fox

end
-- ==== Proof.HostA.lean ====
/- The rows' statistics the host hands to the call, as real numbers. -/
module

public import proofs.«01_k».proof.Proof.HostDefs
public import proofs.«01_k».proof.Proof.Math

@[expose] public section

set_option maxRecDepth 16384

noncomputable section

namespace Cert.KernelIdeal.Fox

open Cert.KernelIdeal Cert.KernelIdeal.Gen
open Idealize.ShloMosaic Idealize.ShloMosaic.TcCoe

variable (q k v g d : ℕ → ℕ → ℝ)

/-- A head's logits, with the masked ones at minus infinity. -/
def lgE : S16x8192x8192.Idx → EReal := fun j => if (j 2).val ≤ (j 1).val then ((Lr q k g (j 0).val (j 1).val (j 2).val : ℝ) : EReal) else ⊥

theorem e2 : k_v2 (co2 q) (co2 k) (co2 v) (co2 g) (co2 d) = co3 fun h t x => q t (64 * h + x) := by
  funext j; pointwise [k_v2, k_v1]
  exact congrArg (fun y => ((q (j 1).val y : ℝ) : EReal)) (by show (j 0).val * 64 + (j 2).val = 64 * (j 0).val + (j 2).val; omega)

theorem e4 : k_v4 (co2 q) (co2 k) (co2 v) (co2 g) (co2 d) = co3 fun h t x => k t (64 * h + x) := by
  funext j; pointwise [k_v4, k_v3]
  exact congrArg (fun y => ((k (j 1).val y : ℝ) : EReal)) (by show (j 0).val * 64 + (j 2).val = 64 * (j 0).val + (j 2).val; omega)

theorem e40 : k_v40 (co2 q) (co2 k) (co2 v) (co2 g) (co2 d) = co3 fun h t x => v t (64 * h + x) := by
  funext j; pointwise [k_v40, k_v39]
  exact congrArg (fun y => ((v (j 1).val y : ℝ) : EReal)) (by show (j 0).val * 64 + (j 2).val = 64 * (j 0).val + (j 2).val; omega)

theorem e6 : k_v6 (co2 q) (co2 k) (co2 v) (co2 g) (co2 d) = co3 fun h t u => ∑ x ∈ Finset.range 64, q t (64 * h + x) * k u (64 * h + x) := by
  unfold k_v6
  rw [e2, e4]
  funext j; pointwise
  exact coe_sum_mul (n := 64) (fun x => q (j 1).val (64 * (j 0).val + x)) (fun x => k (j 2).val (64 * (j 0).val + x))

theorem e13 : k_v13 (co2 q) (co2 k) (co2 v) (co2 g) (co2 d) = co3 fun h t u => g t h - g u h := by
  funext j; pointwise [k_v13, k_v12, k_v11, k_v10, k_v9, k_v5]
  exact (EReal.coe_sub _ _).symm

theorem e14 : k_v14 (co2 q) (co2 k) (co2 v) (co2 g) (co2 d) = co3 (Lr q k g) := by
  unfold k_v14 k_v8
  rw [e6, e13]
  funext j; pointwise [k_v7, k_cst_0]
  rw [eighth_word]
  unfold co3
  rw [← EReal.coe_mul, ← EReal.coe_add]
  rfl

theorem ecall : k_call0_v1 (co2 q) (co2 k) (co2 v) (co2 g) (co2 d) = fun j => if (j 2).val ≤ (j 1).val then 1#1 else 0#1 := by
  funext j; pointwise [k_call0_v1, k_v21, k_v20, k_v19, k_v18, k_v17, k_v16, k_v15]
  exact cmp_sle _ _ (j 2).isLt (j 1).isLt

theorem e22 : k_v22 (co2 q) (co2 k) (co2 v) (co2 g) (co2 d) = lgE q k g := by
  unfold k_v22
  rw [ecall, e14]
  funext j; pointwise [k_call0_v2, k_call0_v0, k_cst_1]
  rw [ninf_word]
  unfold Scalar.select lgE co3
  by_cases h : (j 2).val ≤ (j 1).val <;> simp [h]

theorem e23 : k_v23 (co2 q) (co2 k) (co2 v) (co2 g) (co2 d) = co2 (Mr q k g) := by
  unfold k_v23
  rw [e22]
  funext j
  pointwise [k_cst_2]
  rw [ninf_word]
  exact fold_max 8192 (j 1).val (j 1).isLt (Lr q k g (j 0).val (j 1).val)

theorem e27 : k_v27 (co2 q) (co2 k) (co2 v) (co2 g) (co2 d) = co3 (Er q k g) := by
  unfold k_v27 k_v26 k_v25 k_v24
  rw [e22, e23]
  funext j
  pointwise
  unfold lgE co3 Er co2
  by_cases h : (j 2).val ≤ (j 1).val
  · simp only [h, if_true]
    exact (congrArg Ideal.exp (EReal.coe_sub _ _).symm).trans rfl
  · simp only [h, if_false]
    exact congrArg Ideal.exp (EReal.bot_sub _)

theorem e28 : k_v28 (co2 q) (co2 k) (co2 v) (co2 g) (co2 d) = co2 (Zr q k g) := by
  unfold k_v28
  rw [e27]
  funext j
  pointwise [k_cst_3]
  exact coe_sum (n := 8192) (Er q k g (j 0).val (j 1).val)

theorem e0 (i : S_.Idx) : k_v0 (co2 q) (co2 k) (co2 v) (co2 g) (co2 d) i = ((Real.log 2 : ℝ) : EReal) := by
  pointwise [k_v0, k_cst]
  rw [two_word]
  exact log_co 2 (by norm_num)

theorem log2_ne : Real.log 2 ≠ 0 := (Real.log_pos (by norm_num)).ne'

theorem e36 : k_v36 (co2 q) (co2 k) (co2 v) (co2 g) (co2 d) = co2 fun t h => Ls q k g h t := by
  unfold k_v36 k_v35 k_v34 k_v33 k_v32 k_v31 k_v30 k_v29 k_v24
  rw [e23, e28]
  funext j
  pointwise
  rw [e0]
  unfold co2
  refine (congrArg (fun y => Ideal.div ((_ + y) - _) _) (log_co _ (Zr_pos q k g _ _))).trans ?_
  rw [← EReal.coe_add, ← EReal.coe_sub, div_co _ _ log2_ne]
  rfl

theorem e38 : k_v38 (co2 q) (co2 k) (co2 v) (co2 g) (co2 d) = co3 (Pr q k g) := by
  unfold k_v38 k_v37 k_v29
  rw [e27, e28]
  funext j
  pointwise
  exact div_co _ _ (Zr_pos q k g _ _).ne'

theorem e43 : k_v43 (co2 q) (co2 k) (co2 v) (co2 g) (co2 d) = co2 (Or q k v g) := by
  unfold k_v43 k_v42 k_v41
  rw [e38, e40]
  funext j
  pointwise
  refine (coe_sum_mul (n := 8192) (fun u => Pr q k g ((j 1).val / 64) (j 0).val u) (fun u => v u (64 * ((j 1).val / 64) + (j 1).val % 64))).trans ?_
  simp only [Nat.div_add_mod]
  rfl

theorem e46 : k_v46 (co2 q) (co2 k) (co2 v) (co2 g) (co2 d) = co2 fun t h => Dl q k v g d h t := by
  unfold k_v46 k_v45 k_v44
  rw [e43]
  funext j
  pointwise [k_cst_4]
  refine (coe_sum_mul (n := 64) (fun x => d (j 0).val ((j 1).val * 64 + x)) (fun x => Or q k v g (j 0).val ((j 1).val * 64 + x))).trans ?_
  simp only [Nat.mul_comm _ 64]
  rfl

theorem e108 : k_v108 (co2 q) (co2 k) (co2 v) (co2 g) (co2 d) = fun i => ((Ls q k g (2 * (i 0).val + (i 2).val) (1024 * (i 1).val + (i 3).val) : ℝ) : EReal) := by
  unfold k_v108 k_v107
  rw [e36]
  funext j
  pointwise
  unfold co2
  exact congrArg₂ (fun a b => ((Ls q k g a b : ℝ) : EReal)) (by show (j 0).val * 2 + (j 2).val = 2 * (j 0).val + (j 2).val; omega) (by show (j 1).val * 1024 + (j 3).val = 1024 * (j 1).val + (j 3).val; omega)

theorem e110 : k_v110 (co2 q) (co2 k) (co2 v) (co2 g) (co2 d) = fun i => ((Dl q k v g d (2 * (i 0).val + (i 2).val) (1024 * (i 1).val + (i 3).val) : ℝ) : EReal) := by
  unfold k_v110 k_v109
  rw [e46]
  funext j
  pointwise
  unfold co2
  exact congrArg₂ (fun a b => ((Dl q k v g d a b : ℝ) : EReal)) (by show (j 0).val * 2 + (j 2).val = 2 * (j 0).val + (j 2).val; omega) (by show (j 1).val * 1024 + (j 3).val = 1024 * (j 1).val + (j 3).val; omega)

theorem e106 : k_v106 (co2 q) (co2 k) (co2 v) (co2 g) (co2 d) = co2 d := rfl

end Cert.KernelIdeal.Fox

end
-- ==== Proof.HostB.lean ====
/- The blocks of lanes the host hands to the call, as real numbers. -/
module

public import proofs.«01_k».proof.Proof.HostA

@[expose] public section

set_option maxRecDepth 16384

noncomputable section

namespace Cert.KernelIdeal.Fox

open Cert.KernelIdeal Cert.KernelIdeal.Gen
open Idealize.ShloMosaic Idealize.ShloMosaic.TcCoe

variable (q k v g d : ℕ → ℕ → ℝ)

theorem e51 : k_v51 (co2 q) (co2 k) (co2 v) (co2 g) (co2 d) = co2 fun t c => q t c * 0.125 * (Real.log 2)⁻¹ := by
  funext j
  pointwise [k_v51, k_v50, k_v49, k_v48, k_v47, k_cst_5]
  rw [eighth_word, e0]
  unfold co2
  rw [← EReal.coe_mul, div_co _ _ log2_ne]

/-- The projection's block: the scaled queries, the keys, the values. -/
def f1 (t x : ℕ) : ℝ := if x < 1024 then q t x * 0.125 * (Real.log 2)⁻¹ else if x < 2048 then k t (x - 1024) else v t (x - 2048)

theorem e54 : k_v54 (co2 q) (co2 k) (co2 v) (co2 g) (co2 d) = co2 (f1 q k v) := by
  unfold k_v54
  rw [e51]
  funext j
  pointwise [k_v52, k_v53]
  have hj : (j 1).val < 3072 := (j 1).isLt
  by_cases h1 : (j 1).val < 1024
  · exact (dif_pos h1).trans (congrArg Real.toEReal (Eq.symm (if_pos h1)))
  refine (dif_neg h1).trans ?_
  by_cases h2 : (j 1).val - 1024 < 1024
  · refine (dif_pos h2).trans (congrArg Real.toEReal (Eq.symm (Eq.trans (if_neg h1) ?_)))
    exact if_pos (show (j 1).val < 2048 by omega)
  · refine (dif_neg h2).trans (congrArg Real.toEReal (Eq.symm (Eq.trans (if_neg h1) ?_)))
    refine Eq.trans (if_neg (show ¬ (j 1).val < 2048 by omega)) ?_
    exact congrArg (v (j 0).val) (by show (j 1).val - 2048 = (j 1).val - 1024 - 1024; omega)

/-- The queries' lanes. -/
def f2 (t x : ℕ) : ℝ := if x % 256 < 128 then q t (128 * (x / 256) + x % 256) * 0.125 * (Real.log 2)⁻¹ else if x % 256 < 136 then 1 else 0

theorem e98 : k_v98 (co2 q) (co2 k) (co2 v) (co2 g) (co2 d) = co2 (f2 q) := by
  unfold k_v98 k_v97 k_v94 k_v93
  rw [e54]
  funext j
  pointwise [k_v95, k_v96, k_cst_6, k_cst_7]
  have hj : (j 1).val < 2048 := (j 1).isLt
  by_cases h1 : (j 1).val % 256 < 128
  · refine (dif_pos h1).trans (congrArg Real.toEReal (Eq.symm (Eq.trans (if_pos h1) (Eq.symm ?_))))
    refine (if_pos (show (j 1).val / 256 * 128 + (j 1).val % 256 < 1024 by omega)).trans ?_
    exact congrArg (fun y => q (j 0).val y * 0.125 * (Real.log 2)⁻¹) (by show (j 1).val / 256 * 128 + (j 1).val % 256 = 128 * ((j 1).val / 256) + (j 1).val % 256; omega)
  refine (dif_neg h1).trans ?_
  by_cases h2 : (j 1).val % 256 - 128 < 8
  · refine (dif_pos h2).trans (Eq.trans EReal.coe_one.symm (congrArg Real.toEReal (Eq.symm (Eq.trans (if_neg h1) ?_))))
    exact if_pos (show (j 1).val % 256 < 136 by omega)
  · refine (dif_neg h2).trans (Eq.trans EReal.coe_zero.symm (congrArg Real.toEReal (Eq.symm (Eq.trans (if_neg h1) ?_))))
    exact if_neg (show ¬ (j 1).val % 256 < 136 by omega)

/-- The keys' lanes. -/
def f0 (t x : ℕ) : ℝ :=
  if x % 256 < 128 then k t (128 * (x / 256) + x % 256)
  else if x % 256 = 128 then -g t (2 * (x / 256)) * (Real.log 2)⁻¹
  else if x % 256 = 131 then -g t (2 * (x / 256) + 1) * (Real.log 2)⁻¹
  else if x % 256 = 136 then 1 else if x % 256 = 137 then 1 else 0

theorem sub_self_co {m n : ℕ} (f : ℕ → ℕ → ℝ) (j : (⟨2, ![m, n]⟩ : Shape).Idx) :
    (co2 f j : EReal) - co2 f j = (co2 (fun _ _ => 0) : (⟨2, ![m, n]⟩ : Shape).Idx → EReal) j := by
  unfold co2
  rw [← EReal.coe_sub, sub_self]

theorem e62 : k_v62 (co2 q) (co2 k) (co2 v) (co2 g) (co2 d) = co2 fun p t => -g t (2 * p) * (Real.log 2)⁻¹ := by
  funext j
  pointwise [k_v62, k_v61, k_v60, k_v59, k_v58, k_v57, k_v56, k_v55]
  rw [e0]
  unfold co2
  rw [← EReal.coe_neg, div_co _ _ log2_ne]
  exact congrArg (fun y => ((-g (j 1).val y * (Real.log 2)⁻¹ : ℝ) : EReal)) (Nat.mul_comm _ _)

theorem e80 : k_v80 (co2 q) (co2 k) (co2 v) (co2 g) (co2 d) = co2 fun p t => -g t (2 * p + 1) * (Real.log 2)⁻¹ := by
  funext j
  pointwise [k_v80, k_v79, k_v78, k_v77, k_v76, k_v75, k_v56, k_v55]
  rw [e0]
  unfold co2
  rw [← EReal.coe_neg, div_co _ _ log2_ne]
  exact congrArg (fun y => ((-g (j 1).val (y + 1) * (Real.log 2)⁻¹ : ℝ) : EReal)) (Nat.mul_comm _ _)

theorem e65 : k_v65 (co2 q) (co2 k) (co2 v) (co2 g) (co2 d) = co2 fun _ _ => 0 := by
  unfold k_v65 k_v64 k_v63
  rw [show k_v61 (co2 q) (co2 k) (co2 v) (co2 g) (co2 d) = _ from e62 q k v g d, e62]
  funext j
  pointwise
  exact sub_self_co _ j

theorem e68 : k_v68 (co2 q) (co2 k) (co2 v) (co2 g) (co2 d) = co2 fun _ _ => 0 := by
  unfold k_v68 k_v67 k_v66
  rw [show k_v64 (co2 q) (co2 k) (co2 v) (co2 g) (co2 d) = _ from e65 q k v g d, e65]
  funext j
  pointwise
  exact sub_self_co _ j

theorem e83 : k_v83 (co2 q) (co2 k) (co2 v) (co2 g) (co2 d) = co2 fun _ _ => 0 := by
  unfold k_v83 k_v82 k_v81
  rw [show k_v79 (co2 q) (co2 k) (co2 v) (co2 g) (co2 d) = _ from e80 q k v g d, e80]
  funext j
  pointwise
  exact sub_self_co _ j

theorem e86 : k_v86 (co2 q) (co2 k) (co2 v) (co2 g) (co2 d) = co2 fun _ _ => 0 := by
  unfold k_v86 k_v85 k_v84
  rw [show k_v82 (co2 q) (co2 k) (co2 v) (co2 g) (co2 d) = _ from e83 q k v g d, e83]
  funext j
  pointwise
  exact sub_self_co _ j

theorem e70 (i : S8192x8x1.Idx) : k_v70 (co2 q) (co2 k) (co2 v) (co2 g) (co2 d) i = ((-g (i 0).val (2 * (i 1).val) * (Real.log 2)⁻¹ : ℝ) : EReal) := by
  unfold k_v70 k_v69
  rw [e62]
  pointwise
  rfl

theorem e88 (i : S8192x8x1.Idx) : k_v88 (co2 q) (co2 k) (co2 v) (co2 g) (co2 d) i = ((-g (i 0).val (2 * (i 1).val + 1) * (Real.log 2)⁻¹ : ℝ) : EReal) := by
  unfold k_v88 k_v87
  rw [e80]
  pointwise
  rfl

theorem e72 (i : S8192x8x1.Idx) : k_v72 (co2 q) (co2 k) (co2 v) (co2 g) (co2 d) i = ((0 : ℝ) : EReal) := by
  unfold k_v72 k_v71
  rw [e65]
  pointwise
  rfl

theorem e74 (i : S8192x8x1.Idx) : k_v74 (co2 q) (co2 k) (co2 v) (co2 g) (co2 d) i = ((0 : ℝ) : EReal) := by
  unfold k_v74 k_v73
  rw [e68]
  pointwise
  rfl

theorem e90 (i : S8192x8x1.Idx) : k_v90 (co2 q) (co2 k) (co2 v) (co2 g) (co2 d) i = ((0 : ℝ) : EReal) := by
  unfold k_v90 k_v89
  rw [e83]
  pointwise
  rfl

theorem e92 (i : S8192x8x1.Idx) : k_v92 (co2 q) (co2 k) (co2 v) (co2 g) (co2 d) i = ((0 : ℝ) : EReal) := by
  unfold k_v92 k_v91
  rw [e86]
  pointwise
  rfl

theorem f0_at (t p y : ℕ) (hy : y < 256) : f0 k g t (256 * p + y) =
    if y < 128 then k t (128 * p + y) else if y = 128 then -g t (2 * p) * (Real.log 2)⁻¹
      else if y = 131 then -g t (2 * p + 1) * (Real.log 2)⁻¹ else if y = 136 then 1 else if y = 137 then 1 else 0 := by
  unfold f0
  rw [show (256 * p + y) % 256 = y by omega, show (256 * p + y) / 256 = p by omega]

theorem f1_key (t y : ℕ) (h1 : 1024 ≤ y) (h2 : y < 2048) : f1 q k v t y = k t (y - 1024) := by
  unfold f1
  rw [if_neg (by omega), if_pos h2]

theorem e104 : k_v104 (co2 q) (co2 k) (co2 v) (co2 g) (co2 d) = co3 fun t p y => f0 k g t (256 * p + y) := by
  unfold k_v104 k_v100 k_v99
  rw [e54]
  funext j
  pointwise [k_v101, k_v102, k_v103, k_cst_8, k_cst_9, k_cst_10]
  simp only [e70, e72, e74, e88, e90, e92]
  have hy : (j 2).val < 256 := (j 2).isLt
  have hp : (j 1).val < 8 := (j 1).isLt
  refine Eq.trans ?_ (congrArg Real.toEReal (f0_at k g (j 0).val (j 1).val (j 2).val hy).symm)
  by_cases h1 : (j 2).val < 128
  · refine (dif_pos h1).trans (congrArg Real.toEReal (Eq.trans ?_ (if_pos h1).symm))
    refine (f1_key q k v (j 0).val (1024 + ((j 1).val * 128 + (j 2).val)) (by omega) (by omega)).trans ?_
    exact congrArg (k (j 0).val) (by omega)
  refine (dif_neg h1).trans (Eq.trans ?_ (congrArg Real.toEReal (if_neg h1).symm))
  by_cases h2 : (j 2).val - 128 < 1
  · refine (dif_pos h2).trans (congrArg Real.toEReal ?_)
    exact (if_pos (show (j 2).val = 128 by omega)).symm
  refine (dif_neg h2).trans ?_
  by_cases h3 : (j 2).val - 128 - 1 < 1
  · refine (dif_pos h3).trans (congrArg Real.toEReal ?_)
    rw [show (j 2).val = 129 by omega]
    rfl
  refine (dif_neg h3).trans ?_
  by_cases h4 : (j 2).val - 128 - 1 - 1 < 1
  · refine (dif_pos h4).trans (congrArg Real.toEReal ?_)
    rw [show (j 2).val = 130 by omega]
    rfl
  refine (dif_neg h4).trans ?_
  by_cases h5 : (j 2).val - 128 - 1 - 1 - 1 < 1
  · refine (dif_pos h5).trans (congrArg Real.toEReal ?_)
    exact ((if_neg (show ¬ (j 2).val = 128 by omega)).trans (if_pos (show (j 2).val = 131 by omega))).symm
  refine (dif_neg h5).trans ?_
  by_cases h6 : (j 2).val - 128 - 1 - 1 - 1 - 1 < 1
  · refine (dif_pos h6).trans (congrArg Real.toEReal ?_)
    rw [show (j 2).val = 132 by omega]
    rfl
  refine (dif_neg h6).trans ?_
  by_cases h7 : (j 2).val - 128 - 1 - 1 - 1 - 1 - 1 < 1
  · refine (dif_pos h7).trans (congrArg Real.toEReal ?_)
    rw [show (j 2).val = 133 by omega]
    rfl
  refine (dif_neg h7).trans ?_
  have n1 : ¬ (j 2).val = 128 := by omega
  have n2 : ¬ (j 2).val = 131 := by omega
  rw [if_neg n1, if_neg n2]
  by_cases h8 : (j 2).val - 128 - 1 - 1 - 1 - 1 - 1 - 1 < 2
  · refine (dif_pos h8).trans (EReal.coe_zero.symm.trans (congrArg Real.toEReal ?_))
    rw [if_neg (show ¬ (j 2).val = 136 by omega), if_neg (show ¬ (j 2).val = 137 by omega)]
  refine (dif_neg h8).trans ?_
  by_cases h9 : (j 2).val - 128 - 1 - 1 - 1 - 1 - 1 - 1 - 2 < 2
  · refine (dif_pos h9).trans (EReal.coe_one.symm.trans (congrArg Real.toEReal ?_))
    by_cases h10 : (j 2).val = 136
    · rw [if_pos h10]
    · rw [if_neg h10, if_pos (show (j 2).val = 137 by omega)]
  refine (dif_neg h9).trans (EReal.coe_zero.symm.trans (congrArg Real.toEReal ?_))
  rw [if_neg (show ¬ (j 2).val = 136 by omega), if_neg (show ¬ (j 2).val = 137 by omega)]

theorem e105 : k_v105 (co2 q) (co2 k) (co2 v) (co2 g) (co2 d) = co2 (f0 k g) := by
  unfold k_v105
  rw [e104]
  funext j
  pointwise
  unfold co3 co2
  exact congrArg (fun y => ((f0 k g (j 0).val y : ℝ) : EReal)) (Nat.div_add_mod _ _)

end Cert.KernelIdeal.Fox

end
-- ==== Proof.Trip.lean ====
/- The loops of the gradient kernel's body over the query tiles after the diagonal one: what they carry and what they
   leave in the accumulator, as reals. -/
module

public import proofs.«01_k».proof.Proof.Gen.KernelIdeal.Loops
public import proofs.«01_k».proof.Proof.Arr

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

theorem trips1 (i : grid0.Coords) : (k0_t1_loop i).trips = 7 - (i 1).val := by
  have key : ∀ j : Fin 8, (k0_t1_loop (fun a => if h : a = 1 then h ▸ j else ⟨0, by fin_cases a; decide; exact absurd rfl h⟩)).trips = 7 - j.val := by decide +kernel
  exact key (i 1)

theorem trips2 (i : grid0.Coords) : (k0_t2_loop i).trips = 0 := by
  have key : ∀ j : Fin 8, (k0_t2_loop (fun a => if h : a = 1 then h ▸ j else ⟨0, by fin_cases a; decide; exact absurd rfl h⟩)).trips = 0 := by decide +kernel
  exact key (i 1)

theorem trips3 (i : grid0.Coords) : (k0_t3_loop i).trips = 7 - (i 1).val := by
  have key : ∀ j : Fin 8, (k0_t3_loop (fun a => if h : a = 1 then h ▸ j else ⟨0, by fin_cases a; decide; exact absurd rfl h⟩)).trips = 7 - j.val := by decide +kernel
  exact key (i 1)

theorem trips4 (i : grid0.Coords) : (k0_t4_loop i).trips = 0 := by
  have key : ∀ j : Fin 8, (k0_t4_loop (fun a => if h : a = 1 then h ▸ j else ⟨0, by fin_cases a; decide; exact absurd rfl h⟩)).trips = 0 := by decide +kernel
  exact key (i 1)

theorem word_row (a b : ℕ) (ha : a < 8) (hb : b < 7 - a) :
    (Scalar.indexCast (Scalar.muli (Scf.iv (Scalar.addi (BitVec.ofNat 32 a) 1#32) 1#32 b) 1024#32) : BitVec 32).toNat = 1024 * (a + 1 + b) := by
  have key : ∀ a : Fin 8, ∀ b : Fin 8, (Scalar.indexCast (Scalar.muli (Scf.iv (Scalar.addi (BitVec.ofNat 32 a.val) 1#32) 1#32 b.val) 1024#32) : BitVec 32).toNat = 1024 * (a.val + 1 + b.val) := by decide +kernel
  exact key ⟨a, ha⟩ ⟨b, by omega⟩

theorem word_tile (a b : ℕ) (ha : a < 8) (hb : b < 7 - a) :
    (Scalar.indexCast (Scf.iv (Scalar.addi (BitVec.ofNat 32 a) 1#32) 1#32 b) : BitVec 32).toNat = a + 1 + b := by
  have key : ∀ a : Fin 8, ∀ b : Fin 8, (Scalar.indexCast (Scf.iv (Scalar.addi (BitVec.ofNat 32 a.val) 1#32) 1#32 b.val) : BitVec 32).toNat = a.val + 1 + b.val := by decide +kernel
  exact key ⟨a, ha⟩ ⟨b, by omega⟩

theorem off4_eq (i : grid0.Coords) (k : Fin (k0_t1_loop i).trips) : k0_off4 i k = ![1024 * ((i 1).val + 1 + k.val), 0] := by
  have hi : (i 1).val < 8 := (i 1).isLt
  have hk : k.val < 7 - (i 1).val := trips1 i ▸ k.isLt
  exact congrArg (fun n => ![n, 0]) (word_row _ _ hi hk)

theorem off5_eq (i : grid0.Coords) (k : Fin (k0_t1_loop i).trips) : k0_off5 i k = ![1024 * ((i 1).val + 1 + k.val), 0] := by
  have hi : (i 1).val < 8 := (i 1).isLt
  have hk : k.val < 7 - (i 1).val := trips1 i ▸ k.isLt
  exact congrArg (fun n => ![n, 0]) (word_row _ _ hi hk)

theorem off6_eq (i : grid0.Coords) (k : Fin (k0_t1_loop i).trips) : k0_off6 i k = ![0, (i 1).val + 1 + k.val, 0, 0] := by
  have hi : (i 1).val < 8 := (i 1).isLt
  have hk : k.val < 7 - (i 1).val := trips1 i ▸ k.isLt
  exact congrArg (fun n => ![0, n, 0, 0]) (word_tile _ _ hi hk)

theorem off11_eq (i : grid0.Coords) (k : Fin (k0_t3_loop i).trips) : k0_off11 i k = ![1024 * ((i 1).val + 1 + k.val), 0] := by
  have hi : (i 1).val < 8 := (i 1).isLt
  have hk : k.val < 7 - (i 1).val := trips3 i ▸ k.isLt
  exact congrArg (fun n => ![n, 0]) (word_row _ _ hi hk)

theorem off12_eq (i : grid0.Coords) (k : Fin (k0_t3_loop i).trips) : k0_off12 i k = ![1024 * ((i 1).val + 1 + k.val), 0] := by
  have hi : (i 1).val < 8 := (i 1).isLt
  have hk : k.val < 7 - (i 1).val := trips3 i ▸ k.isLt
  exact congrArg (fun n => ![n, 0]) (word_row _ _ hi hk)

theorem off13_eq (i : grid0.Coords) (k : Fin (k0_t3_loop i).trips) : k0_off13 i k = ![0, (i 1).val + 1 + k.val, 1, 0] := by
  have hi : (i 1).val < 8 := (i 1).isLt
  have hk : k.val < 7 - (i 1).val := trips3 i ▸ k.isLt
  exact congrArg (fun n => ![0, n, 1, 0]) (word_tile _ _ hi hk)

theorem off1_eq (i : grid0.Coords) : k0_off1 i = ![1024 * (i 1).val, 0] := by
  have key : ∀ j : Fin 8, k0_off1 (fun a => if h : a = 1 then h ▸ j else ⟨0, by fin_cases a; decide; exact absurd rfl h⟩) = ![1024 * j.val, 0] := by decide +kernel
  exact key (i 1)

theorem off2_eq (i : grid0.Coords) : k0_off2 i = ![1024 * (i 1).val, 0] := by
  have key : ∀ j : Fin 8, k0_off2 (fun a => if h : a = 1 then h ▸ j else ⟨0, by fin_cases a; decide; exact absurd rfl h⟩) = ![1024 * j.val, 0] := by decide +kernel
  exact key (i 1)

theorem off3_eq (i : grid0.Coords) : k0_off3 i = ![0, (i 1).val, 0, 0] := by
  have key : ∀ j : Fin 8, k0_off3 (fun a => if h : a = 1 then h ▸ j else ⟨0, by fin_cases a; decide; exact absurd rfl h⟩) = ![0, j.val, 0, 0] := by decide +kernel
  exact key (i 1)

theorem off10_eq (i : grid0.Coords) : k0_off10 i = ![0, (i 1).val, 1, 0] := by
  have key : ∀ j : Fin 8, k0_off10 (fun a => if h : a = 1 then h ▸ j else ⟨0, by fin_cases a; decide; exact absurd rfl h⟩) = ![0, j.val, 1, 0] := by decide +kernel
  exact key (i 1)

section Loads

theorem ldQ (v : View sig .tc .vmem S8192x256 .bf16) (X : BufTy.Contents (Elt Ideal) v.ty) (f : ℕ → ℕ → ℝ) (hX : v.read (Elt Ideal) X = co2 f)
    (off : Fin 2 → ℕ) (a : ℕ) (h : off = ![a, 0]) (inb) :
    v.readAt (Elt Ideal) (Rect.unit (s := S8192x256) off S1024x256.size inb).toLoadRect X = co2 (fun r x => f (a + r) x) := by
  subst h; rw [View.readAt_unit v X inb rfl inb, hX]; exact window_co2 f a inb
theorem ldD (v : View sig .tc .vmem S8192x128 .bf16) (X : BufTy.Contents (Elt Ideal) v.ty) (f : ℕ → ℕ → ℝ) (hX : v.read (Elt Ideal) X = co2 f)
    (off : Fin 2 → ℕ) (a : ℕ) (h : off = ![a, 0]) (inb) :
    v.readAt (Elt Ideal) (Rect.unit (s := S8192x128) off S1024x128.size inb).toLoadRect X = co2 (fun r x => f (a + r) x) := by
  subst h; rw [View.readAt_unit v X inb rfl inb, hX]; exact window_co2 f a inb
theorem ldA (v : View sig .tc .vmem S8192x256 .f32) (X : BufTy.Contents (Elt Ideal) v.ty) (f : ℕ → ℕ → ℝ) (hX : v.read (Elt Ideal) X = co2 f)
    (off : Fin 2 → ℕ) (a : ℕ) (h : off = ![a, 0]) (inb) :
    v.readAt (Elt Ideal) (Rect.unit (s := S8192x256) off S1024x256.size inb).toLoadRect X = co2 (fun r x => f (a + r) x) := by
  subst h; rw [View.readAt_unit v X inb rfl inb, hX]; exact window_co2 f a inb
theorem ldL (v : View sig .tc .vmem S1x8x2x1024 .f32) (X : BufTy.Contents (Elt Ideal) v.ty) (f : ℕ → ℕ → ℝ) (hX : v.read (Elt Ideal) X = co4 f)
    (off : Fin 4 → ℕ) (n h' : ℕ) (h : off = ![0, n, h', 0]) (inb) :
    v.readAt (Elt Ideal) (Rect.unit (s := S1x8x2x1024) off S1x1x1x1024.size inb).toLoadRect X = coR (fun r => f h' (1024 * n + r)) := by
  subst h; rw [View.readAt_unit v X inb rfl inb, hX]; exact window_co4 f n h' inb
theorem stA (v : View sig .tc .vmem S8192x256 .f32) (G : BufTy.Contents (Elt Ideal) v.ty) (f g : ℕ → ℕ → ℝ) (L : List (View.Piece (Elt Ideal) S8192x256 .f32))
    (hX : v.read (Elt Ideal) (v.writes (Elt Ideal) G L) = co2 f)
    (off : Fin 2 → ℕ) (a : ℕ) (h : off = ![a, 0]) (inb) (w : S1024x256.Idx → EReal) (hw : w = co2 g) :
    v.read (Elt Ideal) (v.writes (Elt Ideal) G (⟨Rect.unit (s := S8192x256) off S1024x256.size inb, w⟩ :: L)) = co2 (fun r x => if a ≤ r ∧ r < a + 1024 then g (r - a) x else f r x) := by
  subst h hw; rw [View.read_writes_cons_put v G inb _ L rfl, hX]; exact put_co2 f g a

end Loads

/-- The key gradient's lanes after the queries from `a` up to `b`. -/
def dkI (K V Q D : ℕ → ℕ → ℝ) (l d : ℕ → ℝ) (p : ℕ → Bool) (a b : ℕ) (g : ℕ → ℕ → ℝ) (u x : ℕ) : ℝ :=
  g u x + ∑ t ∈ Finset.Ico a b, DSr (PTr K Q l) V D d u t * mk p Q t x
/-- The value gradient's lanes after the queries from `a` up to `b`. -/
def dvI (K Q D : ℕ → ℕ → ℝ) (l : ℕ → ℝ) (p : ℕ → Bool) (a b : ℕ) (f : ℕ → ℕ → ℝ) (u y : ℕ) : ℝ :=
  f u y + ∑ t ∈ Finset.Ico a b, PTr K Q l u t * mk p D t y
/-- The accumulator after the queries from `a` up to `b`. -/
def acI (K V Q D : ℕ → ℕ → ℝ) (l d : ℕ → ℝ) (a b : ℕ) (A : ℕ → ℕ → ℝ) (t x : ℕ) : ℝ :=
  A t x + if a ≤ t ∧ t < b then ∑ u ∈ Finset.range 1024, DSr (PTr K Q l) V D d u t * K u x else 0

theorem dkI_nil (K V Q D : ℕ → ℕ → ℝ) (l d : ℕ → ℝ) (p : ℕ → Bool) (a : ℕ) (g : ℕ → ℕ → ℝ) : dkI K V Q D l d p a a g = g := by
  funext u x; simp [dkI]
theorem dvI_nil (K Q D : ℕ → ℕ → ℝ) (l : ℕ → ℝ) (p : ℕ → Bool) (a : ℕ) (g : ℕ → ℕ → ℝ) : dvI K Q D l p a a g = g := by
  funext u x; simp [dvI]
theorem acI_nil (K V Q D : ℕ → ℕ → ℝ) (l d : ℕ → ℝ) (a : ℕ) (g : ℕ → ℕ → ℝ) : acI K V Q D l d a a g = g := by
  funext u x; simp only [acI]; rw [if_neg (by omega), add_zero]

theorem sum_block (F : ℕ → ℝ) (a m : ℕ) : (∑ t ∈ Finset.Ico (1024 * a) (1024 * (a + m)), F t) + ∑ r ∈ Finset.range 1024, F (1024 * (a + m) + r) = ∑ t ∈ Finset.Ico (1024 * a) (1024 * (a + (m + 1))), F t := by
  rw [← Finset.sum_Ico_consecutive F (show 1024 * a ≤ 1024 * (a + m) by omega) (show 1024 * (a + m) ≤ 1024 * (a + (m + 1)) by omega), Finset.sum_Ico_eq_sum_range F (1024 * (a + m))]
  congr 2; congr 1; omega

theorem dkI_next (K V Q D : ℕ → ℕ → ℝ) (l d : ℕ → ℝ) (p : ℕ → Bool) (a m : ℕ) (g : ℕ → ℕ → ℝ) :
    (fun u x => dkI K V Q D l d p (1024 * a) (1024 * (a + m)) g u x + ∑ r ∈ Finset.range 1024,
      DSr (PTr K (fun r x => Q (1024 * (a + m) + r) x) (fun r => l (1024 * (a + m) + r))) V (fun r x => D (1024 * (a + m) + r) x) (fun r => d (1024 * (a + m) + r)) u r * mk p (fun r x => Q (1024 * (a + m) + r) x) r x)
      = dkI K V Q D l d p (1024 * a) (1024 * (a + (m + 1))) g := by
  funext u x
  have h := sum_block (fun t => DSr (PTr K Q l) V D d u t * mk p Q t x) a m
  show g u x + _ + _ = g u x + _
  rw [← h, add_assoc]; rfl

theorem dvI_next (K Q D : ℕ → ℕ → ℝ) (l : ℕ → ℝ) (p : ℕ → Bool) (a m : ℕ) (g : ℕ → ℕ → ℝ) :
    (fun u x => dvI K Q D l p (1024 * a) (1024 * (a + m)) g u x + ∑ r ∈ Finset.range 1024,
      PTr K (fun r x => Q (1024 * (a + m) + r) x) (fun r => l (1024 * (a + m) + r)) u r * mk p (fun r x => D (1024 * (a + m) + r) x) r x)
      = dvI K Q D l p (1024 * a) (1024 * (a + (m + 1))) g := by
  funext u x
  have h := sum_block (fun t => PTr K Q l u t * mk p D t x) a m
  show g u x + _ + _ = g u x + _
  rw [← h, add_assoc]; rfl

theorem acI_next (K V Q D : ℕ → ℕ → ℝ) (l d : ℕ → ℝ) (a m : ℕ) (A : ℕ → ℕ → ℝ) :
    (fun r x => if 1024 * (a + m) ≤ r ∧ r < 1024 * (a + m) + 1024 then
        (fun r x => (fun r x => acI K V Q D l d (1024 * a) (1024 * (a + m)) A (1024 * (a + m) + r) x) r x + ∑ u ∈ Finset.range 1024, DSr (PTr K (fun r x => Q (1024 * (a + m) + r) x) (fun r => l (1024 * (a + m) + r))) V (fun r x => D (1024 * (a + m) + r) x) (fun r => d (1024 * (a + m) + r)) u r * K u x) (r - 1024 * (a + m)) x
      else acI K V Q D l d (1024 * a) (1024 * (a + m)) A r x)
      = acI K V Q D l d (1024 * a) (1024 * (a + (m + 1))) A := by
  funext t x
  by_cases h : 1024 * (a + m) ≤ t ∧ t < 1024 * (a + m) + 1024
  · rw [if_pos h]
    obtain ⟨r, rfl⟩ : ∃ r, t = 1024 * (a + m) + r := ⟨t - 1024 * (a + m), by omega⟩
    simp only [acI, Nat.add_sub_cancel_left]
    rw [if_neg (by omega), if_pos (by omega), add_zero]; rfl
  · rw [if_neg h]
    simp only [acI]
    by_cases h1 : 1024 * a ≤ t ∧ t < 1024 * (a + m)
    · rw [if_pos h1, if_pos (by omega)]
    · rw [if_neg h1, if_neg (by omega)]

set_option maxHeartbeats 2000000 in
theorem tripR1_eq (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v4 : FVec Ideal S1024x256 .bf16) (v6 : FVec Ideal S1024x128 .bf16) (v37 v54 v68 : IVec S1024x256 1) (v71 v73 : IVec S1024x128 1) (v74 v75 : IVec S1024x1024 32) (v79 : FVec Ideal S1024x256 .bf16) (v81 : FVec Ideal S1024x128 .bf16) (v106 : FVec Ideal S1024x128 .f32) (v116 v120 : FVec Ideal S1024x256 .f32) (v125 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (k : Fin (k0_t1_loop i).trips) (acc : FVec Ideal S1024x256 .f32 × FVec Ideal S1024x128 .f32) (f : BufTy.Contents (Elt Ideal) arg13.view.ty) :
    tripR_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 k acc f
      = (k0_pay10 v54 v79 v81 acc.1 (arg4.view.readAt (Elt Ideal) (Rect.unit (s := S8192x256) (k0_off4 i k) S1024x256.size (k0_off4_inb i k)).toLoadRect X4) (arg5.view.readAt (Elt Ideal) (Rect.unit (s := S8192x128) (k0_off5 i k) S1024x128.size (k0_off5_inb i k)).toLoadRect X5) (arg6.view.readAt (Elt Ideal) (Rect.unit (s := S1x8x2x1024) (k0_off6 i k) S1x1x1x1024.size (k0_off6_inb i k)).toLoadRect X6) (arg7.view.readAt (Elt Ideal) (Rect.unit (s := S1x8x2x1024) (k0_off6 i k) S1x1x1x1024.size (k0_off6_inb i k)).toLoadRect X7),
         k0_pay8 v71 v79 acc.2 (arg4.view.readAt (Elt Ideal) (Rect.unit (s := S8192x256) (k0_off4 i k) S1024x256.size (k0_off4_inb i k)).toLoadRect X4) (arg5.view.readAt (Elt Ideal) (Rect.unit (s := S8192x128) (k0_off5 i k) S1024x128.size (k0_off5_inb i k)).toLoadRect X5) (arg6.view.readAt (Elt Ideal) (Rect.unit (s := S1x8x2x1024) (k0_off6 i k) S1x1x1x1024.size (k0_off6_inb i k)).toLoadRect X6)) := by
  unfold tripR_k0_t1 trip_k0_t1; rfl

set_option maxHeartbeats 2000000 in
theorem tripL1_eq (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v4 : FVec Ideal S1024x256 .bf16) (v6 : FVec Ideal S1024x128 .bf16) (v37 v54 v68 : IVec S1024x256 1) (v71 v73 : IVec S1024x128 1) (v74 v75 : IVec S1024x1024 32) (v79 : FVec Ideal S1024x256 .bf16) (v81 : FVec Ideal S1024x128 .bf16) (v106 : FVec Ideal S1024x128 .f32) (v116 v120 : FVec Ideal S1024x256 .f32) (v125 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (k : Fin (k0_t1_loop i).trips) (acc : FVec Ideal S1024x256 .f32 × FVec Ideal S1024x128 .f32) (f : BufTy.Contents (Elt Ideal) arg13.view.ty) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 k acc f
      = [⟨Rect.unit (s := S8192x256) (k0_off4 i k) S1024x256.size (k0_off4_inb i k), k0_pay11 v79 v81 (arg4.view.readAt (Elt Ideal) (Rect.unit (s := S8192x256) (k0_off4 i k) S1024x256.size (k0_off4_inb i k)).toLoadRect X4) (arg5.view.readAt (Elt Ideal) (Rect.unit (s := S8192x128) (k0_off5 i k) S1024x128.size (k0_off5_inb i k)).toLoadRect X5) (arg6.view.readAt (Elt Ideal) (Rect.unit (s := S1x8x2x1024) (k0_off6 i k) S1x1x1x1024.size (k0_off6_inb i k)).toLoadRect X6) (arg7.view.readAt (Elt Ideal) (Rect.unit (s := S1x8x2x1024) (k0_off6 i k) S1x1x1x1024.size (k0_off6_inb i k)).toLoadRect X7) (arg13.view.readAt (Elt Ideal) (Rect.unit (s := S8192x256) (k0_off4 i k) S1024x256.size (k0_off4_inb i k)).toLoadRect f)⟩] := by
  unfold tripL_k0_t1 trip_k0_t1; rfl

/-- The loop over the query tiles after the diagonal one, head 0, after `n` trips. -/
theorem st1_val (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v4 : FVec Ideal S1024x256 .bf16) (v6 : FVec Ideal S1024x128 .bf16) (v37 v54 v68 : IVec S1024x256 1) (v71 v73 : IVec S1024x128 1) (v74 v75 : IVec S1024x1024 32) (v79 : FVec Ideal S1024x256 .bf16) (v81 : FVec Ideal S1024x128 .bf16) (v106 : FVec Ideal S1024x128 .f32) (v116 v120 : FVec Ideal S1024x256 .f32) (v125 : BitVec 32)
    (K V Q D A f0 g0 : ℕ → ℕ → ℝ) (L Δ : ℕ → ℕ → ℝ) (pk pv : ℕ → Bool)
    (h79 : v79 = co2 K) (h81 : v81 = co2 V) (hk : v54 = maskL pk) (hv : v71 = maskL pv)
    (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (h4 : arg4.view.read (Elt Ideal) X4 = co2 Q) (h5 : arg5.view.read (Elt Ideal) X5 = co2 D) (h6 : arg6.view.read (Elt Ideal) X6 = co4 L) (h7 : arg7.view.read (Elt Ideal) X7 = co4 Δ)
    (G : BufTy.Contents (Elt Ideal) arg13.view.ty) (hG : arg13.view.read (Elt Ideal) G = co2 A)
    (init : FVec Ideal S1024x256 .f32 × FVec Ideal S1024x128 .f32) (hi1 : init.1 = co2 g0) (hi2 : init.2 = co2 f0)
    (n : ℕ) (hn : n ≤ 7 - (i 1).val) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 G init n).1.1 = co2 (dkI K V Q D (L 0) (Δ 0) pk (1024 * ((i 1).val + 1)) (1024 * ((i 1).val + 1 + n)) g0)
      ∧ (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 G init n).1.2 = co2 (dvI K Q D (L 0) pv (1024 * ((i 1).val + 1)) (1024 * ((i 1).val + 1 + n)) f0)
      ∧ arg13.view.read (Elt Ideal) (arg13.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 G init n).2) = co2 (acI K V Q D (L 0) (Δ 0) (1024 * ((i 1).val + 1)) (1024 * ((i 1).val + 1 + n)) A) := by
  induction n with
  | zero =>
    rw [Nat.add_zero, dkI_nil, dvI_nil, acI_nil]
    exact ⟨hi1, hi2, hG⟩
  | succ n ih =>
    obtain ⟨a1, a2, a3⟩ := ih (by omega)
    have hb : (i 1).val < 8 := (i 1).isLt
    have ht : n < (k0_t1_loop i).trips := by rw [trips1]; omega
    rw [st_k0_t1_succ (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 G init ⟨n, ht⟩, tripR1_eq, tripL1_eq]
    subst h79 h81 hk hv
    rw [ldQ arg4.view X4 Q h4 _ _ (off4_eq i _), ldD arg5.view X5 D h5 _ _ (off5_eq i _), ldL arg6.view X6 L h6 _ _ _ (off6_eq i _), ldL arg7.view X7 Δ h7 _ _ _ (off6_eq i _),
      ldA arg13.view _ _ a3 _ _ (off4_eq i _), a1, a2, pay10_co, pay8_co, pay11_co, dkI_next, dvI_next]
    refine ⟨rfl, rfl, ?_⟩
    exact (stA arg13.view G _ _ _ a3 _ _ (off4_eq i _) _ _ rfl).trans (congrArg co2 (acI_next K V Q D _ _ _ _ A))

set_option maxHeartbeats 2000000 in
theorem tripR3_eq (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v68 : IVec S1024x256 1) (v73 : IVec S1024x128 1) (v132_0 : FVec Ideal S1024x256 .f32) (v134 : FVec Ideal S1024x256 .bf16) (v136 : FVec Ideal S1024x128 .bf16) (v138 : BitVec 32) (v146 : FVec Ideal S1024x256 .bf16) (v158 : FVec Ideal S1024x1024 .f32) (v161 : FVec Ideal S1024x128 .f32) (v162 : FVec Ideal S1024x1024 .f32) (v180 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (k : Fin (k0_t3_loop i).trips) (acc : FVec Ideal S1024x256 .f32 × FVec Ideal S1024x128 .f32) (f : BufTy.Contents (Elt Ideal) arg13.view.ty) :
    tripR_k0_t3 (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 k acc f
      = (k0_pay24 v68 v134 v136 acc.1 (arg4.view.readAt (Elt Ideal) (Rect.unit (s := S8192x256) (k0_off11 i k) S1024x256.size (k0_off11_inb i k)).toLoadRect X4) (arg5.view.readAt (Elt Ideal) (Rect.unit (s := S8192x128) (k0_off12 i k) S1024x128.size (k0_off12_inb i k)).toLoadRect X5) (arg6.view.readAt (Elt Ideal) (Rect.unit (s := S1x8x2x1024) (k0_off13 i k) S1x1x1x1024.size (k0_off13_inb i k)).toLoadRect X6) (arg7.view.readAt (Elt Ideal) (Rect.unit (s := S1x8x2x1024) (k0_off13 i k) S1x1x1x1024.size (k0_off13_inb i k)).toLoadRect X7),
         k0_pay22 v73 v134 acc.2 (arg4.view.readAt (Elt Ideal) (Rect.unit (s := S8192x256) (k0_off11 i k) S1024x256.size (k0_off11_inb i k)).toLoadRect X4) (arg5.view.readAt (Elt Ideal) (Rect.unit (s := S8192x128) (k0_off12 i k) S1024x128.size (k0_off12_inb i k)).toLoadRect X5) (arg6.view.readAt (Elt Ideal) (Rect.unit (s := S1x8x2x1024) (k0_off13 i k) S1x1x1x1024.size (k0_off13_inb i k)).toLoadRect X6)) := by
  unfold tripR_k0_t3 trip_k0_t3; rfl

set_option maxHeartbeats 2000000 in
theorem tripL3_eq (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v68 : IVec S1024x256 1) (v73 : IVec S1024x128 1) (v132_0 : FVec Ideal S1024x256 .f32) (v134 : FVec Ideal S1024x256 .bf16) (v136 : FVec Ideal S1024x128 .bf16) (v138 : BitVec 32) (v146 : FVec Ideal S1024x256 .bf16) (v158 : FVec Ideal S1024x1024 .f32) (v161 : FVec Ideal S1024x128 .f32) (v162 : FVec Ideal S1024x1024 .f32) (v180 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (k : Fin (k0_t3_loop i).trips) (acc : FVec Ideal S1024x256 .f32 × FVec Ideal S1024x128 .f32) (f : BufTy.Contents (Elt Ideal) arg13.view.ty) :
    tripL_k0_t3 (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 k acc f
      = [⟨Rect.unit (s := S8192x256) (k0_off11 i k) S1024x256.size (k0_off11_inb i k), k0_pay25 v134 v136 (arg4.view.readAt (Elt Ideal) (Rect.unit (s := S8192x256) (k0_off11 i k) S1024x256.size (k0_off11_inb i k)).toLoadRect X4) (arg5.view.readAt (Elt Ideal) (Rect.unit (s := S8192x128) (k0_off12 i k) S1024x128.size (k0_off12_inb i k)).toLoadRect X5) (arg6.view.readAt (Elt Ideal) (Rect.unit (s := S1x8x2x1024) (k0_off13 i k) S1x1x1x1024.size (k0_off13_inb i k)).toLoadRect X6) (arg7.view.readAt (Elt Ideal) (Rect.unit (s := S1x8x2x1024) (k0_off13 i k) S1x1x1x1024.size (k0_off13_inb i k)).toLoadRect X7) (arg13.view.readAt (Elt Ideal) (Rect.unit (s := S8192x256) (k0_off11 i k) S1024x256.size (k0_off11_inb i k)).toLoadRect f)⟩] := by
  unfold tripL_k0_t3 trip_k0_t3; rfl

/-- The loop over the query tiles after the diagonal one, head 1, after `n` trips. -/
theorem st3_val (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v68 : IVec S1024x256 1) (v73 : IVec S1024x128 1) (v132_0 : FVec Ideal S1024x256 .f32) (v134 : FVec Ideal S1024x256 .bf16) (v136 : FVec Ideal S1024x128 .bf16) (v138 : BitVec 32) (v146 : FVec Ideal S1024x256 .bf16) (v158 : FVec Ideal S1024x1024 .f32) (v161 : FVec Ideal S1024x128 .f32) (v162 : FVec Ideal S1024x1024 .f32) (v180 : BitVec 32)
    (K V Q D A f0 g0 : ℕ → ℕ → ℝ) (L Δ : ℕ → ℕ → ℝ) (pk pv : ℕ → Bool)
    (h79 : v134 = co2 K) (h81 : v136 = co2 V) (hk : v68 = maskL pk) (hv : v73 = maskL pv)
    (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (h4 : arg4.view.read (Elt Ideal) X4 = co2 Q) (h5 : arg5.view.read (Elt Ideal) X5 = co2 D) (h6 : arg6.view.read (Elt Ideal) X6 = co4 L) (h7 : arg7.view.read (Elt Ideal) X7 = co4 Δ)
    (G : BufTy.Contents (Elt Ideal) arg13.view.ty) (hG : arg13.view.read (Elt Ideal) G = co2 A)
    (init : FVec Ideal S1024x256 .f32 × FVec Ideal S1024x128 .f32) (hi1 : init.1 = co2 g0) (hi2 : init.2 = co2 f0)
    (n : ℕ) (hn : n ≤ 7 - (i 1).val) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 G init n).1.1 = co2 (dkI K V Q D (L 1) (Δ 1) pk (1024 * ((i 1).val + 1)) (1024 * ((i 1).val + 1 + n)) g0)
      ∧ (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 G init n).1.2 = co2 (dvI K Q D (L 1) pv (1024 * ((i 1).val + 1)) (1024 * ((i 1).val + 1 + n)) f0)
      ∧ arg13.view.read (Elt Ideal) (arg13.view.writes (Elt Ideal) G (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 G init n).2) = co2 (acI K V Q D (L 1) (Δ 1) (1024 * ((i 1).val + 1)) (1024 * ((i 1).val + 1 + n)) A) := by
  induction n with
  | zero =>
    rw [Nat.add_zero, dkI_nil, dvI_nil, acI_nil]
    exact ⟨hi1, hi2, hG⟩
  | succ n ih =>
    obtain ⟨a1, a2, a3⟩ := ih (by omega)
    have hb : (i 1).val < 8 := (i 1).isLt
    have ht : n < (k0_t3_loop i).trips := by rw [trips3]; omega
    rw [st_k0_t3_succ (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 G init ⟨n, ht⟩, tripR3_eq, tripL3_eq]
    subst h79 h81 hk hv
    rw [ldQ arg4.view X4 Q h4 _ _ (off11_eq i _), ldD arg5.view X5 D h5 _ _ (off12_eq i _), ldL arg6.view X6 L h6 _ _ _ (off13_eq i _), ldL arg7.view X7 Δ h7 _ _ _ (off13_eq i _),
      ldA arg13.view _ _ a3 _ _ (off11_eq i _), a1, a2, pay24_co, pay22_co, pay25_co, dkI_next, dvI_next]
    refine ⟨rfl, rfl, ?_⟩
    exact (stA arg13.view G _ _ _ a3 _ _ (off11_eq i _) _ _ rfl).trans (congrArg co2 (acI_next K V Q D _ _ _ _ A))

end Cert.KernelIdeal.Fox

end
-- ==== Proof.Tile.lean ====
/- What one key tile adds: the blocks of one head, the diagonal one and those after it, put together over all queries. -/
module

public import proofs.«01_k».proof.Proof.Trip

@[expose] public section

noncomputable section

namespace Cert.KernelIdeal.Fox

/-- A key tile's probabilities, over the whole sequence of queries: those before the key's own position see nothing. -/
def PCr (j : ℕ) (K Q : ℕ → ℕ → ℝ) (l : ℕ → ℝ) (u t : ℕ) : ℝ := if 1024 * j + u ≤ t then (2 : ℝ) ^ (STr K Q u t - l t) else 0
/-- What a key tile adds to its value gradient. -/
def dvH (j : ℕ) (K Q D : ℕ → ℕ → ℝ) (l : ℕ → ℝ) (p : ℕ → Bool) (u y : ℕ) : ℝ :=
  ∑ t ∈ Finset.range 8192, PCr j K Q l u t * mk p D t y
/-- What it adds to its key gradient's lanes. -/
def dkH (j : ℕ) (K V Q D : ℕ → ℕ → ℝ) (l d : ℕ → ℝ) (p : ℕ → Bool) (u x : ℕ) : ℝ :=
  ∑ t ∈ Finset.range 8192, DSr (PCr j K Q l) V D d u t * mk p Q t x
/-- What it adds to the accumulator of the query gradient. -/
def acH (j : ℕ) (K V Q D : ℕ → ℕ → ℝ) (l d : ℕ → ℝ) (t x : ℕ) : ℝ :=
  ∑ u ∈ Finset.range 1024, DSr (PCr j K Q l) V D d u t * K u x
/-- The rows of tile `j`. -/
def row (j : ℕ) (Q : ℕ → ℕ → ℝ) (r x : ℕ) : ℝ := Q (1024 * j + r) x
/-- The entries of tile `j`. -/
def ent (j : ℕ) (l : ℕ → ℝ) (r : ℕ) : ℝ := l (1024 * j + r)

theorem sum_split (F : ℕ → ℝ) (j : ℕ) (hj : j < 8) (h0 : ∀ t < 1024 * j, F t = 0) :
    (∑ r ∈ Finset.range 1024, F (1024 * j + r)) + ∑ t ∈ Finset.Ico (1024 * (j + 1)) (1024 * (j + 1 + (7 - j))), F t = ∑ t ∈ Finset.range 8192, F t := by
  have e : 1024 * (j + 1 + (7 - j)) = 8192 := by omega
  rw [e, ← Finset.sum_range_add_sum_Ico F (show 1024 * j ≤ 8192 by omega), Finset.sum_eq_zero (fun t ht => h0 t (Finset.mem_range.1 ht)), zero_add,
    ← Finset.sum_Ico_consecutive F (show 1024 * j ≤ 1024 * (j + 1) by omega) (show 1024 * (j + 1) ≤ 8192 by omega), Finset.sum_Ico_eq_sum_range F (1024 * j)]
  congr 2; congr 1; omega

theorem PCr_zero (j : ℕ) (K Q : ℕ → ℕ → ℝ) (l : ℕ → ℝ) (u t : ℕ) (h : t < 1024 * j) : PCr j K Q l u t = 0 := if_neg (by omega)
theorem PCr_diag (j : ℕ) (K Q : ℕ → ℕ → ℝ) (l : ℕ → ℝ) (u r : ℕ) : PCr j K Q l u (1024 * j + r) = PDr K (row j Q) (ent j l) u r := by
  unfold PCr PDr; simp only [Nat.add_le_add_iff_left]; rfl
theorem PCr_after (j : ℕ) (K Q : ℕ → ℕ → ℝ) (l : ℕ → ℝ) (u t : ℕ) (hu : u < 1024) (h : 1024 * (j + 1) ≤ t) : PCr j K Q l u t = PTr K Q l u t := if_pos (by omega)

theorem dv_tile (j : ℕ) (hj : j < 8) (K Q D g : ℕ → ℕ → ℝ) (l : ℕ → ℝ) (p : ℕ → Bool) (u y : ℕ) (hu : u < 1024) :
    dvI K Q D l p (1024 * (j + 1)) (1024 * (j + 1 + (7 - j))) (fun u y => g u y + ∑ r ∈ Finset.range 1024, PDr K (row j Q) (ent j l) u r * mk p (row j D) r y) u y
      = g u y + dvH j K Q D l p u y := by
  unfold dvI dvH
  rw [← sum_split (fun t => PCr j K Q l u t * mk p D t y) j hj (fun t ht => by simp only [PCr_zero j K Q l u t ht, zero_mul]), add_assoc]
  congr 2
  · exact Finset.sum_congr rfl fun r _ => by simp only [PCr_diag]; rfl
  · exact Finset.sum_congr rfl fun t ht => by simp only [PCr_after j K Q l u t hu (Finset.mem_Ico.1 ht).1]

theorem dk_tile (j : ℕ) (hj : j < 8) (K V Q D g : ℕ → ℕ → ℝ) (l d : ℕ → ℝ) (p : ℕ → Bool) (u x : ℕ) (hu : u < 1024) :
    dkI K V Q D l d p (1024 * (j + 1)) (1024 * (j + 1 + (7 - j))) (fun u x => g u x + ∑ r ∈ Finset.range 1024, DSr (PDr K (row j Q) (ent j l)) V (row j D) (ent j d) u r * mk p (row j Q) r x) u x
      = g u x + dkH j K V Q D l d p u x := by
  unfold dkI dkH
  rw [← sum_split (fun t => DSr (PCr j K Q l) V D d u t * mk p Q t x) j hj (fun t ht => by simp only [DSr, PCr_zero j K Q l u t ht, zero_mul]), add_assoc]
  congr 2
  · exact Finset.sum_congr rfl fun r _ => by simp only [DSr, PCr_diag]; rfl
  · exact Finset.sum_congr rfl fun t ht => by simp only [DSr, PCr_after j K Q l u t hu (Finset.mem_Ico.1 ht).1]

theorem ac_tile (j : ℕ) (hj : j < 8) (K V Q D A : ℕ → ℕ → ℝ) (l d : ℕ → ℝ) (t x : ℕ) (ht : t < 8192) :
    acI K V Q D l d (1024 * (j + 1)) (1024 * (j + 1 + (7 - j))) (fun r x => if 1024 * j ≤ r ∧ r < 1024 * j + 1024 then
        (fun r x => row j A r x + ∑ u ∈ Finset.range 1024, DSr (PDr K (row j Q) (ent j l)) V (row j D) (ent j d) u r * K u x) (r - 1024 * j) x else A r x) t x
      = A t x + acH j K V Q D l d t x := by
  unfold acI acH
  have e : 1024 * (j + 1 + (7 - j)) = 8192 := by omega
  rw [e]
  beta_reduce
  by_cases h : t < 1024 * j
  · rw [if_neg (by omega), if_neg (by omega), Finset.sum_eq_zero (fun u _ => by simp only [DSr, PCr_zero j K Q l u t h, zero_mul]), add_zero]
  · by_cases h1 : t < 1024 * (j + 1)
    · rw [if_pos (by omega), if_neg (by omega), add_zero]
      obtain ⟨r, rfl⟩ : ∃ r, t = 1024 * j + r := ⟨t - 1024 * j, by omega⟩
      simp only [Nat.add_sub_cancel_left, DSr, PCr_diag]; rfl
    · rw [if_neg (by omega), if_pos (by omega)]
      congr 1
      exact Finset.sum_congr rfl fun u hu => by simp only [DSr, PCr_after j K Q l u t (Finset.mem_range.1 hu) (by omega)]

end Cert.KernelIdeal.Fox

end
-- ==== Proof.Core.lean ====
/- One run of the gradient kernel's body at a key tile, as reals: the diagonal block and the loop after it, for the first head
   and then for the second. -/
module

public import proofs.«01_k».proof.Proof.Tile

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

/-- The zero array. -/
def zf (_ _ : ℕ) : ℝ := 0

section Loads

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ)

theorem l2 (inb) : arg2.view.readAt (Elt Ideal) (Rect.unit (s := S1024x256) ![0, 0] ![1024, 256] inb).toLoadRect (harg2.unread (co2 K)) = co2 K := (View.readAt_full arg2.view _ inb).trans (harg2.read_unread _)
theorem l3 (inb) : arg3.view.readAt (Elt Ideal) (Rect.unit (s := S1024x128) ![0, 0] ![1024, 128] inb).toLoadRect (harg3.unread (co2 V)) = co2 V := (View.readAt_full arg3.view _ inb).trans (harg3.read_unread _)
theorem l4 (inb) : arg4.view.readAt (Elt Ideal) (Rect.unit (s := S8192x256) (k0_off1 i) ![1024, 256] inb).toLoadRect (harg4.unread (co2 Q)) = co2 (row (i 1).val Q) := ldQ _ _ Q (harg4.read_unread _) _ _ (off1_eq i) inb
theorem l5 (inb) : arg5.view.readAt (Elt Ideal) (Rect.unit (s := S8192x128) (k0_off2 i) ![1024, 128] inb).toLoadRect (harg5.unread (co2 D)) = co2 (row (i 1).val D) := ldD _ _ D (harg5.read_unread _) _ _ (off2_eq i) inb
theorem l6 (inb) : arg6.view.readAt (Elt Ideal) (Rect.unit (s := S1x8x2x1024) (k0_off3 i) ![1, 1, 1, 1024] inb).toLoadRect (harg6.unread (co4 L)) = coR (ent (i 1).val (L 0)) := ldL _ _ L (harg6.read_unread _) _ _ 0 (off3_eq i) inb
theorem l6' (inb) : arg6.view.readAt (Elt Ideal) (Rect.unit (s := S1x8x2x1024) (k0_off10 i) ![1, 1, 1, 1024] inb).toLoadRect (harg6.unread (co4 L)) = coR (ent (i 1).val (L 1)) := ldL _ _ L (harg6.read_unread _) _ _ 1 (off10_eq i) inb
theorem l7 (inb) : arg7.view.readAt (Elt Ideal) (Rect.unit (s := S1x8x2x1024) (k0_off3 i) ![1, 1, 1, 1024] inb).toLoadRect (harg7.unread (co4 Δ)) = coR (ent (i 1).val (Δ 0)) := ldL _ _ Δ (harg7.read_unread _) _ _ 0 (off3_eq i) inb
theorem l7' (inb) : arg7.view.readAt (Elt Ideal) (Rect.unit (s := S1x8x2x1024) (k0_off10 i) ![1, 1, 1, 1024] inb).toLoadRect (harg7.unread (co4 Δ)) = coR (ent (i 1).val (Δ 1)) := ldL _ _ Δ (harg7.read_unread _) _ _ 1 (off10_eq i) inb
theorem l13 (inb) : arg13.view.readAt (Elt Ideal) (Rect.unit (s := S8192x256) (k0_off1 i) ![1024, 256] inb).toLoadRect (harg13.unread (co2 A)) = co2 (row (i 1).val A) := ldA _ _ A (harg13.read_unread _) _ _ (off1_eq i) inb
theorem l13z (inb) : arg13.view.readAt (Elt Ideal) (Rect.unit (s := S8192x256) (k0_off1 i) ![1024, 256] inb).toLoadRect (harg13.unread (k0_pay38 (F := Ideal))) = co2 (row (i 1).val zf) := ldA _ _ zf ((harg13.read_unread _).trans pay38_co) _ _ (off1_eq i) inb

theorem ldW (v : View sig .tc .vmem S8192x256 .f32) (X : BufTy.Contents (Elt Ideal) v.ty) (f : ℕ → ℕ → ℝ) (hX : v.read (Elt Ideal) X = co2 f) (n a b : ℕ) (inb : ∀ k, (![a, b] : Fin 2 → ℕ) k + (![n, 128] : Fin 2 → ℕ) k ≤ S8192x256.size k) :
    v.readAt (Elt Ideal) (Rect.unit (s := S8192x256) ![a, b] ![n, 128] inb).toLoadRect X = (co2 (fun r x => f (a + r) (b + x)) : (⟨2, ![n, 128]⟩ : Shape).Idx → EReal) := by
  rw [View.readAt_unit v X inb rfl inb, hX]
  funext y
  show ((f (a + 1 * (y 0).val) (b + 1 * (y 1).val) : ℝ) : EReal) = _
  rw [one_mul, one_mul]; rfl

theorem piece9 (f : ℕ → ℕ → ℝ) (a : ℕ) (inb : ∀ k, (![0, 0, a] : Fin 3 → ℕ) k + (![1, 16, 1024] : Fin 3 → ℕ) k ≤ S1x16x8192.size k) (x : (Rect.unit (s := S1x16x8192) ![0, 0, a] ![1, 16, 1024] inb).shape.Idx) :
    ((f (a + (x 2).val) (128 + (x 1).val) : ℝ) : EReal) = ((f (((Rect.unit (s := S1x16x8192) ![0, 0, a] ![1, 16, 1024] inb).emb x) 2).val (128 + (((Rect.unit (s := S1x16x8192) ![0, 0, a] ![1, 16, 1024] inb).emb x) 1).val) : ℝ) : EReal) := by
  show _ = ((f (a + 1 * (x 2).val) (128 + (0 + 1 * (x 1).val)) : ℝ) : EReal)
  rw [one_mul, one_mul, zero_add]

end Loads

/-- Head `a`'s value gradient after its diagonal block. -/
def dvD (a j : ℕ) (K Q D : ℕ → ℕ → ℝ) (L : ℕ → ℕ → ℝ) (g : ℕ → ℕ → ℝ) (u y : ℕ) : ℝ :=
  g u y + ∑ r ∈ Finset.range 1024, PDr (mk (km a) K) (row j Q) (ent j (L a)) u r * mk (hm a) (row j D) r y
/-- Head `a`'s key gradient after its diagonal block. -/
def dkD (a j : ℕ) (K V Q D : ℕ → ℕ → ℝ) (L Δ : ℕ → ℕ → ℝ) (g : ℕ → ℕ → ℝ) (u x : ℕ) : ℝ :=
  g u x + ∑ r ∈ Finset.range 1024, DSr (PDr (mk (km a) K) (row j Q) (ent j (L a))) (mk (hm a) V) (row j D) (ent j (Δ a)) u r * mk (qm a) (row j Q) r x
/-- The diagonal block's rows of the accumulator after head `a`. -/
def acD (a j : ℕ) (K V Q D : ℕ → ℕ → ℝ) (L Δ : ℕ → ℕ → ℝ) (A : ℕ → ℕ → ℝ) (r x : ℕ) : ℝ :=
  row j A r x + ∑ u ∈ Finset.range 1024, DSr (PDr (mk (km a) K) (row j Q) (ent j (L a))) (mk (hm a) V) (row j D) (ent j (Δ a)) u r * mk (km a) K u x
/-- Head `a`'s value gradient added to `g`. -/
def dvA (a j : ℕ) (K Q D : ℕ → ℕ → ℝ) (L : ℕ → ℕ → ℝ) (g : ℕ → ℕ → ℝ) (u y : ℕ) : ℝ := g u y + dvH j (mk (km a) K) Q D (L a) (hm a) u y
/-- Head `a`'s key gradient added to `g`. -/
def dkA (a j : ℕ) (K V Q D : ℕ → ℕ → ℝ) (L Δ : ℕ → ℕ → ℝ) (g : ℕ → ℕ → ℝ) (u x : ℕ) : ℝ := g u x + dkH j (mk (km a) K) (mk (hm a) V) Q D (L a) (Δ a) (qm a) u x
/-- The accumulator after head `a`. -/
def acA (a j : ℕ) (K V Q D : ℕ → ℕ → ℝ) (L Δ : ℕ → ℕ → ℝ) (A : ℕ → ℕ → ℝ) (t x : ℕ) : ℝ := A t x + acH j (mk (km a) K) (mk (hm a) V) Q D (L a) (Δ a) t x

/-- Both heads' key gradient of key tile `j`, before its last scaling. -/
def dkF (j : ℕ) (K V Q D : ℕ → ℕ → ℝ) (L Δ : ℕ → ℕ → ℝ) : ℕ → ℕ → ℝ := dkA 1 j K V Q D L Δ (dkA 0 j K V Q D L Δ zf)
/-- Both heads' value gradient of key tile `j`. -/
def dvF (j : ℕ) (K Q D : ℕ → ℕ → ℝ) (L : ℕ → ℕ → ℝ) : ℕ → ℕ → ℝ := dvA 1 j K Q D L (dvA 0 j K Q D L zf)
/-- The accumulator after both heads. -/
def acF (j : ℕ) (K V Q D : ℕ → ℕ → ℝ) (L Δ : ℕ → ℕ → ℝ) (A : ℕ → ℕ → ℝ) : ℕ → ℕ → ℝ := acA 1 j K V Q D L Δ (acA 0 j K V Q D L Δ A)

theorem pay70_dk (j : ℕ) (K V Q D : ℕ → ℕ → ℝ) (L Δ : ℕ → ℕ → ℝ) (g : ℕ → ℕ → ℝ) :
    k0_pay70 (F := Ideal) (co2 g) (co2 (mk (qm 1) (row j Q))) (co2 (PDr (mk (km 1) K) (row j Q) (ent j (L 1)))) (co2 (DPr (mk (hm 1) V) (row j D))) (coR (ent j (Δ 1))) = co2 (dkD 1 j K V Q D L Δ g) := pay70_co ..
theorem pay71_ac (j : ℕ) (K V Q D : ℕ → ℕ → ℝ) (L Δ : ℕ → ℕ → ℝ) (A : ℕ → ℕ → ℝ) :
    k0_pay71 (F := Ideal) (co2 (mk (km 1) K)) (co2 (PDr (mk (km 1) K) (row j Q) (ent j (L 1)))) (co2 (DPr (mk (hm 1) V) (row j D))) (coR (ent j (Δ 1))) (co2 (row j A)) = co2 (acD 1 j K V Q D L Δ A) := pay71_co ..

/-- The accumulator with the rows of one tile replaced. -/
def acP (j : ℕ) (g A : ℕ → ℕ → ℝ) (r x : ℕ) : ℝ := if 1024 * j ≤ r ∧ r < 1024 * j + 1024 then g (r - 1024 * j) x else A r x

theorem stG (i : grid0.Coords) (v : View sig .tc .vmem S8192x256 .f32) (G : BufTy.Contents (Elt Ideal) v.ty) (g A : ℕ → ℕ → ℝ) (L0 : List (View.Piece (Elt Ideal) S8192x256 .f32))
    (hX : v.read (Elt Ideal) (v.writes (Elt Ideal) G L0) = co2 A) (inb : ∀ a, k0_off1 i a + (![1024, 256] : Fin 2 → ℕ) a ≤ S8192x256.size a) :
    v.read (Elt Ideal) (v.writes (Elt Ideal) G (⟨Rect.unit (s := S8192x256) (k0_off1 i) ![1024, 256] inb, co2 g⟩ :: L0)) = co2 (acP (i 1).val g A) :=
  stA v G A g L0 hX _ _ (off1_eq i) inb _ rfl

/-- The loop over what an unrolling would leave makes no trip. -/
theorem nil2 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v4 : FVec Ideal S1024x256 .bf16) (v6 : FVec Ideal S1024x128 .bf16) (v37 v54 v68 : IVec S1024x256 1) (v71 v73 : IVec S1024x128 1) (v74 v75 : IVec S1024x1024 32) (v79 : FVec Ideal S1024x256 .bf16) (v81 : FVec Ideal S1024x128 .bf16) (v106 : FVec Ideal S1024x128 .f32) (v116 v120 : FVec Ideal S1024x256 .f32) (v125 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    (G : BufTy.Contents (Elt Ideal) arg13.view.ty) (init : FVec Ideal S1024x256 .f32 × FVec Ideal S1024x128 .f32) :
    st_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 v54 v68 v71 v73 v74 v75 v79 v81 v106 v116 v120 v125 X4 X5 X6 X7 G init (Scf.trips (Scalar.addi (Scalar.addi (BitVec.ofNat 32 (i 1).val) 1#32) (Scalar.muli (Scalar.divsi (Scalar.subi 8#32 (Scalar.addi (BitVec.ofNat 32 (i 1).val) 1#32)) 1#32) 1#32)) (Scalar.addi (Scalar.addi (BitVec.ofNat 32 (i 1).val) 1#32) (Scalar.subi 8#32 (Scalar.addi (BitVec.ofNat 32 (i 1).val) 1#32))) 1#32) = (init, []) := by
  rw [show (Scf.trips (Scalar.addi (Scalar.addi (BitVec.ofNat 32 (i 1).val) 1#32) (Scalar.muli (Scalar.divsi (Scalar.subi 8#32 (Scalar.addi (BitVec.ofNat 32 (i 1).val) 1#32)) 1#32) 1#32)) (Scalar.addi (Scalar.addi (BitVec.ofNat 32 (i 1).val) 1#32) (Scalar.subi 8#32 (Scalar.addi (BitVec.ofNat 32 (i 1).val) 1#32))) 1#32) = 0 from trips2 i]; rfl

/-- The loop over what an unrolling would leave makes no trip. -/
theorem nil4 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (arg1 : BitVec 32) (v68 : IVec S1024x256 1) (v73 : IVec S1024x128 1) (v132_0 : FVec Ideal S1024x256 .f32) (v134 : FVec Ideal S1024x256 .bf16) (v136 : FVec Ideal S1024x128 .bf16) (v138 : BitVec 32) (v146 : FVec Ideal S1024x256 .bf16) (v158 : FVec Ideal S1024x1024 .f32) (v161 : FVec Ideal S1024x128 .f32) (v162 : FVec Ideal S1024x1024 .f32) (v180 : BitVec 32) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)
    (G : BufTy.Contents (Elt Ideal) arg13.view.ty) (init : FVec Ideal S1024x256 .f32 × FVec Ideal S1024x128 .f32) :
    st_k0_t4 (F := Ideal) Variants.none c none i arg2 harg2 arg3 harg3 arg4 harg4 arg5 harg5 arg6 harg6 arg7 harg7 arg8 harg8 arg9 harg9 arg10 harg10 arg11 harg11 arg12 harg12 arg13 harg13 arg1 v68 v73 v132_0 v134 v136 v138 v146 v158 v161 v162 v180 X4 X5 X6 X7 G init (Scf.trips (Scalar.addi (Scalar.addi (BitVec.ofNat 32 (i 1).val) 1#32) (Scalar.muli (Scalar.divsi (Scalar.subi 8#32 (Scalar.addi (BitVec.ofNat 32 (i 1).val) 1#32)) 1#32) 1#32)) (Scalar.addi (Scalar.addi (BitVec.ofNat 32 (i 1).val) 1#32) (Scalar.subi 8#32 (Scalar.addi (BitVec.ofNat 32 (i 1).val) 1#32))) 1#32) = (init, []) := by
  rw [show (Scf.trips (Scalar.addi (Scalar.addi (BitVec.ofNat 32 (i 1).val) 1#32) (Scalar.muli (Scalar.divsi (Scalar.subi 8#32 (Scalar.addi (BitVec.ofNat 32 (i 1).val) 1#32)) 1#32) 1#32)) (Scalar.addi (Scalar.addi (BitVec.ofNat 32 (i 1).val) 1#32) (Scalar.subi 8#32 (Scalar.addi (BitVec.ofNat 32 (i 1).val) 1#32))) 1#32) = 0 from trips4 i]; rfl

section Loop1

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A g0 f0 : ℕ → ℕ → ℝ) (L Δ : ℕ → ℕ → ℝ) {arg1 : BitVec 32} {v4 : FVec Ideal S1024x256 .bf16} {v6 : FVec Ideal S1024x128 .bf16} {v37 v68 : IVec S1024x256 1} {v73 : IVec S1024x128 1} {v74 v75 : IVec S1024x1024 32} {v106 : FVec Ideal S1024x128 .f32} {v116 v120 : FVec Ideal S1024x256 .f32} {v125 : BitVec 32}
  (f : BufTy.Contents (Elt Ideal) arg13.view.ty) (L0 : List (View.Piece (Elt Ideal) S8192x256 .f32))

theorem loop1 (hG : arg13.view.read (Elt Ideal) (arg13.view.writes (Elt Ideal) f L0) = co2 (acP (i 1).val (acD 0 (i 1).val K V Q D L Δ A) A)) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) f L0) (co2 (dkD 0 (i 1).val K V Q D L Δ g0), co2 (dvD 0 (i 1).val K Q D L f0)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ g0), co2 (dvA 0 (i 1).val K Q D L f0))
    ∧ arg13.view.read (Elt Ideal) (arg13.view.writes (Elt Ideal) f ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) f L0) (co2 (dkD 0 (i 1).val K V Q D L Δ g0), co2 (dvD 0 (i 1).val K Q D L f0)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ L0)) = co2 (acA 0 (i 1).val K V Q D L Δ A) := by
  have hj : (i 1).val < 8 := (i 1).isLt
  have e := st1_val c i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (mk (km 0) K) (mk (hm 0) V) Q D (acP (i 1).val (acD 0 (i 1).val K V Q D L Δ A) A) (dvD 0 (i 1).val K Q D L f0) (dkD 0 (i 1).val K V Q D L Δ g0) L Δ (qm 0) (hm 0) rfl rfl rfl rfl
    (harg4.unread (co2 Q)) (harg5.unread (co2 D)) (harg6.unread (co4 L)) (harg7.unread (co4 Δ)) (harg4.read_unread _) (harg5.read_unread _) (harg6.read_unread _) (harg7.read_unread _)
    (arg13.view.writes (Elt Ideal) f L0) hG (co2 (dkD 0 (i 1).val K V Q D L Δ g0), co2 (dvD 0 (i 1).val K Q D L f0)) rfl rfl (7 - (i 1).val) le_rfl
  rw [show (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32) = 7 - (i 1).val from trips1 i]
  obtain ⟨e1, e2, e3⟩ := e
  refine ⟨Prod.ext (e1.trans ?_) (e2.trans ?_), ?_⟩
  · exact co2_congr fun u hu x _ => dk_tile (i 1).val hj (mk (km 0) K) (mk (hm 0) V) Q D g0 (L 0) (Δ 0) (qm 0) u x hu
  · exact co2_congr fun u hu x _ => dv_tile (i 1).val hj (mk (km 0) K) Q D f0 (L 0) (hm 0) u x hu
  · rw [View.writes_append]
    exact e3.trans (co2_congr fun t ht x _ => ac_tile (i 1).val hj (mk (km 0) K) (mk (hm 0) V) Q D A (L 0) (Δ 0) t x ht)

end Loop1

section Loop3

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A g0 f0 : ℕ → ℕ → ℝ) (L Δ : ℕ → ℕ → ℝ) {arg1 : BitVec 32} {v132_0 : FVec Ideal S1024x256 .f32} {v138 : BitVec 32} {v146 : FVec Ideal S1024x256 .bf16} {v158 : FVec Ideal S1024x1024 .f32} {v161 : FVec Ideal S1024x128 .f32} {v162 : FVec Ideal S1024x1024 .f32} {v180 : BitVec 32}
  (f : BufTy.Contents (Elt Ideal) arg13.view.ty) (L0 : List (View.Piece (Elt Ideal) S8192x256 .f32))

theorem loop3 (hG : arg13.view.read (Elt Ideal) (arg13.view.writes (Elt Ideal) f L0) = co2 (acP (i 1).val (acD 1 (i 1).val K V Q D L Δ A) A)) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) f L0) (co2 (dkD 1 (i 1).val K V Q D L Δ g0), co2 (dvD 1 (i 1).val K Q D L f0)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 1 (i 1).val K V Q D L Δ g0), co2 (dvA 1 (i 1).val K Q D L f0))
    ∧ arg13.view.read (Elt Ideal) (arg13.view.writes (Elt Ideal) f ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) f L0) (co2 (dkD 1 (i 1).val K V Q D L Δ g0), co2 (dvD 1 (i 1).val K Q D L f0)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ L0)) = co2 (acA 1 (i 1).val K V Q D L Δ A) := by
  have hj : (i 1).val < 8 := (i 1).isLt
  have e := st3_val c i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (mk (km 1) K) (mk (hm 1) V) Q D (acP (i 1).val (acD 1 (i 1).val K V Q D L Δ A) A) (dvD 1 (i 1).val K Q D L f0) (dkD 1 (i 1).val K V Q D L Δ g0) L Δ (qm 1) (hm 1) rfl rfl rfl rfl
    (harg4.unread (co2 Q)) (harg5.unread (co2 D)) (harg6.unread (co4 L)) (harg7.unread (co4 Δ)) (harg4.read_unread _) (harg5.read_unread _) (harg6.read_unread _) (harg7.read_unread _)
    (arg13.view.writes (Elt Ideal) f L0) hG (co2 (dkD 1 (i 1).val K V Q D L Δ g0), co2 (dvD 1 (i 1).val K Q D L f0)) rfl rfl (7 - (i 1).val) le_rfl
  rw [show (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32) = 7 - (i 1).val from trips3 i]
  obtain ⟨e1, e2, e3⟩ := e
  refine ⟨Prod.ext (e1.trans ?_) (e2.trans ?_), ?_⟩
  · exact co2_congr fun u hu x _ => dk_tile (i 1).val hj (mk (km 1) K) (mk (hm 1) V) Q D g0 (L 1) (Δ 1) (qm 1) u x hu
  · exact co2_congr fun u hu x _ => dv_tile (i 1).val hj (mk (km 1) K) Q D f0 (L 1) (hm 1) u x hu
  · rw [View.writes_append]
    exact e3.trans (co2_congr fun t ht x _ => ac_tile (i 1).val hj (mk (km 1) K) (mk (hm 1) V) Q D A (L 1) (Δ 1) t x ht)

end Loop3

end Cert.KernelIdeal.Fox

end
-- ==== Proof.PointA.lean ====
/- The values at a pair's first key tile, where the accumulator starts from zero. -/
module

public import proofs.«01_k».proof.Proof.Core
public import proofs.«01_k».proof.Proof.RunA

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

section

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole)
  (K V Q D A : ℕ → ℕ → ℝ) (L Δ : ℕ → ℕ → ℝ)

theorem vA_v74 : runA.sl.v74 = io0 := rfl

theorem vA_v75 : runA.sl.v75 = io1 := rfl

theorem vA_r : runA.sl.r (F := Ideal) c i arg2 harg2 arg3 harg3 (co2 K) (co2 V) = maskL (qm 0) := mask45

theorem vA_r_1 : runA.sl.r_1 (F := Ideal) c i arg2 harg2 arg3 harg3 (co2 K) (co2 V) = maskL (qm 1) := mask46

theorem vA_r_2 : runA.sl.r_2 (F := Ideal) c i arg2 harg2 arg3 harg3 (co2 K) (co2 V) = co2 (mk (km 0) K) := by
  delta runA.sl.r_2
  simp only [mask42, mask43, mask47, mask48, vA_v74, vA_v75, pay39_co, pay40_co, vA_r, vA_r_1, l2, l3, l4, l5, l6, l6', l7, l7', pay51_co]
  first | done | rfl

theorem vA_r_3 : runA.sl.r_3 (F := Ideal) c i arg2 harg2 arg3 harg3 (co2 K) (co2 V) = co2 (mk (hm 0) V) := by
  delta runA.sl.r_3
  simp only [mask42, mask43, mask47, mask48, vA_v74, vA_v75, pay39_co, pay40_co, vA_r, vA_r_1, vA_r_2, l2, l3, l4, l5, l6, l6', l7, l7', pay52_co]
  first | done | rfl

theorem vA_r_4 : runA.sl.r_4 (F := Ideal) c i arg2 harg2 arg3 harg3 arg4 harg4 arg5 harg5 arg6 harg6 (co2 K) (co2 V) (co2 Q) (co2 D) (co4 L) = co2 (dvD 0 (i 1).val K Q D L zf) := by
  delta runA.sl.r_4
  simp only [mask42, mask43, mask47, mask48, vA_v74, vA_v75, pay39_co, pay40_co, vA_r, vA_r_1, vA_r_2, vA_r_3, l2, l3, l4, l5, l6, l6', l7, l7', pay50_co, pay56_co]
  first | done | rfl

theorem vA_r_5 : runA.sl.r_5 (F := Ideal) c i arg2 harg2 arg3 harg3 arg4 harg4 arg5 harg5 arg6 harg6 arg7 harg7 (co2 K) (co2 V) (co2 Q) (co2 D) (co4 L) (co4 Δ) = co2 (dkD 0 (i 1).val K V Q D L Δ zf) := by
  delta runA.sl.r_5
  simp only [mask42, mask43, mask47, mask48, vA_v74, vA_v75, pay39_co, pay40_co, vA_r, vA_r_1, vA_r_2, vA_r_3, vA_r_4, l2, l3, l4, l5, l6, l6', l7, l7', pay49_co, pay58_co]
  first | done | rfl

theorem vA_r_6 : runA.sl.r_6 (F := Ideal) c i arg2 harg2 arg3 harg3 arg4 harg4 arg5 harg5 arg6 harg6 arg7 harg7 arg13 harg13 (co2 K) (co2 V) (co2 Q) (co2 D) (co4 L) (co4 Δ) = co2 (acD 0 (i 1).val K V Q D L Δ zf) := by
  delta runA.sl.r_6
  simp only [mask42, mask43, mask47, mask48, vA_v74, vA_v75, pay39_co, pay40_co, vA_r, vA_r_1, vA_r_2, vA_r_3, vA_r_4, vA_r_5, l2, l3, l4, l5, l6, l6', l7, l7', l13z, pay59_co]
  first | done | rfl

theorem vA_m (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ zf), co2 (dvA 0 (i 1).val K Q D L zf))
    ∧ arg13.view.read (Elt Ideal) (arg13.view.writes (Elt Ideal) (harg13.unread (k0_pay38 (F := Ideal))) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩])) = co2 (acA 0 (i 1).val K V Q D L Δ zf) :=
  loop1 c i arg2 harg2 arg3 harg3 arg4 harg4 arg5 harg5 arg6 harg6 arg7 harg7 arg8 harg8 arg9 harg9 arg10 harg10 arg11 harg11 arg12 harg12 arg13 harg13 K V Q D zf zf zf L Δ (harg13.unread (k0_pay38 (F := Ideal))) [⟨Rect.unit (k0_off1 i) ![1024, 256] inb, co2 (acD 0 (i 1).val K V Q D L Δ zf)⟩] (stA arg13.view (harg13.unread (k0_pay38 (F := Ideal))) zf (acD 0 (i 1).val K V Q D L Δ zf) [] ((congrArg _ (congrArg _ pay38_co)).trans (harg13.read_unread _)) _ _ (off1_eq i) inb _ rfl)

theorem vA_m1 (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ zf), co2 (dvA 0 (i 1).val K Q D L zf)) := (vA_m c i arg2 harg2 arg3 harg3 arg4 harg4 arg5 harg5 arg6 harg6 arg7 harg7 arg8 harg8 arg9 harg9 arg10 harg10 arg11 harg11 arg12 harg12 arg13 harg13 K V Q D L Δ arg1 v4 v6 v37 v68 v73 v74 v75 v106 v116 v120 v125 inb).1

theorem vA_m2 (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    arg13.view.readAt (Elt Ideal) (Rect.unit (s := S8192x256) (k0_off1 i) ![1024, 256] inb).toLoadRect (arg13.view.writes (Elt Ideal) (harg13.unread (k0_pay38 (F := Ideal))) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩])) = co2 (row (i 1).val (acA 0 (i 1).val K V Q D L Δ zf)) :=
  ldA arg13.view _ _ (vA_m c i arg2 harg2 arg3 harg3 arg4 harg4 arg5 harg5 arg6 harg6 arg7 harg7 arg8 harg8 arg9 harg9 arg10 harg10 arg11 harg11 arg12 harg12 arg13 harg13 K V Q D L Δ arg1 v4 v6 v37 v68 v73 v74 v75 v106 v116 v120 v125 inb).2 _ _ (off1_eq i) inb

theorem vA_r_7 : runA.sl.r_7 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) = co2 (dkA 0 (i 1).val K V Q D L Δ zf) := by
  delta runA.sl.r_7
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, l2, l3, l4, l5, l6, l6', l7, l7', ]
  first | done | rfl

theorem vA_v173 : runA.sl.v173 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) = co2 (row (i 1).val (acA 0 (i 1).val K V Q D L Δ zf)) := by
  delta runA.sl.v173
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, l2, l3, l4, l5, l6, l6', l7, l7', vA_m2 c i arg2 harg2 arg3 harg3 arg4 harg4 arg5 harg5 arg6 harg6 arg7 harg7 arg8 harg8 arg9 harg9 arg10 harg10 arg11 harg11 arg12 harg12 arg13 harg13 K V Q D L Δ]
  first | done | rfl

theorem vA_r_8 : runA.sl.r_8 (F := Ideal) c arg2 harg2 (co2 K) = co2 (mk (km 1) K) := by
  delta runA.sl.r_8
  simp only [mask42, mask43, mask47, mask48, vA_v74, vA_v75, pay39_co, pay40_co, vA_r, vA_r_1, vA_r_2, vA_r_3, vA_r_4, vA_r_5, vA_r_6, List.nil_append, pay60_co, Prod.mk.eta, vA_r_7, vA_v173, l2, l3, l4, l5, l6, l6', l7, l7', pay61_co]
  first | done | rfl

theorem vA_r_9 : runA.sl.r_9 (F := Ideal) c arg3 harg3 (co2 V) = co2 (mk (hm 1) V) := by
  delta runA.sl.r_9
  simp only [mask42, mask43, mask47, mask48, vA_v74, vA_v75, pay39_co, pay40_co, vA_r, vA_r_1, vA_r_2, vA_r_3, vA_r_4, vA_r_5, vA_r_6, List.nil_append, pay60_co, Prod.mk.eta, vA_r_7, vA_v173, vA_r_8, l2, l3, l4, l5, l6, l6', l7, l7', pay62_co]
  first | done | rfl

theorem vA_r_10 : runA.sl.r_10 (F := Ideal) c i arg2 harg2 arg3 harg3 arg4 harg4 (co2 K) (co2 V) (co2 Q) = co2 (mk (qm 1) (row (i 1).val Q)) := by
  delta runA.sl.r_10
  simp only [mask42, mask43, mask47, mask48, vA_v74, vA_v75, pay39_co, pay40_co, vA_r, vA_r_1, vA_r_2, vA_r_3, vA_r_4, vA_r_5, vA_r_6, List.nil_append, pay60_co, Prod.mk.eta, vA_r_7, vA_v173, vA_r_8, vA_r_9, l2, l3, l4, l5, l6, l6', l7, l7', pay65_co]
  first | done | rfl

theorem vA_r_11 : runA.sl.r_11 (F := Ideal) c i arg2 harg2 arg4 harg4 arg6 harg6 (co2 K) (co2 Q) (co4 L) = co2 (PDr (mk (km 1) K) (row (i 1).val Q) (ent (i 1).val (L 1))) := by
  delta runA.sl.r_11
  simp only [mask42, mask43, mask47, mask48, vA_v74, vA_v75, pay39_co, pay40_co, vA_r, vA_r_1, vA_r_2, vA_r_3, vA_r_4, vA_r_5, vA_r_6, List.nil_append, pay60_co, Prod.mk.eta, vA_r_7, vA_v173, vA_r_8, vA_r_9, vA_r_10, l2, l3, l4, l5, l6, l6', l7, l7', pay66_co]
  first | done | rfl

theorem vA_r_12 : runA.sl.r_12 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) = co2 (dvD 1 (i 1).val K Q D L (dvA 0 (i 1).val K Q D L zf)) := by
  delta runA.sl.r_12
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, vA_v173, vA_r_8, vA_r_9, vA_r_10, vA_r_11, l2, l3, l4, l5, l6, l6', l7, l7', pay67_co]
  first | done | rfl

theorem vA_r_13 : runA.sl.r_13 (F := Ideal) c i arg3 harg3 arg5 harg5 (co2 V) (co2 D) = co2 (DPr (mk (hm 1) V) (row (i 1).val D)) := by
  delta runA.sl.r_13
  simp only [mask42, mask43, mask47, mask48, vA_v74, vA_v75, pay39_co, pay40_co, vA_r, vA_r_1, vA_r_2, vA_r_3, vA_r_4, vA_r_5, vA_r_6, List.nil_append, pay60_co, Prod.mk.eta, vA_r_7, vA_v173, vA_r_8, vA_r_9, vA_r_10, vA_r_11, vA_r_12, l2, l3, l4, l5, l6, l6', l7, l7', pay68_co]
  first | done | rfl

theorem vA_f (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (k0_pay38 (F := Ideal))) (⟨Rect.unit (k0_off1 i) ![1024, 256] inb, co2 (acD 1 (i 1).val K V Q D L Δ (acA 0 (i 1).val K V Q D L Δ zf))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkF (i 1).val K V Q D L Δ), co2 (dvF (i 1).val K Q D L))
    ∧ arg13.view.read (Elt Ideal) (arg13.view.writes (Elt Ideal) (harg13.unread (k0_pay38 (F := Ideal))) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (k0_pay38 (F := Ideal))) (⟨Rect.unit (k0_off1 i) ![1024, 256] inb, co2 (acD 1 (i 1).val K V Q D L Δ (acA 0 (i 1).val K V Q D L Δ zf))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ (⟨Rect.unit (k0_off1 i) ![1024, 256] inb, co2 (acD 1 (i 1).val K V Q D L Δ (acA 0 (i 1).val K V Q D L Δ zf))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩])))) = co2 (acF (i 1).val K V Q D L Δ zf) := by
  refine loop3 c i arg2 harg2 arg3 harg3 arg4 harg4 arg5 harg5 arg6 harg6 arg7 harg7 arg8 harg8 arg9 harg9 arg10 harg10 arg11 harg11 arg12 harg12 arg13 harg13 K V Q D (acA 0 (i 1).val K V Q D L Δ zf) (dkA 0 (i 1).val K V Q D L Δ zf) (dvA 0 (i 1).val K Q D L zf) L Δ _ _ ?_
  refine stG i arg13.view _ _ _ _ ?_ inb
  have h := (vA_m c i arg2 harg2 arg3 harg3 arg4 harg4 arg5 harg5 arg6 harg6 arg7 harg7 arg8 harg8 arg9 harg9 arg10 harg10 arg11 harg11 arg12 harg12 arg13 harg13 K V Q D L Δ arg1' v4' v6' v37' v68' v73' v74' v75' v106' v116' v120' v125' inb).2
  with_reducible exact h

theorem vA_f1 (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (k0_pay38 (F := Ideal))) (⟨Rect.unit (k0_off1 i) ![1024, 256] inb, co2 (acD 1 (i 1).val K V Q D L Δ (acA 0 (i 1).val K V Q D L Δ zf))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkF (i 1).val K V Q D L Δ), co2 (dvF (i 1).val K Q D L)) := (vA_f c i arg2 harg2 arg3 harg3 arg4 harg4 arg5 harg5 arg6 harg6 arg7 harg7 arg8 harg8 arg9 harg9 arg10 harg10 arg11 harg11 arg12 harg12 arg13 harg13 K V Q D L Δ arg1' v4' v6' v37' v68' v73' v74' v75' v106' v116' v120' v125' arg1 v132_0 v138 v146 v158 v161 v162 v180 inb).1

theorem vA_f2 (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    arg13.view.read (Elt Ideal) (arg13.view.writes (Elt Ideal) (harg13.unread (k0_pay38 (F := Ideal))) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (k0_pay38 (F := Ideal))) (⟨Rect.unit (k0_off1 i) ![1024, 256] inb, co2 (acD 1 (i 1).val K V Q D L Δ (acA 0 (i 1).val K V Q D L Δ zf))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ (⟨Rect.unit (k0_off1 i) ![1024, 256] inb, co2 (acD 1 (i 1).val K V Q D L Δ (acA 0 (i 1).val K V Q D L Δ zf))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (k0_pay38 (F := Ideal))) [⟨Rect.unit (k0_off1 i) ![1024, 256] inb, co2 (acD 0 (i 1).val K V Q D L Δ zf)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ zf)⟩])))) = co2 (acF (i 1).val K V Q D L Δ zf) := (vA_f c i arg2 harg2 arg3 harg3 arg4 harg4 arg5 harg5 arg6 harg6 arg7 harg7 arg8 harg8 arg9 harg9 arg10 harg10 arg11 harg11 arg12 harg12 arg13 harg13 K V Q D L Δ arg1' v4' v6' v37' v68' v73' v74' v75' v106' v116' v120' v125' arg1 v132_0 v138 v146 v158 v161 v162 v180 inb).2

theorem vA_r_14 : runA.sl.r_14 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) = co2 (dvF (i 1).val K Q D L) := by
  delta runA.sl.r_14
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, vA_v173, vA_r_8, vA_r_9, vA_r_10, vA_r_11, vA_r_12, vA_r_13, pay70_dk, pay71_ac, l2, l3, l4, l5, l6, l6', l7, l7', vA_f1 c i arg2 harg2 arg3 harg3 arg4 harg4 arg5 harg5 arg6 harg6 arg7 harg7 arg8 harg8 arg9 harg9 arg10 harg10 arg11 harg11 arg12 harg12 arg13 harg13 K V Q D L Δ, pay74_co]
  first | done | rfl

theorem vA_acc (hc0 : first i) (hc1 : ¬last i) : arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ)).1 = co2 (acF (i 1).val K V Q D L Δ zf) := by
  unfold runA
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, vA_v173, vA_r_8, vA_r_9, vA_r_10, vA_r_11, vA_r_12, vA_r_13, pay70_dk, pay71_ac, vA_r_14, vA_f1 c i arg2 harg2 arg3 harg3 arg4 harg4 arg5 harg5 arg6 harg6 arg7 harg7 arg8 harg8 arg9 harg9 arg10 harg10 arg11 harg11 arg12 harg12 arg13 harg13 K V Q D L Δ, l2, l3, l4, l5, l6, l6', l7, l7', vA_f2 c i arg2 harg2 arg3 harg3 arg4 harg4 arg5 harg5 arg6 harg6 arg7 harg7 arg8 harg8 arg9 harg9 arg10 harg10 arg11 harg11 arg12 harg12 arg13 harg13 K V Q D L Δ]

theorem vA_10 (hc0 : first i) (hc1 : ¬last i) (f : BufTy.Contents (Elt Ideal) arg10.view.ty) : arg10.view.read (Elt Ideal) (arg10.view.writes (Elt Ideal) f (runA (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ)).2.1) = co2 (fun u x => dkF (i 1).val K V Q D L Δ u x * Real.log 2) := by
  unfold runA
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, vA_v173, vA_r_8, vA_r_9, vA_r_10, vA_r_11, vA_r_12, vA_r_13, pay70_dk, pay71_ac, vA_r_14, vA_f1 c i arg2 harg2 arg3 harg3 arg4 harg4 arg5 harg5 arg6 harg6 arg7 harg7 arg8 harg8 arg9 harg9 arg10 harg10 arg11 harg11 arg12 harg12 arg13 harg13 K V Q D L Δ, l2, l3, l4, l5, l6, l6', l7, l7', pay72_co]
  exact View.read_writes_full arg10.view f _ _ _

theorem vA_11 (hc0 : first i) (hc1 : ¬last i) (f : BufTy.Contents (Elt Ideal) arg11.view.ty) : arg11.view.read (Elt Ideal) (arg11.view.writes (Elt Ideal) f (runA (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ)).2.2.1) = fun i' : S1x1x16x1024.Idx => ((dkF (i 1).val K V Q D L Δ (i' 3).val (128 + (i' 2).val) : ℝ) : EReal) := by
  unfold runA
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, vA_v173, vA_r_8, vA_r_9, vA_r_10, vA_r_11, vA_r_12, vA_r_13, pay70_dk, pay71_ac, vA_r_14, vA_f1 c i arg2 harg2 arg3 harg3 arg4 harg4 arg5 harg5 arg6 harg6 arg7 harg7 arg8 harg8 arg9 harg9 arg10 harg10 arg11 harg11 arg12 harg12 arg13 harg13 K V Q D L Δ, l2, l3, l4, l5, l6, l6', l7, l7', pay73_co]
  exact View.read_writes_full arg11.view f _ _ _

theorem vA_12 (hc0 : first i) (hc1 : ¬last i) (f : BufTy.Contents (Elt Ideal) arg12.view.ty) : arg12.view.read (Elt Ideal) (arg12.view.writes (Elt Ideal) f (runA (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ)).2.2.2.1) = co2 (dvF (i 1).val K Q D L) := by
  unfold runA
  simp only [mask42, mask43, mask47, mask48, vA_v74, vA_v75, pay39_co, pay40_co, vA_r, vA_r_1, vA_r_2, vA_r_3, vA_r_4, vA_r_5, vA_r_6, vA_m1 c i arg2 harg2 arg3 harg3 arg4 harg4 arg5 harg5 arg6 harg6 arg7 harg7 arg8 harg8 arg9 harg9 arg10 harg10 arg11 harg11 arg12 harg12 arg13 harg13 K V Q D L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vA_r_7, vA_v173, vA_r_8, vA_r_9, vA_r_10, vA_r_11, vA_r_12, vA_r_13, pay70_dk, pay71_ac, vA_r_14, vA_f1 c i arg2 harg2 arg3 harg3 arg4 harg4 arg5 harg5 arg6 harg6 arg7 harg7 arg8 harg8 arg9 harg9 arg10 harg10 arg11 harg11 arg12 harg12 arg13 harg13 K V Q D L Δ, l2, l3, l4, l5, l6, l6', l7, l7', vA_r_14]
  exact View.read_writes_full arg12.view f _ _ _

end

end Cert.KernelIdeal.Fox

end
-- ==== Proof.PointB.lean ====
/- The values at a key tile that is neither the first nor the last of its pair. -/
module

public import proofs.«01_k».proof.Proof.Core
public import proofs.«01_k».proof.Proof.RunB

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

section

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole)
  (K V Q D A : ℕ → ℕ → ℝ) (L Δ : ℕ → ℕ → ℝ)

theorem vB_v74 : runB.sl.v74 = io0 := rfl

theorem vB_v75 : runB.sl.v75 = io1 := rfl

theorem vB_r : runB.sl.r (F := Ideal) c arg2 harg2 (co2 K) = co2 K := by
  delta runB.sl.r
  simp only [mask42, mask43, mask47, mask48, vB_v74, vB_v75, l2, l3, l4, l5, l6, l6', l7, l7', pay39_co]
  first | done | rfl

theorem vB_r_1 : runB.sl.r_1 (F := Ideal) c arg3 harg3 (co2 V) = co2 V := by
  delta runB.sl.r_1
  simp only [mask42, mask43, mask47, mask48, vB_v74, vB_v75, vB_r, l2, l3, l4, l5, l6, l6', l7, l7', pay40_co]
  first | done | rfl

theorem vB_r_2 : runB.sl.r_2  = maskL (qm 0) := mask45

theorem vB_r_3 : runB.sl.r_3  = maskL (qm 1) := mask46

theorem vB_r_4 : runB.sl.r_4 (F := Ideal) c arg2 harg2 (co2 K) = co2 (mk (km 0) K) := by
  delta runB.sl.r_4
  simp only [mask42, mask43, mask47, mask48, vB_v74, vB_v75, vB_r, vB_r_1, pay39_co, pay40_co, vB_r_2, vB_r_3, l2, l3, l4, l5, l6, l6', l7, l7', pay51_co]
  first | done | rfl

theorem vB_r_5 : runB.sl.r_5 (F := Ideal) c arg3 harg3 (co2 V) = co2 (mk (hm 0) V) := by
  delta runB.sl.r_5
  simp only [mask42, mask43, mask47, mask48, vB_v74, vB_v75, vB_r, vB_r_1, pay39_co, pay40_co, vB_r_2, vB_r_3, vB_r_4, l2, l3, l4, l5, l6, l6', l7, l7', pay52_co]
  first | done | rfl

theorem vB_r_6 : runB.sl.r_6 (F := Ideal) c i arg2 harg2 arg4 harg4 arg5 harg5 arg6 harg6 (co2 K) (co2 Q) (co2 D) (co4 L) = co2 (dvD 0 (i 1).val K Q D L zf) := by
  delta runB.sl.r_6
  simp only [mask42, mask43, mask47, mask48, vB_v74, vB_v75, vB_r, vB_r_1, pay39_co, pay40_co, vB_r_2, vB_r_3, vB_r_4, vB_r_5, l2, l3, l4, l5, l6, l6', l7, l7', pay50_co, pay56_co]
  first | done | rfl

theorem vB_r_7 : runB.sl.r_7 (F := Ideal) c i arg2 harg2 arg3 harg3 arg4 harg4 arg5 harg5 arg6 harg6 arg7 harg7 (co2 K) (co2 V) (co2 Q) (co2 D) (co4 L) (co4 Δ) = co2 (dkD 0 (i 1).val K V Q D L Δ zf) := by
  delta runB.sl.r_7
  simp only [mask42, mask43, mask47, mask48, vB_v74, vB_v75, vB_r, vB_r_1, pay39_co, pay40_co, vB_r_2, vB_r_3, vB_r_4, vB_r_5, vB_r_6, l2, l3, l4, l5, l6, l6', l7, l7', pay49_co, pay58_co]
  first | done | rfl

theorem vB_r_8 : runB.sl.r_8 (F := Ideal) c i arg2 harg2 arg3 harg3 arg4 harg4 arg5 harg5 arg6 harg6 arg7 harg7 arg13 harg13 (co2 K) (co2 V) (co2 Q) (co2 D) (co4 L) (co4 Δ) (co2 A) = co2 (acD 0 (i 1).val K V Q D L Δ A) := by
  delta runB.sl.r_8
  simp only [mask42, mask43, mask47, mask48, vB_v74, vB_v75, vB_r, vB_r_1, pay39_co, pay40_co, vB_r_2, vB_r_3, vB_r_4, vB_r_5, vB_r_6, vB_r_7, l2, l3, l4, l5, l6, l6', l7, l7', l13, pay59_co]
  first | done | rfl

theorem vB_m (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ zf), co2 (dvA 0 (i 1).val K Q D L zf))
    ∧ arg13.view.read (Elt Ideal) (arg13.view.writes (Elt Ideal) (harg13.unread (co2 A)) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])) = co2 (acA 0 (i 1).val K V Q D L Δ A) :=
  loop1 c i arg2 harg2 arg3 harg3 arg4 harg4 arg5 harg5 arg6 harg6 arg7 harg7 arg8 harg8 arg9 harg9 arg10 harg10 arg11 harg11 arg12 harg12 arg13 harg13 K V Q D A zf zf L Δ (harg13.unread (co2 A)) [⟨Rect.unit (k0_off1 i) ![1024, 256] inb, co2 (acD 0 (i 1).val K V Q D L Δ A)⟩] (stA arg13.view (harg13.unread (co2 A)) A (acD 0 (i 1).val K V Q D L Δ A) [] (harg13.read_unread _) _ _ (off1_eq i) inb _ rfl)

theorem vB_m1 (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ zf), co2 (dvA 0 (i 1).val K Q D L zf)) := (vB_m c i arg2 harg2 arg3 harg3 arg4 harg4 arg5 harg5 arg6 harg6 arg7 harg7 arg8 harg8 arg9 harg9 arg10 harg10 arg11 harg11 arg12 harg12 arg13 harg13 K V Q D A L Δ arg1 v4 v6 v37 v68 v73 v74 v75 v106 v116 v120 v125 inb).1

theorem vB_m2 (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    arg13.view.readAt (Elt Ideal) (Rect.unit (s := S8192x256) (k0_off1 i) ![1024, 256] inb).toLoadRect (arg13.view.writes (Elt Ideal) (harg13.unread (co2 A)) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])) = co2 (row (i 1).val (acA 0 (i 1).val K V Q D L Δ A)) :=
  ldA arg13.view _ _ (vB_m c i arg2 harg2 arg3 harg3 arg4 harg4 arg5 harg5 arg6 harg6 arg7 harg7 arg8 harg8 arg9 harg9 arg10 harg10 arg11 harg11 arg12 harg12 arg13 harg13 K V Q D A L Δ arg1 v4 v6 v37 v68 v73 v74 v75 v106 v116 v120 v125 inb).2 _ _ (off1_eq i) inb

theorem vB_r_9 : runB.sl.r_9 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (dkA 0 (i 1).val K V Q D L Δ zf) := by
  delta runB.sl.r_9
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, l2, l3, l4, l5, l6, l6', l7, l7', ]
  first | done | rfl

theorem vB_v173 : runB.sl.v173 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (row (i 1).val (acA 0 (i 1).val K V Q D L Δ A)) := by
  delta runB.sl.v173
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, l2, l3, l4, l5, l6, l6', l7, l7', vB_m2 c i arg2 harg2 arg3 harg3 arg4 harg4 arg5 harg5 arg6 harg6 arg7 harg7 arg8 harg8 arg9 harg9 arg10 harg10 arg11 harg11 arg12 harg12 arg13 harg13 K V Q D A L Δ]
  first | done | rfl

theorem vB_r_10 : runB.sl.r_10 (F := Ideal) c arg2 harg2 (co2 K) = co2 (mk (km 1) K) := by
  delta runB.sl.r_10
  simp only [mask42, mask43, mask47, mask48, vB_v74, vB_v75, vB_r, vB_r_1, pay39_co, pay40_co, vB_r_2, vB_r_3, vB_r_4, vB_r_5, vB_r_6, vB_r_7, vB_r_8, List.nil_append, pay60_co, Prod.mk.eta, vB_r_9, vB_v173, l2, l3, l4, l5, l6, l6', l7, l7', pay61_co]
  first | done | rfl

theorem vB_r_11 : runB.sl.r_11 (F := Ideal) c arg3 harg3 (co2 V) = co2 (mk (hm 1) V) := by
  delta runB.sl.r_11
  simp only [mask42, mask43, mask47, mask48, vB_v74, vB_v75, vB_r, vB_r_1, pay39_co, pay40_co, vB_r_2, vB_r_3, vB_r_4, vB_r_5, vB_r_6, vB_r_7, vB_r_8, List.nil_append, pay60_co, Prod.mk.eta, vB_r_9, vB_v173, vB_r_10, l2, l3, l4, l5, l6, l6', l7, l7', pay62_co]
  first | done | rfl

theorem vB_r_12 : runB.sl.r_12 (F := Ideal) i arg4 harg4 (co2 Q) = co2 (mk (qm 1) (row (i 1).val Q)) := by
  delta runB.sl.r_12
  simp only [mask42, mask43, mask47, mask48, vB_v74, vB_v75, vB_r, vB_r_1, pay39_co, pay40_co, vB_r_2, vB_r_3, vB_r_4, vB_r_5, vB_r_6, vB_r_7, vB_r_8, List.nil_append, pay60_co, Prod.mk.eta, vB_r_9, vB_v173, vB_r_10, vB_r_11, l2, l3, l4, l5, l6, l6', l7, l7', pay65_co]
  first | done | rfl

theorem vB_r_13 : runB.sl.r_13 (F := Ideal) c i arg2 harg2 arg4 harg4 arg6 harg6 (co2 K) (co2 Q) (co4 L) = co2 (PDr (mk (km 1) K) (row (i 1).val Q) (ent (i 1).val (L 1))) := by
  delta runB.sl.r_13
  simp only [mask42, mask43, mask47, mask48, vB_v74, vB_v75, vB_r, vB_r_1, pay39_co, pay40_co, vB_r_2, vB_r_3, vB_r_4, vB_r_5, vB_r_6, vB_r_7, vB_r_8, List.nil_append, pay60_co, Prod.mk.eta, vB_r_9, vB_v173, vB_r_10, vB_r_11, vB_r_12, l2, l3, l4, l5, l6, l6', l7, l7', pay66_co]
  first | done | rfl

theorem vB_r_14 : runB.sl.r_14 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (dvD 1 (i 1).val K Q D L (dvA 0 (i 1).val K Q D L zf)) := by
  delta runB.sl.r_14
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, vB_v173, vB_r_10, vB_r_11, vB_r_12, vB_r_13, l2, l3, l4, l5, l6, l6', l7, l7', pay67_co]
  first | done | rfl

theorem vB_r_15 : runB.sl.r_15 (F := Ideal) c i arg3 harg3 arg5 harg5 (co2 V) (co2 D) = co2 (DPr (mk (hm 1) V) (row (i 1).val D)) := by
  delta runB.sl.r_15
  simp only [mask42, mask43, mask47, mask48, vB_v74, vB_v75, vB_r, vB_r_1, pay39_co, pay40_co, vB_r_2, vB_r_3, vB_r_4, vB_r_5, vB_r_6, vB_r_7, vB_r_8, List.nil_append, pay60_co, Prod.mk.eta, vB_r_9, vB_v173, vB_r_10, vB_r_11, vB_r_12, vB_r_13, vB_r_14, l2, l3, l4, l5, l6, l6', l7, l7', pay68_co]
  first | done | rfl

theorem vB_f (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkF (i 1).val K V Q D L Δ), co2 (dvF (i 1).val K Q D L))
    ∧ arg13.view.read (Elt Ideal) (arg13.view.writes (Elt Ideal) (harg13.unread (co2 A)) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])))) = co2 (acF (i 1).val K V Q D L Δ A) := by
  refine loop3 c i arg2 harg2 arg3 harg3 arg4 harg4 arg5 harg5 arg6 harg6 arg7 harg7 arg8 harg8 arg9 harg9 arg10 harg10 arg11 harg11 arg12 harg12 arg13 harg13 K V Q D (acA 0 (i 1).val K V Q D L Δ A) (dkA 0 (i 1).val K V Q D L Δ zf) (dvA 0 (i 1).val K Q D L zf) L Δ _ _ ?_
  refine stG i arg13.view _ _ _ _ ?_ inb
  have h := (vB_m c i arg2 harg2 arg3 harg3 arg4 harg4 arg5 harg5 arg6 harg6 arg7 harg7 arg8 harg8 arg9 harg9 arg10 harg10 arg11 harg11 arg12 harg12 arg13 harg13 K V Q D A L Δ arg1' v4' v6' v37' v68' v73' v74' v75' v106' v116' v120' v125' inb).2
  with_reducible exact h

theorem vB_f1 (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkF (i 1).val K V Q D L Δ), co2 (dvF (i 1).val K Q D L)) := (vB_f c i arg2 harg2 arg3 harg3 arg4 harg4 arg5 harg5 arg6 harg6 arg7 harg7 arg8 harg8 arg9 harg9 arg10 harg10 arg11 harg11 arg12 harg12 arg13 harg13 K V Q D A L Δ arg1' v4' v6' v37' v68' v73' v74' v75' v106' v116' v120' v125' arg1 v132_0 v138 v146 v158 v161 v162 v180 inb).1

theorem vB_f2 (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    arg13.view.read (Elt Ideal) (arg13.view.writes (Elt Ideal) (harg13.unread (co2 A)) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])))) = co2 (acF (i 1).val K V Q D L Δ A) := (vB_f c i arg2 harg2 arg3 harg3 arg4 harg4 arg5 harg5 arg6 harg6 arg7 harg7 arg8 harg8 arg9 harg9 arg10 harg10 arg11 harg11 arg12 harg12 arg13 harg13 K V Q D A L Δ arg1' v4' v6' v37' v68' v73' v74' v75' v106' v116' v120' v125' arg1 v132_0 v138 v146 v158 v161 v162 v180 inb).2

theorem vB_r_16 : runB.sl.r_16 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (dvF (i 1).val K Q D L) := by
  delta runB.sl.r_16
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, vB_v173, vB_r_10, vB_r_11, vB_r_12, vB_r_13, vB_r_14, vB_r_15, pay70_dk, pay71_ac, l2, l3, l4, l5, l6, l6', l7, l7', vB_f1 c i arg2 harg2 arg3 harg3 arg4 harg4 arg5 harg5 arg6 harg6 arg7 harg7 arg8 harg8 arg9 harg9 arg10 harg10 arg11 harg11 arg12 harg12 arg13 harg13 K V Q D A L Δ, pay74_co]
  first | done | rfl

theorem vB_acc (hc0 : ¬first i) (hc1 : ¬last i) : arg13.view.read (Elt Ideal) (runB (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).1 = co2 (acF (i 1).val K V Q D L Δ A) := by
  unfold runB
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, vB_v173, vB_r_10, vB_r_11, vB_r_12, vB_r_13, vB_r_14, vB_r_15, pay70_dk, pay71_ac, vB_r_16, vB_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', vB_f2 c i arg2 harg2 arg3 harg3 arg4 harg4 arg5 harg5 arg6 harg6 arg7 harg7 arg8 harg8 arg9 harg9 arg10 harg10 arg11 harg11 arg12 harg12 arg13 harg13 K V Q D A L Δ]

theorem vB_10 (hc0 : ¬first i) (hc1 : ¬last i) (f : BufTy.Contents (Elt Ideal) arg10.view.ty) : arg10.view.read (Elt Ideal) (arg10.view.writes (Elt Ideal) f (runB (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.1) = co2 (fun u x => dkF (i 1).val K V Q D L Δ u x * Real.log 2) := by
  unfold runB
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, vB_v173, vB_r_10, vB_r_11, vB_r_12, vB_r_13, vB_r_14, vB_r_15, pay70_dk, pay71_ac, vB_r_16, vB_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', pay72_co]
  exact View.read_writes_full arg10.view f _ _ _

theorem vB_11 (hc0 : ¬first i) (hc1 : ¬last i) (f : BufTy.Contents (Elt Ideal) arg11.view.ty) : arg11.view.read (Elt Ideal) (arg11.view.writes (Elt Ideal) f (runB (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.1) = fun i' : S1x1x16x1024.Idx => ((dkF (i 1).val K V Q D L Δ (i' 3).val (128 + (i' 2).val) : ℝ) : EReal) := by
  unfold runB
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, vB_v173, vB_r_10, vB_r_11, vB_r_12, vB_r_13, vB_r_14, vB_r_15, pay70_dk, pay71_ac, vB_r_16, vB_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', pay73_co]
  exact View.read_writes_full arg11.view f _ _ _

theorem vB_12 (hc0 : ¬first i) (hc1 : ¬last i) (f : BufTy.Contents (Elt Ideal) arg12.view.ty) : arg12.view.read (Elt Ideal) (arg12.view.writes (Elt Ideal) f (runB (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.2.1) = co2 (dvF (i 1).val K Q D L) := by
  unfold runB
  simp only [mask42, mask43, mask47, mask48, vB_v74, vB_v75, vB_r, vB_r_1, pay39_co, pay40_co, vB_r_2, vB_r_3, vB_r_4, vB_r_5, vB_r_6, vB_r_7, vB_r_8, vB_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vB_r_9, vB_v173, vB_r_10, vB_r_11, vB_r_12, vB_r_13, vB_r_14, vB_r_15, pay70_dk, pay71_ac, vB_r_16, vB_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', vB_r_16]
  exact View.read_writes_full arg12.view f _ _ _

end

end Cert.KernelIdeal.Fox

end
-- ==== Proof.PointC.lean ====
/- The values at a pair's last key tile, where the query gradient is stored. -/
module

public import proofs.«01_k».proof.Proof.Core
public import proofs.«01_k».proof.Proof.RunC

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

section

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole)
  (K V Q D A : ℕ → ℕ → ℝ) (L Δ : ℕ → ℕ → ℝ)

theorem vC_v74 : runC.sl.v74 = io0 := rfl

theorem vC_v75 : runC.sl.v75 = io1 := rfl

theorem vC_r : runC.sl.r (F := Ideal) c arg2 harg2 (co2 K) = co2 K := by
  delta runC.sl.r
  simp only [mask42, mask43, mask47, mask48, vC_v74, vC_v75, l2, l3, l4, l5, l6, l6', l7, l7', pay39_co]
  first | done | rfl

theorem vC_r_1 : runC.sl.r_1 (F := Ideal) c arg3 harg3 (co2 V) = co2 V := by
  delta runC.sl.r_1
  simp only [mask42, mask43, mask47, mask48, vC_v74, vC_v75, vC_r, l2, l3, l4, l5, l6, l6', l7, l7', pay40_co]
  first | done | rfl

theorem vC_r_2 : runC.sl.r_2  = maskL (qm 0) := mask45

theorem vC_r_3 : runC.sl.r_3  = maskL (qm 1) := mask46

theorem vC_r_4 : runC.sl.r_4 (F := Ideal) c arg2 harg2 (co2 K) = co2 (mk (km 0) K) := by
  delta runC.sl.r_4
  simp only [mask42, mask43, mask47, mask48, vC_v74, vC_v75, vC_r, vC_r_1, pay39_co, pay40_co, vC_r_2, vC_r_3, l2, l3, l4, l5, l6, l6', l7, l7', pay51_co]
  first | done | rfl

theorem vC_r_5 : runC.sl.r_5 (F := Ideal) c arg3 harg3 (co2 V) = co2 (mk (hm 0) V) := by
  delta runC.sl.r_5
  simp only [mask42, mask43, mask47, mask48, vC_v74, vC_v75, vC_r, vC_r_1, pay39_co, pay40_co, vC_r_2, vC_r_3, vC_r_4, l2, l3, l4, l5, l6, l6', l7, l7', pay52_co]
  first | done | rfl

theorem vC_r_6 : runC.sl.r_6 (F := Ideal) c i arg2 harg2 arg4 harg4 arg5 harg5 arg6 harg6 (co2 K) (co2 Q) (co2 D) (co4 L) = co2 (dvD 0 (i 1).val K Q D L zf) := by
  delta runC.sl.r_6
  simp only [mask42, mask43, mask47, mask48, vC_v74, vC_v75, vC_r, vC_r_1, pay39_co, pay40_co, vC_r_2, vC_r_3, vC_r_4, vC_r_5, l2, l3, l4, l5, l6, l6', l7, l7', pay50_co, pay56_co]
  first | done | rfl

theorem vC_r_7 : runC.sl.r_7 (F := Ideal) c i arg2 harg2 arg3 harg3 arg4 harg4 arg5 harg5 arg6 harg6 arg7 harg7 (co2 K) (co2 V) (co2 Q) (co2 D) (co4 L) (co4 Δ) = co2 (dkD 0 (i 1).val K V Q D L Δ zf) := by
  delta runC.sl.r_7
  simp only [mask42, mask43, mask47, mask48, vC_v74, vC_v75, vC_r, vC_r_1, pay39_co, pay40_co, vC_r_2, vC_r_3, vC_r_4, vC_r_5, vC_r_6, l2, l3, l4, l5, l6, l6', l7, l7', pay49_co, pay58_co]
  first | done | rfl

theorem vC_r_8 : runC.sl.r_8 (F := Ideal) c i arg2 harg2 arg3 harg3 arg4 harg4 arg5 harg5 arg6 harg6 arg7 harg7 arg13 harg13 (co2 K) (co2 V) (co2 Q) (co2 D) (co4 L) (co4 Δ) (co2 A) = co2 (acD 0 (i 1).val K V Q D L Δ A) := by
  delta runC.sl.r_8
  simp only [mask42, mask43, mask47, mask48, vC_v74, vC_v75, vC_r, vC_r_1, pay39_co, pay40_co, vC_r_2, vC_r_3, vC_r_4, vC_r_5, vC_r_6, vC_r_7, l2, l3, l4, l5, l6, l6', l7, l7', l13, pay59_co]
  first | done | rfl

theorem vC_m (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ zf), co2 (dvA 0 (i 1).val K Q D L zf))
    ∧ arg13.view.read (Elt Ideal) (arg13.view.writes (Elt Ideal) (harg13.unread (co2 A)) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])) = co2 (acA 0 (i 1).val K V Q D L Δ A) :=
  loop1 c i arg2 harg2 arg3 harg3 arg4 harg4 arg5 harg5 arg6 harg6 arg7 harg7 arg8 harg8 arg9 harg9 arg10 harg10 arg11 harg11 arg12 harg12 arg13 harg13 K V Q D A zf zf L Δ (harg13.unread (co2 A)) [⟨Rect.unit (k0_off1 i) ![1024, 256] inb, co2 (acD 0 (i 1).val K V Q D L Δ A)⟩] (stA arg13.view (harg13.unread (co2 A)) A (acD 0 (i 1).val K V Q D L Δ A) [] (harg13.read_unread _) _ _ (off1_eq i) inb _ rfl)

theorem vC_m1 (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    (st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkA 0 (i 1).val K V Q D L Δ zf), co2 (dvA 0 (i 1).val K Q D L zf)) := (vC_m c i arg2 harg2 arg3 harg3 arg4 harg4 arg5 harg5 arg6 harg6 arg7 harg7 arg8 harg8 arg9 harg9 arg10 harg10 arg11 harg11 arg12 harg12 arg13 harg13 K V Q D A L Δ arg1 v4 v6 v37 v68 v73 v74 v75 v106 v116 v120 v125 inb).1

theorem vC_m2 (arg1 : BitVec 32) (v4 : FVec Ideal S1024x256 .bf16) (v6 : FVec Ideal S1024x128 .bf16) (v37 v68 : IVec S1024x256 1) (v73 : IVec S1024x128 1) (v74 v75 : IVec S1024x1024 32) (v106 : FVec Ideal S1024x128 .f32) (v116 v120 : FVec Ideal S1024x256 .f32) (v125 : BitVec 32) (inb : ∀ a, k0_off1 i a + (![1024, 256] : Fin 2 → ℕ) a ≤ S8192x256.size a) :
    arg13.view.readAt (Elt Ideal) (Rect.unit (s := S8192x256) (k0_off1 i) ![1024, 256] inb).toLoadRect (arg13.view.writes (Elt Ideal) (harg13.unread (co2 A)) ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1 v4 v6 v37 (maskL (qm 0)) v68 (maskL (hm 0)) v73 v74 v75 (co2 (mk (km 0) K)) (co2 (mk (hm 0) V)) v106 v116 v120 v125 (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])) = co2 (row (i 1).val (acA 0 (i 1).val K V Q D L Δ A)) :=
  ldA arg13.view _ _ (vC_m c i arg2 harg2 arg3 harg3 arg4 harg4 arg5 harg5 arg6 harg6 arg7 harg7 arg8 harg8 arg9 harg9 arg10 harg10 arg11 harg11 arg12 harg12 arg13 harg13 K V Q D A L Δ arg1 v4 v6 v37 v68 v73 v74 v75 v106 v116 v120 v125 inb).2 _ _ (off1_eq i) inb

theorem vC_r_9 : runC.sl.r_9 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (dkA 0 (i 1).val K V Q D L Δ zf) := by
  delta runC.sl.r_9
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, l2, l3, l4, l5, l6, l6', l7, l7', ]
  first | done | rfl

theorem vC_v173 : runC.sl.v173 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (row (i 1).val (acA 0 (i 1).val K V Q D L Δ A)) := by
  delta runC.sl.v173
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, l2, l3, l4, l5, l6, l6', l7, l7', vC_m2 c i arg2 harg2 arg3 harg3 arg4 harg4 arg5 harg5 arg6 harg6 arg7 harg7 arg8 harg8 arg9 harg9 arg10 harg10 arg11 harg11 arg12 harg12 arg13 harg13 K V Q D A L Δ]
  first | done | rfl

theorem vC_r_10 : runC.sl.r_10 (F := Ideal) c arg2 harg2 (co2 K) = co2 (mk (km 1) K) := by
  delta runC.sl.r_10
  simp only [mask42, mask43, mask47, mask48, vC_v74, vC_v75, vC_r, vC_r_1, pay39_co, pay40_co, vC_r_2, vC_r_3, vC_r_4, vC_r_5, vC_r_6, vC_r_7, vC_r_8, List.nil_append, pay60_co, Prod.mk.eta, vC_r_9, vC_v173, l2, l3, l4, l5, l6, l6', l7, l7', pay61_co]
  first | done | rfl

theorem vC_r_11 : runC.sl.r_11 (F := Ideal) c arg3 harg3 (co2 V) = co2 (mk (hm 1) V) := by
  delta runC.sl.r_11
  simp only [mask42, mask43, mask47, mask48, vC_v74, vC_v75, vC_r, vC_r_1, pay39_co, pay40_co, vC_r_2, vC_r_3, vC_r_4, vC_r_5, vC_r_6, vC_r_7, vC_r_8, List.nil_append, pay60_co, Prod.mk.eta, vC_r_9, vC_v173, vC_r_10, l2, l3, l4, l5, l6, l6', l7, l7', pay62_co]
  first | done | rfl

theorem vC_r_12 : runC.sl.r_12 (F := Ideal) i arg4 harg4 (co2 Q) = co2 (mk (qm 1) (row (i 1).val Q)) := by
  delta runC.sl.r_12
  simp only [mask42, mask43, mask47, mask48, vC_v74, vC_v75, vC_r, vC_r_1, pay39_co, pay40_co, vC_r_2, vC_r_3, vC_r_4, vC_r_5, vC_r_6, vC_r_7, vC_r_8, List.nil_append, pay60_co, Prod.mk.eta, vC_r_9, vC_v173, vC_r_10, vC_r_11, l2, l3, l4, l5, l6, l6', l7, l7', pay65_co]
  first | done | rfl

theorem vC_r_13 : runC.sl.r_13 (F := Ideal) c i arg2 harg2 arg4 harg4 arg6 harg6 (co2 K) (co2 Q) (co4 L) = co2 (PDr (mk (km 1) K) (row (i 1).val Q) (ent (i 1).val (L 1))) := by
  delta runC.sl.r_13
  simp only [mask42, mask43, mask47, mask48, vC_v74, vC_v75, vC_r, vC_r_1, pay39_co, pay40_co, vC_r_2, vC_r_3, vC_r_4, vC_r_5, vC_r_6, vC_r_7, vC_r_8, List.nil_append, pay60_co, Prod.mk.eta, vC_r_9, vC_v173, vC_r_10, vC_r_11, vC_r_12, l2, l3, l4, l5, l6, l6', l7, l7', pay66_co]
  first | done | rfl

theorem vC_r_14 : runC.sl.r_14 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (dvD 1 (i 1).val K Q D L (dvA 0 (i 1).val K Q D L zf)) := by
  delta runC.sl.r_14
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, l2, l3, l4, l5, l6, l6', l7, l7', pay67_co]
  first | done | rfl

theorem vC_r_15 : runC.sl.r_15 (F := Ideal) c i arg3 harg3 arg5 harg5 (co2 V) (co2 D) = co2 (DPr (mk (hm 1) V) (row (i 1).val D)) := by
  delta runC.sl.r_15
  simp only [mask42, mask43, mask47, mask48, vC_v74, vC_v75, vC_r, vC_r_1, pay39_co, pay40_co, vC_r_2, vC_r_3, vC_r_4, vC_r_5, vC_r_6, vC_r_7, vC_r_8, List.nil_append, pay60_co, Prod.mk.eta, vC_r_9, vC_v173, vC_r_10, vC_r_11, vC_r_12, vC_r_13, vC_r_14, l2, l3, l4, l5, l6, l6', l7, l7', pay68_co]
  first | done | rfl

theorem vC_f (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkF (i 1).val K V Q D L Δ), co2 (dvF (i 1).val K Q D L))
    ∧ arg13.view.read (Elt Ideal) (arg13.view.writes (Elt Ideal) (harg13.unread (co2 A)) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])))) = co2 (acF (i 1).val K V Q D L Δ A) := by
  refine loop3 c i arg2 harg2 arg3 harg3 arg4 harg4 arg5 harg5 arg6 harg6 arg7 harg7 arg8 harg8 arg9 harg9 arg10 harg10 arg11 harg11 arg12 harg12 arg13 harg13 K V Q D (acA 0 (i 1).val K V Q D L Δ A) (dkA 0 (i 1).val K V Q D L Δ zf) (dvA 0 (i 1).val K Q D L zf) L Δ _ _ ?_
  refine stG i arg13.view _ _ _ _ ?_ inb
  have h := (vC_m c i arg2 harg2 arg3 harg3 arg4 harg4 arg5 harg5 arg6 harg6 arg7 harg7 arg8 harg8 arg9 harg9 arg10 harg10 arg11 harg11 arg12 harg12 arg13 harg13 K V Q D A L Δ arg1' v4' v6' v37' v68' v73' v74' v75' v106' v116' v120' v125' inb).2
  with_reducible exact h

theorem vC_f1 (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    (st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).1 = (co2 (dkF (i 1).val K V Q D L Δ), co2 (dvF (i 1).val K Q D L)) := (vC_f c i arg2 harg2 arg3 harg3 arg4 harg4 arg5 harg5 arg6 harg6 arg7 harg7 arg8 harg8 arg9 harg9 arg10 harg10 arg11 harg11 arg12 harg12 arg13 harg13 K V Q D A L Δ arg1' v4' v6' v37' v68' v73' v74' v75' v106' v116' v120' v125' arg1 v132_0 v138 v146 v158 v161 v162 v180 inb).1

theorem vC_f2 (arg1' : BitVec 32) (v4' : FVec Ideal S1024x256 .bf16) (v6' : FVec Ideal S1024x128 .bf16) (v37' v68' : IVec S1024x256 1) (v73' : IVec S1024x128 1) (v74' v75' : IVec S1024x1024 32) (v106' : FVec Ideal S1024x128 .f32) (v116' v120' : FVec Ideal S1024x256 .f32) (v125' : BitVec 32) (arg1 : BitVec 32) (v132_0 : FVec Ideal S1024x256 .f32) (v138 : BitVec 32) (v146 : FVec Ideal S1024x256 .bf16) (v158 : FVec Ideal S1024x1024 .f32) (v161 : FVec Ideal S1024x128 .f32) (v162 : FVec Ideal S1024x1024 .f32) (v180 : BitVec 32) (inb : ∀ a, k0_off1 i a + (![1024, 256] : Fin 2 → ℕ) a ≤ S8192x256.size a) :
    arg13.view.read (Elt Ideal) (arg13.view.writes (Elt Ideal) (harg13.unread (co2 A)) ((st_k0_t3 (F := Ideal) Variants.none c none i arg2 harg2 arg3 harg3 arg4 harg4 arg5 harg5 arg6 harg6 arg7 harg7 arg8 harg8 arg9 harg9 arg10 harg10 arg11 harg11 arg12 harg12 arg13 harg13 arg1 (maskL (qm 1)) (maskL (hm 1)) v132_0 (co2 (mk (km 1) K)) (co2 (mk (hm 1) V)) v138 v146 v158 v161 v162 v180 (harg4.unread (co2 Q)) (harg5.unread (co2 D)) (harg6.unread (co4 L)) (harg7.unread (co4 Δ)) (arg13.view.writes (Elt Ideal) (harg13.unread (co2 A)) (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩]))) (co2 (dkD 1 (i 1).val K V Q D L Δ (dkA 0 (i 1).val K V Q D L Δ zf)), co2 (dvD 1 (i 1).val K Q D L (dvA 0 (i 1).val K Q D L zf))) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ (⟨Rect.unit (k0_off1 i) ![1024, 256] inb, co2 (acD 1 (i 1).val K V Q D L Δ (acA 0 (i 1).val K V Q D L Δ A))⟩ :: ((st_k0_t1 (F := Ideal) Variants.none c none i arg2 harg2 arg3 harg3 arg4 harg4 arg5 harg5 arg6 harg6 arg7 harg7 arg8 harg8 arg9 harg9 arg10 harg10 arg11 harg11 arg12 harg12 arg13 harg13 arg1' v4' v6' v37' (maskL (qm 0)) v68' (maskL (hm 0)) v73' v74' v75' (co2 (mk (km 0) K)) (co2 (mk (hm 0) V)) v106' v116' v120' v125' (harg4.unread (co2 Q)) (harg5.unread (co2 D)) (harg6.unread (co4 L)) (harg7.unread (co4 Δ)) (arg13.view.writes (Elt Ideal) (harg13.unread (co2 A)) [⟨Rect.unit (k0_off1 i) ![1024, 256] inb, co2 (acD 0 (i 1).val K V Q D L Δ A)⟩]) (co2 (dkD 0 (i 1).val K V Q D L Δ zf), co2 (dvD 0 (i 1).val K Q D L zf)) (Scf.trips (Scalar.addi (BitVec.ofNat 32 (i 1).val) 1#32) (Scalar.addi (Scalar.addi (BitVec.ofNat 32 (i 1).val) 1#32) (Scalar.muli (Scalar.divsi (Scalar.subi 8#32 (Scalar.addi (BitVec.ofNat 32 (i 1).val) 1#32)) 1#32) 1#32)) 1#32)).2 ++ [⟨Rect.unit (k0_off1 i) ![1024, 256] inb, co2 (acD 0 (i 1).val K V Q D L Δ A)⟩])))) = co2 (acF (i 1).val K V Q D L Δ A) := (vC_f c i arg2 harg2 arg3 harg3 arg4 harg4 arg5 harg5 arg6 harg6 arg7 harg7 arg8 harg8 arg9 harg9 arg10 harg10 arg11 harg11 arg12 harg12 arg13 harg13 K V Q D A L Δ arg1' v4' v6' v37' v68' v73' v74' v75' v106' v116' v120' v125' arg1 v132_0 v138 v146 v158 v161 v162 v180 inb).2

theorem vC_r_16 : runC.sl.r_16 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (dvF (i 1).val K Q D L) := by
  delta runC.sl.r_16
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, l2, l3, l4, l5, l6, l6', l7, l7', vC_f1 c i arg2 harg2 arg3 harg3 arg4 harg4 arg5 harg5 arg6 harg6 arg7 harg7 arg8 harg8 arg9 harg9 arg10 harg10 arg11 harg11 arg12 harg12 arg13 harg13 K V Q D A L Δ, pay74_co]
  first | done | rfl

theorem vC_acc (hc0 : ¬first i) (hc1 : last i) : arg13.view.read (Elt Ideal) (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).1 = co2 (acF (i 1).val K V Q D L Δ A) := by
  unfold runC
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', vC_f2 c i arg2 harg2 arg3 harg3 arg4 harg4 arg5 harg5 arg6 harg6 arg7 harg7 arg8 harg8 arg9 harg9 arg10 harg10 arg11 harg11 arg12 harg12 arg13 harg13 K V Q D A L Δ]

theorem vC_10 (hc0 : ¬first i) (hc1 : last i) (f : BufTy.Contents (Elt Ideal) arg10.view.ty) : arg10.view.read (Elt Ideal) (arg10.view.writes (Elt Ideal) f (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.1) = co2 (fun u x => dkF (i 1).val K V Q D L Δ u x * Real.log 2) := by
  unfold runC
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', pay72_co]
  exact View.read_writes_full arg10.view f _ _ _

theorem vC_11 (hc0 : ¬first i) (hc1 : last i) (f : BufTy.Contents (Elt Ideal) arg11.view.ty) : arg11.view.read (Elt Ideal) (arg11.view.writes (Elt Ideal) f (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.1) = fun i' : S1x1x16x1024.Idx => ((dkF (i 1).val K V Q D L Δ (i' 3).val (128 + (i' 2).val) : ℝ) : EReal) := by
  unfold runC
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', pay73_co]
  exact View.read_writes_full arg11.view f _ _ _

theorem vC_12 (hc0 : ¬first i) (hc1 : last i) (f : BufTy.Contents (Elt Ideal) arg12.view.ty) : arg12.view.read (Elt Ideal) (arg12.view.writes (Elt Ideal) f (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.2.2.2.1) = co2 (dvF (i 1).val K Q D L) := by
  unfold runC
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', vC_r_16]
  exact View.read_writes_full arg12.view f _ _ _

theorem vC_v204 : runC.sl.v204 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (0 + r) (0 + x)) := by
  delta runC.sl.v204
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 8192 0 0 inb_S8192x256_S8192x128_0_0
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v209 : runC.sl.v209 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (0 + r) (128 + x)) := by
  delta runC.sl.v209
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 0 128 inb_S8192x256_S1024x128_0_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v215 : runC.sl.v215 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (1024 + r) (128 + x)) := by
  delta runC.sl.v215
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 1024 128 inb_S8192x256_S1024x128_1024_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v221 : runC.sl.v221 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (2048 + r) (128 + x)) := by
  delta runC.sl.v221
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 2048 128 inb_S8192x256_S1024x128_2048_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v227 : runC.sl.v227 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (3072 + r) (128 + x)) := by
  delta runC.sl.v227
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 3072 128 inb_S8192x256_S1024x128_3072_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v233 : runC.sl.v233 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (4096 + r) (128 + x)) := by
  delta runC.sl.v233
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 4096 128 inb_S8192x256_S1024x128_4096_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v239 : runC.sl.v239 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (5120 + r) (128 + x)) := by
  delta runC.sl.v239
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 5120 128 inb_S8192x256_S1024x128_5120_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v245 : runC.sl.v245 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (6144 + r) (128 + x)) := by
  delta runC.sl.v245
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 6144 128 inb_S8192x256_S1024x128_6144_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_v251 : runC.sl.v251 (F := Ideal) c i arg2 harg2 arg3 harg3 arg4 harg4 arg5 harg5 arg6 harg6 arg7 harg7 arg8 harg8 arg9 harg9 arg10 harg10 arg11 harg11 arg12 harg12 arg13 harg13 (co2 K) (co2 V) (co2 Q) (co2 D) (co4 L) (co4 Δ) (co2 A) = co2 (fun r x => acF (i 1).val K V Q D L Δ A (7168 + r) (128 + x)) := by
  delta runC.sl.v251
  simp only [mask42, mask43, mask47, mask48, vC_v74, vC_v75, vC_r, vC_r_1, pay39_co, pay40_co, vC_r_2, vC_r_3, vC_r_4, vC_r_5, vC_r_6, vC_r_7, vC_r_8, vC_m1 c i arg2 harg2 arg3 harg3 arg4 harg4 arg5 harg5 arg6 harg6 arg7 harg7 arg8 harg8 arg9 harg9 arg10 harg10 arg11 harg11 arg12 harg12 arg13 harg13 K V Q D A L Δ, nil2 c i arg2 harg2 arg3 harg3 arg4 harg4 arg5 harg5 arg6 harg6 arg7 harg7 arg8 harg8 arg9 harg9 arg10 harg10 arg11 harg11 arg12 harg12 arg13 harg13, nil4 c i arg2 harg2 arg3 harg3 arg4 harg4 arg5 harg5 arg6 harg6 arg7 harg7 arg8 harg8 arg9 harg9 arg10 harg10 arg11 harg11 arg12 harg12 arg13 harg13, List.nil_append, pay60_co, Prod.mk.eta, vC_r_9, vC_v173, vC_r_10, vC_r_11, vC_r_12, vC_r_13, vC_r_14, vC_r_15, pay70_dk, pay71_ac, vC_r_16, vC_f1 c i arg2 harg2 arg3 harg3 arg4 harg4 arg5 harg5 arg6 harg6 arg7 harg7 arg8 harg8 arg9 harg9 arg10 harg10 arg11 harg11 arg12 harg12 arg13 harg13 K V Q D A L Δ, l2, l3, l4, l5, l6, l6', l7, l7', ]
  refine ldW arg13.view _ (acF (i 1).val K V Q D L Δ A) ?_ 1024 7168 128 inb_S8192x256_S1024x128_7168_128
  simp only [vC_f2 c i arg2 harg2 arg3 harg3 arg4 harg4 arg5 harg5 arg6 harg6 arg7 harg7 arg8 harg8 arg9 harg9 arg10 harg10 arg11 harg11 arg12 harg12 arg13 harg13 K V Q D A L Δ]

theorem vC_8 (hc0 : ¬first i) (hc1 : last i) (f : BufTy.Contents (Elt Ideal) arg8.view.ty) : arg8.view.read (Elt Ideal) (arg8.view.writes (Elt Ideal) f (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.2.1) = co2 (fun r x => acF (i 1).val K V Q D L Δ A (0 + r) (0 + x) * 0.125) := by
  unfold runC
  simp only [vC_v204, pay33_co]
  exact View.read_writes_full arg8.view f _ _ _

theorem vC_9 (hc0 : ¬first i) (hc1 : last i) (f : BufTy.Contents (Elt Ideal) arg9.view.ty) : arg9.view.read (Elt Ideal) (arg9.view.writes (Elt Ideal) f (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.2.2.1) = fun i' : S1x16x8192.Idx => ((acF (i 1).val K V Q D L Δ A (i' 2).val (128 + (i' 1).val) : ℝ) : EReal) := by
  funext y
  refine View.read_writes_apply_of_pieces _ _ (fun i' : S1x16x8192.Idx => ((acF (i 1).val K V Q D L Δ A (i' 2).val (128 + (i' 1).val) : ℝ) : EReal)) _ ?_ y (View.cover_of_tiledL (runC (F := Ideal) c i arg2 harg2 arg3 harg3 arg4 harg4 arg5 harg5 arg6 harg6 arg7 harg7 arg8 harg8 arg9 harg9 arg10 harg10 arg11 harg11 arg12 harg12 arg13 harg13 hc0 hc1 (co2 K) (co2 V) (co2 Q) (co2 D) (co4 L) (co4 Δ) (co2 A)).2.2.2.2.1 S1x16x1024.size (by sl_kernel_rfl) y)
  unfold runC
  simp only [vC_v209, vC_v215, vC_v221, vC_v227, vC_v233, vC_v239, vC_v245, vC_v251, pay34_co, pay35_co, pay36_co, pay37_co, pay1_co, pay2_co, pay3_co, pay4_co]
  intro p hp
  simp only [List.mem_cons, List.not_mem_nil, or_false] at hp
  rcases hp with rfl | rfl | rfl | rfl | rfl | rfl | rfl | rfl
  · intro x; exact piece9 (acF (i 1).val K V Q D L Δ A) 7168 inb_S1x16x8192_S1x16x1024_0_0_7168 x
  · intro x; exact piece9 (acF (i 1).val K V Q D L Δ A) 6144 inb_S1x16x8192_S1x16x1024_0_0_6144 x
  · intro x; exact piece9 (acF (i 1).val K V Q D L Δ A) 5120 inb_S1x16x8192_S1x16x1024_0_0_5120 x
  · intro x; exact piece9 (acF (i 1).val K V Q D L Δ A) 4096 inb_S1x16x8192_S1x16x1024_0_0_4096 x
  · intro x; exact piece9 (acF (i 1).val K V Q D L Δ A) 3072 inb_S1x16x8192_S1x16x1024_0_0_3072 x
  · intro x; exact piece9 (acF (i 1).val K V Q D L Δ A) 2048 inb_S1x16x8192_S1x16x1024_0_0_2048 x
  · intro x; exact piece9 (acF (i 1).val K V Q D L Δ A) 1024 inb_S1x16x8192_S1x16x1024_0_0_1024 x
  · intro x; exact piece9 (acF (i 1).val K V Q D L Δ A) 0 inb_S1x16x8192_S1x16x1024_0_0_0 x

end

end Cert.KernelIdeal.Fox

end
-- ==== Proof.Blocks.lean ====
/- The blocks of the region's arrays at a grid point, and what a point leaves, as reals. -/
module

public import proofs.«01_k».proof.Proof.PointA
public import proofs.«01_k».proof.Proof.PointB
public import proofs.«01_k».proof.Proof.PointC
public import proofs.«01_k».proof.Proof.Body

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

variable (m : (ℓ : Loc nD τ sig) → Buf (Elt Ideal) ℓ)

theorem index0 : ∀ t : Fin grid0.N, win0_0.index t 0 = t.val % 8 ∧ win0_0.index t 1 = t.val / 8 := by decide +kernel

theorem blk0 (c : Dev nD) (t : Fin grid0.N) (f : ℕ → ℕ → ℝ) (h : V m c main_v105 = (co2 f : S8192x2048.Idx → EReal)) :
    iblk m c 0 t = (co2 (fun r x => f (1024 * (t.val % 8) + r) (256 * (t.val / 8) + x)) : S1024x256.Idx → EReal) := by
  funext y
  unfold iblk
  rw [View.read_apply]
  show V m c main_v105 _ = _
  rw [h]
  have e := index0 t
  unfold co2
  refine congrArg (fun z : ℝ => (z : EReal)) (congrArg₂ f ?_ ?_)
  · show win0_0.index t 0 * 1024 + 1 * (y 0).val = _
    rw [e.1]; omega
  · show win0_0.index t 1 * 256 + 1 * (y 1).val = _
    rw [e.2]; omega

theorem index1 : ∀ t : Fin grid0.N, win0_1.index t 0 = t.val % 8 ∧ win0_1.index t 1 = 16 + t.val / 8 := by decide +kernel

theorem blk1 (c : Dev nD) (t : Fin grid0.N) (f : ℕ → ℕ → ℝ) (h : V m c main_v54 = (co2 f : S8192x3072.Idx → EReal)) :
    iblk m c 1 t = (co2 (fun r x => f (1024 * (t.val % 8) + r) (128 * (16 + t.val / 8) + x)) : S1024x128.Idx → EReal) := by
  funext y
  unfold iblk
  rw [View.read_apply]
  show V m c main_v54 _ = _
  rw [h]
  have e := index1 t
  unfold co2
  refine congrArg (fun z : ℝ => (z : EReal)) (congrArg₂ f ?_ ?_)
  · show win0_1.index t 0 * 1024 + 1 * (y 0).val = _
    rw [e.1]; omega
  · show win0_1.index t 1 * 128 + 1 * (y 1).val = _
    rw [e.2]; omega

theorem index2 : ∀ t : Fin grid0.N, win0_2.index t 0 = 0 ∧ win0_2.index t 1 = t.val / 8 := by decide +kernel

theorem blk2 (c : Dev nD) (t : Fin grid0.N) (f : ℕ → ℕ → ℝ) (h : V m c main_v98 = (co2 f : S8192x2048.Idx → EReal)) :
    iblk m c 2 t = (co2 (fun r x => f (r) (256 * (t.val / 8) + x)) : S8192x256.Idx → EReal) := by
  funext y
  unfold iblk
  rw [View.read_apply]
  show V m c main_v98 _ = _
  rw [h]
  have e := index2 t
  unfold co2
  refine congrArg (fun z : ℝ => (z : EReal)) (congrArg₂ f ?_ ?_)
  · show win0_2.index t 0 * 8192 + 1 * (y 0).val = _
    rw [e.1]; omega
  · show win0_2.index t 1 * 256 + 1 * (y 1).val = _
    rw [e.2]; omega

theorem index3 : ∀ t : Fin grid0.N, win0_3.index t 0 = 0 ∧ win0_3.index t 1 = t.val / 8 := by decide +kernel

theorem blk3 (c : Dev nD) (t : Fin grid0.N) (f : ℕ → ℕ → ℝ) (h : V m c main_v106 = (co2 f : S8192x1024.Idx → EReal)) :
    iblk m c 3 t = (co2 (fun r x => f (r) (128 * (t.val / 8) + x)) : S8192x128.Idx → EReal) := by
  funext y
  unfold iblk
  rw [View.read_apply]
  show V m c main_v106 _ = _
  rw [h]
  have e := index3 t
  unfold co2
  refine congrArg (fun z : ℝ => (z : EReal)) (congrArg₂ f ?_ ?_)
  · show win0_3.index t 0 * 8192 + 1 * (y 0).val = _
    rw [e.1]; omega
  · show win0_3.index t 1 * 128 + 1 * (y 1).val = _
    rw [e.2]; omega

theorem index4 : ∀ t : Fin grid0.N, win0_4.index t 0 = t.val / 8 ∧ win0_4.index t 1 = 0 ∧ win0_4.index t 2 = 0 ∧ win0_4.index t 3 = 0 := by decide +kernel

theorem blk4 (c : Dev nD) (t : Fin grid0.N) (f : ℕ → ℕ → ℝ)
    (h : V m c main_v108 = (fun i => ((f (2 * (i 0).val + (i 2).val) (1024 * (i 1).val + (i 3).val) : ℝ) : EReal) : S8x8x2x1024.Idx → EReal)) :
    iblk m c 4 t = co4 (fun h s => f (2 * (t.val / 8) + h) s) := by
  funext y
  unfold iblk
  rw [View.read_apply]
  show V m c main_v108 _ = _
  rw [h]
  have e := index4 t
  unfold co4
  have h0 : (y 0).val = 0 := Nat.lt_one_iff.mp (y 0).isLt
  refine congrArg (fun z : ℝ => (z : EReal)) (congrArg₂ f ?_ ?_)
  · show 2 * (win0_4.index t 0 * 1 + 1 * (y 0).val) + (win0_4.index t 2 * 2 + 1 * (y 2).val) = _
    rw [e.1, e.2.2.1, h0]; omega
  · show 1024 * (win0_4.index t 1 * 8 + 1 * (y 1).val) + (win0_4.index t 3 * 1024 + 1 * (y 3).val) = _
    rw [e.2.1, e.2.2.2]; omega

theorem index5 : ∀ t : Fin grid0.N, win0_5.index t 0 = t.val / 8 ∧ win0_5.index t 1 = 0 ∧ win0_5.index t 2 = 0 ∧ win0_5.index t 3 = 0 := by decide +kernel

theorem blk5 (c : Dev nD) (t : Fin grid0.N) (f : ℕ → ℕ → ℝ)
    (h : V m c main_v110 = (fun i => ((f (2 * (i 0).val + (i 2).val) (1024 * (i 1).val + (i 3).val) : ℝ) : EReal) : S8x8x2x1024.Idx → EReal)) :
    iblk m c 5 t = co4 (fun h s => f (2 * (t.val / 8) + h) s) := by
  funext y
  unfold iblk
  rw [View.read_apply]
  show V m c main_v110 _ = _
  rw [h]
  have e := index5 t
  unfold co4
  have h0 : (y 0).val = 0 := Nat.lt_one_iff.mp (y 0).isLt
  refine congrArg (fun z : ℝ => (z : EReal)) (congrArg₂ f ?_ ?_)
  · show 2 * (win0_5.index t 0 * 1 + 1 * (y 0).val) + (win0_5.index t 2 * 2 + 1 * (y 2).val) = _
    rw [e.1, e.2.2.1, h0]; omega
  · show 1024 * (win0_5.index t 1 * 8 + 1 * (y 1).val) + (win0_5.index t 3 * 1024 + 1 * (y 3).val) = _
    rw [e.2.1, e.2.2.2]; omega

end Cert.KernelIdeal.Fox

end
-- ==== Proof.Acc.lean ====
/- What each grid point leaves in the accumulator and in the windows, as reals. -/
module

public import proofs.«01_k».proof.Proof.Blocks

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic

variable (m : (ℓ : Loc nD τ sig) → Buf (Elt Ideal) ℓ)

section Acc

variable (f0 f1 f2 f3 f4 f5 : ℕ → ℕ → ℝ)

/-- Key tile `j` of pair `p`. -/
def KT (p j r x : ℕ) : ℝ := f0 (1024 * j + r) (256 * p + x)
/-- Value tile `j` of pair `p`. -/
def VT (p j r y : ℕ) : ℝ := f1 (1024 * j + r) (128 * (16 + p) + y)
/-- The queries of pair `p`. -/
def QT (p r x : ℕ) : ℝ := f2 r (256 * p + x)
/-- The output's gradient at pair `p`. -/
def DT (p r y : ℕ) : ℝ := f3 r (128 * p + y)
/-- A pair's per-row numbers. -/
def LT (p h s : ℕ) : ℝ := f4 (2 * p + h) s

/-- The accumulator of pair `p` after its first `n` key tiles. -/
def accS (p : ℕ) : ℕ → ℕ → ℕ → ℝ
  | 0 => zf
  | n + 1 => acF n (KT f0 p n) (VT f1 p n) (QT f2 p) (DT f3 p) (LT f4 p) (LT f5 p) (accS p n)

/-- The key gradient of pair `p` at key tile `j`, before its scaling. -/
def dkT (p j : ℕ) : ℕ → ℕ → ℝ := dkF j (KT f0 p j) (VT f1 p j) (QT f2 p) (DT f3 p) (LT f4 p) (LT f5 p)
/-- The value gradient of pair `p` at key tile `j`. -/
def dvT (p j : ℕ) : ℕ → ℕ → ℝ := dvF j (KT f0 p j) (QT f2 p) (DT f3 p) (LT f4 p)

theorem coord1 (t : Fin cfg0.N) : (grid0.coords t 1).val = t.val % 8 := by
  have e1 : (grid0.coords t 1).val = t.val / 1 % 8 := Pipeline.Grid.coords_val t 1 (by decide) rfl
  rw [e1, Nat.div_one]

variable (c : Dev nD)
  (H0 : V m c main_v105 = (co2 f0 : S8192x2048.Idx → EReal)) (H1 : V m c main_v54 = (co2 f1 : S8192x3072.Idx → EReal))
  (H2 : V m c main_v98 = (co2 f2 : S8192x2048.Idx → EReal)) (H3 : V m c main_v106 = (co2 f3 : S8192x1024.Idx → EReal))
  (H4 : V m c main_v108 = (fun i => ((f4 (2 * (i 0).val + (i 2).val) (1024 * (i 1).val + (i 3).val) : ℝ) : EReal) : S8x8x2x1024.Idx → EReal))
  (H5 : V m c main_v110 = (fun i => ((f5 (2 * (i 0).val + (i 2).val) (1024 * (i 1).val + (i 3).val) : ℝ) : EReal) : S8x8x2x1024.Idx → EReal))

include H0 in
theorem bl0 (t : Fin cfg0.N) : iblk m c 0 t = (co2 (KT f0 (t.val / 8) (t.val % 8)) : S1024x256.Idx → EReal) := blk0 m c t f0 H0
include H1 in
theorem bl1 (t : Fin cfg0.N) : iblk m c 1 t = (co2 (VT f1 (t.val / 8) (t.val % 8)) : S1024x128.Idx → EReal) := blk1 m c t f1 H1
include H2 in
theorem bl2 (t : Fin cfg0.N) : iblk m c 2 t = (co2 (QT f2 (t.val / 8)) : S8192x256.Idx → EReal) := blk2 m c t f2 H2
include H3 in
theorem bl3 (t : Fin cfg0.N) : iblk m c 3 t = (co2 (DT f3 (t.val / 8)) : S8192x128.Idx → EReal) := blk3 m c t f3 H3
include H4 in
theorem bl4 (t : Fin cfg0.N) : iblk m c 4 t = co4 (LT f4 (t.val / 8)) := blk4 m c t f4 H4
include H5 in
theorem bl5 (t : Fin cfg0.N) : iblk m c 5 t = co4 (LT f5 (t.val / 8)) := blk5 m c t f5 H5

theorem genA_acc (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D : ℕ → ℕ → ℝ) (L Δ : ℕ → ℕ → ℝ) (hc0 : first i) (hc1 : ¬last i) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg13.view.read (Elt Ideal) (runA (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7).1 = co2 (acF j K V Q D L Δ zf) := by
  subst e2 e3 e4 e5 e6 e7 hj
  exact vA_acc c i arg2 harg2 arg3 harg3 arg4 harg4 arg5 harg5 arg6 harg6 arg7 harg7 arg8 harg8 arg9 harg9 arg10 harg10 arg11 harg11 arg12 harg12 arg13 harg13 K V Q D L Δ hc0 hc1

include H0 H1 H2 H3 H4 H5 in
theorem leftA_acc (t : Fin cfg0.N) (h0 : t.val % 8 = 0) (h1 : ¬t.val % 8 = 7) : (leftA m c t h0 h1).acc = co2 (acF (t.val % 8) (KT f0 (t.val / 8) (t.val % 8)) (VT f1 (t.val / 8) (t.val % 8)) (QT f2 (t.val / 8)) (DT f3 (t.val / 8)) (LT f4 (t.val / 8)) (LT f5 (t.val / 8)) zf) :=
  genA_acc c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) (LT f4 (t.val / 8)) (LT f5 (t.val / 8)) ((first_iff t).mpr h0) (fun h => h1 ((last_iff t).mp h)) _ (coord1 t) (bl0 m f0 c H0 t) (bl1 m f1 c H1 t) (bl2 m f2 c H2 t) (bl3 m f3 c H3 t) (bl4 m f4 c H4 t) (bl5 m f5 c H5 t)

theorem genA_o10 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D : ℕ → ℕ → ℝ) (L Δ : ℕ → ℕ → ℝ) (hc0 : first i) (hc1 : ¬last i) (z : BufTy.Contents (Elt Ideal) arg10.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg10.view.read (Elt Ideal) (arg10.view.writes (Elt Ideal) z (runA (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7).2.1) = co2 (fun u x => dkF j K V Q D L Δ u x * Real.log 2) := by
  subst e2 e3 e4 e5 e6 e7 hj
  exact vA_10 c i arg2 harg2 arg3 harg3 arg4 harg4 arg5 harg5 arg6 harg6 arg7 harg7 arg8 harg8 arg9 harg9 arg10 harg10 arg11 harg11 arg12 harg12 arg13 harg13 K V Q D L Δ hc0 hc1 z

include H0 H1 H2 H3 H4 H5 in
theorem leftA_o10 (t : Fin cfg0.N) (h0 : t.val % 8 = 0) (h1 : ¬t.val % 8 = 7) : (leftA m c t h0 h1).o10 = co2 (fun u x => dkT f0 f1 f2 f3 f4 f5 (t.val / 8) (t.val % 8) u x * Real.log 2) :=
  genA_o10 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) (LT f4 (t.val / 8)) (LT f5 (t.val / 8)) ((first_iff t).mpr h0) (fun h => h1 ((last_iff t).mp h)) (st0_8 t).view.junk _ (coord1 t) (bl0 m f0 c H0 t) (bl1 m f1 c H1 t) (bl2 m f2 c H2 t) (bl3 m f3 c H3 t) (bl4 m f4 c H4 t) (bl5 m f5 c H5 t)

theorem genA_o11 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D : ℕ → ℕ → ℝ) (L Δ : ℕ → ℕ → ℝ) (hc0 : first i) (hc1 : ¬last i) (z : BufTy.Contents (Elt Ideal) arg11.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg11.view.read (Elt Ideal) (arg11.view.writes (Elt Ideal) z (runA (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7).2.2.1) = fun i' : S1x1x16x1024.Idx => ((dkF j K V Q D L Δ (i' 3).val (128 + (i' 2).val) : ℝ) : EReal) := by
  subst e2 e3 e4 e5 e6 e7 hj
  exact vA_11 c i arg2 harg2 arg3 harg3 arg4 harg4 arg5 harg5 arg6 harg6 arg7 harg7 arg8 harg8 arg9 harg9 arg10 harg10 arg11 harg11 arg12 harg12 arg13 harg13 K V Q D L Δ hc0 hc1 z

include H0 H1 H2 H3 H4 H5 in
theorem leftA_o11 (t : Fin cfg0.N) (h0 : t.val % 8 = 0) (h1 : ¬t.val % 8 = 7) : (leftA m c t h0 h1).o11 = fun i' : S1x1x16x1024.Idx => ((dkT f0 f1 f2 f3 f4 f5 (t.val / 8) (t.val % 8) (i' 3).val (128 + (i' 2).val) : ℝ) : EReal) :=
  genA_o11 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) (LT f4 (t.val / 8)) (LT f5 (t.val / 8)) ((first_iff t).mpr h0) (fun h => h1 ((last_iff t).mp h)) (st0_9 t).view.junk _ (coord1 t) (bl0 m f0 c H0 t) (bl1 m f1 c H1 t) (bl2 m f2 c H2 t) (bl3 m f3 c H3 t) (bl4 m f4 c H4 t) (bl5 m f5 c H5 t)

theorem genA_o12 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D : ℕ → ℕ → ℝ) (L Δ : ℕ → ℕ → ℝ) (hc0 : first i) (hc1 : ¬last i) (z : BufTy.Contents (Elt Ideal) arg12.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg12.view.read (Elt Ideal) (arg12.view.writes (Elt Ideal) z (runA (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7).2.2.2.1) = co2 (dvF j K Q D L) := by
  subst e2 e3 e4 e5 e6 e7 hj
  exact vA_12 c i arg2 harg2 arg3 harg3 arg4 harg4 arg5 harg5 arg6 harg6 arg7 harg7 arg8 harg8 arg9 harg9 arg10 harg10 arg11 harg11 arg12 harg12 arg13 harg13 K V Q D L Δ hc0 hc1 z

include H0 H1 H2 H3 H4 H5 in
theorem leftA_o12 (t : Fin cfg0.N) (h0 : t.val % 8 = 0) (h1 : ¬t.val % 8 = 7) : (leftA m c t h0 h1).o12 = co2 (dvT f0 f2 f3 f4 (t.val / 8) (t.val % 8)) :=
  genA_o12 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) (LT f4 (t.val / 8)) (LT f5 (t.val / 8)) ((first_iff t).mpr h0) (fun h => h1 ((last_iff t).mp h)) (st0_10 t).view.junk _ (coord1 t) (bl0 m f0 c H0 t) (bl1 m f1 c H1 t) (bl2 m f2 c H2 t) (bl3 m f3 c H3 t) (bl4 m f4 c H4 t) (bl5 m f5 c H5 t)

theorem genB_acc (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : ¬last i) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg13.view.read (Elt Ideal) (runB (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).1 = co2 (acF j K V Q D L Δ A) := by
  subst e2 e3 e4 e5 e6 e7 hj
  exact vB_acc c i arg2 harg2 arg3 harg3 arg4 harg4 arg5 harg5 arg6 harg6 arg7 harg7 arg8 harg8 arg9 harg9 arg10 harg10 arg11 harg11 arg12 harg12 arg13 harg13 K V Q D A L Δ hc0 hc1

include H0 H1 H2 H3 H4 H5 in
theorem leftB_acc (t : Fin cfg0.N) (h0 : ¬t.val % 8 = 0) (h1 : ¬t.val % 8 = 7) (A : ℕ → ℕ → ℝ) : (leftB m c t h0 h1 (co2 A)).acc = co2 (acF (t.val % 8) (KT f0 (t.val / 8) (t.val % 8)) (VT f1 (t.val / 8) (t.val % 8)) (QT f2 (t.val / 8)) (DT f3 (t.val / 8)) (LT f4 (t.val / 8)) (LT f5 (t.val / 8)) A) :=
  genB_acc c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) (fun h => h1 ((last_iff t).mp h)) _ (coord1 t) (bl0 m f0 c H0 t) (bl1 m f1 c H1 t) (bl2 m f2 c H2 t) (bl3 m f3 c H3 t) (bl4 m f4 c H4 t) (bl5 m f5 c H5 t)

theorem genB_o10 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : ¬last i) (z : BufTy.Contents (Elt Ideal) arg10.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg10.view.read (Elt Ideal) (arg10.view.writes (Elt Ideal) z (runB (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.1) = co2 (fun u x => dkF j K V Q D L Δ u x * Real.log 2) := by
  subst e2 e3 e4 e5 e6 e7 hj
  exact vB_10 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftB_o10 (t : Fin cfg0.N) (h0 : ¬t.val % 8 = 0) (h1 : ¬t.val % 8 = 7) (A : ℕ → ℕ → ℝ) : (leftB m c t h0 h1 (co2 A)).o10 = co2 (fun u x => dkT f0 f1 f2 f3 f4 f5 (t.val / 8) (t.val % 8) u x * Real.log 2) :=
  genB_o10 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) (fun h => h1 ((last_iff t).mp h)) (st0_8 t).view.junk _ (coord1 t) (bl0 m f0 c H0 t) (bl1 m f1 c H1 t) (bl2 m f2 c H2 t) (bl3 m f3 c H3 t) (bl4 m f4 c H4 t) (bl5 m f5 c H5 t)

theorem genB_o11 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : ¬last i) (z : BufTy.Contents (Elt Ideal) arg11.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg11.view.read (Elt Ideal) (arg11.view.writes (Elt Ideal) z (runB (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.2.1) = fun i' : S1x1x16x1024.Idx => ((dkF j K V Q D L Δ (i' 3).val (128 + (i' 2).val) : ℝ) : EReal) := by
  subst e2 e3 e4 e5 e6 e7 hj
  exact vB_11 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftB_o11 (t : Fin cfg0.N) (h0 : ¬t.val % 8 = 0) (h1 : ¬t.val % 8 = 7) (A : ℕ → ℕ → ℝ) : (leftB m c t h0 h1 (co2 A)).o11 = fun i' : S1x1x16x1024.Idx => ((dkT f0 f1 f2 f3 f4 f5 (t.val / 8) (t.val % 8) (i' 3).val (128 + (i' 2).val) : ℝ) : EReal) :=
  genB_o11 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) (fun h => h1 ((last_iff t).mp h)) (st0_9 t).view.junk _ (coord1 t) (bl0 m f0 c H0 t) (bl1 m f1 c H1 t) (bl2 m f2 c H2 t) (bl3 m f3 c H3 t) (bl4 m f4 c H4 t) (bl5 m f5 c H5 t)

theorem genB_o12 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : ¬last i) (z : BufTy.Contents (Elt Ideal) arg12.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg12.view.read (Elt Ideal) (arg12.view.writes (Elt Ideal) z (runB (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.2.2.1) = co2 (dvF j K Q D L) := by
  subst e2 e3 e4 e5 e6 e7 hj
  exact vB_12 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftB_o12 (t : Fin cfg0.N) (h0 : ¬t.val % 8 = 0) (h1 : ¬t.val % 8 = 7) (A : ℕ → ℕ → ℝ) : (leftB m c t h0 h1 (co2 A)).o12 = co2 (dvT f0 f2 f3 f4 (t.val / 8) (t.val % 8)) :=
  genB_o12 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) (fun h => h1 ((last_iff t).mp h)) (st0_10 t).view.junk _ (coord1 t) (bl0 m f0 c H0 t) (bl1 m f1 c H1 t) (bl2 m f2 c H2 t) (bl3 m f3 c H3 t) (bl4 m f4 c H4 t) (bl5 m f5 c H5 t)

theorem genC_acc (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : last i) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg13.view.read (Elt Ideal) (runC (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).1 = co2 (acF j K V Q D L Δ A) := by
  subst e2 e3 e4 e5 e6 e7 hj
  exact vC_acc c i arg2 harg2 arg3 harg3 arg4 harg4 arg5 harg5 arg6 harg6 arg7 harg7 arg8 harg8 arg9 harg9 arg10 harg10 arg11 harg11 arg12 harg12 arg13 harg13 K V Q D A L Δ hc0 hc1

include H0 H1 H2 H3 H4 H5 in
theorem leftC_acc (t : Fin cfg0.N) (h0 : ¬t.val % 8 = 0) (h1 : t.val % 8 = 7) (A : ℕ → ℕ → ℝ) : (leftC m c t h0 h1 (co2 A)).acc = co2 (acF (t.val % 8) (KT f0 (t.val / 8) (t.val % 8)) (VT f1 (t.val / 8) (t.val % 8)) (QT f2 (t.val / 8)) (DT f3 (t.val / 8)) (LT f4 (t.val / 8)) (LT f5 (t.val / 8)) A) :=
  genC_acc c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) ((last_iff t).mpr h1) _ (coord1 t) (bl0 m f0 c H0 t) (bl1 m f1 c H1 t) (bl2 m f2 c H2 t) (bl3 m f3 c H3 t) (bl4 m f4 c H4 t) (bl5 m f5 c H5 t)

theorem genC_o10 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : last i) (z : BufTy.Contents (Elt Ideal) arg10.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg10.view.read (Elt Ideal) (arg10.view.writes (Elt Ideal) z (runC (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.1) = co2 (fun u x => dkF j K V Q D L Δ u x * Real.log 2) := by
  subst e2 e3 e4 e5 e6 e7 hj
  exact vC_10 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftC_o10 (t : Fin cfg0.N) (h0 : ¬t.val % 8 = 0) (h1 : t.val % 8 = 7) (A : ℕ → ℕ → ℝ) : (leftC m c t h0 h1 (co2 A)).o10 = co2 (fun u x => dkT f0 f1 f2 f3 f4 f5 (t.val / 8) (t.val % 8) u x * Real.log 2) :=
  genC_o10 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) ((last_iff t).mpr h1) (st0_8 t).view.junk _ (coord1 t) (bl0 m f0 c H0 t) (bl1 m f1 c H1 t) (bl2 m f2 c H2 t) (bl3 m f3 c H3 t) (bl4 m f4 c H4 t) (bl5 m f5 c H5 t)

theorem genC_o11 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : last i) (z : BufTy.Contents (Elt Ideal) arg11.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg11.view.read (Elt Ideal) (arg11.view.writes (Elt Ideal) z (runC (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.2.1) = fun i' : S1x1x16x1024.Idx => ((dkF j K V Q D L Δ (i' 3).val (128 + (i' 2).val) : ℝ) : EReal) := by
  subst e2 e3 e4 e5 e6 e7 hj
  exact vC_11 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftC_o11 (t : Fin cfg0.N) (h0 : ¬t.val % 8 = 0) (h1 : t.val % 8 = 7) (A : ℕ → ℕ → ℝ) : (leftC m c t h0 h1 (co2 A)).o11 = fun i' : S1x1x16x1024.Idx => ((dkT f0 f1 f2 f3 f4 f5 (t.val / 8) (t.val % 8) (i' 3).val (128 + (i' 2).val) : ℝ) : EReal) :=
  genC_o11 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) ((last_iff t).mpr h1) (st0_9 t).view.junk _ (coord1 t) (bl0 m f0 c H0 t) (bl1 m f1 c H1 t) (bl2 m f2 c H2 t) (bl3 m f3 c H3 t) (bl4 m f4 c H4 t) (bl5 m f5 c H5 t)

theorem genC_o12 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : last i) (z : BufTy.Contents (Elt Ideal) arg12.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg12.view.read (Elt Ideal) (arg12.view.writes (Elt Ideal) z (runC (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.2.2.2.2.1) = co2 (dvF j K Q D L) := by
  subst e2 e3 e4 e5 e6 e7 hj
  exact vC_12 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftC_o12 (t : Fin cfg0.N) (h0 : ¬t.val % 8 = 0) (h1 : t.val % 8 = 7) (A : ℕ → ℕ → ℝ) : (leftC m c t h0 h1 (co2 A)).o12 = co2 (dvT f0 f2 f3 f4 (t.val / 8) (t.val % 8)) :=
  genC_o12 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) ((last_iff t).mpr h1) (st0_10 t).view.junk _ (coord1 t) (bl0 m f0 c H0 t) (bl1 m f1 c H1 t) (bl2 m f2 c H2 t) (bl3 m f3 c H3 t) (bl4 m f4 c H4 t) (bl5 m f5 c H5 t)

theorem genC_o8 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : last i) (z : BufTy.Contents (Elt Ideal) arg8.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg8.view.read (Elt Ideal) (arg8.view.writes (Elt Ideal) z (runC (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.2.2.1) = co2 (fun r x => acF j K V Q D L Δ A (0 + r) (0 + x) * 0.125) := by
  subst e2 e3 e4 e5 e6 e7 hj
  exact vC_8 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftC_o8 (t : Fin cfg0.N) (h0 : ¬t.val % 8 = 0) (h1 : t.val % 8 = 7) (A : ℕ → ℕ → ℝ) : (leftC m c t h0 h1 (co2 A)).o8 = co2 (fun r x => acF (t.val % 8) (KT f0 (t.val / 8) (t.val % 8)) (VT f1 (t.val / 8) (t.val % 8)) (QT f2 (t.val / 8)) (DT f3 (t.val / 8)) (LT f4 (t.val / 8)) (LT f5 (t.val / 8)) A (0 + r) (0 + x) * 0.125) :=
  genC_o8 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) ((last_iff t).mpr h1) (st0_6 t).view.junk _ (coord1 t) (bl0 m f0 c H0 t) (bl1 m f1 c H1 t) (bl2 m f2 c H2 t) (bl3 m f3 c H3 t) (bl4 m f4 c H4 t) (bl5 m f5 c H5 t)

theorem genC_o9 (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S8192x256 .bf16) (harg4 : arg4.IsWhole) (arg5 : Memref sig .tc .vmem S8192x128 .bf16) (harg5 : arg5.IsWhole) (arg6 : Memref sig .tc .vmem S1x8x2x1024 .f32) (harg6 : arg6.IsWhole) (arg7 : Memref sig .tc .vmem S1x8x2x1024 .f32) (harg7 : arg7.IsWhole) (arg8 : Memref sig .tc .vmem S8192x128 .bf16) (harg8 : arg8.IsWhole) (arg9 : Memref sig .tc .vmem S1x16x8192 .f32) (harg9 : arg9.IsWhole) (arg10 : Memref sig .tc .vmem S1024x128 .bf16) (harg10 : arg10.IsWhole) (arg11 : Memref sig .tc .vmem S1x1x16x1024 .f32) (harg11 : arg11.IsWhole) (arg12 : Memref sig .tc .vmem S1024x128 .bf16) (harg12 : arg12.IsWhole) (arg13 : Memref sig .tc .vmem S8192x256 .f32) (harg13 : arg13.IsWhole) (K V Q D A : ℕ → ℕ → ℝ) (L Δ : ℕ → ℕ → ℝ) (hc0 : ¬first i) (hc1 : last i) (z : BufTy.Contents (Elt Ideal) arg9.view.ty) (j : ℕ) (hj : (i 1).val = j) {x2 : Vec Ideal S1024x256 .bf16} {x3 : Vec Ideal S1024x128 .bf16} {x4 : Vec Ideal S8192x256 .bf16} {x5 : Vec Ideal S8192x128 .bf16} {x6 x7 : Vec Ideal S1x8x2x1024 .f32} (e2 : x2 = co2 K) (e3 : x3 = co2 V) (e4 : x4 = co2 Q) (e5 : x5 = co2 D) (e6 : x6 = co4 L) (e7 : x7 = co4 Δ) :
    arg9.view.read (Elt Ideal) (arg9.view.writes (Elt Ideal) z (runC (F := Ideal) c i arg2 harg2 arg3 harg3 arg4 harg4 arg5 harg5 arg6 harg6 arg7 harg7 arg8 harg8 arg9 harg9 arg10 harg10 arg11 harg11 arg12 harg12 arg13 harg13 hc0 hc1 x2 x3 x4 x5 x6 x7 (co2 A)).2.2.2.2.1) = fun i' : S1x16x8192.Idx => ((acF j K V Q D L Δ A (i' 2).val (128 + (i' 1).val) : ℝ) : EReal) := by
  subst e2 e3 e4 e5 e6 e7 hj
  exact vC_9 c i arg2 harg2 arg3 harg3 arg4 harg4 arg5 harg5 arg6 harg6 arg7 harg7 arg8 harg8 arg9 harg9 arg10 harg10 arg11 harg11 arg12 harg12 arg13 harg13 K V Q D A L Δ hc0 hc1 z

include H0 H1 H2 H3 H4 H5 in
theorem leftC_o9 (t : Fin cfg0.N) (h0 : ¬t.val % 8 = 0) (h1 : t.val % 8 = 7) (A : ℕ → ℕ → ℝ) : (leftC m c t h0 h1 (co2 A)).o9 = fun i' : S1x16x8192.Idx => ((acF (t.val % 8) (KT f0 (t.val / 8) (t.val % 8)) (VT f1 (t.val / 8) (t.val % 8)) (QT f2 (t.val / 8)) (DT f3 (t.val / 8)) (LT f4 (t.val / 8)) (LT f5 (t.val / 8)) A (i' 2).val (128 + (i' 1).val) : ℝ) : EReal) :=
  genC_o9 c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) scM (Memref.isWhole_whole _) (KT f0 (t.val / 8) (t.val % 8)) (VT f1 (t.val / 8) (t.val % 8)) (QT f2 (t.val / 8)) (DT f3 (t.val / 8)) A (LT f4 (t.val / 8)) (LT f5 (t.val / 8)) (fun h => h0 ((first_iff t).mp h)) ((last_iff t).mpr h1) (st0_7 t).view.junk _ (coord1 t) (bl0 m f0 c H0 t) (bl1 m f1 c H1 t) (bl2 m f2 c H2 t) (bl3 m f3 c H3 t) (bl4 m f4 c H4 t) (bl5 m f5 c H5 t)

include H0 H1 H2 H3 H4 H5 in
/-- The accumulator before a point that is not the first of its pair. -/
theorem scr_val : ∀ (n : ℕ), n % 8 ≠ 0 → n < 64 → scr m c n = co2 (accS f0 f1 f2 f3 f4 f5 (n / 8) (n % 8))
  | 0, h, _ => absurd rfl h
  | n + 1, h, hn => by
    have hN : n < cfg0.N := lt_of_lt_of_eq (by omega) N_0.symm
    have e := scr_succ m c ⟨n, hN⟩
    have hd : (n + 1) / 8 = n / 8 := by omega
    have hm : (n + 1) % 8 = n % 8 + 1 := by omega
    rw [hd, hm]
    by_cases h0 : n % 8 = 0
    · rw [outs_A m c ⟨n, hN⟩ h0 (by show ¬ n % 8 = 7; omega)] at e
      refine e.trans ((leftA_acc m f0 f1 f2 f3 f4 f5 c H0 H1 H2 H3 H4 H5 ⟨n, hN⟩ h0 (by show ¬ n % 8 = 7; omega)).trans ?_)
      show co2 (acF (n % 8) _ _ _ _ _ _ zf) = _
      rw [h0]; rfl
    · rw [outs_B m c ⟨n, hN⟩ h0 (by show ¬ n % 8 = 7; omega)] at e
      rw [show scr m c (⟨n, hN⟩ : Fin cfg0.N).val = _ from scr_val n h0 (by omega)] at e
      exact e.trans (leftB_acc m f0 f1 f2 f3 f4 f5 c H0 H1 H2 H3 H4 H5 ⟨n, hN⟩ h0 (by show ¬ n % 8 = 7; omega) _)

include H0 H1 H2 H3 H4 H5 in
theorem outs_o10 (t : Fin cfg0.N) : (outs m c t).o10 = co2 (fun u x => dkT f0 f1 f2 f3 f4 f5 (t.val / 8) (t.val % 8) u x * Real.log 2) := by
  have ht : t.val < 64 := Nat.lt_of_lt_of_eq t.isLt N_0
  by_cases h0 : t.val % 8 = 0
  · rw [outs_A m c t h0 (by omega)]; exact leftA_o10 m f0 f1 f2 f3 f4 f5 c H0 H1 H2 H3 H4 H5 t h0 (by omega)
  · by_cases h1 : t.val % 8 = 7
    · rw [outs_C m c t h0 h1, scr_val m f0 f1 f2 f3 f4 f5 c H0 H1 H2 H3 H4 H5 t.val h0 ht]; exact leftC_o10 m f0 f1 f2 f3 f4 f5 c H0 H1 H2 H3 H4 H5 t h0 h1 _
    · rw [outs_B m c t h0 h1, scr_val m f0 f1 f2 f3 f4 f5 c H0 H1 H2 H3 H4 H5 t.val h0 ht]; exact leftB_o10 m f0 f1 f2 f3 f4 f5 c H0 H1 H2 H3 H4 H5 t h0 h1 _

include H0 H1 H2 H3 H4 H5 in
theorem outs_o11 (t : Fin cfg0.N) : (outs m c t).o11 = fun i' : S1x1x16x1024.Idx => ((dkT f0 f1 f2 f3 f4 f5 (t.val / 8) (t.val % 8) (i' 3).val (128 + (i' 2).val) : ℝ) : EReal) := by
  have ht : t.val < 64 := Nat.lt_of_lt_of_eq t.isLt N_0
  by_cases h0 : t.val % 8 = 0
  · rw [outs_A m c t h0 (by omega)]; exact leftA_o11 m f0 f1 f2 f3 f4 f5 c H0 H1 H2 H3 H4 H5 t h0 (by omega)
  · by_cases h1 : t.val % 8 = 7
    · rw [outs_C m c t h0 h1, scr_val m f0 f1 f2 f3 f4 f5 c H0 H1 H2 H3 H4 H5 t.val h0 ht]; exact leftC_o11 m f0 f1 f2 f3 f4 f5 c H0 H1 H2 H3 H4 H5 t h0 h1 _
    · rw [outs_B m c t h0 h1, scr_val m f0 f1 f2 f3 f4 f5 c H0 H1 H2 H3 H4 H5 t.val h0 ht]; exact leftB_o11 m f0 f1 f2 f3 f4 f5 c H0 H1 H2 H3 H4 H5 t h0 h1 _

include H0 H1 H2 H3 H4 H5 in
theorem outs_o12 (t : Fin cfg0.N) : (outs m c t).o12 = co2 (dvT f0 f2 f3 f4 (t.val / 8) (t.val % 8)) := by
  have ht : t.val < 64 := Nat.lt_of_lt_of_eq t.isLt N_0
  by_cases h0 : t.val % 8 = 0
  · rw [outs_A m c t h0 (by omega)]; exact leftA_o12 m f0 f1 f2 f3 f4 f5 c H0 H1 H2 H3 H4 H5 t h0 (by omega)
  · by_cases h1 : t.val % 8 = 7
    · rw [outs_C m c t h0 h1, scr_val m f0 f1 f2 f3 f4 f5 c H0 H1 H2 H3 H4 H5 t.val h0 ht]; exact leftC_o12 m f0 f1 f2 f3 f4 f5 c H0 H1 H2 H3 H4 H5 t h0 h1 _
    · rw [outs_B m c t h0 h1, scr_val m f0 f1 f2 f3 f4 f5 c H0 H1 H2 H3 H4 H5 t.val h0 ht]; exact leftB_o12 m f0 f1 f2 f3 f4 f5 c H0 H1 H2 H3 H4 H5 t h0 h1 _

include H0 H1 H2 H3 H4 H5 in
theorem outs_o8 (t : Fin cfg0.N) (h1 : t.val % 8 = 7) : (outs m c t).o8 = co2 (fun r x => accS f0 f1 f2 f3 f4 f5 (t.val / 8) 8 (0 + r) (0 + x) * 0.125) := by
  have ht : t.val < 64 := Nat.lt_of_lt_of_eq t.isLt N_0
  have h0 : ¬ t.val % 8 = 0 := by omega
  rw [outs_C m c t h0 h1, scr_val m f0 f1 f2 f3 f4 f5 c H0 H1 H2 H3 H4 H5 t.val h0 ht]
  refine (leftC_o8 m f0 f1 f2 f3 f4 f5 c H0 H1 H2 H3 H4 H5 t h0 h1 _).trans ?_
  rw [h1]; rfl

include H0 H1 H2 H3 H4 H5 in
theorem outs_o9 (t : Fin cfg0.N) (h1 : t.val % 8 = 7) : (outs m c t).o9 = fun i' : S1x16x8192.Idx => ((accS f0 f1 f2 f3 f4 f5 (t.val / 8) 8 (i' 2).val (128 + (i' 1).val) : ℝ) : EReal) := by
  have ht : t.val < 64 := Nat.lt_of_lt_of_eq t.isLt N_0
  have h0 : ¬ t.val % 8 = 0 := by omega
  rw [outs_C m c t h0 h1, scr_val m f0 f1 f2 f3 f4 f5 c H0 H1 H2 H3 H4 H5 t.val h0 ht]
  refine (leftC_o9 m f0 f1 f2 f3 f4 f5 c H0 H1 H2 H3 H4 H5 t h0 h1 _).trans ?_
  rw [h1]; rfl

end Acc

end Cert.KernelIdeal.Fox

end
-- ==== Proof.RealEq.lean ====
/- The call's sums over lanes, tiles and heads, on the arrays the host hands it, are the gradients of the forgetting
   attention. -/
module

public import proofs.«01_k».proof.Proof.HostB
public import proofs.«01_k».proof.Proof.Acc

@[expose] public section

set_option maxRecDepth 16384

noncomputable section

namespace Cert.KernelIdeal.Fox

open Idealize.ShloMosaic

/-- The lanes that a head's key mask keeps, summed. -/
theorem sum_km (a : ℕ) (ha : a < 2) (F : ℕ → ℝ) : (∑ x ∈ Finset.range 256, if km a x then F x else 0)
    = (∑ x ∈ Finset.range 64, F (64 * a + x)) + (F (128 + 3 * a) + F (129 + 3 * a) + F (130 + 3 * a) + F (136 + a)) := by
  rw [show (256 : ℕ) = 64 + (64 + (16 + 112)) from rfl, Finset.sum_range_add, Finset.sum_range_add, Finset.sum_range_add]
  have z : (∑ x ∈ Finset.range 112, if km a (64 + (64 + (16 + x))) then F (64 + (64 + (16 + x))) else 0) = 0 :=
    Finset.sum_eq_zero fun x hx => by
      have hx' := Finset.mem_range.mp hx
      rw [if_neg]
      simp only [km, Bool.or_eq_true, Bool.and_eq_true, decide_eq_true_eq]
      omega
  rw [z, add_zero]
  have s16 : (∑ x ∈ Finset.range 16, if km a (64 + (64 + x)) then F (64 + (64 + x)) else 0)
      = F (128 + 3 * a) + F (129 + 3 * a) + F (130 + 3 * a) + F (136 + a) := by
    rcases (by omega : a = 0 ∨ a = 1) with rfl | rfl <;> simp [Finset.sum_range_succ, km]
  rw [s16, ← add_assoc]
  congr 1
  rcases (by omega : a = 0 ∨ a = 1) with rfl | rfl
  · have z2 : (∑ x ∈ Finset.range 64, if km 0 (64 + x) then F (64 + x) else 0) = 0 :=
      Finset.sum_eq_zero fun x hx => by
        have hx' := Finset.mem_range.mp hx
        rw [if_neg]
        simp only [km, Bool.or_eq_true, Bool.and_eq_true, decide_eq_true_eq]
        omega
    rw [z2, add_zero]
    refine Finset.sum_congr rfl fun x hx => ?_
    have hx' := Finset.mem_range.mp hx
    rw [if_pos]
    · congr 1; omega
    · simp only [km, Bool.or_eq_true, Bool.and_eq_true, decide_eq_true_eq]
      omega
  · have z2 : (∑ x ∈ Finset.range 64, if km 1 x then F x else 0) = 0 :=
      Finset.sum_eq_zero fun x hx => by
        have hx' := Finset.mem_range.mp hx
        rw [if_neg]
        simp only [km, Bool.or_eq_true, Bool.and_eq_true, decide_eq_true_eq]
        omega
    rw [z2, zero_add]
    refine Finset.sum_congr rfl fun x hx => ?_
    have hx' := Finset.mem_range.mp hx
    rw [if_pos]
    simp only [km, Bool.or_eq_true, Bool.and_eq_true, decide_eq_true_eq]
    omega

/-- The lanes of a head, summed. -/
theorem sum_hm (a : ℕ) (ha : a < 2) (F : ℕ → ℝ) : (∑ x ∈ Finset.range 128, if hm a x then F x else 0)
    = ∑ x ∈ Finset.range 64, F (64 * a + x) := by
  rw [show (128 : ℕ) = 64 + 64 from rfl, Finset.sum_range_add]
  rcases (by omega : a = 0 ∨ a = 1) with rfl | rfl
  · have z2 : (∑ x ∈ Finset.range 64, if hm 0 (64 + x) then F (64 + x) else 0) = 0 :=
      Finset.sum_eq_zero fun x hx => by
        have hx' := Finset.mem_range.mp hx
        rw [if_neg]
        simp only [hm, Bool.and_eq_true, decide_eq_true_eq]
        omega
    rw [z2, add_zero]
    refine Finset.sum_congr rfl fun x hx => ?_
    have hx' := Finset.mem_range.mp hx
    rw [if_pos]
    · congr 1; omega
    · simp only [hm, Bool.and_eq_true, decide_eq_true_eq]
      omega
  · have z2 : (∑ x ∈ Finset.range 64, if hm 1 x then F x else 0) = 0 :=
      Finset.sum_eq_zero fun x hx => by
        have hx' := Finset.mem_range.mp hx
        rw [if_neg]
        simp only [hm, Bool.and_eq_true, decide_eq_true_eq]
        omega
    rw [z2, zero_add]
    refine Finset.sum_congr rfl fun x hx => ?_
    have hx' := Finset.mem_range.mp hx
    rw [if_pos]
    simp only [hm, Bool.and_eq_true, decide_eq_true_eq]
    omega

variable (q k v g d : ℕ → ℕ → ℝ)

theorem f2_at (t p y : ℕ) (hy : y < 256) : f2 q t (256 * p + y) =
    if y < 128 then q t (128 * p + y) * 0.125 * (Real.log 2)⁻¹ else if y < 136 then 1 else 0 := by
  unfold f2
  rw [show (256 * p + y) % 256 = y by omega, show (256 * p + y) / 256 = p by omega]

theorem f1_val (t p y : ℕ) : f1 q k v t (128 * (16 + p) + y) = v t (128 * p + y) := by
  unfold f1
  rw [if_neg (by omega), if_neg (by omega)]
  congr 1; omega

/-- A score is the logit without the query's own bias, in base two. -/
theorem score (a : ℕ) (ha : a < 2) (p j u t : ℕ) :
    STr (mk (km a) (KT (f0 k g) p j)) (QT (f2 q) p) u t
      = ((∑ x ∈ Finset.range 64, q t (64 * (2 * p + a) + x) * k (1024 * j + u) (64 * (2 * p + a) + x)) * 0.125 - g (1024 * j + u) (2 * p + a)) * (Real.log 2)⁻¹ := by
  unfold STr mk
  simp only [ite_mul, zero_mul]
  rw [sum_km a ha]
  unfold KT QT
  have e : ∀ x ∈ Finset.range 64, f0 k g (1024 * j + u) (256 * p + (64 * a + x)) * f2 q t (256 * p + (64 * a + x))
      = q t (64 * (2 * p + a) + x) * k (1024 * j + u) (64 * (2 * p + a) + x) * (0.125 * (Real.log 2)⁻¹) := fun x hx => by
    have hx' := Finset.mem_range.mp hx
    rw [f0_at k g _ _ _ (by omega), f2_at q _ _ _ (by omega), if_pos (by omega), if_pos (by omega),
      show 128 * p + (64 * a + x) = 64 * (2 * p + a) + x by omega]
    ring
  rw [Finset.sum_congr rfl e, ← Finset.sum_mul]
  have b : f0 k g (1024 * j + u) (256 * p + (128 + 3 * a)) * f2 q t (256 * p + (128 + 3 * a))
      + f0 k g (1024 * j + u) (256 * p + (129 + 3 * a)) * f2 q t (256 * p + (129 + 3 * a))
      + f0 k g (1024 * j + u) (256 * p + (130 + 3 * a)) * f2 q t (256 * p + (130 + 3 * a))
      + f0 k g (1024 * j + u) (256 * p + (136 + a)) * f2 q t (256 * p + (136 + a)) = -g (1024 * j + u) (2 * p + a) * (Real.log 2)⁻¹ := by
    simp only [f0_at k g _ _ _ (show 128 + 3 * a < 256 by omega), f0_at k g _ _ _ (show 129 + 3 * a < 256 by omega), f0_at k g _ _ _ (show 130 + 3 * a < 256 by omega),
      f0_at k g _ _ _ (show 136 + a < 256 by omega), f2_at q _ _ _ (show 128 + 3 * a < 256 by omega), f2_at q _ _ _ (show 129 + 3 * a < 256 by omega),
      f2_at q _ _ _ (show 130 + 3 * a < 256 by omega), f2_at q _ _ _ (show 136 + a < 256 by omega)]
    rcases (by omega : a = 0 ∨ a = 1) with rfl | rfl <;> norm_num
  rw [b]
  ring

theorem dpr (a : ℕ) (ha : a < 2) (p j u t : ℕ) :
    DPr (mk (hm a) (VT (f1 q k v) p j)) (DT d p) u t = DPw v d (2 * p + a) t (1024 * j + u) := by
  unfold DPr mk DPw
  simp only [ite_mul, zero_mul]
  rw [sum_hm a ha]
  unfold VT DT
  refine Finset.sum_congr rfl fun x hx => ?_
  rw [f1_val, show 128 * p + (64 * a + x) = 64 * (2 * p + a) + x by omega, mul_comm]

theorem pcr (a : ℕ) (ha : a < 2) (p j u t : ℕ) :
    PCr j (mk (km a) (KT (f0 k g) p j)) (QT (f2 q) p) (LT (Ls q k g) p a) u t = Pr q k g (2 * p + a) t (1024 * j + u) := by
  unfold PCr Pr Er
  by_cases h : 1024 * j + u ≤ t
  · rw [if_pos h, if_pos h, score q k g a ha]
    unfold LT Ls
    rw [Real.rpow_def_of_pos (by norm_num)]
    have hz := Zr_pos q k g (2 * p + a) t
    rw [← Real.exp_log (inv_pos.mpr hz), ← Real.exp_add, Real.log_inv]
    congr 1
    unfold Lr
    have := log2_ne
    field_simp
    ring
  · rw [if_neg h, if_neg h, zero_mul]

/-- The gradient of the logits, as the call forms it. -/
def Gs (h t u : ℕ) : ℝ := Pr q k g h t u * (DPw v d h t u - Dl q k v g d h t)

theorem dsr (a : ℕ) (ha : a < 2) (p j u t : ℕ) :
    DSr (PCr j (mk (km a) (KT (f0 k g) p j)) (QT (f2 q) p) (LT (Ls q k g) p a)) (mk (hm a) (VT (f1 q k v) p j)) (DT d p) (LT (Dl q k v g d) p a) u t
      = Gs q k v g d (2 * p + a) t (1024 * j + u) := by
  unfold DSr Gs
  rw [pcr q k g a ha, dpr q k v d a ha]
  rfl

theorem dvT_val (p j u y : ℕ) (hy : y < 128) :
    dvT (f0 k g) (f2 q) d (Ls q k g) p j u y = ∑ t ∈ Finset.range 8192, d t (128 * p + y) * Pr q k g (2 * p + y / 64) t (1024 * j + u) := by
  unfold dvT dvF dvA dvH zf
  simp only [pcr q k g 0 (by norm_num), pcr q k g 1 (by norm_num)]
  unfold mk DT hm
  by_cases h : y < 64
  · rw [show y / 64 = 0 by omega]
    simp [h, show ¬ 64 ≤ y by omega, mul_comm]
  · rw [show y / 64 = 1 by omega]
    simp [h, show 64 ≤ y by omega, hy, mul_comm]

theorem dkT_val (p j u x : ℕ) :
    dkT (f0 k g) (f1 q k v) (f2 q) d (Ls q k g) (Dl q k v g d) p j u x
      = (∑ t ∈ Finset.range 8192, Gs q k v g d (2 * p) t (1024 * j + u) * mk (qm 0) (QT (f2 q) p) t x)
        + ∑ t ∈ Finset.range 8192, Gs q k v g d (2 * p + 1) t (1024 * j + u) * mk (qm 1) (QT (f2 q) p) t x := by
  unfold dkT dkF dkA dkH zf
  simp only [dsr q k v g d 0 (by norm_num), dsr q k v g d 1 (by norm_num)]
  rw [zero_add, add_zero]

theorem dkT_lane (p j u x : ℕ) (hx : x < 128) :
    dkT (f0 k g) (f1 q k v) (f2 q) d (Ls q k g) (Dl q k v g d) p j u x * Real.log 2
      = ∑ t ∈ Finset.range 8192, Gs q k v g d (2 * p + x / 64) t (1024 * j + u) * 0.125 * q t (128 * p + x) := by
  rw [dkT_val]
  unfold mk QT
  simp only [f2_at q _ _ _ (show x < 256 by omega), if_pos hx]
  have hl := log2_ne
  by_cases h : x < 64
  · have q0 : qm 0 x = true := by simp only [qm, Bool.or_eq_true, Bool.and_eq_true, decide_eq_true_eq]; omega
    have q1 : qm 1 x = false := by simp only [qm, Bool.or_eq_false_iff, Bool.and_eq_false_iff, decide_eq_false_iff_not]; omega
    simp only [q0, q1, if_true, Bool.false_eq_true, if_false, mul_zero, Finset.sum_const_zero, add_zero]
    rw [show x / 64 = 0 by omega, add_zero, Finset.sum_mul]
    refine Finset.sum_congr rfl fun t _ => ?_
    field_simp
  · have q0 : qm 0 x = false := by simp only [qm, Bool.or_eq_false_iff, Bool.and_eq_false_iff, decide_eq_false_iff_not]; omega
    have q1 : qm 1 x = true := by simp only [qm, Bool.or_eq_true, Bool.and_eq_true, decide_eq_true_eq]; omega
    simp only [q0, q1, if_true, Bool.false_eq_true, if_false, mul_zero, Finset.sum_const_zero, zero_add]
    rw [show x / 64 = 1 by omega, Finset.sum_mul]
    refine Finset.sum_congr rfl fun t _ => ?_
    field_simp

theorem dkT_one (p j u a : ℕ) (ha : a < 2) :
    dkT (f0 k g) (f1 q k v) (f2 q) d (Ls q k g) (Dl q k v g d) p j u (128 + (6 + a))
      = ∑ t ∈ Finset.range 8192, Gs q k v g d (2 * p + a) t (1024 * j + u) := by
  rw [dkT_val]
  unfold mk QT
  simp only [f2_at q _ _ _ (show 128 + (6 + a) < 256 by omega), if_neg (show ¬ 128 + (6 + a) < 128 by omega), if_pos (show 128 + (6 + a) < 136 by omega)]
  rcases (by omega : a = 0 ∨ a = 1) with rfl | rfl <;> simp [qm]

theorem accS_val (p t x : ℕ) : ∀ n, accS (f0 k g) (f1 q k v) (f2 q) d (Ls q k g) (Dl q k v g d) p n t x
    = ∑ u ∈ Finset.range (1024 * n), (Gs q k v g d (2 * p) t u * (if km 0 x then f0 k g u (256 * p + x) else 0)
        + Gs q k v g d (2 * p + 1) t u * (if km 1 x then f0 k g u (256 * p + x) else 0))
  | 0 => by simp [accS, zf]
  | n + 1 => by
    unfold accS acF acA acH
    simp only [dsr q k v g d 0 (by norm_num), dsr q k v g d 1 (by norm_num)]
    rw [accS_val p t x n, Nat.mul_succ, Finset.sum_range_add, add_assoc, ← Finset.sum_add_distrib]
    rfl

theorem accS_lane (p t x : ℕ) (hx : x < 128) :
    accS (f0 k g) (f1 q k v) (f2 q) d (Ls q k g) (Dl q k v g d) p 8 t x * 0.125
      = ∑ u ∈ Finset.range 8192, Gs q k v g d (2 * p + x / 64) t u * 0.125 * k u (128 * p + x) := by
  rw [accS_val, Finset.sum_mul]
  simp only [f0_at k g _ _ _ (show x < 256 by omega), if_pos hx]
  refine Finset.sum_congr rfl fun u _ => ?_
  by_cases h : x < 64
  · have q0 : km 0 x = true := by simp only [km, Bool.or_eq_true, Bool.and_eq_true, decide_eq_true_eq]; omega
    have q1 : km 1 x = false := by simp only [km, Bool.or_eq_false_iff, Bool.and_eq_false_iff, decide_eq_false_iff_not]; omega
    simp only [q0, q1, if_true, Bool.false_eq_true, if_false, mul_zero, add_zero]
    rw [show x / 64 = 0 by omega, add_zero]
    ring
  · have q0 : km 0 x = false := by simp only [km, Bool.or_eq_false_iff, Bool.and_eq_false_iff, decide_eq_false_iff_not]; omega
    have q1 : km 1 x = true := by simp only [km, Bool.or_eq_true, Bool.and_eq_true, decide_eq_true_eq]; omega
    simp only [q0, q1, if_true, Bool.false_eq_true, if_false, mul_zero, zero_add]
    rw [show x / 64 = 1 by omega]
    ring

theorem accS_one (p t a : ℕ) (ha : a < 2) :
    accS (f0 k g) (f1 q k v) (f2 q) d (Ls q k g) (Dl q k v g d) p 8 t (128 + (8 + a))
      = ∑ u ∈ Finset.range 8192, Gs q k v g d (2 * p + a) t u := by
  rw [accS_val]
  simp only [f0_at k g _ _ _ (show 128 + (8 + a) < 256 by omega), if_neg (show ¬ 128 + (8 + a) < 128 by omega)]
  rcases (by omega : a = 0 ∨ a = 1) with rfl | rfl <;> simp [km]

/-- A row's sum of output times gradient is its sum of weight gradient times weight. -/
theorem Dl_eq (h t : ℕ) : Dl q k v g d h t = ∑ u ∈ Finset.range 8192, DPw v d h t u * Pr q k g h t u := by
  unfold Dl Or DPw
  simp only [Finset.mul_sum, Finset.sum_mul]
  rw [Finset.sum_comm]
  refine Finset.sum_congr rfl fun u _ => Finset.sum_congr rfl fun x hx => ?_
  have hx' := Finset.mem_range.mp hx
  rw [show (64 * h + x) / 64 = h by omega]
  ring

end Cert.KernelIdeal.Fox

end
-- ==== Proof.Final.lean ====
/- The result arrays of the region as reals: what each grid point leaves, put side by side. -/
module

public import proofs.«01_k».proof.Proof.Acc

@[expose] public section

set_option maxRecDepth 16384

noncomputable section

namespace Cert.KernelIdeal.Fox

open Cert.KernelIdeal Cert.KernelIdeal.Gen
open Idealize.ShloMosaic Idealize.ShloMosaic.TcCoe Idealize.ShloMosaic.Tactic
open Idealize.ShloMosaic.Pipeline (Dat)

variable (m : (ℓ : Loc nD τ sig) → Buf (Elt Ideal) ℓ)
variable (f0 f1 f2 f3 f4 f5 : ℕ → ℕ → ℝ) (c : Dev nD)
  (H0 : V m c main_v105 = (co2 f0 : S8192x2048.Idx → EReal)) (H1 : V m c main_v54 = (co2 f1 : S8192x3072.Idx → EReal))
  (H2 : V m c main_v98 = (co2 f2 : S8192x2048.Idx → EReal)) (H3 : V m c main_v106 = (co2 f3 : S8192x1024.Idx → EReal))
  (H4 : V m c main_v108 = (fun i => ((f4 (2 * (i 0).val + (i 2).val) (1024 * (i 1).val + (i 3).val) : ℝ) : EReal) : S8x8x2x1024.Idx → EReal))
  (H5 : V m c main_v110 = (fun i => ((f5 (2 * (i 0).val + (i 2).val) (1024 * (i 1).val + (i 3).val) : ℝ) : EReal) : S8x8x2x1024.Idx → EReal))

theorem index6 : ∀ t : Fin grid0.N, win0_6.index t 0 = 0 ∧ win0_6.index t 1 = t.val / 8 := by decide +kernel
theorem xsize6 : ∀ t : Fin grid0.N, win0_6.xsize (grid0.coords t) 0 = 8192 ∧ win0_6.xsize (grid0.coords t) 1 = 128 := by decide +kernel

/-- Result 0 of the region. -/
def G6 (f0 f1 f2 f3 f4 f5 : ℕ → ℕ → ℝ) : S8192x1024.Idx → EReal := fun i => ((accS f0 f1 f2 f3 f4 f5 ((i 1).val / 128) 8 (i 0).val ((i 1).val % 128) * 0.125 : ℝ) : EReal)

include H0 H1 H2 H3 H4 H5 in
theorem flushed6 (t : Fin cfg0.N) (hf : (cfg0.win 6).flush t = true) :
    (dats m 0 c).flushed 6 t = ((cfg0.win 6).blk t).view.read (Elt Ideal) (G6 f0 f1 f2 f3 f4 f5) := by
  have ht : t.val < 64 := Nat.lt_of_lt_of_eq t.isLt N_0
  have h7 := (flush0_6 t).mp hf
  show (cfg0.win 6).cut (grid0.coords t) ((dats m 0 c).after 6 t) = _
  rw [after0_6, outs_o8 m f0 f1 f2 f3 f4 f5 c H0 H1 H2 H3 H4 H5 t h7]
  funext y
  rw [View.read_apply]
  have e := index6 t
  have y0 : (y 0).val < 8192 := lt_of_lt_of_eq (y 0).isLt (xsize6 t).1
  have y1 : (y 1).val < 128 := lt_of_lt_of_eq (y 1).isLt (xsize6 t).2
  refine congrArg (fun z : ℝ => (z : EReal)) ?_
  show accS f0 f1 f2 f3 f4 f5 (t.val / 8) 8 (0 + (y 0).val) (0 + (y 1).val) * 0.125 = accS f0 f1 f2 f3 f4 f5 ((win0_6.index t 1 * 128 + 1 * (y 1).val) / 128) 8 (win0_6.index t 0 * 8192 + 1 * (y 0).val) ((win0_6.index t 1 * 128 + 1 * (y 1).val) % 128) * 0.125
  rw [e.1, e.2]
  rw [show (t.val / 8 * 128 + 1 * (y 1).val) / 128 = t.val / 8 by omega, show (t.val / 8 * 128 + 1 * (y 1).val) % 128 = 0 + (y 1).val by omega, show 0 * 8192 + 1 * (y 0).val = 0 + (y 0).val by omega]

include H0 H1 H2 H3 H4 H5 in
theorem final6 : (dats m 0 c).arrAt 6 cfg0.N = G6 f0 f1 f2 f3 f4 f5 :=
  (dats m 0 c).arrAt_eq_of_cover 6 (G6 f0 f1 f2 f3 f4 f5) (flushed6 m f0 f1 f2 f3 f4 f5 c H0 H1 H2 H3 H4 H5) fun i => by
    have i0 : (i 0 : Nat) < 8192 := (i 0).isLt
    have i1 : (i 1 : Nat) < 1024 := (i 1).isLt
    obtain ⟨T, hv⟩ : ∃ T : Fin cfg0.N, T.val = 8 * ((i 1).val / 128) + 7 := ⟨⟨8 * ((i 1).val / 128) + 7, lt_of_lt_of_eq (b := 64) (by omega) N_0.symm⟩, rfl⟩
    refine ⟨T, (flush0_6 T).mpr (by omega), ?_⟩
    show i ∈ ((View.whole main_v111_0).slice (win0_6.rect T)).set
    rw [View.set_slice_whole, Rect.mem_set_unit]
    intro a
    have e := index6 T
    have x := xsize6 T
    match a with
    | ⟨0, _⟩ =>
      show win0_6.index T 0 * 8192 ≤ (i 0 : Nat) ∧ (i 0 : Nat) < win0_6.index T 0 * 8192 + win0_6.xsize (grid0.coords T) 0
      rw [e.1, x.1]; omega
    | ⟨1, _⟩ =>
      show win0_6.index T 1 * 128 ≤ (i 1 : Nat) ∧ (i 1 : Nat) < win0_6.index T 1 * 128 + win0_6.xsize (grid0.coords T) 1
      rw [e.2, x.2]; omega

theorem index7 : ∀ t : Fin grid0.N, win0_7.index t 0 = t.val / 8 ∧ win0_7.index t 1 = 0 ∧ win0_7.index t 2 = 0 := by decide +kernel
theorem xsize7 : ∀ t : Fin grid0.N, win0_7.xsize (grid0.coords t) 0 = 1 ∧ win0_7.xsize (grid0.coords t) 1 = 16 ∧ win0_7.xsize (grid0.coords t) 2 = 8192 := by decide +kernel

/-- Result 1 of the region. -/
def G7 (f0 f1 f2 f3 f4 f5 : ℕ → ℕ → ℝ) : S8x16x8192.Idx → EReal := fun i => ((accS f0 f1 f2 f3 f4 f5 (i 0).val 8 (i 2).val (128 + (i 1).val) : ℝ) : EReal)

include H0 H1 H2 H3 H4 H5 in
theorem flushed7 (t : Fin cfg0.N) (hf : (cfg0.win 7).flush t = true) :
    (dats m 0 c).flushed 7 t = ((cfg0.win 7).blk t).view.read (Elt Ideal) (G7 f0 f1 f2 f3 f4 f5) := by
  have ht : t.val < 64 := Nat.lt_of_lt_of_eq t.isLt N_0
  have h7 := (flush0_7 t).mp hf
  show (cfg0.win 7).cut (grid0.coords t) ((dats m 0 c).after 7 t) = _
  rw [after0_7, outs_o9 m f0 f1 f2 f3 f4 f5 c H0 H1 H2 H3 H4 H5 t h7]
  funext y
  rw [View.read_apply]
  have e := index7 t
  have y0 : (y 0).val < 1 := lt_of_lt_of_eq (y 0).isLt (xsize7 t).1
  have y1 : (y 1).val < 16 := lt_of_lt_of_eq (y 1).isLt (xsize7 t).2.1
  have y2 : (y 2).val < 8192 := lt_of_lt_of_eq (y 2).isLt (xsize7 t).2.2
  refine congrArg (fun z : ℝ => (z : EReal)) ?_
  show accS f0 f1 f2 f3 f4 f5 (t.val / 8) 8 (y 2).val (128 + (y 1).val) = accS f0 f1 f2 f3 f4 f5 (win0_7.index t 0 * 1 + 1 * (y 0).val) 8 (win0_7.index t 2 * 8192 + 1 * (y 2).val) (128 + (win0_7.index t 1 * 16 + 1 * (y 1).val))
  rw [e.1, e.2.1, e.2.2]
  rw [show t.val / 8 * 1 + 1 * (y 0).val = t.val / 8 by omega, show 0 * 16 + 1 * (y 1).val = (y 1).val by omega, show 0 * 8192 + 1 * (y 2).val = (y 2).val by omega]

include H0 H1 H2 H3 H4 H5 in
theorem final7 : (dats m 0 c).arrAt 7 cfg0.N = G7 f0 f1 f2 f3 f4 f5 :=
  (dats m 0 c).arrAt_eq_of_cover 7 (G7 f0 f1 f2 f3 f4 f5) (flushed7 m f0 f1 f2 f3 f4 f5 c H0 H1 H2 H3 H4 H5) fun i => by
    have i0 : (i 0 : Nat) < 8 := (i 0).isLt
    have i1 : (i 1 : Nat) < 16 := (i 1).isLt
    have i2 : (i 2 : Nat) < 8192 := (i 2).isLt
    obtain ⟨T, hv⟩ : ∃ T : Fin cfg0.N, T.val = 8 * (i 0).val + 7 := ⟨⟨8 * (i 0).val + 7, lt_of_lt_of_eq (b := 64) (by omega) N_0.symm⟩, rfl⟩
    refine ⟨T, (flush0_7 T).mpr (by omega), ?_⟩
    show i ∈ ((View.whole main_v111_1).slice (win0_7.rect T)).set
    rw [View.set_slice_whole, Rect.mem_set_unit]
    intro a
    have e := index7 T
    have x := xsize7 T
    match a with
    | ⟨0, _⟩ =>
      show win0_7.index T 0 * 1 ≤ (i 0 : Nat) ∧ (i 0 : Nat) < win0_7.index T 0 * 1 + win0_7.xsize (grid0.coords T) 0
      rw [e.1, x.1]; omega
    | ⟨1, _⟩ =>
      show win0_7.index T 1 * 16 ≤ (i 1 : Nat) ∧ (i 1 : Nat) < win0_7.index T 1 * 16 + win0_7.xsize (grid0.coords T) 1
      rw [e.2.1, x.2.1]; omega
    | ⟨2, _⟩ =>
      show win0_7.index T 2 * 8192 ≤ (i 2 : Nat) ∧ (i 2 : Nat) < win0_7.index T 2 * 8192 + win0_7.xsize (grid0.coords T) 2
      rw [e.2.2, x.2.2]; omega

theorem index8 : ∀ t : Fin grid0.N, win0_8.index t 0 = t.val % 8 ∧ win0_8.index t 1 = t.val / 8 := by decide +kernel
theorem xsize8 : ∀ t : Fin grid0.N, win0_8.xsize (grid0.coords t) 0 = 1024 ∧ win0_8.xsize (grid0.coords t) 1 = 128 := by decide +kernel

/-- Result 2 of the region. -/
def G8 (f0 f1 f2 f3 f4 f5 : ℕ → ℕ → ℝ) : S8192x1024.Idx → EReal := fun i => ((dkT f0 f1 f2 f3 f4 f5 ((i 1).val / 128) ((i 0).val / 1024) ((i 0).val % 1024) ((i 1).val % 128) * Real.log 2 : ℝ) : EReal)

include H0 H1 H2 H3 H4 H5 in
theorem flushed8 (t : Fin cfg0.N) (hf : (cfg0.win 8).flush t = true) :
    (dats m 0 c).flushed 8 t = ((cfg0.win 8).blk t).view.read (Elt Ideal) (G8 f0 f1 f2 f3 f4 f5) := by
  have ht : t.val < 64 := Nat.lt_of_lt_of_eq t.isLt N_0
  show (cfg0.win 8).cut (grid0.coords t) ((dats m 0 c).after 8 t) = _
  rw [after0_8, outs_o10 m f0 f1 f2 f3 f4 f5 c H0 H1 H2 H3 H4 H5 t]
  funext y
  rw [View.read_apply]
  have e := index8 t
  have y0 : (y 0).val < 1024 := lt_of_lt_of_eq (y 0).isLt (xsize8 t).1
  have y1 : (y 1).val < 128 := lt_of_lt_of_eq (y 1).isLt (xsize8 t).2
  refine congrArg (fun z : ℝ => (z : EReal)) ?_
  show dkT f0 f1 f2 f3 f4 f5 (t.val / 8) (t.val % 8) (y 0).val (y 1).val * Real.log 2 = dkT f0 f1 f2 f3 f4 f5 ((win0_8.index t 1 * 128 + 1 * (y 1).val) / 128) ((win0_8.index t 0 * 1024 + 1 * (y 0).val) / 1024) ((win0_8.index t 0 * 1024 + 1 * (y 0).val) % 1024) ((win0_8.index t 1 * 128 + 1 * (y 1).val) % 128) * Real.log 2
  rw [e.1, e.2]
  rw [show (t.val / 8 * 128 + 1 * (y 1).val) / 128 = t.val / 8 by omega, show (t.val / 8 * 128 + 1 * (y 1).val) % 128 = (y 1).val by omega, show (t.val % 8 * 1024 + 1 * (y 0).val) / 1024 = t.val % 8 by omega, show (t.val % 8 * 1024 + 1 * (y 0).val) % 1024 = (y 0).val by omega]

include H0 H1 H2 H3 H4 H5 in
theorem final8 : (dats m 0 c).arrAt 8 cfg0.N = G8 f0 f1 f2 f3 f4 f5 :=
  (dats m 0 c).arrAt_eq_of_cover 8 (G8 f0 f1 f2 f3 f4 f5) (flushed8 m f0 f1 f2 f3 f4 f5 c H0 H1 H2 H3 H4 H5) fun i => by
    have i0 : (i 0 : Nat) < 8192 := (i 0).isLt
    have i1 : (i 1 : Nat) < 1024 := (i 1).isLt
    obtain ⟨T, hv⟩ : ∃ T : Fin cfg0.N, T.val = 8 * ((i 1).val / 128) + (i 0).val / 1024 := ⟨⟨8 * ((i 1).val / 128) + (i 0).val / 1024, lt_of_lt_of_eq (b := 64) (by omega) N_0.symm⟩, rfl⟩
    refine ⟨T, flush0_8 T, ?_⟩
    show i ∈ ((View.whole main_v111_2).slice (win0_8.rect T)).set
    rw [View.set_slice_whole, Rect.mem_set_unit]
    intro a
    have e := index8 T
    have x := xsize8 T
    match a with
    | ⟨0, _⟩ =>
      show win0_8.index T 0 * 1024 ≤ (i 0 : Nat) ∧ (i 0 : Nat) < win0_8.index T 0 * 1024 + win0_8.xsize (grid0.coords T) 0
      rw [e.1, x.1]; omega
    | ⟨1, _⟩ =>
      show win0_8.index T 1 * 128 ≤ (i 1 : Nat) ∧ (i 1 : Nat) < win0_8.index T 1 * 128 + win0_8.xsize (grid0.coords T) 1
      rw [e.2, x.2]; omega

theorem index9 : ∀ t : Fin grid0.N, win0_9.index t 0 = t.val / 8 ∧ win0_9.index t 1 = t.val % 8 ∧ win0_9.index t 2 = 0 ∧ win0_9.index t 3 = 0 := by decide +kernel
theorem xsize9 : ∀ t : Fin grid0.N, win0_9.xsize (grid0.coords t) 0 = 1 ∧ win0_9.xsize (grid0.coords t) 1 = 1 ∧ win0_9.xsize (grid0.coords t) 2 = 16 ∧ win0_9.xsize (grid0.coords t) 3 = 1024 := by decide +kernel

/-- Result 3 of the region. -/
def G9 (f0 f1 f2 f3 f4 f5 : ℕ → ℕ → ℝ) : S8x8x16x1024.Idx → EReal := fun i => ((dkT f0 f1 f2 f3 f4 f5 (i 0).val (i 1).val (i 3).val (128 + (i 2).val) : ℝ) : EReal)

include H0 H1 H2 H3 H4 H5 in
theorem flushed9 (t : Fin cfg0.N) (hf : (cfg0.win 9).flush t = true) :
    (dats m 0 c).flushed 9 t = ((cfg0.win 9).blk t).view.read (Elt Ideal) (G9 f0 f1 f2 f3 f4 f5) := by
  have ht : t.val < 64 := Nat.lt_of_lt_of_eq t.isLt N_0
  show (cfg0.win 9).cut (grid0.coords t) ((dats m 0 c).after 9 t) = _
  rw [after0_9, outs_o11 m f0 f1 f2 f3 f4 f5 c H0 H1 H2 H3 H4 H5 t]
  funext y
  rw [View.read_apply]
  have e := index9 t
  have y0 : (y 0).val < 1 := lt_of_lt_of_eq (y 0).isLt (xsize9 t).1
  have y1 : (y 1).val < 1 := lt_of_lt_of_eq (y 1).isLt (xsize9 t).2.1
  have y2 : (y 2).val < 16 := lt_of_lt_of_eq (y 2).isLt (xsize9 t).2.2.1
  have y3 : (y 3).val < 1024 := lt_of_lt_of_eq (y 3).isLt (xsize9 t).2.2.2
  refine congrArg (fun z : ℝ => (z : EReal)) ?_
  show dkT f0 f1 f2 f3 f4 f5 (t.val / 8) (t.val % 8) (y 3).val (128 + (y 2).val) = dkT f0 f1 f2 f3 f4 f5 (win0_9.index t 0 * 1 + 1 * (y 0).val) (win0_9.index t 1 * 1 + 1 * (y 1).val) (win0_9.index t 3 * 1024 + 1 * (y 3).val) (128 + (win0_9.index t 2 * 16 + 1 * (y 2).val))
  rw [e.1, e.2.1, e.2.2.1, e.2.2.2]
  rw [show t.val / 8 * 1 + 1 * (y 0).val = t.val / 8 by omega, show t.val % 8 * 1 + 1 * (y 1).val = t.val % 8 by omega, show 0 * 16 + 1 * (y 2).val = (y 2).val by omega, show 0 * 1024 + 1 * (y 3).val = (y 3).val by omega]

include H0 H1 H2 H3 H4 H5 in
theorem final9 : (dats m 0 c).arrAt 9 cfg0.N = G9 f0 f1 f2 f3 f4 f5 :=
  (dats m 0 c).arrAt_eq_of_cover 9 (G9 f0 f1 f2 f3 f4 f5) (flushed9 m f0 f1 f2 f3 f4 f5 c H0 H1 H2 H3 H4 H5) fun i => by
    have i0 : (i 0 : Nat) < 8 := (i 0).isLt
    have i1 : (i 1 : Nat) < 8 := (i 1).isLt
    have i2 : (i 2 : Nat) < 16 := (i 2).isLt
    have i3 : (i 3 : Nat) < 1024 := (i 3).isLt
    obtain ⟨T, hv⟩ : ∃ T : Fin cfg0.N, T.val = 8 * (i 0).val + (i 1).val := ⟨⟨8 * (i 0).val + (i 1).val, lt_of_lt_of_eq (b := 64) (by omega) N_0.symm⟩, rfl⟩
    refine ⟨T, flush0_9 T, ?_⟩
    show i ∈ ((View.whole main_v111_3).slice (win0_9.rect T)).set
    rw [View.set_slice_whole, Rect.mem_set_unit]
    intro a
    have e := index9 T
    have x := xsize9 T
    match a with
    | ⟨0, _⟩ =>
      show win0_9.index T 0 * 1 ≤ (i 0 : Nat) ∧ (i 0 : Nat) < win0_9.index T 0 * 1 + win0_9.xsize (grid0.coords T) 0
      rw [e.1, x.1]; omega
    | ⟨1, _⟩ =>
      show win0_9.index T 1 * 1 ≤ (i 1 : Nat) ∧ (i 1 : Nat) < win0_9.index T 1 * 1 + win0_9.xsize (grid0.coords T) 1
      rw [e.2.1, x.2.1]; omega
    | ⟨2, _⟩ =>
      show win0_9.index T 2 * 16 ≤ (i 2 : Nat) ∧ (i 2 : Nat) < win0_9.index T 2 * 16 + win0_9.xsize (grid0.coords T) 2
      rw [e.2.2.1, x.2.2.1]; omega
    | ⟨3, _⟩ =>
      show win0_9.index T 3 * 1024 ≤ (i 3 : Nat) ∧ (i 3 : Nat) < win0_9.index T 3 * 1024 + win0_9.xsize (grid0.coords T) 3
      rw [e.2.2.2, x.2.2.2]; omega

theorem index10 : ∀ t : Fin grid0.N, win0_10.index t 0 = t.val % 8 ∧ win0_10.index t 1 = t.val / 8 := by decide +kernel
theorem xsize10 : ∀ t : Fin grid0.N, win0_10.xsize (grid0.coords t) 0 = 1024 ∧ win0_10.xsize (grid0.coords t) 1 = 128 := by decide +kernel

/-- Result 4 of the region. -/
def G10 (f0 f2 f3 f4 : ℕ → ℕ → ℝ) : S8192x1024.Idx → EReal := fun i => ((dvT f0 f2 f3 f4 ((i 1).val / 128) ((i 0).val / 1024) ((i 0).val % 1024) ((i 1).val % 128) : ℝ) : EReal)

include H0 H1 H2 H3 H4 H5 in
theorem flushed10 (t : Fin cfg0.N) (hf : (cfg0.win 10).flush t = true) :
    (dats m 0 c).flushed 10 t = ((cfg0.win 10).blk t).view.read (Elt Ideal) (G10 f0 f2 f3 f4) := by
  have ht : t.val < 64 := Nat.lt_of_lt_of_eq t.isLt N_0
  show (cfg0.win 10).cut (grid0.coords t) ((dats m 0 c).after 10 t) = _
  rw [after0_10, outs_o12 m f0 f1 f2 f3 f4 f5 c H0 H1 H2 H3 H4 H5 t]
  funext y
  rw [View.read_apply]
  have e := index10 t
  have y0 : (y 0).val < 1024 := lt_of_lt_of_eq (y 0).isLt (xsize10 t).1
  have y1 : (y 1).val < 128 := lt_of_lt_of_eq (y 1).isLt (xsize10 t).2
  refine congrArg (fun z : ℝ => (z : EReal)) ?_
  show dvT f0 f2 f3 f4 (t.val / 8) (t.val % 8) (y 0).val (y 1).val = dvT f0 f2 f3 f4 ((win0_10.index t 1 * 128 + 1 * (y 1).val) / 128) ((win0_10.index t 0 * 1024 + 1 * (y 0).val) / 1024) ((win0_10.index t 0 * 1024 + 1 * (y 0).val) % 1024) ((win0_10.index t 1 * 128 + 1 * (y 1).val) % 128)
  rw [e.1, e.2]
  rw [show (t.val / 8 * 128 + 1 * (y 1).val) / 128 = t.val / 8 by omega, show (t.val / 8 * 128 + 1 * (y 1).val) % 128 = (y 1).val by omega, show (t.val % 8 * 1024 + 1 * (y 0).val) / 1024 = t.val % 8 by omega, show (t.val % 8 * 1024 + 1 * (y 0).val) % 1024 = (y 0).val by omega]

include H0 H1 H2 H3 H4 H5 in
theorem final10 : (dats m 0 c).arrAt 10 cfg0.N = G10 f0 f2 f3 f4 :=
  (dats m 0 c).arrAt_eq_of_cover 10 (G10 f0 f2 f3 f4) (flushed10 m f0 f1 f2 f3 f4 f5 c H0 H1 H2 H3 H4 H5) fun i => by
    have i0 : (i 0 : Nat) < 8192 := (i 0).isLt
    have i1 : (i 1 : Nat) < 1024 := (i 1).isLt
    obtain ⟨T, hv⟩ : ∃ T : Fin cfg0.N, T.val = 8 * ((i 1).val / 128) + (i 0).val / 1024 := ⟨⟨8 * ((i 1).val / 128) + (i 0).val / 1024, lt_of_lt_of_eq (b := 64) (by omega) N_0.symm⟩, rfl⟩
    refine ⟨T, flush0_10 T, ?_⟩
    show i ∈ ((View.whole main_v111_4).slice (win0_10.rect T)).set
    rw [View.set_slice_whole, Rect.mem_set_unit]
    intro a
    have e := index10 T
    have x := xsize10 T
    match a with
    | ⟨0, _⟩ =>
      show win0_10.index T 0 * 1024 ≤ (i 0 : Nat) ∧ (i 0 : Nat) < win0_10.index T 0 * 1024 + win0_10.xsize (grid0.coords T) 0
      rw [e.1, x.1]; omega
    | ⟨1, _⟩ =>
      show win0_10.index T 1 * 128 ≤ (i 1 : Nat) ∧ (i 1 : Nat) < win0_10.index T 1 * 128 + win0_10.xsize (grid0.coords T) 1
      rw [e.2, x.2]; omega

end Cert.KernelIdeal.Fox

end
-- ==== Proof.Reads.lean ====
/- What the host leaves in the six arrays the call reads, and what it makes of the call's results after it. -/
module

public import proofs.«01_k».proof.Proof.HostB
public import proofs.«01_k».proof.Proof.Gen.KernelIdeal.Frame
public import Idealize.ShloMosaic.Lib.StableHlo.RunRead

@[expose] public section

set_option maxRecDepth 16384

noncomputable section

namespace Cert.KernelIdeal.Fox

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

theorem read105 : V m c main_v105 = k_v105 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_reads_simp
  rfl

theorem read54 : V m c main_v54 = k_v54 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_reads_simp
  rfl

theorem read98 : V m c main_v98 = k_v98 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_reads_simp
  rfl

theorem read106 : V m c main_v106 = k_v106 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_reads_simp
  rfl

theorem read108 : V m c main_v108 = k_v108 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_reads_simp
  rfl

theorem read110 : V m c main_v110 = k_v110 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_reads_simp
  rfl

/-- The last output, from the two tables of sums. -/
def tl (A : FVec Ideal S8x16x8192 .f32) (B : FVec Ideal S8x8x16x1024 .f32) : FVec Ideal S8192x16 .f32 :=
  subf (shapeCast _ (transpose S8192x8x2 [2, 0, 1] (extractStridedSlice S8x2x8192 ![0, 8, 0] A slices_S8x16x8192_S8x2x8192_0_8_0) transposes_S8x2x8192_S8192x8x2_2_0_1) shapeCasts_S8192x8x2_S8192x16)
    (shapeCast _ (transpose S8x1024x8x2 [1, 3, 0, 2] (extractStridedSlice S8x8x2x1024 ![0, 0, 6, 0] B slices_S8x8x16x1024_S8x8x2x1024_0_0_6_0) transposes_S8x8x2x1024_S8x1024x8x2_1_3_0_2) shapeCasts_S8x1024x8x2_S8192x16)

theorem tail_read (W : Valuation τ sig (Elt Ideal)) :
    StableHlo.after (List.flatten [hostOps1]) W (Proc.devRef .tc main_v118) = tl (W (Proc.devRef .tc main_v111_1)) (W (Proc.devRef .tc main_v111_3)) := by
  after_reads_simp
  rfl

/-- The last output's value: what a row's queries gather less what its key gives away. -/
theorem tl_val (A B : ℕ → ℕ → ℕ → ℕ → ℝ) :
    tl (fun i => ((A (i 0).val (i 1).val (i 2).val 0 : ℝ) : EReal)) (fun i => ((B (i 0).val (i 1).val (i 2).val (i 3).val : ℝ) : EReal))
      = co2 fun t h => A (h / 2) (8 + h % 2) t 0 - B (h / 2) (t / 1024) (6 + h % 2) (t % 1024) := by
  funext j
  pointwise [tl]
  exact (EReal.coe_sub _ _).symm

end Cert.KernelIdeal.Fox

end
-- ==== Proof.Vals.lean ====
/- The reference's four results are what the call's outputs hold and what the host makes of them. -/
module

public import proofs.«01_k».proof.Proof.RefA
public import proofs.«01_k».proof.Proof.RealEq
public import proofs.«01_k».proof.Proof.Final
public import proofs.«01_k».proof.Proof.Reads

@[expose] public section

set_option maxRecDepth 16384

noncomputable section

namespace Cert.KernelIdeal.Fox

open Cert.KernelIdeal Cert.KernelIdeal.Gen
open Cert.ReferenceIdeal.Fox (Wr Ar Sr r_v92 r_v93 r_v94 r_v85 r92 r93 r94 r85)
open Idealize.ShloMosaic Idealize.ShloMosaic.TcCoe

variable (q k v g d : ℕ → ℕ → ℝ)

/-- The reference's row sum is the kernel's, over the row's sum of exponentials. -/
theorem Ar_eq (h t : ℕ) : Ar q k v g d h t = Dl q k v g d h t * (Zr q k g h t)⁻¹ := by
  rw [Dl_eq]
  unfold Ar Wr Pr
  rw [Finset.sum_mul]
  refine Finset.sum_congr rfl fun u _ => ?_
  rw [mul_inv]
  ring

/-- The two forms of the gradient of the logits agree. -/
theorem Sr_eq (h t u : ℕ) : Sr q k v g d h t u = Gs q k v g d h t u := by
  unfold Sr Gs
  by_cases hu : u ≤ t
  · rw [if_pos hu, Ar_eq]
    unfold Pr
    ring
  · rw [if_neg hu]
    unfold Pr Er
    rw [if_neg hu]
    ring

theorem key92 : r_v92 (co2 q) (co2 k) (co2 v) (co2 g) (co2 d) = G6 (f0 k g) (f1 q k v) (f2 q) d (Ls q k g) (Dl q k v g d) := by
  rw [r92]
  funext i
  have i1 : (i 1 : Nat) < 1024 := (i 1).isLt
  refine congrArg Real.toEReal ?_
  show (∑ u ∈ Finset.range 8192, Sr q k v g d ((i 1).val / 64) (i 0).val u * 0.125 * k u (i 1).val) = _
  rw [accS_lane _ _ _ _ _ _ _ _ (Nat.mod_lt _ (by norm_num)), show 2 * ((i 1).val / 128) + (i 1).val % 128 / 64 = (i 1).val / 64 by omega,
    show 128 * ((i 1).val / 128) + (i 1).val % 128 = (i 1).val by omega]
  exact Finset.sum_congr rfl fun u _ => by rw [Sr_eq]

theorem key93 : r_v93 (co2 q) (co2 k) (co2 v) (co2 g) (co2 d) = G8 (f0 k g) (f1 q k v) (f2 q) d (Ls q k g) (Dl q k v g d) := by
  rw [r93]
  funext i
  have i1 : (i 1 : Nat) < 1024 := (i 1).isLt
  refine congrArg Real.toEReal ?_
  show (∑ t ∈ Finset.range 8192, Sr q k v g d ((i 1).val / 64) t (i 0).val * 0.125 * q t (i 1).val) = _
  rw [dkT_lane _ _ _ _ _ _ _ _ _ (Nat.mod_lt _ (by norm_num)), show 2 * ((i 1).val / 128) + (i 1).val % 128 / 64 = (i 1).val / 64 by omega,
    show 128 * ((i 1).val / 128) + (i 1).val % 128 = (i 1).val by omega, show 1024 * ((i 0).val / 1024) + (i 0).val % 1024 = (i 0).val by omega]
  exact Finset.sum_congr rfl fun u _ => by rw [Sr_eq]

theorem key94 : r_v94 (co2 q) (co2 k) (co2 v) (co2 g) (co2 d) = G10 (f0 k g) (f2 q) d (Ls q k g) := by
  rw [r94]
  funext i
  have i1 : (i 1 : Nat) < 1024 := (i 1).isLt
  refine congrArg Real.toEReal ?_
  show (∑ t ∈ Finset.range 8192, d t (i 1).val * Pr q k g ((i 1).val / 64) t (i 0).val) = _
  rw [dvT_val _ _ _ _ _ _ _ _ (Nat.mod_lt _ (by norm_num)), show 2 * ((i 1).val / 128) + (i 1).val % 128 / 64 = (i 1).val / 64 by omega,
    show 128 * ((i 1).val / 128) + (i 1).val % 128 = (i 1).val by omega, show 1024 * ((i 0).val / 1024) + (i 0).val % 1024 = (i 0).val by omega]

theorem key85 : r_v85 (co2 q) (co2 k) (co2 v) (co2 g) (co2 d)
    = tl (G7 (f0 k g) (f1 q k v) (f2 q) d (Ls q k g) (Dl q k v g d)) (G9 (f0 k g) (f1 q k v) (f2 q) d (Ls q k g) (Dl q k v g d)) := by
  refine (r85 q k v g d).trans (Eq.trans ?_ (tl_val (fun p y t _ => accS (f0 k g) (f1 q k v) (f2 q) d (Ls q k g) (Dl q k v g d) p 8 t (128 + y))
    (fun p j x u => dkT (f0 k g) (f1 q k v) (f2 q) d (Ls q k g) (Dl q k v g d) p j u (128 + x))).symm)
  funext i
  refine congrArg Real.toEReal ?_
  show (∑ s ∈ Finset.range 8192, -Sr q k v g d (i 1).val s (i 0).val) + (∑ u ∈ Finset.range 8192, Sr q k v g d (i 1).val (i 0).val u)
    = accS (f0 k g) (f1 q k v) (f2 q) d (Ls q k g) (Dl q k v g d) ((i 1).val / 2) 8 (i 0).val (128 + (8 + (i 1).val % 2))
      - dkT (f0 k g) (f1 q k v) (f2 q) d (Ls q k g) (Dl q k v g d) ((i 1).val / 2) ((i 0).val / 1024) ((i 0).val % 1024) (128 + (6 + (i 1).val % 2))
  rw [accS_one _ _ _ _ _ _ _ _ (Nat.mod_lt _ (by norm_num)), dkT_one _ _ _ _ _ _ _ _ _ (Nat.mod_lt _ (by norm_num)), Nat.div_add_mod, Nat.div_add_mod,
    Finset.sum_neg_distrib]
  simp only [Sr_eq]
  ring

end Cert.KernelIdeal.Fox

end
-- ==== Proof.Finite.lean ====
/- What the precondition says of an array: that it is a matrix of reals. -/
module

public import proofs.«01_k».proof.Pre_finite
public import proofs.«01_k».proof.Proof.Arr
public import Idealize.ShloMosaic.Lib.Tactic

@[expose] public section

set_option maxRecDepth 16384

noncomputable section

namespace Cert.FoxClaims

open Cert.KernelIdeal.Fox (co2)
open Idealize.ShloMosaic Idealize.ShloMosaic.TcCoe

/-- The predicate's two broadcasts are of a scalar. -/
theorem finite_facts : Cert.Pre_finite.Facts where
  bcast_S_S8192x1024 := by decide
  bcast_S_S8192x16 := by decide

theorem top_word : Ideal.ofBits .f32 0x7F800000#32 = (⊤ : EReal) := by simp [Ideal.ofBits, Ideal.ieee]

/-- An extended real whose absolute value is below infinity is a real. -/
theorem real_of_lt (x : EReal) (h : Ideal.cmp .olt (max x (-x)) ⊤ = 1#1) : ((x.toReal : ℝ) : EReal) = x := by
  induction x with
  | bot => exact absurd h (by simp [Ideal.cmp])
  | top => exact absurd h (by simp [Ideal.cmp])
  | coe r => rfl

/-- A matrix of reals, as a function of its row and its column. -/
def fnOf {m n : ℕ} (x : (⟨2, ![m, n]⟩ : Shape).Idx → EReal) (a b : ℕ) : ℝ :=
  if h : a < m ∧ b < n then (x (ix2 ⟨a, h.1⟩ ⟨b, h.2⟩)).toReal else 0

theorem fnOf_eq {m n : ℕ} (x : (⟨2, ![m, n]⟩ : Shape).Idx → EReal) (h : ∀ i, (((x i).toReal : ℝ) : EReal) = x i) : x = co2 (fnOf x) := by
  funext i
  have i0 : (i 0).val < m := (i 0).isLt
  have i1 : (i 1).val < n := (i 1).isLt
  have e : (ix2 ⟨(i 0).val, i0⟩ ⟨(i 1).val, i1⟩ : (⟨2, ![m, n]⟩ : Shape).Idx) = i := (eq_ix2 i).symm
  show x i = ((if h : (i 0).val < m ∧ (i 1).val < n then (x (ix2 ⟨(i 0).val, h.1⟩ ⟨(i 1).val, h.2⟩)).toReal else 0 : ℝ) : EReal)
  rw [dif_pos ⟨i0, i1⟩]
  exact (h i).symm.trans (congrArg (fun j => (((x j).toReal : ℝ) : EReal)) e.symm)

variable [Cert.Pre_finite.Facts]

theorem wide (x : FVec Ideal Cert.Pre_finite.S8192x1024 .f32)
    (h : cmpf .olt (Host.absf x) (broadcastInDim Cert.Pre_finite.S8192x1024 ![] Cert.Pre_finite.Facts.bcast_S_S8192x1024 (constant Cert.Pre_finite.S_ .f32 0x7F800000#32)) = fun _ => 1#1) :
    x = co2 (fnOf x) :=
  fnOf_eq x fun i => real_of_lt (x i) (by
    have e := congrFun h i
    rw [← top_word]
    exact e)

theorem narrow (x : FVec Ideal Cert.Pre_finite.S8192x16 .f32)
    (h : cmpf .olt (Host.absf x) (broadcastInDim Cert.Pre_finite.S8192x16 ![] Cert.Pre_finite.Facts.bcast_S_S8192x16 (constant Cert.Pre_finite.S_ .f32 0x7F800000#32)) = fun _ => 1#1) :
    x = co2 (fnOf x) :=
  fnOf_eq x fun i => real_of_lt (x i) (by
    have e := congrFun h i
    rw [← top_word]
    exact e)

end Cert.FoxClaims

end
-- ==== Proof.Values.lean ====
/- The values: the kernel's results are the reference's, from the contents of the call's outputs and the host's reading of them. -/
module

public import proofs.«01_k».proof.Defs
public import proofs.«01_k».proof.Proof.Claims
public import proofs.«01_k».proof.Proof.Vals
public import proofs.«01_k».proof.Proof.Finite

@[expose] public section

set_option maxRecDepth 16384

noncomputable section

namespace Cert.KernelIdeal.Fox

open Cert.KernelIdeal Cert.KernelIdeal.Gen
open Cert.ReferenceIdeal.Fox (r_v92 r_v93 r_v94 r_v85)
open Idealize.ShloMosaic Idealize.ShloMosaic.TcCoe Idealize.SL.Sem

variable (m : (ℓ : Loc nD τ sig) → Buf (Elt Ideal) ℓ) (q k v g d : ℕ → ℕ → ℝ) (c : Dev nD)
  (h0 : m ((c.tc : Thread nD τ).loc main_arg0) = co2 q) (h1 : m ((c.tc : Thread nD τ).loc main_arg1) = co2 k)
  (h2 : m ((c.tc : Thread nD τ).loc main_arg2) = co2 v) (h3 : m ((c.tc : Thread nD τ).loc main_arg3) = co2 g)
  (h4 : m ((c.tc : Thread nD τ).loc main_arg4) = co2 d)

include h0 h1 h2 h3 h4

theorem at105 : V m c main_v105 = co2 (f0 k g) := by
  rw [read105 m c, h0, h1, h2, h3, h4]
  exact e105 q k v g d

theorem at54 : V m c main_v54 = co2 (f1 q k v) := by
  rw [read54 m c, h0, h1, h2, h3, h4]
  exact e54 q k v g d

theorem at98 : V m c main_v98 = co2 (f2 q) := by
  rw [read98 m c, h0, h1, h2, h3, h4]
  exact e98 q k v g d

theorem at106 : V m c main_v106 = co2 d := by
  rw [read106 m c, h0, h1, h2, h3, h4]
  exact e106 q k v g d

theorem at108 : V m c main_v108 = fun i => ((Ls q k g (2 * (i 0).val + (i 2).val) (1024 * (i 1).val + (i 3).val) : ℝ) : EReal) := by
  rw [read108 m c, h0, h1, h2, h3, h4]
  exact e108 q k v g d

theorem at110 : V m c main_v110 = fun i => ((Dl q k v g d (2 * (i 0).val + (i 2).val) (1024 * (i 1).val + (i 3).val) : ℝ) : EReal) := by
  rw [read110 m c, h0, h1, h2, h3, h4]
  exact e110 q k v g d

theorem out6 : (dats m 0 c).arrAt 6 cfg0.N = G6 (f0 k g) (f1 q k v) (f2 q) d (Ls q k g) (Dl q k v g d) :=
  final6 m _ _ _ _ _ _ c (at105 m q k v g d c h0 h1 h2 h3 h4) (at54 m q k v g d c h0 h1 h2 h3 h4) (at98 m q k v g d c h0 h1 h2 h3 h4) (at106 m q k v g d c h0 h1 h2 h3 h4) (at108 m q k v g d c h0 h1 h2 h3 h4) (at110 m q k v g d c h0 h1 h2 h3 h4)
theorem out7 : (dats m 0 c).arrAt 7 cfg0.N = G7 (f0 k g) (f1 q k v) (f2 q) d (Ls q k g) (Dl q k v g d) :=
  final7 m _ _ _ _ _ _ c (at105 m q k v g d c h0 h1 h2 h3 h4) (at54 m q k v g d c h0 h1 h2 h3 h4) (at98 m q k v g d c h0 h1 h2 h3 h4) (at106 m q k v g d c h0 h1 h2 h3 h4) (at108 m q k v g d c h0 h1 h2 h3 h4) (at110 m q k v g d c h0 h1 h2 h3 h4)
theorem out8 : (dats m 0 c).arrAt 8 cfg0.N = G8 (f0 k g) (f1 q k v) (f2 q) d (Ls q k g) (Dl q k v g d) :=
  final8 m _ _ _ _ _ _ c (at105 m q k v g d c h0 h1 h2 h3 h4) (at54 m q k v g d c h0 h1 h2 h3 h4) (at98 m q k v g d c h0 h1 h2 h3 h4) (at106 m q k v g d c h0 h1 h2 h3 h4) (at108 m q k v g d c h0 h1 h2 h3 h4) (at110 m q k v g d c h0 h1 h2 h3 h4)
theorem out9 : (dats m 0 c).arrAt 9 cfg0.N = G9 (f0 k g) (f1 q k v) (f2 q) d (Ls q k g) (Dl q k v g d) :=
  final9 m _ _ _ _ _ _ c (at105 m q k v g d c h0 h1 h2 h3 h4) (at54 m q k v g d c h0 h1 h2 h3 h4) (at98 m q k v g d c h0 h1 h2 h3 h4) (at106 m q k v g d c h0 h1 h2 h3 h4) (at108 m q k v g d c h0 h1 h2 h3 h4) (at110 m q k v g d c h0 h1 h2 h3 h4)
theorem out10 : (dats m 0 c).arrAt 10 cfg0.N = G10 (f0 k g) (f2 q) d (Ls q k g) :=
  final10 m _ _ _ _ _ _ c (at105 m q k v g d c h0 h1 h2 h3 h4) (at54 m q k v g d c h0 h1 h2 h3 h4) (at98 m q k v g d c h0 h1 h2 h3 h4) (at106 m q k v g d c h0 h1 h2 h3 h4) (at108 m q k v g d c h0 h1 h2 h3 h4) (at110 m q k v g d c h0 h1 h2 h3 h4)
/-- What the host makes of the call's second and fourth outputs. -/
theorem out_tail : Pipeline.afterTail₀ cfgs (dats m) 0 (V0 m) [hostOps1] c main_v118 = r_v85 (co2 q) (co2 k) (co2 v) (co2 g) (co2 d) := by
  have hinj : Function.Injective (Pipeline.arrRef spec0) := by decide
  have e7 := Pipeline.withArrays_arr (cfgs 0).spec hinj c (V0 m c) (fun w => (dats m 0 c).arrAt w (cfgs 0).N) 7
  have e9 := Pipeline.withArrays_arr (cfgs 0).spec hinj c (V0 m c) (fun w => (dats m 0 c).arrAt w (cfgs 0).N) 9
  refine (tail_read _).trans (Eq.trans ?_ (key85 q k v g d).symm)
  exact congrArg₂ tl (e7.trans (out7 m q k v g d c h0 h1 h2 h3 h4)) (e9.trans (out9 m q k v g d c h0 h1 h2 h3 h4))

end Cert.KernelIdeal.Fox

namespace Cert.FoxClaims

open Cert.KernelIdeal.Fox (co2 dats out6 out8 out10 out_tail key92 key93 key94)
open Cert.ReferenceIdeal.Fox (r_v92 r_v93 r_v94 r_v85 res_v92 res_v93 res_v94 res_v85)
open Idealize.ShloMosaic Idealize.ShloMosaic.TcCoe Idealize.SL.Sem

attribute [local instance] finite_facts

theorem frame_ideal_finite : Cert.quiescent_KernelIdeal_pre_finite := fun m ρ _ => frame_ideal m ρ trivial
theorem frame_reference_finite : Cert.quiescent_ReferenceIdeal_pre_finite := fun m ρ _ => frame_reference m ρ trivial

/-- The four results agree wherever the arguments are real. -/
theorem values : Cert.algebraic_KernelIdeal_ReferenceIdeal_pre_finite := fun m ρ m' ρ' hf hm => by
  have hr := fun c : Dev Cert.KernelIdeal.nD => And.intro (wide _ (hf c).1) (And.intro (wide _ (hf c).2.1) (And.intro (wide _ (hf c).2.2.1) (And.intro (narrow _ (hf c).2.2.2.1) (wide _ (hf c).2.2.2.2))))
  refine ⟨fun c => r_v92 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => r_v93 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => r_v94 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), fun c => r_v85 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run _ _ _).mono (fun r h c => ?_) (θ_run_and (Cert.KernelIdeal.Fox.run_main m ρ) (Cert.KernelIdeal.Fox.frame m ρ))
    obtain ⟨a0, a1, a2, a3, a4⟩ := hr c
    have hp := h.1.1 c
    refine ⟨(hp.1 6).trans ?_, (hp.1 8).trans ?_, (hp.1 10).trans ?_, (hp.2 Cert.KernelIdeal.main_v118 (Pipeline.mem_restRefs_of Cert.KernelIdeal.main_v118 (by decide) (by decide))).trans ?_, h.2.1 c⟩
    · exact ((out6 m _ _ _ _ _ c a0 a1 a2 a3 a4).trans (key92 _ _ _ _ _).symm).trans (congr (congr (congr (congr (congrArg r_v92 a0) a1) a2) a3) a4).symm
    · exact ((out8 m _ _ _ _ _ c a0 a1 a2 a3 a4).trans (key93 _ _ _ _ _).symm).trans (congr (congr (congr (congr (congrArg r_v93 a0) a1) a2) a3) a4).symm
    · exact ((out10 m _ _ _ _ _ c a0 a1 a2 a3 a4).trans (key94 _ _ _ _ _).symm).trans (congr (congr (congr (congr (congrArg r_v94 a0) a1) a2) a3) a4).symm
    · exact (out_tail m _ _ _ _ _ c a0 a1 a2 a3 a4).trans (congr (congr (congr (congr (congrArg r_v85 a0) a1) a2) a3) a4).symm
  · refine (θ_run _ _ _).mono (fun r h c => ?_) (Cert.ReferenceIdeal.Value.run (F := Ideal) m' ρ')
    obtain ⟨e0, e1, e2, e3, e4⟩ := hm c
    obtain ⟨b0, b1, b2, b3, hb⟩ := h c
    refine ⟨b0.trans ((res_v92 m' c).trans ?_), b1.trans ((res_v93 m' c).trans ?_), b2.trans ((res_v94 m' c).trans ?_), b3.trans ((res_v85 m' c).trans ?_), hb⟩
    · exact congr (congr (congr (congr (congrArg r_v92 e0) e1) e2) e3) e4
    · exact congr (congr (congr (congr (congrArg r_v93 e0) e1) e2) e3) e4
    · exact congr (congr (congr (congr (congrArg r_v94 e0) e1) e2) e3) e4
    · exact congr (congr (congr (congr (congrArg r_v85 e0) e1) e2) e3) e4

end Cert.FoxClaims

end
-- ==== Proof.Frames.lean ====
/- The frames of the further calls' programs. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import Idealize.ShloMosaic.Lib.Quiescent

@[expose] public section

noncomputable section

namespace Cert.FoxClaims

open Idealize.ShloMosaic Idealize.SL.Sem

theorem frame_kernel2 : Cert.quiescent_Kernel2 := fun m ρ _ => Cert.Kernel2.Gen.frame m ρ
theorem frame_ideal2 : Cert.quiescent_Kernel2Ideal := fun m ρ _ => Cert.Kernel2Ideal.Gen.frame m ρ
theorem frame_reference2 : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

theorem frame_kernel3 : Cert.quiescent_Kernel3 := fun m ρ _ => Cert.Kernel3.Gen.frame m ρ
theorem frame_ideal3 : Cert.quiescent_Kernel3Ideal := fun m ρ _ => Cert.Kernel3Ideal.Gen.frame m ρ
theorem frame_reference3 : Cert.quiescent_Reference3Ideal := fun m ρ _ =>
  (θ_run _ _ _).mono (fun r h => ⟨fun c => (h c).2.2.2, sem_eq_zero_of_no_sems (by decide) r.2⟩) (Cert.Reference3Ideal.Value.run (F := Ideal) m ρ)

theorem frame_kernel4 : Cert.quiescent_Kernel4 := fun m ρ _ => Cert.Kernel4.Gen.frame m ρ
theorem frame_ideal4 : Cert.quiescent_Kernel4Ideal := fun m ρ _ => Cert.Kernel4Ideal.Gen.frame m ρ
theorem frame_reference4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

theorem frame_kernel5 : Cert.quiescent_Kernel5 := fun m ρ _ => Cert.Kernel5.Gen.frame m ρ
theorem frame_ideal5 : Cert.quiescent_Kernel5Ideal := fun m ρ _ => Cert.Kernel5Ideal.Gen.frame m ρ
theorem frame_reference5 : Cert.quiescent_Reference5Ideal := fun m ρ _ =>
  (θ_run _ _ _).mono (fun r h => ⟨fun c => (h c).2, sem_eq_zero_of_no_sems (by decide) r.2⟩) (Cert.Reference5Ideal.Value.run (F := Ideal) m ρ)

theorem frame_kernel6 : Cert.quiescent_Kernel6 := fun m ρ _ => Cert.Kernel6.Gen.frame m ρ
theorem frame_ideal6 : Cert.quiescent_Kernel6Ideal := fun m ρ _ => Cert.Kernel6Ideal.Gen.frame m ρ
theorem frame_reference6 : Cert.quiescent_Reference6Ideal := fun m ρ _ =>
  (θ_run _ _ _).mono (fun r h => ⟨fun c => (h c).2, sem_eq_zero_of_no_sems (by decide) r.2⟩) (Cert.Reference6Ideal.Value.run (F := Ideal) m ρ)

theorem frame_kernel7 : Cert.quiescent_Kernel7 := fun m ρ _ => Cert.Kernel7.Gen.frame m ρ
theorem frame_ideal7 : Cert.quiescent_Kernel7Ideal := fun m ρ _ => Cert.Kernel7Ideal.Gen.frame m ρ
theorem frame_reference7 : Cert.quiescent_Reference7Ideal := fun m ρ _ =>
  (θ_run _ _ _).mono (fun r h => ⟨fun c => (h c).2, sem_eq_zero_of_no_sems (by decide) r.2⟩) (Cert.Reference7Ideal.Value.run (F := Ideal) m ρ)

theorem frame_kernel8 : Cert.quiescent_Kernel8 := fun m ρ _ => Cert.Kernel8.Gen.frame m ρ
theorem frame_ideal8 : Cert.quiescent_Kernel8Ideal := fun m ρ _ => Cert.Kernel8Ideal.Gen.frame m ρ
theorem frame_reference8 : Cert.quiescent_Reference8Ideal := fun m ρ _ =>
  (θ_run _ _ _).mono (fun r h => ⟨fun c => (h c).2.2, sem_eq_zero_of_no_sems (by decide) r.2⟩) (Cert.Reference8Ideal.Value.run (F := Ideal) m ρ)

theorem frame_kernel9 : Cert.quiescent_Kernel9 := fun m ρ _ => Cert.Kernel9.Gen.frame m ρ
theorem frame_ideal9 : Cert.quiescent_Kernel9Ideal := fun m ρ _ => Cert.Kernel9Ideal.Gen.frame m ρ
theorem frame_reference9 : Cert.quiescent_Reference9Ideal := fun m ρ _ =>
  (θ_run _ _ _).mono (fun r h => ⟨fun c => (h c).2, sem_eq_zero_of_no_sems (by decide) r.2⟩) (Cert.Reference9Ideal.Value.run (F := Ideal) m ρ)
theorem frame_kernel10 : Cert.quiescent_Kernel10 := fun m ρ _ => Cert.Kernel10.Gen.frame m ρ
theorem frame_ideal10 : Cert.quiescent_Kernel10Ideal := fun m ρ _ => Cert.Kernel10Ideal.Gen.frame m ρ
theorem frame_reference10 : Cert.quiescent_Reference10Ideal := fun m ρ _ =>
  (θ_run _ _ _).mono (fun r h => ⟨fun c => (h c).2.2.2, sem_eq_zero_of_no_sems (by decide) r.2⟩) (Cert.Reference10Ideal.Value.run (F := Ideal) m ρ)

end Cert.FoxClaims

end
-- ==== Proof.FfnDown.lean ====
/- The backward call of the feed-forward's second product: the gradients of the gate and of the up projection. -/
module

public import proofs.«01_k».proof.Defs
public import proofs.«01_k».proof.Proof.Finite
public import proofs.«01_k».proof.Proof.Math
public import proofs.«01_k».proof.Proof.Gen.Kernel2Ideal.Value
public import proofs.«01_k».proof.Proof.Gen.Reference2Ideal.Run
public import Idealize.ShloMosaic.Lib.StableHlo.RunRead

@[expose] public section

set_option maxRecDepth 16384

noncomputable section

namespace Cert.FoxClaims.Ffn

open Cert.KernelIdeal.Fox (co2 coe_sum_mul div_co)
open Idealize.ShloMosaic

/-- The gradient of the activation: a row of the incoming gradient against a row of the weights. -/
def da (D W : ℕ → ℕ → ℝ) (a b : ℕ) : ℝ := ∑ x ∈ Finset.range 1024, D a x * W b x
/-- The logistic function. -/
def sg (x : ℝ) : ℝ := 1 * (1 + Real.exp (0 - x))⁻¹
/-- The gradient of the up projection, and of the gate. -/
def du (D W G : ℕ → ℕ → ℝ) (a b : ℕ) : ℝ := da D W a b * (G a b * sg (G a b))
def dg (D W G U : ℕ → ℕ → ℝ) (a b : ℕ) : ℝ := da D W a b * (U a b * (sg (G a b) + G a b * sg (G a b) * (1 - sg (G a b))))

theorem sg_co (x : ℝ) : Ideal.div ((1 : ℝ) : EReal) (((1 : ℝ) : EReal) + Ideal.exp (((0 : ℝ) : EReal) - (x : EReal))) = ((sg x : ℝ) : EReal) := by
  rw [← EReal.coe_sub, show Ideal.exp ((0 - x : ℝ) : EReal) = ((Real.exp (0 - x) : ℝ) : EReal) from rfl, ← EReal.coe_add]
  exact div_co _ _ (by positivity)

theorem sg_neg (x : ℝ) : Ideal.div ((1 : ℝ) : EReal) (((1 : ℝ) : EReal) + Ideal.exp (-(x : EReal))) = ((sg x : ℝ) : EReal) := by
  rw [← EReal.coe_neg, ← zero_sub, EReal.coe_sub]; exact sg_co x

end Cert.FoxClaims.Ffn

namespace Cert.Kernel2Ideal.Ffn

open Cert.Kernel2Ideal Cert.Kernel2Ideal.Gen Cert.FoxClaims.Ffn
open Cert.KernelIdeal.Fox (co2 coe_sum_mul div_co)
open Idealize.ShloMosaic Idealize.ShloMosaic.TcCoe Idealize.ShloMosaic.Tactic Idealize.SL.Sem

variable (D W G U : ℕ → ℕ → ℝ)

theorem pay1 : k0_pay1 (F := Ideal) (co2 D) (co2 W) = co2 (da D W) := by
  funext j; pointwise [k0_pay1]; exact coe_sum_mul (n := 1024) (D (j 0).val) (W (j 1).val)

theorem pay4 : k0_pay4 (F := Ideal) (co2 G) = co2 fun a b => sg (G a b) := by
  funext j; pointwise [k0_pay4, k0_pay3, k0_pay2]
  exact sg_co _

theorem pay5 : k0_pay5 (F := Ideal) (co2 G) = co2 fun a b => G a b * sg (G a b) := by
  unfold k0_pay5
  rw [pay4]
  funext j; pointwise [k0_pay2]
  exact (EReal.coe_mul _ _).symm

theorem pay6 : k0_pay6 (F := Ideal) (co2 D) (co2 W) (co2 G) = co2 (du D W G) := by
  unfold k0_pay6
  rw [pay1, pay5]
  funext j; pointwise
  exact (EReal.coe_mul _ _).symm

theorem pay7 : k0_pay7 (F := Ideal) (co2 D) (co2 W) (co2 G) (co2 U) = co2 (dg D W G U) := by
  unfold k0_pay7
  rw [pay1, pay4, pay5]
  funext j; pointwise [k0_pay3]
  unfold co2 dg
  simp only [EReal.coe_mul, EReal.coe_add, EReal.coe_sub, EReal.coe_one]

theorem hz : (![0, 0] : Fin 2 → Nat) = fun _ => 0 := funext fun a => by fin_cases a <;> rfl

theorem out4 : out0_4 (F := Ideal) (co2 D) (co2 W) (co2 G) (co2 U) = co2 (dg D W G U) := by
  unfold out0_4
  rw [View.canon_unit_zero hz, View.ld_unit_zero (S := S256x1024) hz, View.ld_unit_zero (S := S2816x1024) hz, View.ld_unit_zero (S := S256x2816) hz, View.ld_unit_zero (S := S256x2816) hz]
  exact pay7 D W G U

theorem out5 : out0_5 (F := Ideal) (co2 D) (co2 W) (co2 G) (co2 U) = co2 (du D W G) := by
  unfold out0_5
  rw [View.canon_unit_zero hz, View.ld_unit_zero (S := S256x1024) hz, View.ld_unit_zero (S := S2816x1024) hz, View.ld_unit_zero (S := S256x2816) hz]
  exact pay6 D W G

variable (m : (ℓ : Loc nD τ sig) → Buf (Elt Ideal) ℓ) (c : Dev nD)
  (h0 : m ((c.tc : Thread nD τ).loc main_arg0) = (co2 G : S8192x2816.Idx → EReal)) (h1 : m ((c.tc : Thread nD τ).loc main_arg1) = (co2 U : S8192x2816.Idx → EReal))
  (h2 : m ((c.tc : Thread nD τ).loc main_arg2) = (co2 W : S2816x1024.Idx → EReal)) (h3 : m ((c.tc : Thread nD τ).loc main_arg3) = (co2 D : S8192x1024.Idx → EReal))

theorem read0 : V m c main_v0 = (m ((c.tc : Thread nD τ).loc main_arg3) : S8192x1024.Idx → EReal) := by
  after_reads_simp
  rfl
theorem read1 : V m c main_v1 = (m ((c.tc : Thread nD τ).loc main_arg2) : S2816x1024.Idx → EReal) := by
  after_reads_simp
  rfl
theorem read2 : V m c main_v2 = (m ((c.tc : Thread nD τ).loc main_arg0) : S8192x2816.Idx → EReal) := by
  after_reads_simp
  rfl
theorem read3 : V m c main_v3 = (m ((c.tc : Thread nD τ).loc main_arg1) : S8192x2816.Idx → EReal) := by
  after_reads_simp
  rfl

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

include h3 in
theorem blk0 (t : Fin grid0.N) : iblk m c 0 t = (co2 (fun a b => D (256 * t.val + a) b) : S256x1024.Idx → EReal) := by
  funext y
  unfold iblk
  rw [View.read_apply]
  show V m c main_v0 _ = _
  rw [read0, h3]
  refine congrArg (fun z : ℝ => (z : EReal)) (congrArg₂ D ?_ ?_)
  · show win0_0.index t 0 * 256 + 1 * (y 0).val = _
    rw [(index0 t).1]; omega
  · show win0_0.index t 1 * 1024 + 1 * (y 1).val = _
    rw [(index0 t).2]; omega

include h2 in
theorem blk1 (t : Fin grid0.N) : iblk m c 1 t = (co2 W : S2816x1024.Idx → EReal) := by
  funext y
  unfold iblk
  rw [View.read_apply]
  show V m c main_v1 _ = _
  rw [read1, h2]
  refine congrArg (fun z : ℝ => (z : EReal)) (congrArg₂ W ?_ ?_)
  · show win0_1.index t 0 * 2816 + 1 * (y 0).val = _
    rw [(index1 t).1]; omega
  · show win0_1.index t 1 * 1024 + 1 * (y 1).val = _
    rw [(index1 t).2]; omega

include h0 in
theorem blk2 (t : Fin grid0.N) : iblk m c 2 t = (co2 (fun a b => G (256 * t.val + a) b) : S256x2816.Idx → EReal) := by
  funext y
  unfold iblk
  rw [View.read_apply]
  show V m c main_v2 _ = _
  rw [read2, h0]
  refine congrArg (fun z : ℝ => (z : EReal)) (congrArg₂ G ?_ ?_)
  · show win0_2.index t 0 * 256 + 1 * (y 0).val = _
    rw [(index2 t).1]; omega
  · show win0_2.index t 1 * 2816 + 1 * (y 1).val = _
    rw [(index2 t).2]; omega

include h1 in
theorem blk3 (t : Fin grid0.N) : iblk m c 3 t = (co2 (fun a b => U (256 * t.val + a) b) : S256x2816.Idx → EReal) := by
  funext y
  unfold iblk
  rw [View.read_apply]
  show V m c main_v3 _ = _
  rw [read3, h1]
  refine congrArg (fun z : ℝ => (z : EReal)) (congrArg₂ U ?_ ?_)
  · show win0_3.index t 0 * 256 + 1 * (y 0).val = _
    rw [(index3 t).1]; omega
  · show win0_3.index t 1 * 2816 + 1 * (y 1).val = _
    rw [(index3 t).2]; omega

theorem xsize4 : ∀ t : Fin grid0.N, win0_4.xsize (grid0.coords t) 0 = 256 ∧ win0_4.xsize (grid0.coords t) 1 = 2816 := by decide +kernel
theorem xsize5 : ∀ t : Fin grid0.N, win0_5.xsize (grid0.coords t) 0 = 256 ∧ win0_5.xsize (grid0.coords t) 1 = 2816 := by decide +kernel

include h0 h1 h2 h3 in
theorem final4 : (dats m 0 c).arrAt 4 cfg0.N = (co2 (dg D W G U) : S8192x2816.Idx → EReal) := by
  refine (dats m 0 c).arrAt_eq_of_cover 4 (co2 (dg D W G U) : S8192x2816.Idx → EReal) (fun t _ => ?_) fun i => ?_
  · show (cfg0.win 4).cut (grid0.coords t) ((dats m 0 c).after 4 t) = _
    rw [after0_4, blk0 D m c h3 t, blk1 W m c h2 t, blk2 G m c h0 t, blk3 U m c h1 t, out4]
    funext y
    rw [View.read_apply]
    refine congrArg (fun z : ℝ => (z : EReal)) ?_
    show dg _ W _ _ (y 0).val (y 1).val = dg D W G U (win0_4.index t 0 * 256 + 1 * (y 0).val) (win0_4.index t 1 * 2816 + 1 * (y 1).val)
    rw [(index4 t).1, (index4 t).2, show t.val * 256 + 1 * (y 0).val = 256 * t.val + (y 0).val by omega, show 0 * 2816 + 1 * (y 1).val = (y 1).val by omega]
    rfl
  · have i0 : (i 0 : Nat) < 8192 := (i 0).isLt
    have i1 : (i 1 : Nat) < 2816 := (i 1).isLt
    obtain ⟨T, hv⟩ : ∃ T : Fin cfg0.N, T.val = (i 0).val / 256 := ⟨⟨(i 0).val / 256, lt_of_lt_of_eq (b := 32) (by omega) N_0.symm⟩, rfl⟩
    refine ⟨T, flush0_4 T, ?_⟩
    show i ∈ ((View.whole main_v4_0).slice (win0_4.rect T)).set
    rw [View.set_slice_whole, Rect.mem_set_unit]
    intro a
    match a with
    | ⟨0, _⟩ =>
      show win0_4.index T 0 * 256 ≤ (i 0 : Nat) ∧ (i 0 : Nat) < win0_4.index T 0 * 256 + win0_4.xsize (grid0.coords T) 0
      rw [(index4 T).1, (xsize4 T).1]; omega
    | ⟨1, _⟩ =>
      show win0_4.index T 1 * 2816 ≤ (i 1 : Nat) ∧ (i 1 : Nat) < win0_4.index T 1 * 2816 + win0_4.xsize (grid0.coords T) 1
      rw [(index4 T).2, (xsize4 T).2]; omega

include h0 h1 h2 h3 in
theorem final5 : (dats m 0 c).arrAt 5 cfg0.N = (co2 (du D W G) : S8192x2816.Idx → EReal) := by
  refine (dats m 0 c).arrAt_eq_of_cover 5 (co2 (du D W G) : S8192x2816.Idx → EReal) (fun t _ => ?_) fun i => ?_
  · show (cfg0.win 5).cut (grid0.coords t) ((dats m 0 c).after 5 t) = _
    rw [after0_5, blk0 D m c h3 t, blk1 W m c h2 t, blk2 G m c h0 t, blk3 U m c h1 t, out5]
    funext y
    rw [View.read_apply]
    refine congrArg (fun z : ℝ => (z : EReal)) ?_
    show du _ W _ (y 0).val (y 1).val = du D W G (win0_5.index t 0 * 256 + 1 * (y 0).val) (win0_5.index t 1 * 2816 + 1 * (y 1).val)
    rw [(index5 t).1, (index5 t).2, show t.val * 256 + 1 * (y 0).val = 256 * t.val + (y 0).val by omega, show 0 * 2816 + 1 * (y 1).val = (y 1).val by omega]
    rfl
  · have i0 : (i 0 : Nat) < 8192 := (i 0).isLt
    have i1 : (i 1 : Nat) < 2816 := (i 1).isLt
    obtain ⟨T, hv⟩ : ∃ T : Fin cfg0.N, T.val = (i 0).val / 256 := ⟨⟨(i 0).val / 256, lt_of_lt_of_eq (b := 32) (by omega) N_0.symm⟩, rfl⟩
    refine ⟨T, flush0_5 T, ?_⟩
    show i ∈ ((View.whole main_v4_1).slice (win0_5.rect T)).set
    rw [View.set_slice_whole, Rect.mem_set_unit]
    intro a
    match a with
    | ⟨0, _⟩ =>
      show win0_5.index T 0 * 256 ≤ (i 0 : Nat) ∧ (i 0 : Nat) < win0_5.index T 0 * 256 + win0_5.xsize (grid0.coords T) 0
      rw [(index5 T).1, (xsize5 T).1]; omega
    | ⟨1, _⟩ =>
      show win0_5.index T 1 * 2816 ≤ (i 1 : Nat) ∧ (i 1 : Nat) < win0_5.index T 1 * 2816 + win0_5.xsize (grid0.coords T) 1
      rw [(index5 T).2, (xsize5 T).2]; omega

end Cert.Kernel2Ideal.Ffn

namespace Cert.Reference2Ideal.Ffn

open Cert.Reference2Ideal Cert.Reference2Ideal.Facts₀ Cert.FoxClaims.Ffn
open Cert.KernelIdeal.Fox (co2 coe_sum_mul)
open Idealize.ShloMosaic Idealize.ShloMosaic.TcCoe Idealize.SL.Sem

variable (D W G U : ℕ → ℕ → ℝ)

/-- The reference's logistic function. -/
def logi (g : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf g)))
/-- Its product of the incoming gradient with the weights. -/
def prod (d : FVec Ideal S8192x1024 .f32) (w : FVec Ideal S2816x1024 .f32) : FVec Ideal S8192x2816 .f32 :=
  Host.dotGeneral dot_S8192x1024_S2816x1024_S8192x2816_1_1_0_0_n_n none d w
/-- Its two results. -/
def resG (g u : FVec Ideal S8192x2816 .f32) (w : FVec Ideal S2816x1024 .f32) (d : FVec Ideal S8192x1024 .f32) : FVec Ideal S8192x2816 .bf16 :=
  truncf .bf16 (addf (mulf (mulf (prod d w) u) (logi g)) (mulf (mulf g (mulf (prod d w) u)) (mulf (logi g) (subf (broadcastInDim S8192x2816 ![] bcast_S_S8192x2816 (constant S_ .f32 0x3F800000#32)) (logi g))))) bitsLt_bf16_f32
def resU (g : FVec Ideal S8192x2816 .f32) (w : FVec Ideal S2816x1024 .f32) (d : FVec Ideal S8192x1024 .f32) : FVec Ideal S8192x2816 .bf16 :=
  truncf .bf16 (mulf (mulf g (logi g)) (prod d w)) bitsLt_bf16_f32

theorem logi_co : logi (co2 G) = co2 fun a b => sg (G a b) := by
  funext j; pointwise [logi]
  exact sg_neg _

theorem prod_co : prod (co2 D) (co2 W) = co2 (da D W) := by
  funext j; pointwise [prod]; exact coe_sum_mul (n := 1024) (D (j 0).val) (W (j 1).val)

theorem resG_co : resG (co2 G) (co2 U) (co2 W) (co2 D) = co2 (dg D W G U) := by
  unfold resG
  rw [logi_co, prod_co]
  funext j; pointwise
  unfold co2 dg
  simp only [← EReal.coe_one, ← EReal.coe_mul, ← EReal.coe_add, ← EReal.coe_sub]
  exact congrArg (fun z : ℝ => (z : EReal)) (by ring)

theorem resU_co : resU (co2 G) (co2 W) (co2 D) = co2 (du D W G) := by
  unfold resU
  rw [logi_co, prod_co]
  funext j; pointwise
  unfold co2 du
  simp only [← EReal.coe_mul]
  exact congrArg (fun z : ℝ => (z : EReal)) (by ring)

end Cert.Reference2Ideal.Ffn

namespace Cert.FoxClaims

open Cert.KernelIdeal.Fox (co2)
open Cert.Reference2Ideal.Ffn (resG resU resG_co resU_co)
open Idealize.ShloMosaic Idealize.ShloMosaic.TcCoe Idealize.SL.Sem

/-- The predicate's broadcasts are of a scalar. -/
theorem finite2_facts : Cert.Pre_finite2.Facts where
  bcast_S_S8192x2816 := by decide
  bcast_S_S2816x1024 := by decide
  bcast_S_S8192x1024 := by decide

attribute [local instance] finite2_facts

/-- What the predicate says of one of its matrices: it is one of reals. -/
theorem real_of_pre {a b : ℕ} (x : FVec Ideal ⟨2, ![a, b]⟩ .f32) (hb : (⟨0, ![]⟩ : Shape).BroadcastsInDim ⟨2, ![a, b]⟩ (![] : Fin 0 → Fin 2))
    (h : cmpf .olt (Host.absf x) (broadcastInDim ⟨2, ![a, b]⟩ ![] hb (constant ⟨0, ![]⟩ .f32 0x7F800000#32)) = fun _ => 1#1) :
    x = co2 (fnOf x) :=
  fnOf_eq x fun i => real_of_lt (x i) (by
    have e := congrFun h i
    rw [← top_word]
    exact e)

/-- The two results agree wherever the arguments are real. -/
theorem values2 : Cert.algebraic_Kernel2Ideal_Reference2Ideal_pre_finite2 := fun m ρ m' ρ' hf hm => by
  have hr := fun c : Dev Cert.Kernel2Ideal.nD => And.intro (real_of_pre _ _ (hf c).1) (And.intro (real_of_pre _ _ (hf c).2.1) (And.intro (real_of_pre _ _ (hf c).2.2.1) (real_of_pre _ _ (hf c).2.2.2)))
  refine ⟨fun c => resG (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
    fun c => resU (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), ?_, ?_⟩
  · refine (θ_run _ _ _).mono (fun r h c => ?_) (Cert.Kernel2Ideal.Value.run_blocks (F := Ideal) m ρ)
    obtain ⟨a0, a1, a2, a3⟩ := hr c
    obtain ⟨b0, b1, hb⟩ := h c
    refine ⟨b0.trans ?_, b1.trans ?_, hb⟩
    · exact ((Cert.Kernel2Ideal.Ffn.final4 _ _ _ _ m c a0 a1 a2 a3).trans (resG_co _ _ _ _).symm).trans (congr (congr (congr (congrArg resG a0) a1) a2) a3).symm
    · exact ((Cert.Kernel2Ideal.Ffn.final5 _ _ _ _ m c a0 a1 a2 a3).trans (resU_co _ _ _).symm).trans (congr (congr (congrArg resU a0) a2) a3).symm
  · refine (θ_run _ _ _).mono (fun r h c => ?_) (Cert.Reference2Ideal.Value.run (F := Ideal) m' ρ')
    obtain ⟨e0, e1, e2, e3⟩ := hm c
    obtain ⟨b0, b1, hb⟩ := h c
    refine ⟨b0.trans ?_, b1.trans ?_, hb⟩
    · have e := congr (congr (congr (congrArg resG e0) e1) e2) e3
      exact e
    · have e := congr (congr (congrArg resU e0) e2) e3
      exact e

end Cert.FoxClaims

end
-- ==== Proof.WgradSum.lean ====
/- Weight gradients, away from any program: a product of two tall matrices, gathered tile of rows by tile of rows. -/
module

public import Idealize.ShloMosaic.Lib.Pointwise
public import Idealize.ShloMosaic.Lib.IdealHost

@[expose] public section

noncomputable section

namespace Cert.FoxClaims.Sum

open Idealize.ShloMosaic

/-- The element in row `a`, column `b`, as a function of two numbers. -/
def at2 {m n : ℕ} (x : (⟨2, ![m, n]⟩ : Shape).Idx → EReal) (a b : ℕ) : EReal :=
  if h : a < m ∧ b < n then x (ix2 ⟨a, h.1⟩ ⟨b, h.2⟩) else 0

theorem at2_eq {m n : ℕ} (x : (⟨2, ![m, n]⟩ : Shape).Idx → EReal) (i : (⟨2, ![m, n]⟩ : Shape).Idx) : x i = at2 x (i 0).val (i 1).val := by
  have i0 : (i 0).val < m := (i 0).isLt
  have i1 : (i 1).val < n := (i 1).isLt
  have e : (ix2 ⟨(i 0).val, i0⟩ ⟨(i 1).val, i1⟩ : (⟨2, ![m, n]⟩ : Shape).Idx) = i := (eq_ix2 i).symm
  show x i = if h : (i 0).val < m ∧ (i 1).val < n then x (ix2 ⟨(i 0).val, h.1⟩ ⟨(i 1).val, h.2⟩) else 0
  rw [dif_pos ⟨i0, i1⟩]
  exact congrArg x e.symm

theorem hz : (![0, 0] : Fin 2 → Nat) = fun _ => 0 := funext fun a => by fin_cases a <;> rfl

variable {m p q : ℕ}

/-- The terms of the sum: row `t` of the two operands, at the columns `a` and `b`. -/
def term (x : (⟨2, ![m, p]⟩ : Shape).Idx → EReal) (y : (⟨2, ![m, q]⟩ : Shape).Idx → EReal) (a b t : ℕ) : EReal := at2 x t a * at2 y t b

/-- The product of the first `n` rows: of the block of columns from `a` of the one operand and from `b` of the other. -/
def upto (x : (⟨2, ![m, p]⟩ : Shape).Idx → EReal) (y : (⟨2, ![m, q]⟩ : Shape).Idx → EReal) {p' q' : ℕ} (a b n : ℕ) : (⟨2, ![p', q']⟩ : Shape).Idx → EReal :=
  fun j => ∑ t ∈ Finset.range n, term x y (a + (j 0).val) (b + (j 1).val) t

/-- The product of all rows. -/
def whole (x : (⟨2, ![m, p]⟩ : Shape).Idx → EReal) (y : (⟨2, ![m, q]⟩ : Shape).Idx → EReal) : (⟨2, ![p, q]⟩ : Shape).Idx → EReal :=
  fun j => ∑ t ∈ Finset.range m, term x y (j 0).val (j 1).val t

/-- A tile's own product, added to the product of the rows before it, is the product of the rows with it. -/
theorem upto_tile (x : (⟨2, ![m, p]⟩ : Shape).Idx → EReal) (y : (⟨2, ![m, q]⟩ : Shape).Idx → EReal) {p' q' r : ℕ} (a b n : ℕ)
    (X : (⟨2, ![r, p']⟩ : Shape).Idx → EReal) (Y : (⟨2, ![r, q']⟩ : Shape).Idx → EReal)
    (hX : ∀ j, X j = at2 x (r * n + (j 0).val) (a + (j 1).val)) (hY : ∀ j, Y j = at2 y (r * n + (j 0).val) (b + (j 1).val))
    (j : (⟨2, ![p', q']⟩ : Shape).Idx) :
    upto x y a b (r * n) j + ∑ k ∈ Finset.range r, at2 X k (j 0).val * at2 Y k (j 1).val = upto x y a b (r * (n + 1)) j := by
  have j0 : (j 0).val < p' := (j 0).isLt
  have j1 : (j 1).val < q' := (j 1).isLt
  unfold upto
  rw [show r * (n + 1) = r * n + r by ring, Finset.sum_range_add]
  refine congrArg (_ + ·) (Finset.sum_congr rfl fun k hk => ?_)
  have hk' := Finset.mem_range.mp hk
  exact congrArg₂ (· * ·) ((dif_pos ⟨hk', j0⟩).trans (hX _)) ((dif_pos ⟨hk', j1⟩).trans (hY _))

/-- A grid whose points come in runs of four: the first of a run starts the scratch `sc`, the next ones add to it, the last writes it out. -/
theorem run_of_four {N : ℕ} {β : Type} (sc out : ∀ n, n < N → β) (P : ∀ n, n < N → β → β) (Z : β) (U : ℕ → ℕ → β)
    (first : ∀ n h, n % 4 = 0 → sc n h = P n h Z)
    (middle : ∀ n h, ¬n % 4 = 0 → ¬n % 4 = 3 → sc n h = P n h (sc (n - 1) (Nat.lt_of_le_of_lt (Nat.sub_le _ _) h)))
    (last : ∀ n h, n % 4 = 3 → out n h = P n h (sc (n - 1) (Nat.lt_of_le_of_lt (Nat.sub_le _ _) h)))
    (zero : ∀ k, Z = U k 0) (step : ∀ n h s, s = U (n / 4) (n % 4) → P n h s = U (n / 4) (n % 4 + 1))
    (n : ℕ) (h : n < N) (hn : n % 4 = 3) : out n h = U (n / 4) 4 := by
  have key : ∀ n h, n % 4 < 3 → sc n h = U (n / 4) (n % 4 + 1) := by
    intro n
    induction n with
    | zero => exact fun h _ => (first 0 h rfl).trans (step 0 h _ (zero _))
    | succ n ih =>
      intro h hlt
      by_cases h0 : (n + 1) % 4 = 0
      · exact (first _ h h0).trans (step _ h _ ((zero _).trans (by rw [h0])))
      · refine (middle _ h h0 (by omega)).trans (step _ h _ ((ih (Nat.lt_of_succ_lt h) (by omega)).trans ?_))
        rw [show n / 4 = (n + 1) / 4 by omega, show n % 4 + 1 = (n + 1) % 4 by omega]
  refine (last n h hn).trans ((step n h _ ?_).trans (by rw [hn]))
  refine (key (n - 1) _ (by omega)).trans ?_
  rw [show (n - 1) / 4 = n / 4 by omega, show (n - 1) % 4 + 1 = n % 4 by omega]

end Cert.FoxClaims.Sum

end
-- ==== Proof.NormMath.lean ====
/- The backward step of the RMS norm, and the feed-forward's first product's gradient, on the extended reals. -/
module

public import Idealize.ShloMosaic.Lib.Pointwise
public import Idealize.ShloMosaic.Lib.IdealHost

@[expose] public section

noncomputable section

namespace Cert.FoxClaims.Norm

open Idealize.ShloMosaic

/-- The matrix of a function of two numbers. -/
def ce {m n : ℕ} (f : ℕ → ℕ → EReal) : (⟨2, ![m, n]⟩ : Shape).Idx → EReal := fun j => f (j 0).val (j 1).val

theorem ce_congr {m n : ℕ} {f g : ℕ → ℕ → EReal} (h : ∀ a, a < m → ∀ b, b < n → f a b = g a b) : (ce f : (⟨2, ![m, n]⟩ : Shape).Idx → EReal) = ce g :=
  funext fun j => h _ (j 0).isLt _ (j 1).isLt

/-- A sum over the columns, as one over numbers. -/
theorem sum_num {n : ℕ} (f : ℕ → EReal) : (∑ k : Fin n, f k.val) = ∑ k ∈ Finset.range n, f k := Fin.sum_univ_eq_sum_range f n

/-- The norm's small constant, the binary fraction nearest to a millionth, and one over the number of columns. -/
def eps : ℝ := 8796093 / 8796093022208
def kth : EReal := ((1024 : ℝ) : EReal)⁻¹
/-- A row's mean square with the constant, and one over its root. -/
def ms (X : ℕ → ℕ → EReal) (a : ℕ) : EReal := (∑ x ∈ Finset.range 1024, X a x * X a x) * kth + (eps : EReal)
def rs (X : ℕ → ℕ → EReal) (a : ℕ) : EReal := Ideal.rsqrt (ms X a)
/-- A row's mean of a product. -/
def mp (X P : ℕ → ℕ → EReal) (a : ℕ) : EReal := (∑ x ∈ Finset.range 1024, X a x * P a x) * kth
/-- The gradient through the norm of `X`, of a gradient `P` already scaled by the gain. -/
def nb (X P : ℕ → ℕ → EReal) (a b : ℕ) : EReal := rs X a * P a b - X a b * (rs X a * rs X a * rs X a) * mp X P a
/-- Scaled by the gain. -/
def sc (P g : ℕ → ℕ → EReal) (a b : ℕ) : EReal := P a b * g 0 b

/-- The residual with the norm of the branch added. -/
def xs (x z gp : ℕ → ℕ → EReal) (a b : ℕ) : EReal := x a b + z a b * rs z a * gp 0 b
/-- The gradient of the normed activation: the two halves' gradients against the two halves of the weights. -/
def dh (G W : ℕ → ℕ → EReal) (a b : ℕ) : EReal := ∑ x ∈ Finset.range 5632, G a x * W b x
/-- The gradient of the residual. -/
def dx (x z gp gf W G Y : ℕ → ℕ → EReal) (a b : ℕ) : EReal := Y a b + nb (xs x z gp) (sc (dh G W) gf) a b
/-- The gradient of the branch. -/
def dz (x z gp gf W G Y : ℕ → ℕ → EReal) : ℕ → ℕ → EReal := nb z (sc (dx x z gp gf W G Y) gp)
/-- A row's share in the gains' gradients. -/
def tf (x z gp W G : ℕ → ℕ → EReal) (b a : ℕ) : EReal := dh G W a b * xs x z gp a b * rs (xs x z gp) a
def tp (x z gp gf W G Y : ℕ → ℕ → EReal) (b a : ℕ) : EReal := dx x z gp gf W G Y a b * z a b * rs z a
/-- The stack of the two gains' gradients over the first `n` rows, the first in row 0, the second in row 1. -/
def vc (x z gp gf W G Y : ℕ → ℕ → EReal) (n a b : ℕ) : EReal :=
  if a = 0 then ∑ u ∈ Finset.range n, tf x z gp W G b u else if a = 1 then ∑ u ∈ Finset.range n, tp x z gp gf W G Y b u else 0

theorem eps_pos : 0 < eps := by unfold eps; norm_num

theorem eps_word : Ideal.ofBits .f32 0x358637BD#32 = ((eps : ℝ) : EReal) := by
  simp [Ideal.ofBits, Ideal.ieee, -EReal.coe_mul, eps]; norm_num
theorem kilo_word : Ideal.ofBits .f32 0x44800000#32 = ((1024 : ℝ) : EReal) := by
  simp [Ideal.ofBits, Ideal.ieee, -EReal.coe_mul]; norm_num
theorem mhalf_word : Ideal.ofBits .f32 0xBF000000#32 = ((-(1 / 2) : ℝ) : EReal) := by
  simp [Ideal.ofBits, Ideal.ieee, -EReal.coe_mul]; norm_num

theorem div_kilo (x : EReal) : Ideal.div x (Ideal.ofBits .f32 0x44800000#32) = x * kth := by
  rw [kilo_word]
  exact if_neg (by norm_num)

theorem ms_pos (X : ℕ → ℕ → EReal) (a : ℕ) : 0 < ms X a := by
  have h : 0 ≤ (∑ x ∈ Finset.range 1024, X a x * X a x) * kth :=
    mul_nonneg (Finset.sum_nonneg fun x _ => by
      rcases le_total 0 (X a x) with h | h
      · exact mul_nonneg h h
      · exact EReal.mul_nonneg_iff.mpr (Or.inr ⟨h, h⟩)) (EReal.inv_nonneg_of_nonneg (by norm_num))
  exact lt_of_lt_of_le (EReal.coe_pos.mpr eps_pos) (le_add_of_nonneg_left h)

/-- The derivative's quotient is the call's cube, at an infinite mean square too. -/
theorem rs_div (X : ℕ → ℕ → EReal) (a : ℕ) : Ideal.div (rs X a) (ms X a) = rs X a * rs X a * rs X a := by
  have hp := ms_pos X a
  unfold rs
  generalize ms X a = u at hp ⊢
  unfold Ideal.div
  rw [if_neg hp.ne']
  induction u with
  | bot => exact absurd hp (by simp)
  | top => rw [show Ideal.rsqrt ⊤ = 0 from rfl]; simp
  | coe r =>
    have hr : 0 < r := EReal.coe_pos.mp hp
    rw [Ideal.rsqrt_coe, if_neg (not_lt.mpr hr.le), if_neg hr.ne', ← EReal.coe_inv, ← EReal.coe_mul, ← EReal.coe_mul, ← EReal.coe_mul]
    refine congrArg (fun z : ℝ => (z : EReal)) ?_
    rw [mul_assoc, ← mul_inv (√r) (√r), Real.mul_self_sqrt hr.le]

/-- Minus a half, twice. -/
theorem halves (T : EReal) : ((-(1 / 2) : ℝ) : EReal) * T + ((-(1 / 2) : ℝ) : EReal) * T = -T := by
  induction T with
  | bot => rw [EReal.coe_mul_bot_of_neg (by norm_num)]; rfl
  | top => rw [EReal.coe_mul_top_of_neg (by norm_num)]; rfl
  | coe r =>
    rw [← EReal.coe_mul, ← EReal.coe_add, ← EReal.coe_neg]
    exact congrArg (fun z : ℝ => (z : EReal)) (by ring)

theorem ms_eq (X : ℕ → ℕ → EReal) (a : ℕ) :
    Ideal.div (∑ k : Fin 1024, X a k.val * X a k.val) (Ideal.ofBits .f32 0x44800000#32) + Ideal.ofBits .f32 0x358637BD#32 = ms X a := by
  rw [div_kilo, eps_word, sum_num (n := 1024) fun k => X a k * X a k]; rfl

theorem nb_eq (X P : ℕ → ℕ → EReal) (a b : ℕ) :
    rs X a * P a b - X a b * (rs X a * rs X a * rs X a) * Ideal.div (∑ k : Fin 1024, X a k.val * P a k.val) (Ideal.ofBits .f32 0x44800000#32) = nb X P a b := by
  rw [div_kilo, sum_num (n := 1024) fun k => X a k * P a k]; rfl

/-- The gradient reaching a row's mean square, as the derivative has it, and its three terms: they are the call's two. -/
def bk (X P : ℕ → ℕ → EReal) (a : ℕ) : EReal := (∑ x ∈ Finset.range 1024, X a x * P a x) * (((-(1 / 2) : ℝ) : EReal) * (rs X a * rs X a * rs X a)) * kth

theorem bk_two (X P : ℕ → ℕ → EReal) (a b : ℕ) : X a b * bk X P a + bk X P a * X a b = -(X a b * (rs X a * rs X a * rs X a) * mp X P a) := by
  rw [← halves]
  unfold bk mp
  refine congrArg₂ (· + ·) ?_ ?_ <;> ac_rfl

theorem bk_three (X P : ℕ → ℕ → EReal) (a b : ℕ) : P a b * rs X a + X a b * bk X P a + bk X P a * X a b = nb X P a b := by
  rw [add_assoc, bk_two, mul_comm (P a b)]; rfl

theorem bk_four (X P : ℕ → ℕ → EReal) (y : EReal) (a b : ℕ) : y + P a b * rs X a + X a b * bk X P a + bk X P a * X a b = y + nb X P a b := by
  rw [add_assoc, add_assoc, bk_two, mul_comm (P a b)]; rfl

end Cert.FoxClaims.Norm

end
-- ==== Proof.FfnUpBody.lean ====
/- What the body of the feed-forward's first backward call computes of matrices. -/
module

public import proofs.«01_k».proof.Proof.NormMath
public import proofs.«01_k».proof.Proof.Gen.Kernel3Ideal.Skeleton
public import Idealize.ShloMosaic.Lib.Pointwise

@[expose] public section

set_option maxRecDepth 16384

noncomputable section

namespace Cert.Kernel3Ideal.FfnUp

open Cert.Kernel3Ideal Cert.Kernel3Ideal.Gen Cert.FoxClaims.Norm
open Idealize.ShloMosaic

variable (X H Y Z g A B C D : ℕ → ℕ → EReal)

theorem pay3 : k0_pay3 (F := Ideal) (ce A) (ce B) (ce C) (ce D)
    = ce fun a b => (∑ x ∈ Finset.range 2816, A a x * B b x) + ∑ x ∈ Finset.range 2816, C a x * D b x := by
  funext j; pointwise [k0_pay3]
  exact congrArg₂ (fun u v : EReal => u + v) (sum_num (n := 2816) fun x => A (j 0).val x * B (j 1).val x) (sum_num (n := 2816) fun x => C (j 0).val x * D (j 1).val x)

theorem pay4 : k0_pay4 (F := Ideal) (ce X) = ce X := by
  funext j; pointwise [k0_pay4]

theorem pay5 : k0_pay5 (F := Ideal) (ce X) = ce fun a _ => rs X a := by
  unfold k0_pay5
  rw [pay4]
  funext j; pointwise
  exact congrArg Ideal.rsqrt (ms_eq X (j 0).val)

theorem pay8 : k0_pay8 (F := Ideal) (ce X) = ce fun a _ => rs X a := by
  funext j; pointwise [k0_pay8]
  exact congrArg Ideal.rsqrt (ms_eq X (j 0).val)

theorem scaled : mulf (F := Ideal) (φ := .f32) (ce H) (broadcastTo S256x1024 (ce g) broadcasts_S1x1024_S256x1024) = ce (sc H g) := by
  funext j; pointwise; rfl

theorem pay7 : k0_pay7 (F := Ideal) (ce H) (ce X) (ce fun a _ => rs X a) (ce Y) (ce g) = ce fun a b => Y a b + nb X (sc H g) a b := by
  unfold k0_pay7
  dsimp only
  rw [scaled]
  funext j; pointwise
  exact congrArg (fun z : EReal => Y (j 0).val (j 1).val + z) (nb_eq X (sc H g) (j 0).val (j 1).val)

theorem pay1 : k0_pay1 (F := Ideal) (ce H) (ce Z) (ce fun a _ => rs Z a) (k0_pay10 (ce g)) = ce (nb Z (sc H g)) := by
  unfold k0_pay1 k0_pay10
  dsimp only
  rw [scaled]
  funext j; pointwise
  exact nb_eq Z (sc H g) (j 0).val (j 1).val

/-- A row with a column's sum of threefold products added. -/
theorem row_co (Y P : ℕ → ℕ → EReal) (X : ℕ → ℕ → EReal) (r : ℕ → EReal) (a b : ℕ) :
    Y a b + ∑ u : Fin 256, P u.val b * X u.val b * r u.val = Y a b + ∑ u ∈ Finset.range 256, P u b * X u b * r u :=
  congrArg (Y a b + ·) (sum_num (n := 256) fun u => P u b * X u b * r u)

theorem pay6 : k0_pay6 (F := Ideal) (ce A) (ce B) (ce C) (ce D) (ce X) (ce Y)
    = ce fun a b => Y a b + ∑ u ∈ Finset.range 256, ((∑ x ∈ Finset.range 2816, A u x * B b x) + ∑ x ∈ Finset.range 2816, C u x * D b x) * X u b * rs X u := by
  unfold k0_pay6
  rw [pay3, pay4, pay5]
  funext j; pointwise
  exact row_co Y (fun a b => (∑ x ∈ Finset.range 2816, A a x * B b x) + ∑ x ∈ Finset.range 2816, C a x * D b x) X (rs X) (j 0).val (j 1).val

theorem pay9 (V : ℕ → ℕ → EReal) : k0_pay9 (F := Ideal) (ce H) (ce X) (ce fun a _ => rs X a) (ce Y) (ce g) (ce Z) (ce V)
    = ce fun a b => V a b + ∑ u ∈ Finset.range 256, (Y u b + nb X (sc H g) u b) * Z u b * rs Z u := by
  unfold k0_pay9
  rw [pay7, pay8]
  funext j; pointwise
  exact row_co V (fun a b => Y a b + nb X (sc H g) a b) Z (rs Z) (j 0).val (j 1).val

end Cert.Kernel3Ideal.FfnUp

end
-- ==== Proof.FfnUpPoint.lean ====
/- What one grid point of the feed-forward's first backward call leaves in its outputs. -/
module

public import proofs.«01_k».proof.Proof.FfnUpBody
public import proofs.«01_k».proof.Proof.Gen.Kernel3Ideal.Value
public import Idealize.ShloMosaic.Lib.VecWindow

@[expose] public section

set_option maxRecDepth 16384

noncomputable section

namespace Cert.Kernel3Ideal.FfnUp

open Cert.Kernel3Ideal Cert.Kernel3Ideal.Gen Cert.FoxClaims.Norm
open Idealize.ShloMosaic Idealize.ShloMosaic.TcCoe Idealize.ShloMosaic.Tactic Idealize.SL.Sem

theorem hz : (![0, 0] : Fin 2 → Nat) = fun _ => 0 := funext fun a => by fin_cases a <;> rfl

/-- Half of the weights, read at its first column. -/
theorem half (v : View sig .tc .vmem S1024x5632 .bf16) (X : BufTy.Contents (Elt Ideal) v.ty) (f : ℕ → ℕ → EReal) (hX : v.read (Elt Ideal) X = ce f) (k : ℕ) (inb) :
    v.readAt (Elt Ideal) (Rect.unit (s := S1024x5632) ![0, k] S1024x2816.size inb).toLoadRect X = ce fun a b => f a (k + b) := by
  rw [View.readAt_unit v X inb rfl inb, hX]
  funext y
  show ((f (0 + 1 * (y 0).val) (k + 1 * (y 1).val) : EReal)) = _
  rw [one_mul, one_mul, zero_add]; rfl

/-- A row of the stack. -/
theorem row (v : View sig .tc .vmem S8x1024 .f32) (X : BufTy.Contents (Elt Ideal) v.ty) (f : ℕ → ℕ → EReal) (hX : v.read (Elt Ideal) X = ce f) (k : ℕ) (inb) :
    v.readAt (Elt Ideal) (Rect.unit (s := S8x1024) ![k, 0] S1x1024.size inb).toLoadRect X = ce fun a b => f (k + a) b := by
  rw [View.readAt_unit v X inb rfl inb, hX]
  funext y
  show ((f (k + 1 * (y 0).val) (0 + 1 * (y 1).val) : EReal)) = _
  rw [one_mul, one_mul, zero_add]; rfl

/-- The stack with row `k` replaced. -/
theorem put_row (v : View sig .tc .vmem S8x1024 .f32) (G : BufTy.Contents (Elt Ideal) v.ty) (f g : ℕ → ℕ → EReal) (L : List (View.Piece (Elt Ideal) S8x1024 .f32))
    (hX : v.read (Elt Ideal) (v.writes (Elt Ideal) G L) = ce f) (k : ℕ) (inb) (w : S1x1024.Idx → EReal) (hw : w = ce g) :
    v.read (Elt Ideal) (v.writes (Elt Ideal) G (⟨Rect.unit (s := S8x1024) ![k, 0] S1x1024.size inb, w⟩ :: L)) = ce fun a b => if a = k then g 0 b else f a b := by
  subst hw
  rw [View.read_writes_cons_put v G inb _ L rfl, hX]
  funext y
  unfold VecWindow.put
  have hy : (y 1).val < 1024 := (y 1).isLt
  by_cases h : (y 0).val = k
  · have h' : ∀ b : Fin 2, (![k, 0] : Fin 2 → ℕ) b ≤ (y b).val ∧ (y b).val < (![k, 0] : Fin 2 → ℕ) b + (![1, 1024] : Fin 2 → ℕ) b := by
      intro b; fin_cases b
      · show k ≤ (y 0).val ∧ (y 0).val < k + 1; omega
      · exact ⟨Nat.zero_le _, by show (y 1).val < 0 + 1024; omega⟩
    refine (dif_pos h').trans ?_
    show ((g ((y 0).val - k) ((y 1).val - 0) : EReal)) = (if (y 0).val = k then _ else _ : EReal)
    rw [if_pos h, h, Nat.sub_self, Nat.sub_zero]
  · have h' : ¬ ∀ b : Fin 2, (![k, 0] : Fin 2 → ℕ) b ≤ (y b).val ∧ (y b).val < (![k, 0] : Fin 2 → ℕ) b + (![1, 1024] : Fin 2 → ℕ) b := fun hh => h (by
      have := hh 0
      have h2 : k ≤ (y 0).val ∧ (y 0).val < k + 1 := this
      omega)
    refine (dif_neg h').trans ?_
    show _ = (if (y 0).val = k then _ else _ : EReal)
    rw [if_neg h]; rfl

theorem zero_stack : k0_pay2 (F := Ideal) = ce fun _ _ => 0 := by
  funext j; pointwise [k0_pay2]; rfl

theorem row_cov (v : View sig .tc .vmem S8x1024 .f32) (L : List (View.Piece (Elt Ideal) S8x1024 .f32)) (f : ℕ → ℕ → EReal)
    (hX : v.read (Elt Ideal) (v.writes (Elt Ideal) v.junk L) = ce f) (k : ℕ) (inb) :
    v.readCov L (Rect.unit (s := S8x1024) ![k, 0] S1x1024.size inb).toLoadRect = ce fun a b => f (k + a) b :=
  row v _ f hX k inb

/-- The stack just zeroed. -/
theorem zeroed (v : View sig .tc .vmem S8x1024 .f32) (G : BufTy.Contents (Elt Ideal) v.ty) (inb) :
    v.read (Elt Ideal) (v.writes (Elt Ideal) G [⟨Rect.unit (s := S8x1024) ![0, 0] S8x1024.size inb, k0_pay2 (F := Ideal)⟩]) = ce fun _ _ => 0 :=
  (View.read_writes_full v G inb _ []).trans zero_stack

section
variable (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S1024x5632 .bf16) (harg3 : arg3.IsWhole)
  (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1x1024 .f32) (harg7 : arg7.IsWhole)
  (arg8 : Memref sig .tc .vmem S1x1024 .f32) (harg8 : arg8.IsWhole) (arg9 : Memref sig .tc .vmem S256x1024 .f32) (harg9 : arg9.IsWhole) (arg10 : Memref sig .tc .vmem S256x1024 .bf16) (harg10 : arg10.IsWhole) (arg11 : Memref sig .tc .vmem S8x1024 .f32) (harg11 : arg11.IsWhole)
  (x0 : Vec Ideal S256x2816 .bf16) (x1 : Vec Ideal S256x2816 .bf16) (x2 : Vec Ideal S1024x5632 .bf16) (x3 : Vec Ideal S256x1024 .f32) (x4 : Vec Ideal S256x1024 .f32) (x5 : Vec Ideal S256x1024 .f32) (x6 : Vec Ideal S1x1024 .f32) (x7 : Vec Ideal S1x1024 .f32) (xo : Vec Ideal S8x1024 .f32)
  (G U W X Y Z gf gp V : ℕ → ℕ → EReal)
  (e0 : x0 = ce G) (e1 : x1 = ce U) (e2 : x2 = ce W) (e3 : x3 = ce X) (e4 : x4 = ce Y) (e5 : x5 = ce Z) (e6 : x6 = ce gf) (e7 : x7 = ce gp) (eo : xo = ce V)

/-- A tile's gradient of the normed activation, and of the residual. -/
def th (G U W : ℕ → ℕ → EReal) (a b : ℕ) : EReal := (∑ x ∈ Finset.range 2816, G a x * W b x) + ∑ x ∈ Finset.range 2816, U a x * W b (2816 + x)
def tx (G U W X Y gf : ℕ → ℕ → EReal) (a b : ℕ) : EReal := Y a b + nb X (sc (th G U W) gf) a b
/-- The stack with a tile's rows added. -/
def tv (G U W X Y Z gf V : ℕ → ℕ → EReal) (a b : ℕ) : EReal :=
  if a = 1 then V 1 b + ∑ u ∈ Finset.range 256, tx G U W X Y gf u b * Z u b * rs Z u
  else if a = 0 then V 0 b + ∑ u ∈ Finset.range 256, th G U W u b * X u b * rs X u else V a b

theorem pay3' : k0_pay3 (F := Ideal) (ce G) (ce fun a b => W a (0 + b)) (ce U) (ce fun a b => W a (2816 + b)) = ce (th G U W) := by
  simp only [Nat.zero_add]; exact pay3 _ _ _ _

theorem pay6' : k0_pay6 (F := Ideal) (ce G) (ce fun a b => W a (0 + b)) (ce U) (ce fun a b => W a (2816 + b)) (ce X) (ce V)
    = ce fun a b => V a b + ∑ u ∈ Finset.range 256, th G U W u b * X u b * rs X u := by
  simp only [Nat.zero_add]; exact pay6 _ _ _ _ _ _

include e0 e1 e2 e3 e4 e5 e6 e7 in
theorem dxA (hc0 : cond0_0 i) : out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7
    = ce (tx G U W X Y gf) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz]
  simp only [half _ _ W ((harg3.read_unread _).trans e2), View.readAt_eq_ld, harg1.read_unread, harg2.read_unread, harg4.read_unread, harg5.read_unread, harg6.read_unread, harg7.read_unread, harg8.read_unread, View.ld_unit_zero (S := S256x2816) hz, View.ld_unit_zero (S := S256x1024) hz, View.ld_unit_zero (S := S1x1024) hz, e0, e1, e3, e4, e5, e6, e7]
  rw [pay3', pay4, pay5]
  exact pay7 _ _ _ _

include e0 e1 e2 e3 e4 e5 e6 e7 in
theorem dxB (hc0 : ¬cond0_0 i) : out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo
    = ce (tx G U W X Y gf) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo)]
  unfold kernelRun0_B
  dsimp only
  sl_unfold_words
  rw [View.canon_unit_zero hz]
  simp only [half _ _ W ((harg3.read_unread _).trans e2), View.readAt_eq_ld, harg1.read_unread, harg2.read_unread, harg4.read_unread, harg5.read_unread, harg6.read_unread, harg7.read_unread, harg8.read_unread, View.ld_unit_zero (S := S256x2816) hz, View.ld_unit_zero (S := S256x1024) hz, View.ld_unit_zero (S := S1x1024) hz, e0, e1, e3, e4, e5, e6, e7]
  rw [pay3', pay4, pay5]
  exact pay7 _ _ _ _

include e0 e1 e2 e3 e4 e5 e6 e7 in
theorem dzA (hc0 : cond0_0 i) : out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7
    = ce (nb Z (sc (tx G U W X Y gf) gp)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz]
  simp only [half _ _ W ((harg3.read_unread _).trans e2), View.readAt_eq_ld, harg1.read_unread, harg2.read_unread, harg4.read_unread, harg5.read_unread, harg6.read_unread, harg7.read_unread, harg8.read_unread, View.ld_unit_zero (S := S256x2816) hz, View.ld_unit_zero (S := S256x1024) hz, View.ld_unit_zero (S := S1x1024) hz, e0, e1, e3, e4, e5, e6, e7]
  rw [pay3', pay4, pay5, pay7, pay8]
  exact pay1 _ _ _

include e0 e1 e2 e3 e4 e5 e6 e7 in
theorem dzB (hc0 : ¬cond0_0 i) : out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo
    = ce (nb Z (sc (tx G U W X Y gf) gp)) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo)]
  unfold kernelRun0_B
  dsimp only
  sl_unfold_words
  rw [View.canon_unit_zero hz]
  simp only [half _ _ W ((harg3.read_unread _).trans e2), View.readAt_eq_ld, harg1.read_unread, harg2.read_unread, harg4.read_unread, harg5.read_unread, harg6.read_unread, harg7.read_unread, harg8.read_unread, View.ld_unit_zero (S := S256x2816) hz, View.ld_unit_zero (S := S256x1024) hz, View.ld_unit_zero (S := S1x1024) hz, e0, e1, e3, e4, e5, e6, e7]
  rw [pay3', pay4, pay5, pay7, pay8]
  exact pay1 _ _ _

include e0 e1 e2 e3 e4 e5 e6 e7 eo in
theorem vcB (hc0 : ¬cond0_0 i) : out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo
    = ce (tv G U W X Y Z gf V) := by
  unfold out0_B_10 kernelRun0_B
  dsimp only
  sl_unfold_words
  simp only [half _ _ W ((harg3.read_unread _).trans e2), row _ _ V ((harg11.read_unread _).trans eo)]
  simp only [half _ _ W ((harg3.read_unread _).trans e2), View.readAt_eq_ld, harg1.read_unread, harg2.read_unread, harg4.read_unread, harg5.read_unread, harg6.read_unread, harg7.read_unread, harg8.read_unread, View.ld_unit_zero (S := S256x2816) hz, View.ld_unit_zero (S := S256x1024) hz, View.ld_unit_zero (S := S1x1024) hz, e0, e1, e3, e4, e5, e6, e7]
  rw [pay3', pay6', pay4, pay5, pay9]
  refine (put_row _ _ _ _ _ (put_row _ _ V _ _ ((harg11.read_unread _).trans eo) 0 _ _ rfl) 1 _ _ rfl).trans ?_
  refine ce_congr fun a _ b _ => ?_
  unfold tv tx
  rfl

include e0 e1 e2 e3 e4 e5 e6 e7 in
theorem vcA (hc0 : cond0_0 i) : out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7
    = ce (tv G U W X Y Z gf fun _ _ => 0) := by
  unfold out0_A_10 kernelRun0_A
  dsimp only
  sl_unfold_words
  simp only [half _ _ W ((harg3.read_unread _).trans e2), row_cov _ _ _ (zeroed _ _ _)]
  simp only [half _ _ W ((harg3.read_unread _).trans e2), View.readAt_eq_ld, harg1.read_unread, harg2.read_unread, harg4.read_unread, harg5.read_unread, harg6.read_unread, harg7.read_unread, harg8.read_unread, View.ld_unit_zero (S := S256x2816) hz, View.ld_unit_zero (S := S256x1024) hz, View.ld_unit_zero (S := S1x1024) hz, e0, e1, e3, e4, e5, e6, e7]
  rw [pay6', row_cov _ _ _ (put_row _ _ _ _ _ (zeroed _ _ _) 0 _ _ rfl)]
  rw [pay3', pay4, pay5, pay9]
  refine (put_row _ _ _ _ _ (put_row _ _ _ _ _ (zeroed _ _ _) 0 _ _ rfl) 1 _ _ rfl).trans ?_
  refine ce_congr fun a _ b _ => ?_
  unfold tv tx
  rfl

end

end Cert.Kernel3Ideal.FfnUp

end
-- ==== Proof.FfnUpRef.lean ====
/- The reference of the feed-forward's first backward call. -/
module

public import proofs.«01_k».proof.Proof.NormMath
public import proofs.«01_k».proof.Proof.Gen.Reference3Ideal.Run
public import Idealize.ShloMosaic.Lib.Pointwise
public import Idealize.ShloMosaic.Lib.IdealHost

@[expose] public section

set_option maxRecDepth 16384

noncomputable section

namespace Cert.Reference3Ideal.FfnUp

open Cert.Reference3Ideal Cert.Reference3Ideal.Facts₀ Cert.FoxClaims.Norm
open Idealize.ShloMosaic Idealize.ShloMosaic.TcCoe Idealize.SL.Sem

abbrev M := FVec Ideal S8192x1024 .f32
abbrev C := FVec Ideal S8192x1 .f32
abbrev R := FVec Ideal S1x1024 .f32

/-- A column's number over 1024, a row's number spread, a gain spread. -/
def kilo : C := broadcastInDim S8192x1 ![] bcast_S_S8192x1 (constant S_ .f32 0x44800000#32)
def up (r : C) : M := broadcastInDim S8192x1024 ![0, 1] bcast_S8192x1_S8192x1024_0_1 r
def gain (g : R) : M := broadcastInDim S8192x1024 ![0, 1] bcast_S1x1024_S8192x1024_0_1 g
/-- Sums along a row and down a column. -/
def along (x : M) : FVec Ideal S8192 .f32 := Host.reduceAdd x (constant S_ .f32 0x00000000#32) reducesTo_S8192x1024_S8192_d1 h_S_
def down (x : M) : R := shapeCast S1x1024 (Host.reduceAdd x (constant S_ .f32 0x00000000#32) reducesTo_S8192x1024_S1024_d0 h_S_) shapeCasts_S1024_S1x1024
/-- The mean square with the constant, one over its root, and the root's derivative. -/
def msR (x : M) : C := addf (Host.divf (broadcastInDim S8192x1 ![0] bcast_S8192_S8192x1_0 (along (mulf x x))) kilo) (broadcastInDim S8192x1 ![] bcast_S_S8192x1 (constant S_ .f32 0x358637BD#32))
def rsR (x : M) : C := Host.rsqrt (msR x)
def hrR (x : M) : C := mulf (broadcastInDim S8192x1 ![] bcast_S_S8192x1 (constant S_ .f32 0xBF000000#32)) (Host.divf (rsR x) (msR x))
/-- The gradient reaching the mean square, spread over the row. -/
def back (x p : M) : M := broadcastInDim S8192x1024 ![0] bcast_S8192_S8192x1024_0
  (Host.reduceAdd (Host.divf (mulf (shapeCast S8192x1 (along (mulf x p)) shapeCasts_S8192_S8192x1) (hrR x)) kilo) (constant S_ .f32 0x00000000#32) reducesTo_S8192x1_S8192_d1 h_S_)
/-- The residual with the norm of the branch added. -/
def xR (x z : M) (gp : R) : M := addf x (mulf (mulf z (up (rsR z))) (gain gp))
def dhR (d : FVec Ideal S8192x5632 .f32) (w : FVec Ideal S1024x5632 .f32) : M := Host.dotGeneral dot_S8192x5632_S1024x5632_S8192x1024_1_1_0_0_n_n none d w
/-- The three results. -/
def resX (x z : M) (gp gf : R) (w : FVec Ideal S1024x5632 .f32) (d : FVec Ideal S8192x5632 .f32) (y : M) : M :=
  addf (addf (addf y (mulf (mulf (dhR d w) (gain gf)) (up (rsR (xR x z gp))))) (mulf (xR x z gp) (back (xR x z gp) (mulf (dhR d w) (gain gf))))) (mulf (back (xR x z gp) (mulf (dhR d w) (gain gf))) (xR x z gp))
def same (x : M) : M := shapeCast S8192x1024 x shapeCasts_S8192x1024_S8192x1024
def resZ (x z : M) (gp gf : R) (w : FVec Ideal S1024x5632 .f32) (d : FVec Ideal S8192x5632 .f32) (y : M) : FVec Ideal S8192x1024 .bf16 :=
  truncf .bf16 (addf (addf (mulf (mulf (same (resX x z gp gf w d y)) (gain gp)) (up (rsR z))) (mulf z (back z (mulf (same (resX x z gp gf w d y)) (gain gp))))) (mulf (back z (mulf (same (resX x z gp gf w d y)) (gain gp))) z)) bitsLt_bf16_f32
def resV (x z : M) (gp gf : R) (w : FVec Ideal S1024x5632 .f32) (d : FVec Ideal S8192x5632 .f32) (y : M) : FVec Ideal S8x1024 .f32 :=
  concatenate S8x1024 0 [⟨S1x1024, down (mulf (mulf (xR x z gp) (up (rsR (xR x z gp)))) (dhR d w))⟩, ⟨S1x1024, down (mulf (mulf z (up (rsR z))) (same (resX x z gp gf w d y)))⟩, ⟨S6x1024, broadcastInDim S6x1024 ![] bcast_S_S6x1024 (constant S_ .f32 0x00000000#32)⟩] concatenates_S1x1024_S1x1024_S6x1024_S8x1024_d0

variable (X P x z gp gf w d y : ℕ → ℕ → EReal)

theorem msR_co : msR (ce X) = ce fun a _ => ms X a := by
  funext j; pointwise [msR, along, kilo]
  exact ms_eq X (j 0).val

theorem rsR_co : rsR (ce X) = ce fun a _ => rs X a := by
  unfold rsR
  rw [msR_co]
  funext j; pointwise; rfl

theorem hrR_co : hrR (ce X) = ce fun a _ => ((-(1 / 2) : ℝ) : EReal) * (rs X a * rs X a * rs X a) := by
  unfold hrR
  rw [msR_co, rsR_co]
  funext j; pointwise
  exact congrArg₂ (fun u v : EReal => u * v) mhalf_word (rs_div X _)

theorem up_co (r : ℕ → EReal) : up (ce fun a _ => r a) = ce fun a _ => r a := by
  funext j; pointwise [up]; rfl

theorem gain_co : gain (ce gp) = ce fun _ b => gp 0 b := by
  funext j; pointwise [gain]; rfl

theorem back_co : back (ce X) (ce P) = ce fun a _ => bk X P a := by
  unfold back
  rw [hrR_co]
  funext j; pointwise [along, kilo]
  refine (Fintype.sum_unique _).trans ((div_kilo _).trans ?_)
  exact congrArg (fun u : EReal => u * _ * kth) (sum_num (n := 1024) fun k => X (j 0).val k * P (j 0).val k)

theorem xR_co : xR (ce x) (ce z) (ce gp) = ce (xs x z gp) := by
  unfold xR
  rw [rsR_co, up_co, gain_co]
  funext j; pointwise; rfl

theorem dhR_co : dhR (ce d) (ce w) = ce (dh d w) := by
  funext j; pointwise [dhR]; exact sum_num (n := 5632) fun k => d (j 0).val k * w (j 1).val k

theorem scR : mulf (F := Ideal) (φ := .f32) (ce P) (gain (ce gp)) = ce (sc P gp) := by
  rw [gain_co]
  funext j; pointwise; rfl

theorem same_co : same (ce X) = ce X := by
  funext j; pointwise [same]

theorem down_co : down (ce X) = ce fun _ b => ∑ u ∈ Finset.range 8192, X u b := by
  funext j; pointwise [down]
  exact sum_num (n := 8192) fun u => X u (j 1).val

theorem resX_co : resX (ce x) (ce z) (ce gp) (ce gf) (ce w) (ce d) (ce y) = ce (dx x z gp gf w d y) := by
  unfold resX
  rw [xR_co, dhR_co, scR, back_co, rsR_co, up_co]
  funext j; pointwise
  exact bk_four (xs x z gp) (sc (dh d w) gf) _ (j 0).val (j 1).val

theorem resZ_co : resZ (ce x) (ce z) (ce gp) (ce gf) (ce w) (ce d) (ce y) = ce (dz x z gp gf w d y) := by
  unfold resZ
  rw [resX_co, same_co, scR, back_co, rsR_co, up_co]
  funext j; pointwise
  exact bk_three z (sc (dx x z gp gf w d y) gp) (j 0).val (j 1).val

theorem resV_co : resV (ce x) (ce z) (ce gp) (ce gf) (ce w) (ce d) (ce y) = ce (vc x z gp gf w d y 8192) := by
  have e1 : mulf (F := Ideal) (φ := .f32) (mulf (ce (xs x z gp)) (up (ce fun a _ => rs (xs x z gp) a))) (ce (dh d w)) = ce fun a b => tf x z gp w d b a := by
    rw [up_co]
    funext j; pointwise
    exact (mul_comm _ _).trans (mul_assoc _ _ _).symm
  have e2 : mulf (F := Ideal) (φ := .f32) (mulf (ce z) (up (ce fun a _ => rs z a))) (ce (dx x z gp gf w d y)) = ce fun a b => tp x z gp gf w d y b a := by
    rw [up_co]
    funext j; pointwise
    exact (mul_comm _ _).trans (mul_assoc _ _ _).symm
  unfold resV
  rw [resX_co, same_co, xR_co, dhR_co, rsR_co, rsR_co, e1, e2, down_co, down_co]
  funext j; pointwise
  unfold ce vc
  by_cases h0 : (j 0).val = 0
  · rw [dif_pos (by omega), if_pos h0]; rfl
  · rw [dif_neg (by omega), if_neg h0]
    by_cases h1 : (j 0).val = 1
    · rw [dif_pos (by omega), if_pos h1]; rfl
    · rw [dif_neg (by omega), if_neg h1]

section
variable (m : (ℓ : Loc nD τ sig) → Buf (Elt Ideal) ℓ) (c : Dev nD)
theorem res_x : Value.res_main_v52 m c = resX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v52
  rfl
theorem res_z : Value.res_main_v75 m c = resZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v75
  rfl
theorem res_v : Value.res_main_v74 m c = resV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v74
  rfl
end

end Cert.Reference3Ideal.FfnUp

end
-- ==== Proof.FfnUp.lean ====
/- The feed-forward's first backward call: the gradients of the residual, of the branch and of the two norms' gains. -/
module

public import proofs.«01_k».proof.Defs
public import proofs.«01_k».proof.Proof.WgradSum
public import proofs.«01_k».proof.Proof.FfnUpPoint
public import proofs.«01_k».proof.Proof.FfnUpRef
public import Idealize.ShloMosaic.Lib.StableHlo.RunRead

@[expose] public section

set_option maxRecDepth 16384

noncomputable section

namespace Cert.Kernel3Ideal.FfnUp

open Cert.Kernel3Ideal Cert.Kernel3Ideal.Gen Cert.FoxClaims.Norm
open Idealize.ShloMosaic Idealize.ShloMosaic.TcCoe Idealize.ShloMosaic.Tactic Idealize.SL.Sem

variable (x z gp gf W D Y : ℕ → ℕ → EReal)

/-- A tile's 256 rows of a matrix, and the columns past a half. -/
def tile (t : ℕ) (f : ℕ → ℕ → EReal) (a b : ℕ) : EReal := f (256 * t + a) b
def past (f : ℕ → ℕ → EReal) (a b : ℕ) : EReal := f a (2816 + b)

theorem th_tile (t : ℕ) : th (tile t D) (tile t (past D)) W = tile t (dh D W) := by
  funext a b
  exact (Finset.sum_range_add (fun k => D (256 * t + a) k * W b k) 2816 2816).symm

theorem tx_tile (t : ℕ) : tx (tile t D) (tile t (past D)) W (tile t (xs x z gp)) (tile t Y) gf = tile t (dx x z gp gf W D Y) := by
  funext a b
  unfold tx
  rw [th_tile]
  rfl

theorem tz_tile (t : ℕ) : nb (tile t z) (sc (tx (tile t D) (tile t (past D)) W (tile t (xs x z gp)) (tile t Y) gf) gp) = tile t (dz x z gp gf W D Y) := by
  rw [tx_tile]
  rfl

theorem tv_tile (t : ℕ) : tv (tile t D) (tile t (past D)) W (tile t (xs x z gp)) (tile t Y) (tile t z) gf (vc x z gp gf W D Y (256 * t)) = vc x z gp gf W D Y (256 * (t + 1)) := by
  funext a b
  unfold tv
  rw [tx_tile, th_tile]
  by_cases h0 : a = 0
  · subst h0
    rw [if_neg (by decide), if_pos rfl]
    exact (Finset.sum_range_add (fun u => tf x z gp W D b u) (256 * t) 256).symm
  · by_cases h1 : a = 1
    · subst h1
      rw [if_pos rfl]
      exact (Finset.sum_range_add (fun u => tp x z gp gf W D Y b u) (256 * t) 256).symm
    · rw [if_neg h1, if_neg h0]
      unfold vc
      rw [if_neg h0, if_neg h1, if_neg h0, if_neg h1]

theorem vc_zero : vc x z gp gf W D Y (256 * 0) = fun _ _ => 0 := by
  funext a b
  unfold vc
  split_ifs <;> rfl

/-- The residual with the norm of the branch added, as the call's operand is made of the arguments. -/
def hostR (z : FVec Ideal S8192x1024 .f32) : FVec Ideal S8192x1 .f32 :=
  Host.rsqrt (addf (Host.divf (broadcastInDim S8192x1 ![0] bcast_S8192_S8192x1_0 (Host.reduceAdd (mulf z z) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))
def hostU (r : FVec Ideal S8192x1 .f32) : FVec Ideal S8192x1024 .f32 := broadcastInDim S8192x1024 ![0, 1] bcast_S8192x1_S8192x1024_0_1 r
def hostG (g : FVec Ideal S1x1024 .f32) : FVec Ideal S8192x1024 .f32 := broadcastInDim S8192x1024 ![0, 1] bcast_S1x1024_S8192x1024_0_1 g
def hostX (x z : FVec Ideal S8192x1024 .f32) (gp : FVec Ideal S1x1024 .f32) : FVec Ideal S8192x1024 .f32 := addf x (mulf (mulf z (hostU (hostR z))) (hostG gp))

theorem hostR_co : hostR (ce z) = ce fun a _ => rs z a := by
  unfold hostR
  funext j; pointwise
  exact congrArg Ideal.rsqrt (ms_eq z (j 0).val)

theorem hostU_co (r : ℕ → EReal) : hostU (ce fun a _ => r a) = ce fun a _ => r a := by
  funext j; pointwise [hostU]; rfl

theorem hostG_co : hostG (ce gp) = ce fun _ b => gp 0 b := by
  funext j; pointwise [hostG]; rfl

theorem hostX_co : hostX (ce x) (ce z) (ce gp) = ce (xs x z gp) := by
  unfold hostX
  rw [hostR_co, hostU_co, hostG_co]
  funext j; pointwise; rfl

variable (m : (ℓ : Loc nD τ sig) → Buf (Elt Ideal) ℓ) (c : Dev nD)
  (h0 : m ((c.tc : Thread nD τ).loc main_arg0) = (ce x : S8192x1024.Idx → EReal)) (h1 : m ((c.tc : Thread nD τ).loc main_arg1) = (ce z : S8192x1024.Idx → EReal))
  (h2 : m ((c.tc : Thread nD τ).loc main_arg2) = (ce gp : S1x1024.Idx → EReal)) (h3 : m ((c.tc : Thread nD τ).loc main_arg3) = (ce gf : S1x1024.Idx → EReal))
  (h4 : m ((c.tc : Thread nD τ).loc main_arg4) = (ce W : S1024x5632.Idx → EReal)) (h5 : m ((c.tc : Thread nD τ).loc main_arg5) = (ce D : S8192x5632.Idx → EReal))
  (h6 : m ((c.tc : Thread nD τ).loc main_arg6) = (ce Y : S8192x1024.Idx → EReal))

include h5 in
theorem read14 : V m c main_v14 = (ce D : S8192x2816.Idx → EReal) := by
  after_reads_simp
  rw [h5]
  funext j
  pointwise
  rfl
include h5 in
theorem read16 : V m c main_v16 = (ce (past D) : S8192x2816.Idx → EReal) := by
  after_reads_simp
  rw [h5]
  funext j
  pointwise
  rfl
include h4 in
theorem read17 : V m c main_v17 = (ce W : S1024x5632.Idx → EReal) := by
  after_reads_simp
  rw [h4]
  rfl
include h0 h1 h2 in
theorem read12 : V m c main_v12 = (ce (xs x z gp) : S8192x1024.Idx → EReal) := by
  refine Eq.trans ?_ (hostX_co x z gp)
  after_reads_simp
  rw [h0, h1, h2]
  rfl

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = t.val ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel
theorem index7 : ∀ t : Fin grid0.N, win0_7.index t 0 = 0 ∧ win0_7.index t 1 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = 0 ∧ win0_10.index t 1 = 0 := by decide +kernel

include h5 in
theorem blk0 (t : Fin grid0.N) : iblk m c 0 t = (ce (tile t.val D) : S256x2816.Idx → EReal) := by
  have e : V m c main_v14 = ce (D) := read14 D m c h5
  funext y
  unfold iblk
  rw [View.read_apply]
  show V m c main_v14 _ = _
  rw [e]
  refine (congrArg₂ (D) ?_ ?_)
  · show win0_0.index t 0 * 256 + 1 * (y 0).val = _
    rw [(index0 t).1]; omega
  · show win0_0.index t 1 * 2816 + 1 * (y 1).val = _
    rw [(index0 t).2]; omega

include h5 in
theorem blk1 (t : Fin grid0.N) : iblk m c 1 t = (ce (tile t.val (past D)) : S256x2816.Idx → EReal) := by
  have e : V m c main_v16 = ce ((past D)) := read16 D m c h5
  funext y
  unfold iblk
  rw [View.read_apply]
  show V m c main_v16 _ = _
  rw [e]
  refine (congrArg₂ ((past D)) ?_ ?_)
  · show win0_1.index t 0 * 256 + 1 * (y 0).val = _
    rw [(index1 t).1]; omega
  · show win0_1.index t 1 * 2816 + 1 * (y 1).val = _
    rw [(index1 t).2]; omega

include h4 in
theorem blk2 (t : Fin grid0.N) : iblk m c 2 t = (ce (W) : S1024x5632.Idx → EReal) := by
  have e : V m c main_v17 = ce (W) := read17 W m c h4
  funext y
  unfold iblk
  rw [View.read_apply]
  show V m c main_v17 _ = _
  rw [e]
  refine (congrArg₂ (W) ?_ ?_)
  · show win0_2.index t 0 * 1024 + 1 * (y 0).val = _
    rw [(index2 t).1]; omega
  · show win0_2.index t 1 * 5632 + 1 * (y 1).val = _
    rw [(index2 t).2]; omega

include h0 h1 h2 in
theorem blk3 (t : Fin grid0.N) : iblk m c 3 t = (ce (tile t.val (xs x z gp)) : S256x1024.Idx → EReal) := by
  have e : V m c main_v12 = ce ((xs x z gp)) := read12 x z gp m c h0 h1 h2
  funext y
  unfold iblk
  rw [View.read_apply]
  show V m c main_v12 _ = _
  rw [e]
  refine (congrArg₂ ((xs x z gp)) ?_ ?_)
  · show win0_3.index t 0 * 256 + 1 * (y 0).val = _
    rw [(index3 t).1]; omega
  · show win0_3.index t 1 * 1024 + 1 * (y 1).val = _
    rw [(index3 t).2]; omega

include h6 in
theorem blk4 (t : Fin grid0.N) : iblk m c 4 t = (ce (tile t.val Y) : S256x1024.Idx → EReal) := by
  have e : V m c main_arg6 = ce (Y) := (V_main_arg6 m c).trans h6
  funext y
  unfold iblk
  rw [View.read_apply]
  show V m c main_arg6 _ = _
  rw [e]
  refine (congrArg₂ (Y) ?_ ?_)
  · show win0_4.index t 0 * 256 + 1 * (y 0).val = _
    rw [(index4 t).1]; omega
  · show win0_4.index t 1 * 1024 + 1 * (y 1).val = _
    rw [(index4 t).2]; omega

include h1 in
theorem blk5 (t : Fin grid0.N) : iblk m c 5 t = (ce (tile t.val z) : S256x1024.Idx → EReal) := by
  have e : V m c main_arg1 = ce (z) := (V_main_arg1 m c).trans h1
  funext y
  unfold iblk
  rw [View.read_apply]
  show V m c main_arg1 _ = _
  rw [e]
  refine (congrArg₂ (z) ?_ ?_)
  · show win0_5.index t 0 * 256 + 1 * (y 0).val = _
    rw [(index5 t).1]; omega
  · show win0_5.index t 1 * 1024 + 1 * (y 1).val = _
    rw [(index5 t).2]; omega

include h3 in
theorem blk6 (t : Fin grid0.N) : iblk m c 6 t = (ce (gf) : S1x1024.Idx → EReal) := by
  have e : V m c main_arg3 = ce (gf) := (V_main_arg3 m c).trans h3
  funext y
  unfold iblk
  rw [View.read_apply]
  show V m c main_arg3 _ = _
  rw [e]
  refine (congrArg₂ (gf) ?_ ?_)
  · show win0_6.index t 0 * 1 + 1 * (y 0).val = _
    rw [(index6 t).1]; omega
  · show win0_6.index t 1 * 1024 + 1 * (y 1).val = _
    rw [(index6 t).2]; omega

include h2 in
theorem blk7 (t : Fin grid0.N) : iblk m c 7 t = (ce (gp) : S1x1024.Idx → EReal) := by
  have e : V m c main_arg2 = ce (gp) := (V_main_arg2 m c).trans h2
  funext y
  unfold iblk
  rw [View.read_apply]
  show V m c main_arg2 _ = _
  rw [e]
  refine (congrArg₂ (gp) ?_ ?_)
  · show win0_7.index t 0 * 1 + 1 * (y 0).val = _
    rw [(index7 t).1]; omega
  · show win0_7.index t 1 * 1024 + 1 * (y 1).val = _
    rw [(index7 t).2]; omega

/-- What a point leaves in the stack of the gains' gradients: the sums over the rows of the points so far. -/
def Left (n : ℕ) (h : n < cfg0.N) : Prop :=
  (outsAt0 m c n h).1 = ce (tile n (dx x z gp gf W D Y)) ∧ (outsAt0 m c n h).2.1 = ce (tile n (dz x z gp gf W D Y)) ∧ (outsAt0 m c n h).2.2 = ce (vc x z gp gf W D Y (256 * (n + 1)))

include h0 h1 h2 h3 h4 h5 h6 in
theorem first (t : Fin cfg0.N) (ht : t.val % 32 = 0) (hz : t.val = 0) : Left x z gp gf W D Y m c t.val t.isLt := by
  unfold Left
  rw [outsAt0_A m c t ht]
  refine ⟨?_, ?_, ?_⟩
  · dsimp only
    refine (dxA _ _ _ _ _ _ _ _ _ _ _ _ _ _ _ _ _ _ _ _ _ _ _ _ _ _ _ _ _ _ _ _ _ _ _ _ _ _ _ _ (blk0 D m c h5 t) (blk1 D m c h5 t) (blk2 W m c h4 t) (blk3 x z gp m c h0 h1 h2 t) (blk4 Y m c h6 t) (blk5 z m c h1 t) (blk6 gf m c h3 t) (blk7 gp m c h2 t) _).trans ?_
    rw [tx_tile]
  · dsimp only
    refine (dzA _ _ _ _ _ _ _ _ _ _ _ _ _ _ _ _ _ _ _ _ _ _ _ _ _ _ _ _ _ _ _ _ _ _ _ _ _ _ _ _ (blk0 D m c h5 t) (blk1 D m c h5 t) (blk2 W m c h4 t) (blk3 x z gp m c h0 h1 h2 t) (blk4 Y m c h6 t) (blk5 z m c h1 t) (blk6 gf m c h3 t) (blk7 gp m c h2 t) _).trans ?_
    rw [tz_tile]
  · dsimp only
    refine (vcA _ _ _ _ _ _ _ _ _ _ _ _ _ _ _ _ _ _ _ _ _ _ _ _ _ _ _ _ _ _ _ _ _ _ _ _ _ _ _ _ (blk0 D m c h5 t) (blk1 D m c h5 t) (blk2 W m c h4 t) (blk3 x z gp m c h0 h1 h2 t) (blk4 Y m c h6 t) (blk5 z m c h1 t) (blk6 gf m c h3 t) (blk7 gp m c h2 t) _).trans ?_
    rw [← tv_tile, ← vc_zero x z gp gf W D Y, hz]

include h0 h1 h2 h3 h4 h5 h6 in
theorem later (t : Fin cfg0.N) (ht : ¬t.val % 32 = 0)
    (ih : (outsAt0 m c (t.val - 1) (Nat.lt_of_le_of_lt (Nat.sub_le _ _) t.isLt)).2.2 = ce (vc x z gp gf W D Y (256 * t.val))) :
    Left x z gp gf W D Y m c t.val t.isLt := by
  unfold Left
  rw [outsAt0_B m c t ht]
  refine ⟨?_, ?_, ?_⟩
  · dsimp only
    refine (dxB _ _ _ _ _ _ _ _ _ _ _ _ _ _ _ _ _ _ _ _ _ _ _ _ _ _ _ _ _ _ _ _ _ _ _ _ _ _ _ _ _ (blk0 D m c h5 t) (blk1 D m c h5 t) (blk2 W m c h4 t) (blk3 x z gp m c h0 h1 h2 t) (blk4 Y m c h6 t) (blk5 z m c h1 t) (blk6 gf m c h3 t) (blk7 gp m c h2 t) _).trans ?_
    rw [tx_tile]
  · dsimp only
    refine (dzB _ _ _ _ _ _ _ _ _ _ _ _ _ _ _ _ _ _ _ _ _ _ _ _ _ _ _ _ _ _ _ _ _ _ _ _ _ _ _ _ _ (blk0 D m c h5 t) (blk1 D m c h5 t) (blk2 W m c h4 t) (blk3 x z gp m c h0 h1 h2 t) (blk4 Y m c h6 t) (blk5 z m c h1 t) (blk6 gf m c h3 t) (blk7 gp m c h2 t) _).trans ?_
    rw [tz_tile]
  · dsimp only
    refine (vcB _ _ _ _ _ _ _ _ _ _ _ _ _ _ _ _ _ _ _ _ _ _ _ _ _ _ _ _ _ _ _ _ _ _ _ _ _ _ _ _ _ _ (blk0 D m c h5 t) (blk1 D m c h5 t) (blk2 W m c h4 t) (blk3 x z gp m c h0 h1 h2 t) (blk4 Y m c h6 t) (blk5 z m c h1 t) (blk6 gf m c h3 t) (blk7 gp m c h2 t) ih _).trans ?_
    rw [tv_tile]

include h0 h1 h2 h3 h4 h5 h6 in
theorem left : ∀ (n : ℕ) (h : n < cfg0.N), Left x z gp gf W D Y m c n h
  | 0, h => first x z gp gf W D Y m c h0 h1 h2 h3 h4 h5 h6 ⟨0, h⟩ rfl rfl
  | n + 1, h => later x z gp gf W D Y m c h0 h1 h2 h3 h4 h5 h6 ⟨n + 1, h⟩ (by have h' : n + 1 < 32 := lt_of_lt_of_eq h N_0; show ¬(n + 1) % 32 = 0; omega) (left n (Nat.lt_of_succ_lt h)).2.2

theorem xsize8 : ∀ t : Fin grid0.N, win0_8.xsize (grid0.coords t) 0 = 256 ∧ win0_8.xsize (grid0.coords t) 1 = 1024 := by decide +kernel
theorem xsize9 : ∀ t : Fin grid0.N, win0_9.xsize (grid0.coords t) 0 = 256 ∧ win0_9.xsize (grid0.coords t) 1 = 1024 := by decide +kernel
theorem xsize10 : ∀ t : Fin grid0.N, win0_10.xsize (grid0.coords t) 0 = 8 ∧ win0_10.xsize (grid0.coords t) 1 = 1024 := by decide +kernel

include h0 h1 h2 h3 h4 h5 h6 in
theorem final8 : (dats m 0 c).arrAt 8 cfg0.N = (ce (dx x z gp gf W D Y) : S8192x1024.Idx → EReal) := by
  refine (dats m 0 c).arrAt_eq_of_cover 8 (ce (dx x z gp gf W D Y) : S8192x1024.Idx → EReal) (fun t _ => ?_) fun i => ?_
  · show (cfg0.win 8).cut (grid0.coords t) ((dats m 0 c).after 8 t) = _
    rw [after0_8, (left x z gp gf W D Y m c h0 h1 h2 h3 h4 h5 h6 t.val t.isLt).1]
    funext y
    rw [View.read_apply]
    show dx x z gp gf W D Y (256 * t.val + (y 0).val) (y 1).val = dx x z gp gf W D Y (win0_8.index t 0 * 256 + 1 * (y 0).val) (win0_8.index t 1 * 1024 + 1 * (y 1).val)
    rw [(index8 t).1, (index8 t).2, show t.val * 256 + 1 * (y 0).val = 256 * t.val + (y 0).val by omega, show 0 * 1024 + 1 * (y 1).val = (y 1).val by omega]
  · have i0 : (i 0 : Nat) < 8192 := (i 0).isLt
    have i1 : (i 1 : Nat) < 1024 := (i 1).isLt
    obtain ⟨T, hv⟩ : ∃ T : Fin cfg0.N, T.val = (i 0).val / 256 := ⟨⟨(i 0).val / 256, lt_of_lt_of_eq (b := 32) (by omega) N_0.symm⟩, rfl⟩
    refine ⟨T, flush0_8 T, ?_⟩
    show i ∈ ((View.whole main_v18_0).slice (win0_8.rect T)).set
    rw [View.set_slice_whole, Rect.mem_set_unit]
    intro a
    match a with
    | ⟨0, _⟩ =>
      show win0_8.index T 0 * 256 ≤ (i 0 : Nat) ∧ (i 0 : Nat) < win0_8.index T 0 * 256 + win0_8.xsize (grid0.coords T) 0
      rw [(index8 T).1, (xsize8 T).1]; omega
    | ⟨1, _⟩ =>
      show win0_8.index T 1 * 1024 ≤ (i 1 : Nat) ∧ (i 1 : Nat) < win0_8.index T 1 * 1024 + win0_8.xsize (grid0.coords T) 1
      rw [(index8 T).2, (xsize8 T).2]; omega

include h0 h1 h2 h3 h4 h5 h6 in
theorem final9 : (dats m 0 c).arrAt 9 cfg0.N = (ce (dz x z gp gf W D Y) : S8192x1024.Idx → EReal) := by
  refine (dats m 0 c).arrAt_eq_of_cover 9 (ce (dz x z gp gf W D Y) : S8192x1024.Idx → EReal) (fun t _ => ?_) fun i => ?_
  · show (cfg0.win 9).cut (grid0.coords t) ((dats m 0 c).after 9 t) = _
    rw [after0_9, (left x z gp gf W D Y m c h0 h1 h2 h3 h4 h5 h6 t.val t.isLt).2.1]
    funext y
    rw [View.read_apply]
    show dz x z gp gf W D Y (256 * t.val + (y 0).val) (y 1).val = dz x z gp gf W D Y (win0_9.index t 0 * 256 + 1 * (y 0).val) (win0_9.index t 1 * 1024 + 1 * (y 1).val)
    rw [(index9 t).1, (index9 t).2, show t.val * 256 + 1 * (y 0).val = 256 * t.val + (y 0).val by omega, show 0 * 1024 + 1 * (y 1).val = (y 1).val by omega]
  · have i0 : (i 0 : Nat) < 8192 := (i 0).isLt
    have i1 : (i 1 : Nat) < 1024 := (i 1).isLt
    obtain ⟨T, hv⟩ : ∃ T : Fin cfg0.N, T.val = (i 0).val / 256 := ⟨⟨(i 0).val / 256, lt_of_lt_of_eq (b := 32) (by omega) N_0.symm⟩, rfl⟩
    refine ⟨T, flush0_9 T, ?_⟩
    show i ∈ ((View.whole main_v18_1).slice (win0_9.rect T)).set
    rw [View.set_slice_whole, Rect.mem_set_unit]
    intro a
    match a with
    | ⟨0, _⟩ =>
      show win0_9.index T 0 * 256 ≤ (i 0 : Nat) ∧ (i 0 : Nat) < win0_9.index T 0 * 256 + win0_9.xsize (grid0.coords T) 0
      rw [(index9 T).1, (xsize9 T).1]; omega
    | ⟨1, _⟩ =>
      show win0_9.index T 1 * 1024 ≤ (i 1 : Nat) ∧ (i 1 : Nat) < win0_9.index T 1 * 1024 + win0_9.xsize (grid0.coords T) 1
      rw [(index9 T).2, (xsize9 T).2]; omega

include h0 h1 h2 h3 h4 h5 h6 in
theorem final10 : (dats m 0 c).arrAt 10 cfg0.N = (ce (vc x z gp gf W D Y 8192) : S8x1024.Idx → EReal) := by
  refine (dats m 0 c).arrAt_eq_of_cover 10 (ce (vc x z gp gf W D Y 8192) : S8x1024.Idx → EReal) (fun t hf => ?_) fun i => ?_
  · have ht : t.val = 31 := by
      have h' : t.val < 32 := lt_of_lt_of_eq t.isLt N_0
      have h'' := (flush0_10 t).mp hf
      omega
    show (cfg0.win 10).cut (grid0.coords t) ((dats m 0 c).after 10 t) = _
    rw [after0_10, (left x z gp gf W D Y m c h0 h1 h2 h3 h4 h5 h6 t.val t.isLt).2.2, show 256 * (t.val + 1) = 8192 by omega]
    funext y
    rw [View.read_apply]
    show vc x z gp gf W D Y 8192 (y 0).val (y 1).val = vc x z gp gf W D Y 8192 (win0_10.index t 0 * 8 + 1 * (y 0).val) (win0_10.index t 1 * 1024 + 1 * (y 1).val)
    rw [(index10 t).1, (index10 t).2, show 0 * 8 + 1 * (y 0).val = (y 0).val by omega, show 0 * 1024 + 1 * (y 1).val = (y 1).val by omega]
  · have i0 : (i 0 : Nat) < 8 := (i 0).isLt
    have i1 : (i 1 : Nat) < 1024 := (i 1).isLt
    obtain ⟨T, hv⟩ : ∃ T : Fin cfg0.N, T.val = 31 := ⟨⟨31, lt_of_lt_of_eq (b := 32) (by omega) N_0.symm⟩, rfl⟩
    refine ⟨T, (flush0_10 T).mpr (by omega), ?_⟩
    show i ∈ ((View.whole main_v18_2).slice (win0_10.rect T)).set
    rw [View.set_slice_whole, Rect.mem_set_unit]
    intro a
    match a with
    | ⟨0, _⟩ =>
      show win0_10.index T 0 * 8 ≤ (i 0 : Nat) ∧ (i 0 : Nat) < win0_10.index T 0 * 8 + win0_10.xsize (grid0.coords T) 0
      rw [(index10 T).1, (xsize10 T).1]; omega
    | ⟨1, _⟩ =>
      show win0_10.index T 1 * 1024 ≤ (i 1 : Nat) ∧ (i 1 : Nat) < win0_10.index T 1 * 1024 + win0_10.xsize (grid0.coords T) 1
      rw [(index10 T).2, (xsize10 T).2]; omega

end Cert.Kernel3Ideal.FfnUp

namespace Cert.FoxClaims

open Cert.FoxClaims.Norm (ce)
open Cert.Reference3Ideal.FfnUp (resX resZ resV resX_co resZ_co resV_co)
open Idealize.ShloMosaic Idealize.ShloMosaic.TcCoe Idealize.SL.Sem

/-- A matrix, as one of a function of two numbers. -/
theorem matrix {a b : ℕ} (x : (⟨2, ![a, b]⟩ : Shape).Idx → EReal) : x = ce (Sum.at2 x) := funext fun i => Sum.at2_eq x i

/-- The three results agree, whatever the arguments. -/
theorem values3 : Cert.algebraic_Kernel3Ideal_Reference3Ideal := fun m ρ m' ρ' _ hm => by
  refine ⟨fun c => resX (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => resZ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => resV (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)), ?_, ?_⟩
  · refine (θ_run _ _ _).mono (fun r h c => ?_) (Cert.Kernel3Ideal.Value.run_blocks (F := Ideal) m ρ)
    have a0 := matrix (a := 8192) (b := 1024) (m ((c.tc : Thread Cert.Kernel3Ideal.nD Cert.Kernel3Ideal.τ).loc Cert.Kernel3Ideal.main_arg0))
    have a1 := matrix (a := 8192) (b := 1024) (m ((c.tc : Thread Cert.Kernel3Ideal.nD Cert.Kernel3Ideal.τ).loc Cert.Kernel3Ideal.main_arg1))
    have a2 := matrix (a := 1) (b := 1024) (m ((c.tc : Thread Cert.Kernel3Ideal.nD Cert.Kernel3Ideal.τ).loc Cert.Kernel3Ideal.main_arg2))
    have a3 := matrix (a := 1) (b := 1024) (m ((c.tc : Thread Cert.Kernel3Ideal.nD Cert.Kernel3Ideal.τ).loc Cert.Kernel3Ideal.main_arg3))
    have a4 := matrix (a := 1024) (b := 5632) (m ((c.tc : Thread Cert.Kernel3Ideal.nD Cert.Kernel3Ideal.τ).loc Cert.Kernel3Ideal.main_arg4))
    have a5 := matrix (a := 8192) (b := 5632) (m ((c.tc : Thread Cert.Kernel3Ideal.nD Cert.Kernel3Ideal.τ).loc Cert.Kernel3Ideal.main_arg5))
    have a6 := matrix (a := 8192) (b := 1024) (m ((c.tc : Thread Cert.Kernel3Ideal.nD Cert.Kernel3Ideal.τ).loc Cert.Kernel3Ideal.main_arg6))
    obtain ⟨b0, b1, b2, hb⟩ := h c
    refine ⟨b0.trans ?_, b1.trans ?_, b2.trans ?_, hb⟩
    · exact ((Cert.Kernel3Ideal.FfnUp.final8 _ _ _ _ _ _ _ m c a0 a1 a2 a3 a4 a5 a6).trans (resX_co _ _ _ _ _ _ _).symm).trans (congr (congr (congr (congr (congr (congr (congrArg resX a0) a1) a2) a3) a4) a5) a6).symm
    · exact ((Cert.Kernel3Ideal.FfnUp.final9 _ _ _ _ _ _ _ m c a0 a1 a2 a3 a4 a5 a6).trans (resZ_co _ _ _ _ _ _ _).symm).trans (congr (congr (congr (congr (congr (congr (congrArg resZ a0) a1) a2) a3) a4) a5) a6).symm
    · exact ((Cert.Kernel3Ideal.FfnUp.final10 _ _ _ _ _ _ _ m c a0 a1 a2 a3 a4 a5 a6).trans (resV_co _ _ _ _ _ _ _).symm).trans (congr (congr (congr (congr (congr (congr (congrArg resV a0) a1) a2) a3) a4) a5) a6).symm
  · refine (θ_run _ _ _).mono (fun r h c => ?_) (Cert.Reference3Ideal.Value.run (F := Ideal) m' ρ')
    obtain ⟨e0, e1, e2, e3, e4, e5, e6⟩ := hm c
    obtain ⟨b0, b1, b2, hb⟩ := h c
    refine ⟨(b0.trans (Cert.Reference3Ideal.FfnUp.res_x m' c)).trans ?_, (b1.trans (Cert.Reference3Ideal.FfnUp.res_z m' c)).trans ?_, (b2.trans (Cert.Reference3Ideal.FfnUp.res_v m' c)).trans ?_, hb⟩
    · have e := congr (congr (congr (congr (congr (congr (congrArg resX e0) e1) e2) e3) e4) e5) e6
      exact e
    · have e := congr (congr (congr (congr (congr (congr (congrArg resZ e0) e1) e2) e3) e4) e5) e6
      exact e
    · have e := congr (congr (congr (congr (congr (congr (congrArg resV e0) e1) e2) e3) e4) e5) e6
      exact e

end Cert.FoxClaims

end
-- ==== Proof.Wgrad.lean ====
/- The weight gradient: the sum the call gathers tile by tile is the one product over all rows. -/
module

public import proofs.«01_k».proof.Defs
public import proofs.«01_k».proof.Proof.WgradSum
public import proofs.«01_k».proof.Proof.Gen.Kernel4Ideal.Value
public import proofs.«01_k».proof.Proof.Gen.Reference4Ideal.Run
public import Idealize.ShloMosaic.Lib.Pointwise
public import Idealize.ShloMosaic.Lib.IdealHost
public import Idealize.ShloMosaic.Lib.StableHlo.RunRead

@[expose] public section

set_option maxRecDepth 16384

noncomputable section

namespace Cert.Kernel4Ideal.Wgrad

open Cert.Kernel4Ideal Cert.Kernel4Ideal.Gen
open Cert.FoxClaims.Sum (at2 at2_eq)
open Idealize.ShloMosaic Idealize.ShloMosaic.TcCoe Idealize.ShloMosaic.Tactic Idealize.SL.Sem

variable (m : (ℓ : Loc nD τ sig) → Buf (Elt Ideal) ℓ) (c : Dev nD)

/-- The terms of the sum: row `t` of the two operands, at the columns `a` and `b`. -/
def term (x y : S8192x1024.Idx → EReal) (a b t : ℕ) : EReal := at2 x t a * at2 y t b

theorem read0 : V m c main_v0 = (m ((c.tc : Thread nD τ).loc main_arg0) : S8192x1024.Idx → EReal) := by
  after_reads_simp
  rfl

theorem read1 : V m c main_v1 = (m ((c.tc : Thread nD τ).loc main_arg1) : S8192x1024.Idx → EReal) := by
  after_reads_simp
  rfl

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel

theorem blk0 (t : Fin grid0.N) (j : S2048x1024.Idx) :
    (iblk m c 0 t : S2048x1024.Idx → EReal) j = at2 (m ((c.tc : Thread nD τ).loc main_arg0) : S8192x1024.Idx → EReal) (2048 * t.val + (j 0).val) (j 1).val := by
  unfold iblk
  rw [View.read_apply]
  show V m c main_v0 _ = _
  rw [read0]
  refine (at2_eq _ _).trans (congrArg₂ (at2 _) ?_ ?_)
  · show win0_0.index t 0 * 2048 + 1 * (j 0).val = _
    rw [(index0 t).1]; omega
  · show win0_0.index t 1 * 1024 + 1 * (j 1).val = _
    rw [(index0 t).2]; omega

theorem blk1 (t : Fin grid0.N) (j : S2048x1024.Idx) :
    (iblk m c 1 t : S2048x1024.Idx → EReal) j = at2 (m ((c.tc : Thread nD τ).loc main_arg1) : S8192x1024.Idx → EReal) (2048 * t.val + (j 0).val) (j 1).val := by
  unfold iblk
  rw [View.read_apply]
  show V m c main_v1 _ = _
  rw [read1]
  refine (at2_eq _ _).trans (congrArg₂ (at2 _) ?_ ?_)
  · show win0_1.index t 0 * 2048 + 1 * (j 0).val = _
    rw [(index1 t).1]; omega
  · show win0_1.index t 1 * 1024 + 1 * (j 1).val = _
    rw [(index1 t).2]; omega

theorem hz : (![0, 0] : Fin 2 → Nat) = fun _ => 0 := funext fun a => by fin_cases a <;> rfl

section
variable (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x y : Vec Ideal S2048x1024 .bf16) (s : Vec Ideal S1024x1024 .f32)

/-- The first tile leaves its own product in the scratch. -/
theorem first (hc0 : cond0_0 i) (hc1 : ¬cond0_1 i) : sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz]
  simp only [View.readCov_unit_zero (S := S1024x1024) _ hz, View.readAt_eq_ld, h3.read_unread, h4.read_unread, h6.read_unread, View.ld_unit_zero (S := S2048x1024) hz, View.ld_unit_zero (S := S1024x1024) hz]

/-- A middle tile adds its product to the scratch. -/
theorem middle (hc0 : ¬cond0_0 i) (hc1 : ¬cond0_1 i) : sout0_B_0 (F := Ideal) c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The last tile writes the sum out. -/
theorem last (hc0 : ¬cond0_0 i) (hc1 : cond0_1 i) : out0_C_2 (F := Ideal) c i a3 h3 a4 h4 a5 h5 a6 h6 hc0 hc1 x y s = k0_pay2 (F := Ideal) s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x1024) _ hz, View.readAt_eq_ld, h3.read_unread, h4.read_unread, h6.read_unread, View.ld_unit_zero (S := S2048x1024) hz, View.ld_unit_zero (S := S1024x1024) hz]
  rfl

end

/-- The sum of the terms of the first `n` rows, as a matrix. -/
def upto (n : ℕ) : S1024x1024.Idx → EReal :=
  fun j => ∑ t ∈ Finset.range n, term (m ((c.tc : Thread nD τ).loc main_arg0)) (m ((c.tc : Thread nD τ).loc main_arg1)) (j 0).val (j 1).val t

/-- A tile's product added to a matrix, element by element. -/
theorem pay_at (s : Vec Ideal S1024x1024 .f32) (x y : Vec Ideal S2048x1024 .bf16) (j : S1024x1024.Idx) :
    k0_pay2 (F := Ideal) s x y j = (s j : EReal) + ∑ k ∈ Finset.range 2048, at2 (x : S2048x1024.Idx → EReal) k (j 0).val * at2 (y : S2048x1024.Idx → EReal) k (j 1).val := by
  rw [Finset.sum_range]
  unfold k0_pay2
  pointwise
  exact congrArg (_ + ·) (Finset.sum_congr rfl fun k _ => congrArg₂ (· * ·) (at2_eq _ _) (at2_eq _ _))

/-- A tile's product added to the sum before it is the sum with the tile. -/
theorem step (t : Fin grid0.N) (s : Vec Ideal S1024x1024 .f32) (hs : s = upto m c (2048 * t.val)) :
    k0_pay2 (F := Ideal) s (iblk m c 0 t) (iblk m c 1 t) = upto m c (2048 * (t.val + 1)) := by
  funext j
  have j0 : (j 0).val < 1024 := (j 0).isLt
  have j1 : (j 1).val < 1024 := (j 1).isLt
  refine (pay_at s _ _ j).trans ?_
  rw [hs]
  unfold upto
  rw [show 2048 * (t.val + 1) = 2048 * t.val + 2048 by ring, Finset.sum_range_add]
  refine congrArg (_ + ·) (Finset.sum_congr rfl fun k hk => ?_)
  have hk' := Finset.mem_range.mp hk
  refine congrArg₂ (· * ·) ?_ ?_
  · exact (dif_pos ⟨hk', j0⟩).trans (blk0 m c t _)
  · exact (dif_pos ⟨hk', j1⟩).trans (blk1 m c t _)

theorem zero_upto : k0_pay1 (F := Ideal) = upto m c 0 := by
  funext j
  pointwise [k0_pay1]
  unfold upto
  simp

theorem at_first (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  rw [first]

theorem at_middle (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  rw [middle]

theorem at_last (t : Fin cfg0.N) (h0 : ¬t.val % 4 = 0) (h1 : t.val % 4 = 3) :
    (outsAt0 m c t.val t.isLt).1 = k0_pay2 (F := Ideal) (outsAt0 m c (t.val - 1) (Nat.lt_of_le_of_lt (Nat.sub_le _ _) t.isLt)).2 (iblk m c 0 t) (iblk m c 1 t) := by
  rw [outsAt0_C m c t h0 h1]
  dsimp only
  rw [last]

/-- The scratch after the first three tiles. -/
theorem carried : ∀ (n : ℕ) (h : n < cfg0.N) (_ : n < 3), (outsAt0 m c n h).2 = upto m c (2048 * (n + 1))
  | 0, h, _ => (at_first m c ⟨0, h⟩ (Nat.zero_mod _) (by show ¬0 % 4 = 3; omega)).trans (step m c ⟨0, h⟩ _ (zero_upto m c))
  | n + 1, h, hn => (at_middle m c ⟨n + 1, h⟩ (by show ¬(n + 1) % 4 = 0; omega) (by show ¬(n + 1) % 4 = 3; omega)).trans
      (step m c ⟨n + 1, h⟩ _ (carried n (Nat.lt_of_succ_lt h) (by omega)))

/-- What the call leaves in its result: the sum over all rows. -/
theorem result : Value.G2 m c = upto m c 8192 := by
  have h3 : 3 < cfg0.N := by rw [show cfg0.N = 4 from N_0]; decide
  have e := (at_last m c ⟨3, h3⟩ (by show ¬3 % 4 = 0; omega) (by show 3 % 4 = 3; omega)).trans (step m c ⟨3, h3⟩ _ (carried m c 2 (by omega) (by omega)))
  rw [Value.G2_last m c, ← Value.outsAt0_sweep m c 3 h3]
  exact e

end Cert.Kernel4Ideal.Wgrad

namespace Cert.Reference4Ideal.Wgrad

open Cert.Reference4Ideal Cert.Reference4Ideal.Facts₀
open Cert.FoxClaims.Sum (at2 at2_eq)
open Cert.Kernel4Ideal.Wgrad (term)
open Idealize.ShloMosaic Idealize.ShloMosaic.TcCoe Idealize.SL.Sem

/-- The reference's product, element by element. -/
theorem product (x y : FVec Ideal S8192x1024 .f32) :
    truncf (F := Ideal) .bf16 (transpose S1024x1024 [1, 0] (Host.dotGeneral (F := Ideal) dot_S8192x1024_S8192x1024_S1024x1024_0_0_1_1_n_n none y x) transposes_S1024x1024_S1024x1024_1_0) bitsLt_bf16_f32
      = fun j : S1024x1024.Idx => ∑ t ∈ Finset.range 8192, term x y (j 0).val (j 1).val t := by
  funext j
  rw [Finset.sum_range]
  pointwise
  exact Finset.sum_congr rfl fun k _ => (mul_comm _ _).trans (congrArg₂ (· * ·) (at2_eq _ _) (at2_eq _ _))

end Cert.Reference4Ideal.Wgrad

namespace Cert.FoxClaims

open Cert.Kernel4Ideal.Wgrad (term)
open Idealize.ShloMosaic Idealize.ShloMosaic.TcCoe Idealize.SL.Sem

/-- The call's result is the reference's product, at any arguments. -/
theorem values4 : Cert.algebraic_Kernel4Ideal_Reference4Ideal := fun m ρ m' ρ' _ hm => by
  refine ⟨fun c => Cert.Kernel4Ideal.Wgrad.upto m c 8192, ?_, ?_⟩
  · refine (θ_run _ _ _).mono (fun r h c => ?_) (Cert.Kernel4Ideal.Value.run (F := Ideal) m ρ)
    obtain ⟨a, b⟩ := h c
    exact ⟨a.trans (Cert.Kernel4Ideal.Wgrad.result m c), b⟩
  · refine (θ_run _ _ _).mono (fun r h c => ?_) (Cert.Reference4Ideal.Value.run (F := Ideal) m' ρ')
    obtain ⟨a, b⟩ := h c
    refine ⟨a.trans ((Cert.Reference4Ideal.Wgrad.product _ _).trans ?_), b⟩
    obtain ⟨e0, e1⟩ := hm c
    rw [e0, e1]
    rfl

end Cert.FoxClaims

end
-- ==== Proof.WgradWide.lean ====
/- The weight gradient of the feed-forward's first layers: the result is gathered in two halves of its columns. -/
module

public import proofs.«01_k».proof.Defs
public import proofs.«01_k».proof.Proof.WgradSum
public import proofs.«01_k».proof.Proof.Gen.Kernel5Ideal.Value
public import proofs.«01_k».proof.Proof.Gen.Reference5Ideal.Run
public import Idealize.ShloMosaic.Lib.StableHlo.RunRead

@[expose] public section

set_option maxRecDepth 16384

noncomputable section

namespace Cert.Kernel5Ideal.Wgrad

open Cert.Kernel5Ideal Cert.Kernel5Ideal.Gen Cert.FoxClaims.Sum
open Idealize.ShloMosaic Idealize.ShloMosaic.TcCoe Idealize.ShloMosaic.Tactic Idealize.SL.Sem

variable (m : (ℓ : Loc nD τ sig) → Buf (Elt Ideal) ℓ) (c : Dev nD)

/-- The two operands, as launched. -/
abbrev left : S8192x1024.Idx → EReal := m ((c.tc : Thread nD τ).loc main_arg0)
abbrev right : S8192x2816.Idx → EReal := m ((c.tc : Thread nD τ).loc main_arg1)

theorem read0 : V m c main_v0 = left m c := by
  after_reads_simp
  rfl

theorem read1 : V m c main_v1 = right m c := by
  after_reads_simp
  rfl

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel

theorem blk0 (t : Fin grid0.N) (j : S2048x1024.Idx) :
    (iblk m c 0 t : S2048x1024.Idx → EReal) j = at2 (left m c) (2048 * (t.val % 4) + (j 0).val) (0 + (j 1).val) := by
  unfold iblk
  rw [View.read_apply]
  show V m c main_v0 _ = _
  rw [read0]
  refine (at2_eq _ _).trans (congrArg₂ (at2 _) ?_ ?_)
  · show win0_0.index t 0 * 2048 + 1 * (j 0).val = _
    rw [(index0 t).1]; omega
  · show win0_0.index t 1 * 1024 + 1 * (j 1).val = _
    rw [(index0 t).2]; omega

theorem blk1 (t : Fin grid0.N) (j : S2048x1408.Idx) :
    (iblk m c 1 t : S2048x1408.Idx → EReal) j = at2 (right m c) (2048 * (t.val % 4) + (j 0).val) (1408 * (t.val / 4) + (j 1).val) := by
  unfold iblk
  rw [View.read_apply]
  show V m c main_v1 _ = _
  rw [read1]
  refine (at2_eq _ _).trans (congrArg₂ (at2 _) ?_ ?_)
  · show win0_1.index t 0 * 2048 + 1 * (j 0).val = _
    rw [(index1 t).1]; omega
  · show win0_1.index t 1 * 1408 + 1 * (j 1).val = _
    rw [(index1 t).2]; omega

section
variable (i : grid0.Coords) (a3 : Memref sig .tc .vmem S2048x1024 .bf16) (h3 : a3.IsWhole) (a4 : Memref sig .tc .vmem S2048x1408 .bf16) (h4 : a4.IsWhole)
  (a5 : Memref sig .tc .vmem S1024x1408 .bf16) (h5 : a5.IsWhole) (a6 : Memref sig .tc .vmem S1024x1408 .f32) (h6 : a6.IsWhole)
  (x : Vec Ideal S2048x1024 .bf16) (y : Vec Ideal S2048x1408 .bf16) (s : Vec Ideal S1024x1408 .f32)

/-- The first tile leaves its own product in the scratch. -/
theorem first (hc0 : cond0_0 i) (hc1 : ¬cond0_1 i) : sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1408) hz]
  simp only [View.readCov_unit_zero (S := S1024x1408) _ hz, View.readAt_eq_ld, h3.read_unread, h4.read_unread, h6.read_unread, View.ld_unit_zero (S := S2048x1024) hz, View.ld_unit_zero (S := S2048x1408) hz, View.ld_unit_zero (S := S1024x1408) hz]

/-- A middle tile adds its product to the scratch. -/
theorem middle (hc0 : ¬cond0_0 i) (hc1 : ¬cond0_1 i) : sout0_B_0 (F := Ideal) c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S2048x1408) hz, View.ld_unit_zero (S := S1024x1408) hz]

/-- The last tile writes the sum out. -/
theorem last (hc0 : ¬cond0_0 i) (hc1 : cond0_1 i) : out0_C_2 (F := Ideal) c i a3 h3 a4 h4 a5 h5 a6 h6 hc0 hc1 x y s = k0_pay2 (F := Ideal) s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x1408) _ hz, View.readAt_eq_ld, h3.read_unread, h4.read_unread, h6.read_unread, View.ld_unit_zero (S := S2048x1024) hz, View.ld_unit_zero (S := S2048x1408) hz, View.ld_unit_zero (S := S1024x1408) hz]
  rfl

end

/-- A tile's product added to a matrix, element by element. -/
theorem pay_at (s : Vec Ideal S1024x1408 .f32) (x : Vec Ideal S2048x1024 .bf16) (y : Vec Ideal S2048x1408 .bf16) (j : S1024x1408.Idx) :
    k0_pay2 (F := Ideal) s x y j = (s j : EReal) + ∑ k ∈ Finset.range 2048, at2 (x : S2048x1024.Idx → EReal) k (j 0).val * at2 (y : S2048x1408.Idx → EReal) k (j 1).val := by
  rw [Finset.sum_range]
  unfold k0_pay2
  pointwise
  exact congrArg (_ + ·) (Finset.sum_congr rfl fun k _ => congrArg₂ (· * ·) (at2_eq _ _) (at2_eq _ _))

/-- The scratch of run `k` after `n` of its tiles. -/
def part (k n : ℕ) : S1024x1408.Idx → EReal := upto (left m c) (right m c) 0 (1408 * k) (2048 * n)

/-- A tile's product added to the sum before it is the sum with the tile. -/
theorem step (t : Fin grid0.N) (s : Vec Ideal S1024x1408 .f32) (hs : s = part m c (t.val / 4) (t.val % 4)) :
    k0_pay2 (F := Ideal) s (iblk m c 0 t) (iblk m c 1 t) = part m c (t.val / 4) (t.val % 4 + 1) := by
  funext j
  refine (pay_at s _ _ j).trans ?_
  rw [hs]
  exact upto_tile (left m c) (right m c) 0 (1408 * (t.val / 4)) (t.val % 4) _ _ (blk0 m c t) (blk1 m c t) j

theorem start (k : ℕ) : k0_pay1 (F := Ideal) = part m c k 0 := by
  funext j
  pointwise [k0_pay1]
  unfold part upto
  simp

theorem at_first (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  rw [first]

theorem at_middle (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  rw [middle]

theorem at_last (t : Fin cfg0.N) (h0 : ¬t.val % 4 = 0) (h1 : t.val % 4 = 3) :
    (outsAt0 m c t.val t.isLt).1 = k0_pay2 (F := Ideal) (outsAt0 m c (t.val - 1) (Nat.lt_of_le_of_lt (Nat.sub_le _ _) t.isLt)).2 (iblk m c 0 t) (iblk m c 1 t) := by
  rw [outsAt0_C m c t h0 h1]
  dsimp only
  rw [last]

/-- What the last tile of a run writes out: the sum over all rows. -/
theorem written (n : ℕ) (h : n < cfg0.N) (hn : n % 4 = 3) : (outsAt0 m c n h).1 = part m c (n / 4) 4 :=
  run_of_four (fun n h => ((outsAt0 m c n h).2 : S1024x1408.Idx → EReal)) (fun n h => ((outsAt0 m c n h).1 : S1024x1408.Idx → EReal))
    (fun n h s => k0_pay2 (F := Ideal) s (iblk m c 0 ⟨n, h⟩) (iblk m c 1 ⟨n, h⟩)) (k0_pay1 (F := Ideal)) (part m c)
    (fun n h h0 => at_first m c ⟨n, h⟩ h0 (by show ¬n % 4 = 3; omega))
    (fun n h h0 h1 => at_middle m c ⟨n, h⟩ h0 h1)
    (fun n h h1 => at_last m c ⟨n, h⟩ (by show ¬n % 4 = 0; omega) h1)
    (start m c) (fun n h s hs => step m c ⟨n, h⟩ s hs) n h hn

/-- What the call leaves in its result: the product over all rows. -/
theorem result : Value.G2 m c = whole (left m c) (right m c) := by
  funext i
  have i0 : (i 0).val < 1024 := (i 0).isLt
  have i1 : (i 1).val < 2816 := (i 1).isLt
  have hp : Value.pt2Of i < cfg0.N := by
    rw [show cfg0.N = 8 from N_0]
    show 4 * (2 * ((i 0).val / 1024 - 0) + 1 * ((i 1).val / 1408 - 0)) + 3 < 8
    omega
  have hv : Value.pt2Of i % 4 = 3 := by show (4 * Value.run2Of i + 3) % 4 = 3; omega
  have e : Value.G2 m c i = part m c (Value.pt2Of i / 4) 4 (Value.loc2Of i) := by
    unfold Value.G2
    rw [dif_pos hp, ← Value.outsAt0_sweep m c _ hp, written m c _ hp hv]
  refine e.trans ?_
  show (∑ t ∈ Finset.range (2048 * 4), term (left m c) (right m c) (0 + (i 0).val % 1024) (1408 * ((4 * (2 * ((i 0).val / 1024 - 0) + 1 * ((i 1).val / 1408 - 0)) + 3) / 4) + (i 1).val % 1408) t : EReal) = ∑ t ∈ Finset.range 8192, term (left m c) (right m c) (i 0).val (i 1).val t
  rw [show 0 + (i 0).val % 1024 = (i 0).val by omega, show 1408 * ((4 * (2 * ((i 0).val / 1024 - 0) + 1 * ((i 1).val / 1408 - 0)) + 3) / 4) + (i 1).val % 1408 = (i 1).val by omega]

end Cert.Kernel5Ideal.Wgrad

namespace Cert.Reference5Ideal.Wgrad

open Cert.Reference5Ideal Cert.Reference5Ideal.Facts₀ Cert.FoxClaims.Sum
open Idealize.ShloMosaic Idealize.ShloMosaic.TcCoe Idealize.SL.Sem

/-- The reference's product, element by element. -/
theorem product (x : FVec Ideal S8192x1024 .f32) (y : FVec Ideal S8192x2816 .f32) :
    truncf (F := Ideal) .bf16 (transpose S1024x2816 [1, 0] (Host.dotGeneral (F := Ideal) dot_S8192x2816_S8192x1024_S2816x1024_0_0_1_1_n_n none y x) transposes_S2816x1024_S1024x2816_1_0) bitsLt_bf16_f32
      = whole (x : S8192x1024.Idx → EReal) (y : S8192x2816.Idx → EReal) := by
  funext j
  unfold whole
  rw [Finset.sum_range]
  pointwise
  exact Finset.sum_congr rfl fun k _ => (mul_comm _ _).trans (congrArg₂ (· * ·) (at2_eq _ _) (at2_eq _ _))

end Cert.Reference5Ideal.Wgrad

namespace Cert.FoxClaims

open Idealize.ShloMosaic Idealize.ShloMosaic.TcCoe Idealize.SL.Sem

/-- The call's result is the reference's product, at any arguments. -/
theorem values5 : Cert.algebraic_Kernel5Ideal_Reference5Ideal := fun m ρ m' ρ' _ hm => by
  refine ⟨fun c => Sum.whole (Cert.Kernel5Ideal.Wgrad.left m c) (Cert.Kernel5Ideal.Wgrad.right m c), ?_, ?_⟩
  · refine (θ_run _ _ _).mono (fun r h c => ?_) (Cert.Kernel5Ideal.Value.run (F := Ideal) m ρ)
    obtain ⟨a, b⟩ := h c
    exact ⟨a.trans (Cert.Kernel5Ideal.Wgrad.result m c), b⟩
  · refine (θ_run _ _ _).mono (fun r h c => ?_) (Cert.Reference5Ideal.Value.run (F := Ideal) m' ρ')
    obtain ⟨a, b⟩ := h c
    refine ⟨a.trans ((Cert.Reference5Ideal.Wgrad.product _ _).trans ?_), b⟩
    obtain ⟨e0, e1⟩ := hm c
    rw [e0, e1]

end Cert.FoxClaims

end
-- ==== Proof.WgradTall.lean ====
/- The weight gradient of the feed-forward's last layer: the result is gathered in two halves of its rows. -/
module

public import proofs.«01_k».proof.Defs
public import proofs.«01_k».proof.Proof.WgradSum
public import proofs.«01_k».proof.Proof.Gen.Kernel6Ideal.Value
public import proofs.«01_k».proof.Proof.Gen.Reference6Ideal.Run
public import Idealize.ShloMosaic.Lib.StableHlo.RunRead

@[expose] public section

set_option maxRecDepth 16384

noncomputable section

namespace Cert.Kernel6Ideal.Wgrad

open Cert.Kernel6Ideal Cert.Kernel6Ideal.Gen Cert.FoxClaims.Sum
open Idealize.ShloMosaic Idealize.ShloMosaic.TcCoe Idealize.ShloMosaic.Tactic Idealize.SL.Sem

variable (m : (ℓ : Loc nD τ sig) → Buf (Elt Ideal) ℓ) (c : Dev nD)

/-- The two operands, as launched. -/
abbrev left : S8192x2816.Idx → EReal := m ((c.tc : Thread nD τ).loc main_arg0)
abbrev right : S8192x1024.Idx → EReal := m ((c.tc : Thread nD τ).loc main_arg1)

theorem read0 : V m c main_v0 = left m c := by
  after_reads_simp
  rfl

theorem read1 : V m c main_v1 = right m c := by
  after_reads_simp
  rfl

theorem index0 : ∀ t : Fin grid0.N, win0_0.index t 0 = t.val % 4 ∧ win0_0.index t 1 = t.val / 4 := by decide +kernel
theorem index1 : ∀ t : Fin grid0.N, win0_1.index t 0 = t.val % 4 ∧ win0_1.index t 1 = 0 := by decide +kernel

theorem blk0 (t : Fin grid0.N) (j : S2048x1408.Idx) :
    (iblk m c 0 t : S2048x1408.Idx → EReal) j = at2 (left m c) (2048 * (t.val % 4) + (j 0).val) (1408 * (t.val / 4) + (j 1).val) := by
  unfold iblk
  rw [View.read_apply]
  show V m c main_v0 _ = _
  rw [read0]
  refine (at2_eq _ _).trans (congrArg₂ (at2 _) ?_ ?_)
  · show win0_0.index t 0 * 2048 + 1 * (j 0).val = _
    rw [(index0 t).1]; omega
  · show win0_0.index t 1 * 1408 + 1 * (j 1).val = _
    rw [(index0 t).2]; omega

theorem blk1 (t : Fin grid0.N) (j : S2048x1024.Idx) :
    (iblk m c 1 t : S2048x1024.Idx → EReal) j = at2 (right m c) (2048 * (t.val % 4) + (j 0).val) (0 + (j 1).val) := by
  unfold iblk
  rw [View.read_apply]
  show V m c main_v1 _ = _
  rw [read1]
  refine (at2_eq _ _).trans (congrArg₂ (at2 _) ?_ ?_)
  · show win0_1.index t 0 * 2048 + 1 * (j 0).val = _
    rw [(index1 t).1]; omega
  · show win0_1.index t 1 * 1024 + 1 * (j 1).val = _
    rw [(index1 t).2]; omega

section
variable (i : grid0.Coords) (a3 : Memref sig .tc .vmem S2048x1408 .bf16) (h3 : a3.IsWhole) (a4 : Memref sig .tc .vmem S2048x1024 .bf16) (h4 : a4.IsWhole)
  (a5 : Memref sig .tc .vmem S1408x1024 .bf16) (h5 : a5.IsWhole) (a6 : Memref sig .tc .vmem S1408x1024 .f32) (h6 : a6.IsWhole)
  (x : Vec Ideal S2048x1408 .bf16) (y : Vec Ideal S2048x1024 .bf16) (s : Vec Ideal S1408x1024 .f32)

/-- The first tile leaves its own product in the scratch. -/
theorem first (hc0 : cond0_0 i) (hc1 : ¬cond0_1 i) : sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz]
  simp only [View.readCov_unit_zero (S := S1408x1024) _ hz, View.readAt_eq_ld, h3.read_unread, h4.read_unread, h6.read_unread, View.ld_unit_zero (S := S2048x1408) hz, View.ld_unit_zero (S := S2048x1024) hz, View.ld_unit_zero (S := S1408x1024) hz]

/-- A middle tile adds its product to the scratch. -/
theorem middle (hc0 : ¬cond0_0 i) (hc1 : ¬cond0_1 i) : sout0_B_0 (F := Ideal) c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S2048x1408) hz, View.ld_unit_zero (S := S2048x1024) hz, View.ld_unit_zero (S := S1408x1024) hz]

/-- The last tile writes the sum out. -/
theorem last (hc0 : ¬cond0_0 i) (hc1 : cond0_1 i) : out0_C_2 (F := Ideal) c i a3 h3 a4 h4 a5 h5 a6 h6 hc0 hc1 x y s = k0_pay2 (F := Ideal) s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1408x1024) _ hz, View.readAt_eq_ld, h3.read_unread, h4.read_unread, h6.read_unread, View.ld_unit_zero (S := S2048x1408) hz, View.ld_unit_zero (S := S2048x1024) hz, View.ld_unit_zero (S := S1408x1024) hz]
  rfl

end

/-- A tile's product added to a matrix, element by element. -/
theorem pay_at (s : Vec Ideal S1408x1024 .f32) (x : Vec Ideal S2048x1408 .bf16) (y : Vec Ideal S2048x1024 .bf16) (j : S1408x1024.Idx) :
    k0_pay2 (F := Ideal) s x y j = (s j : EReal) + ∑ k ∈ Finset.range 2048, at2 (x : S2048x1408.Idx → EReal) k (j 0).val * at2 (y : S2048x1024.Idx → EReal) k (j 1).val := by
  rw [Finset.sum_range]
  unfold k0_pay2
  pointwise
  exact congrArg (_ + ·) (Finset.sum_congr rfl fun k _ => congrArg₂ (· * ·) (at2_eq _ _) (at2_eq _ _))

/-- The scratch of run `k` after `n` of its tiles. -/
def part (k n : ℕ) : S1408x1024.Idx → EReal := upto (left m c) (right m c) (1408 * k) 0 (2048 * n)

/-- A tile's product added to the sum before it is the sum with the tile. -/
theorem step (t : Fin grid0.N) (s : Vec Ideal S1408x1024 .f32) (hs : s = part m c (t.val / 4) (t.val % 4)) :
    k0_pay2 (F := Ideal) s (iblk m c 0 t) (iblk m c 1 t) = part m c (t.val / 4) (t.val % 4 + 1) := by
  funext j
  refine (pay_at s _ _ j).trans ?_
  rw [hs]
  exact upto_tile (left m c) (right m c) (1408 * (t.val / 4)) 0 (t.val % 4) _ _ (blk0 m c t) (blk1 m c t) j

theorem start (k : ℕ) : k0_pay1 (F := Ideal) = part m c k 0 := by
  funext j
  pointwise [k0_pay1]
  unfold part upto
  simp

theorem at_first (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  rw [first]

theorem at_middle (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  rw [middle]

theorem at_last (t : Fin cfg0.N) (h0 : ¬t.val % 4 = 0) (h1 : t.val % 4 = 3) :
    (outsAt0 m c t.val t.isLt).1 = k0_pay2 (F := Ideal) (outsAt0 m c (t.val - 1) (Nat.lt_of_le_of_lt (Nat.sub_le _ _) t.isLt)).2 (iblk m c 0 t) (iblk m c 1 t) := by
  rw [outsAt0_C m c t h0 h1]
  dsimp only
  rw [last]

/-- What the last tile of a run writes out: the sum over all rows. -/
theorem written (n : ℕ) (h : n < cfg0.N) (hn : n % 4 = 3) : (outsAt0 m c n h).1 = part m c (n / 4) 4 :=
  run_of_four (fun n h => ((outsAt0 m c n h).2 : S1408x1024.Idx → EReal)) (fun n h => ((outsAt0 m c n h).1 : S1408x1024.Idx → EReal))
    (fun n h s => k0_pay2 (F := Ideal) s (iblk m c 0 ⟨n, h⟩) (iblk m c 1 ⟨n, h⟩)) (k0_pay1 (F := Ideal)) (part m c)
    (fun n h h0 => at_first m c ⟨n, h⟩ h0 (by show ¬n % 4 = 3; omega))
    (fun n h h0 h1 => at_middle m c ⟨n, h⟩ h0 h1)
    (fun n h h1 => at_last m c ⟨n, h⟩ (by show ¬n % 4 = 0; omega) h1)
    (start m c) (fun n h s hs => step m c ⟨n, h⟩ s hs) n h hn

/-- What the call leaves in its result: the product over all rows. -/
theorem result : Value.G2 m c = whole (left m c) (right m c) := by
  funext i
  have i0 : (i 0).val < 2816 := (i 0).isLt
  have i1 : (i 1).val < 1024 := (i 1).isLt
  have hp : Value.pt2Of i < cfg0.N := by
    rw [show cfg0.N = 8 from N_0]
    show 4 * (1 * ((i 0).val / 1408 - 0) + 1 * ((i 1).val / 1024 - 0)) + 3 < 8
    omega
  have hv : Value.pt2Of i % 4 = 3 := by show (4 * Value.run2Of i + 3) % 4 = 3; omega
  have e : Value.G2 m c i = part m c (Value.pt2Of i / 4) 4 (Value.loc2Of i) := by
    unfold Value.G2
    rw [dif_pos hp, ← Value.outsAt0_sweep m c _ hp, written m c _ hp hv]
  refine e.trans ?_
  show (∑ t ∈ Finset.range (2048 * 4), term (left m c) (right m c) (1408 * ((4 * (1 * ((i 0).val / 1408 - 0) + 1 * ((i 1).val / 1024 - 0)) + 3) / 4) + (i 0).val % 1408) (0 + (i 1).val % 1024) t : EReal) = ∑ t ∈ Finset.range 8192, term (left m c) (right m c) (i 0).val (i 1).val t
  rw [show 1408 * ((4 * (1 * ((i 0).val / 1408 - 0) + 1 * ((i 1).val / 1024 - 0)) + 3) / 4) + (i 0).val % 1408 = (i 0).val by omega, show 0 + (i 1).val % 1024 = (i 1).val by omega]

end Cert.Kernel6Ideal.Wgrad

namespace Cert.Reference6Ideal.Wgrad

open Cert.Reference6Ideal Cert.Reference6Ideal.Facts₀ Cert.FoxClaims.Sum
open Idealize.ShloMosaic Idealize.ShloMosaic.TcCoe Idealize.SL.Sem

/-- The reference's product, element by element. -/
theorem product (x : FVec Ideal S8192x2816 .f32) (y : FVec Ideal S8192x1024 .f32) :
    truncf (F := Ideal) .bf16 (transpose S2816x1024 [1, 0] (Host.dotGeneral (F := Ideal) dot_S8192x1024_S8192x2816_S1024x2816_0_0_1_1_n_n none y x) transposes_S1024x2816_S2816x1024_1_0) bitsLt_bf16_f32
      = whole (x : S8192x2816.Idx → EReal) (y : S8192x1024.Idx → EReal) := by
  funext j
  unfold whole
  rw [Finset.sum_range]
  pointwise
  exact Finset.sum_congr rfl fun k _ => (mul_comm _ _).trans (congrArg₂ (· * ·) (at2_eq _ _) (at2_eq _ _))

end Cert.Reference6Ideal.Wgrad

namespace Cert.FoxClaims

open Idealize.ShloMosaic Idealize.ShloMosaic.TcCoe Idealize.SL.Sem

/-- The call's result is the reference's product, at any arguments. -/
theorem values6 : Cert.algebraic_Kernel6Ideal_Reference6Ideal := fun m ρ m' ρ' _ hm => by
  refine ⟨fun c => Sum.whole (Cert.Kernel6Ideal.Wgrad.left m c) (Cert.Kernel6Ideal.Wgrad.right m c), ?_, ?_⟩
  · refine (θ_run _ _ _).mono (fun r h c => ?_) (Cert.Kernel6Ideal.Value.run (F := Ideal) m ρ)
    obtain ⟨a, b⟩ := h c
    exact ⟨a.trans (Cert.Kernel6Ideal.Wgrad.result m c), b⟩
  · refine (θ_run _ _ _).mono (fun r h c => ?_) (Cert.Reference6Ideal.Value.run (F := Ideal) m' ρ')
    obtain ⟨a, b⟩ := h c
    refine ⟨a.trans ((Cert.Reference6Ideal.Wgrad.product _ _).trans ?_), b⟩
    obtain ⟨e0, e1⟩ := hm c
    rw [e0, e1]

end Cert.FoxClaims

end
-- ==== Proof.WgradThird.lean ====
/- The weight gradient of the three gathered projections: the result is gathered in three thirds of its columns. -/
module

public import proofs.«01_k».proof.Defs
public import proofs.«01_k».proof.Proof.WgradSum
public import proofs.«01_k».proof.Proof.Gen.Kernel7Ideal.Value
public import proofs.«01_k».proof.Proof.Gen.Reference7Ideal.Run
public import Idealize.ShloMosaic.Lib.StableHlo.RunRead

@[expose] public section

set_option maxRecDepth 16384

noncomputable section

namespace Cert.Kernel7Ideal.Wgrad

open Cert.Kernel7Ideal Cert.Kernel7Ideal.Gen Cert.FoxClaims.Sum
open Idealize.ShloMosaic Idealize.ShloMosaic.TcCoe Idealize.ShloMosaic.Tactic Idealize.SL.Sem

variable (m : (ℓ : Loc nD τ sig) → Buf (Elt Ideal) ℓ) (c : Dev nD)

/-- The two operands, as launched. -/
abbrev left : S8192x1024.Idx → EReal := m ((c.tc : Thread nD τ).loc main_arg0)
abbrev right : S8192x3072.Idx → EReal := m ((c.tc : Thread nD τ).loc main_arg1)

theorem read0 : V m c main_v0 = left m c := by
  after_reads_simp
  rfl

theorem read1 : V m c main_v1 = right m c := by
  after_reads_simp
  rfl

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel

theorem blk0 (t : Fin grid0.N) (j : S2048x1024.Idx) :
    (iblk m c 0 t : S2048x1024.Idx → EReal) j = at2 (left m c) (2048 * (t.val % 4) + (j 0).val) (0 + (j 1).val) := by
  unfold iblk
  rw [View.read_apply]
  show V m c main_v0 _ = _
  rw [read0]
  refine (at2_eq _ _).trans (congrArg₂ (at2 _) ?_ ?_)
  · show win0_0.index t 0 * 2048 + 1 * (j 0).val = _
    rw [(index0 t).1]; omega
  · show win0_0.index t 1 * 1024 + 1 * (j 1).val = _
    rw [(index0 t).2]; omega

theorem blk1 (t : Fin grid0.N) (j : S2048x1024.Idx) :
    (iblk m c 1 t : S2048x1024.Idx → EReal) j = at2 (right m c) (2048 * (t.val % 4) + (j 0).val) (1024 * (t.val / 4) + (j 1).val) := by
  unfold iblk
  rw [View.read_apply]
  show V m c main_v1 _ = _
  rw [read1]
  refine (at2_eq _ _).trans (congrArg₂ (at2 _) ?_ ?_)
  · show win0_1.index t 0 * 2048 + 1 * (j 0).val = _
    rw [(index1 t).1]; omega
  · show win0_1.index t 1 * 1024 + 1 * (j 1).val = _
    rw [(index1 t).2]; omega

section
variable (i : grid0.Coords) (a3 : Memref sig .tc .vmem S2048x1024 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec Ideal S2048x1024 .bf16) (y : Vec Ideal S2048x1024 .bf16) (s : Vec Ideal S1024x1024 .f32)

/-- The first tile leaves its own product in the scratch. -/
theorem first (hc0 : cond0_0 i) (hc1 : ¬cond0_1 i) : sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz]
  simp only [View.readCov_unit_zero (S := S1024x1024) _ hz, View.readAt_eq_ld, h3.read_unread, h4.read_unread, h6.read_unread, View.ld_unit_zero (S := S2048x1024) hz, View.ld_unit_zero (S := S1024x1024) hz]

/-- A middle tile adds its product to the scratch. -/
theorem middle (hc0 : ¬cond0_0 i) (hc1 : ¬cond0_1 i) : sout0_B_0 (F := Ideal) c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S1024x1024) hz]

/-- The last tile writes the sum out. -/
theorem last (hc0 : ¬cond0_0 i) (hc1 : cond0_1 i) : out0_C_2 (F := Ideal) c i a3 h3 a4 h4 a5 h5 a6 h6 hc0 hc1 x y s = k0_pay2 (F := Ideal) s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x1024) _ hz, View.readAt_eq_ld, h3.read_unread, h4.read_unread, h6.read_unread, View.ld_unit_zero (S := S2048x1024) hz, View.ld_unit_zero (S := S1024x1024) hz]
  rfl

end

/-- A tile's product added to a matrix, element by element. -/
theorem pay_at (s : Vec Ideal S1024x1024 .f32) (x : Vec Ideal S2048x1024 .bf16) (y : Vec Ideal S2048x1024 .bf16) (j : S1024x1024.Idx) :
    k0_pay2 (F := Ideal) s x y j = (s j : EReal) + ∑ k ∈ Finset.range 2048, at2 (x : S2048x1024.Idx → EReal) k (j 0).val * at2 (y : S2048x1024.Idx → EReal) k (j 1).val := by
  rw [Finset.sum_range]
  unfold k0_pay2
  pointwise
  exact congrArg (_ + ·) (Finset.sum_congr rfl fun k _ => congrArg₂ (· * ·) (at2_eq _ _) (at2_eq _ _))

/-- The scratch of run `k` after `n` of its tiles. -/
def part (k n : ℕ) : S1024x1024.Idx → EReal := upto (left m c) (right m c) 0 (1024 * k) (2048 * n)

/-- A tile's product added to the sum before it is the sum with the tile. -/
theorem step (t : Fin grid0.N) (s : Vec Ideal S1024x1024 .f32) (hs : s = part m c (t.val / 4) (t.val % 4)) :
    k0_pay2 (F := Ideal) s (iblk m c 0 t) (iblk m c 1 t) = part m c (t.val / 4) (t.val % 4 + 1) := by
  funext j
  refine (pay_at s _ _ j).trans ?_
  rw [hs]
  exact upto_tile (left m c) (right m c) 0 (1024 * (t.val / 4)) (t.val % 4) _ _ (blk0 m c t) (blk1 m c t) j

theorem start (k : ℕ) : k0_pay1 (F := Ideal) = part m c k 0 := by
  funext j
  pointwise [k0_pay1]
  unfold part upto
  simp

theorem at_first (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  rw [first]

theorem at_middle (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  rw [middle]

theorem at_last (t : Fin cfg0.N) (h0 : ¬t.val % 4 = 0) (h1 : t.val % 4 = 3) :
    (outsAt0 m c t.val t.isLt).1 = k0_pay2 (F := Ideal) (outsAt0 m c (t.val - 1) (Nat.lt_of_le_of_lt (Nat.sub_le _ _) t.isLt)).2 (iblk m c 0 t) (iblk m c 1 t) := by
  rw [outsAt0_C m c t h0 h1]
  dsimp only
  rw [last]

/-- What the last tile of a run writes out: the sum over all rows. -/
theorem written (n : ℕ) (h : n < cfg0.N) (hn : n % 4 = 3) : (outsAt0 m c n h).1 = part m c (n / 4) 4 :=
  run_of_four (fun n h => ((outsAt0 m c n h).2 : S1024x1024.Idx → EReal)) (fun n h => ((outsAt0 m c n h).1 : S1024x1024.Idx → EReal))
    (fun n h s => k0_pay2 (F := Ideal) s (iblk m c 0 ⟨n, h⟩) (iblk m c 1 ⟨n, h⟩)) (k0_pay1 (F := Ideal)) (part m c)
    (fun n h h0 => at_first m c ⟨n, h⟩ h0 (by show ¬n % 4 = 3; omega))
    (fun n h h0 h1 => at_middle m c ⟨n, h⟩ h0 h1)
    (fun n h h1 => at_last m c ⟨n, h⟩ (by show ¬n % 4 = 0; omega) h1)
    (start m c) (fun n h s hs => step m c ⟨n, h⟩ s hs) n h hn

/-- What the call leaves in its result: the product over all rows. -/
theorem result : Value.G2 m c = whole (left m c) (right m c) := by
  funext i
  have i0 : (i 0).val < 1024 := (i 0).isLt
  have i1 : (i 1).val < 3072 := (i 1).isLt
  have hp : Value.pt2Of i < cfg0.N := by
    rw [show cfg0.N = 12 from N_0]
    show 4 * (3 * ((i 0).val / 1024 - 0) + 1 * ((i 1).val / 1024 - 0)) + 3 < 12
    omega
  have hv : Value.pt2Of i % 4 = 3 := by show (4 * Value.run2Of i + 3) % 4 = 3; omega
  have e : Value.G2 m c i = part m c (Value.pt2Of i / 4) 4 (Value.loc2Of i) := by
    unfold Value.G2
    rw [dif_pos hp, ← Value.outsAt0_sweep m c _ hp, written m c _ hp hv]
  refine e.trans ?_
  show (∑ t ∈ Finset.range (2048 * 4), term (left m c) (right m c) (0 + (i 0).val % 1024) (1024 * ((4 * (3 * ((i 0).val / 1024 - 0) + 1 * ((i 1).val / 1024 - 0)) + 3) / 4) + (i 1).val % 1024) t : EReal) = ∑ t ∈ Finset.range 8192, term (left m c) (right m c) (i 0).val (i 1).val t
  rw [show 0 + (i 0).val % 1024 = (i 0).val by omega, show 1024 * ((4 * (3 * ((i 0).val / 1024 - 0) + 1 * ((i 1).val / 1024 - 0)) + 3) / 4) + (i 1).val % 1024 = (i 1).val by omega]

end Cert.Kernel7Ideal.Wgrad

namespace Cert.Reference7Ideal.Wgrad

open Cert.Reference7Ideal Cert.Reference7Ideal.Facts₀ Cert.FoxClaims.Sum
open Idealize.ShloMosaic Idealize.ShloMosaic.TcCoe Idealize.SL.Sem

/-- The reference's product, element by element. -/
theorem product (x : FVec Ideal S8192x1024 .f32) (y : FVec Ideal S8192x3072 .f32) :
    truncf (F := Ideal) .bf16 (transpose S1024x3072 [1, 0] (Host.dotGeneral (F := Ideal) dot_S8192x3072_S8192x1024_S3072x1024_0_0_1_1_n_n none y x) transposes_S3072x1024_S1024x3072_1_0) bitsLt_bf16_f32
      = whole (x : S8192x1024.Idx → EReal) (y : S8192x3072.Idx → EReal) := by
  funext j
  unfold whole
  rw [Finset.sum_range]
  pointwise
  exact Finset.sum_congr rfl fun k _ => (mul_comm _ _).trans (congrArg₂ (· * ·) (at2_eq _ _) (at2_eq _ _))

end Cert.Reference7Ideal.Wgrad

namespace Cert.FoxClaims

open Idealize.ShloMosaic Idealize.ShloMosaic.TcCoe Idealize.SL.Sem

/-- The call's result is the reference's product, at any arguments. -/
theorem values7 : Cert.algebraic_Kernel7Ideal_Reference7Ideal := fun m ρ m' ρ' _ hm => by
  refine ⟨fun c => Sum.whole (Cert.Kernel7Ideal.Wgrad.left m c) (Cert.Kernel7Ideal.Wgrad.right m c), ?_, ?_⟩
  · refine (θ_run _ _ _).mono (fun r h c => ?_) (Cert.Kernel7Ideal.Value.run (F := Ideal) m ρ)
    obtain ⟨a, b⟩ := h c
    exact ⟨a.trans (Cert.Kernel7Ideal.Wgrad.result m c), b⟩
  · refine (θ_run _ _ _).mono (fun r h c => ?_) (Cert.Reference7Ideal.Value.run (F := Ideal) m' ρ')
    obtain ⟨a, b⟩ := h c
    refine ⟨a.trans ((Cert.Reference7Ideal.Wgrad.product _ _).trans ?_), b⟩
    obtain ⟨e0, e1⟩ := hm c
    rw [e0, e1]

end Cert.FoxClaims

end
-- ==== Proof.WgradGate.lean ====
/- The weight gradient of the forget gates' projection. -/
module

public import proofs.«01_k».proof.Defs
public import proofs.«01_k».proof.Proof.WgradSum
public import proofs.«01_k».proof.Proof.Gen.Kernel9Ideal.Value
public import proofs.«01_k».proof.Proof.Gen.Reference9Ideal.Run
public import Idealize.ShloMosaic.Lib.StableHlo.RunRead

@[expose] public section

set_option maxRecDepth 16384

noncomputable section

namespace Cert.Kernel9Ideal.Wgrad

open Cert.Kernel9Ideal Cert.Kernel9Ideal.Gen Cert.FoxClaims.Sum
open Idealize.ShloMosaic Idealize.ShloMosaic.TcCoe Idealize.ShloMosaic.Tactic Idealize.SL.Sem

variable (m : (ℓ : Loc nD τ sig) → Buf (Elt Ideal) ℓ) (c : Dev nD)

/-- The two operands, as launched. -/
abbrev left : S8192x1024.Idx → EReal := m ((c.tc : Thread nD τ).loc main_arg0)
abbrev right : S8192x128.Idx → EReal := m ((c.tc : Thread nD τ).loc main_arg1)

theorem read0 : V m c main_v0 = left m c := by
  after_reads_simp
  rfl

theorem read1 : V m c main_v1 = right m c := by
  after_reads_simp
  rfl

theorem index0 : ∀ t : Fin grid0.N, win0_0.index t 0 = t.val % 4 ∧ win0_0.index t 1 = 0 := by decide +kernel
theorem index1 : ∀ t : Fin grid0.N, win0_1.index t 0 = t.val % 4 ∧ win0_1.index t 1 = t.val / 4 := by decide +kernel

theorem blk0 (t : Fin grid0.N) (j : S2048x1024.Idx) :
    (iblk m c 0 t : S2048x1024.Idx → EReal) j = at2 (left m c) (2048 * (t.val % 4) + (j 0).val) (0 + (j 1).val) := by
  unfold iblk
  rw [View.read_apply]
  show V m c main_v0 _ = _
  rw [read0]
  refine (at2_eq _ _).trans (congrArg₂ (at2 _) ?_ ?_)
  · show win0_0.index t 0 * 2048 + 1 * (j 0).val = _
    rw [(index0 t).1]; omega
  · show win0_0.index t 1 * 1024 + 1 * (j 1).val = _
    rw [(index0 t).2]; omega

theorem blk1 (t : Fin grid0.N) (j : S2048x128.Idx) :
    (iblk m c 1 t : S2048x128.Idx → EReal) j = at2 (right m c) (2048 * (t.val % 4) + (j 0).val) (128 * (t.val / 4) + (j 1).val) := by
  unfold iblk
  rw [View.read_apply]
  show V m c main_v1 _ = _
  rw [read1]
  refine (at2_eq _ _).trans (congrArg₂ (at2 _) ?_ ?_)
  · show win0_1.index t 0 * 2048 + 1 * (j 0).val = _
    rw [(index1 t).1]; omega
  · show win0_1.index t 1 * 128 + 1 * (j 1).val = _
    rw [(index1 t).2]; omega

section
variable (i : grid0.Coords) (a3 : Memref sig .tc .vmem S2048x1024 .bf16) (h3 : a3.IsWhole) (a4 : Memref sig .tc .vmem S2048x128 .bf16) (h4 : a4.IsWhole)
  (a5 : Memref sig .tc .vmem S1024x128 .bf16) (h5 : a5.IsWhole) (a6 : Memref sig .tc .vmem S1024x128 .f32) (h6 : a6.IsWhole)
  (x : Vec Ideal S2048x1024 .bf16) (y : Vec Ideal S2048x128 .bf16) (s : Vec Ideal S1024x128 .f32)

/-- The first tile leaves its own product in the scratch. -/
theorem first (hc0 : cond0_0 i) (hc1 : ¬cond0_1 i) : sout0_A_0 (F := Ideal) c i a3 h3 a4 h4 a5 h5 a6 h6 hc0 hc1 x y = k0_pay2 (F := Ideal) (k0_pay1 (F := Ideal)) x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x128) hz]
  simp only [View.readCov_unit_zero (S := S1024x128) _ hz, View.readAt_eq_ld, h3.read_unread, h4.read_unread, h6.read_unread, View.ld_unit_zero (S := S2048x1024) hz, View.ld_unit_zero (S := S2048x128) hz, View.ld_unit_zero (S := S1024x128) hz]

/-- A middle tile adds its product to the scratch. -/
theorem middle (hc0 : ¬cond0_0 i) (hc1 : ¬cond0_1 i) : sout0_B_0 (F := Ideal) c i a3 h3 a4 h4 a5 h5 a6 h6 hc0 hc1 x y s = k0_pay2 (F := Ideal) s x y := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero hz]
  simp only [View.readAt_eq_ld, h3.read_unread, h4.read_unread, h6.read_unread, View.ld_unit_zero (S := S2048x1024) hz, View.ld_unit_zero (S := S2048x128) hz, View.ld_unit_zero (S := S1024x128) hz]

/-- The last tile writes the sum out. -/
theorem last (hc0 : ¬cond0_0 i) (hc1 : cond0_1 i) : out0_C_2 (F := Ideal) c i a3 h3 a4 h4 a5 h5 a6 h6 hc0 hc1 x y s = k0_pay2 (F := Ideal) s x y := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz]
  simp only [View.readCov_unit_zero (S := S1024x128) _ hz, View.readAt_eq_ld, h3.read_unread, h4.read_unread, h6.read_unread, View.ld_unit_zero (S := S2048x1024) hz, View.ld_unit_zero (S := S2048x128) hz, View.ld_unit_zero (S := S1024x128) hz]
  rfl

end

/-- A tile's product added to a matrix, element by element. -/
theorem pay_at (s : Vec Ideal S1024x128 .f32) (x : Vec Ideal S2048x1024 .bf16) (y : Vec Ideal S2048x128 .bf16) (j : S1024x128.Idx) :
    k0_pay2 (F := Ideal) s x y j = (s j : EReal) + ∑ k ∈ Finset.range 2048, at2 (x : S2048x1024.Idx → EReal) k (j 0).val * at2 (y : S2048x128.Idx → EReal) k (j 1).val := by
  rw [Finset.sum_range]
  unfold k0_pay2
  pointwise
  exact congrArg (_ + ·) (Finset.sum_congr rfl fun k _ => congrArg₂ (· * ·) (at2_eq _ _) (at2_eq _ _))

/-- The scratch of run `k` after `n` of its tiles. -/
def part (k n : ℕ) : S1024x128.Idx → EReal := upto (left m c) (right m c) 0 (128 * k) (2048 * n)

/-- A tile's product added to the sum before it is the sum with the tile. -/
theorem step (t : Fin grid0.N) (s : Vec Ideal S1024x128 .f32) (hs : s = part m c (t.val / 4) (t.val % 4)) :
    k0_pay2 (F := Ideal) s (iblk m c 0 t) (iblk m c 1 t) = part m c (t.val / 4) (t.val % 4 + 1) := by
  funext j
  refine (pay_at s _ _ j).trans ?_
  rw [hs]
  exact upto_tile (left m c) (right m c) 0 (128 * (t.val / 4)) (t.val % 4) _ _ (blk0 m c t) (blk1 m c t) j

theorem start (k : ℕ) : k0_pay1 (F := Ideal) = part m c k 0 := by
  funext j
  pointwise [k0_pay1]
  unfold part upto
  simp

theorem at_first (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]
  dsimp only
  rw [first]

theorem at_middle (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]
  dsimp only
  rw [middle]

theorem at_last (t : Fin cfg0.N) (h0 : ¬t.val % 4 = 0) (h1 : t.val % 4 = 3) :
    (outsAt0 m c t.val t.isLt).1 = k0_pay2 (F := Ideal) (outsAt0 m c (t.val - 1) (Nat.lt_of_le_of_lt (Nat.sub_le _ _) t.isLt)).2 (iblk m c 0 t) (iblk m c 1 t) := by
  rw [outsAt0_C m c t h0 h1]
  dsimp only
  rw [last]

/-- What the last tile of a run writes out: the sum over all rows. -/
theorem written (n : ℕ) (h : n < cfg0.N) (hn : n % 4 = 3) : (outsAt0 m c n h).1 = part m c (n / 4) 4 :=
  run_of_four (fun n h => ((outsAt0 m c n h).2 : S1024x128.Idx → EReal)) (fun n h => ((outsAt0 m c n h).1 : S1024x128.Idx → EReal))
    (fun n h s => k0_pay2 (F := Ideal) s (iblk m c 0 ⟨n, h⟩) (iblk m c 1 ⟨n, h⟩)) (k0_pay1 (F := Ideal)) (part m c)
    (fun n h h0 => at_first m c ⟨n, h⟩ h0 (by show ¬n % 4 = 3; omega))
    (fun n h h0 h1 => at_middle m c ⟨n, h⟩ h0 h1)
    (fun n h h1 => at_last m c ⟨n, h⟩ (by show ¬n % 4 = 0; omega) h1)
    (start m c) (fun n h s hs => step m c ⟨n, h⟩ s hs) n h hn

/-- What the call leaves in its result: the product over all rows. -/
theorem result : Value.G2 m c = whole (left m c) (right m c) := by
  funext i
  have i0 : (i 0).val < 1024 := (i 0).isLt
  have i1 : (i 1).val < 128 := (i 1).isLt
  have hp : Value.pt2Of i < cfg0.N := by
    rw [show cfg0.N = 4 from N_0]
    show 4 * (1 * ((i 0).val / 1024 - 0) + 1 * ((i 1).val / 128 - 0)) + 3 < 4
    omega
  have hv : Value.pt2Of i % 4 = 3 := by show (4 * Value.run2Of i + 3) % 4 = 3; omega
  have e : Value.G2 m c i = part m c (Value.pt2Of i / 4) 4 (Value.loc2Of i) := by
    unfold Value.G2
    rw [dif_pos hp, ← Value.outsAt0_sweep m c _ hp, written m c _ hp hv]
  refine e.trans ?_
  show (∑ t ∈ Finset.range (2048 * 4), term (left m c) (right m c) (0 + (i 0).val % 1024) (128 * ((4 * (1 * ((i 0).val / 1024 - 0) + 1 * ((i 1).val / 128 - 0)) + 3) / 4) + (i 1).val % 128) t : EReal) = ∑ t ∈ Finset.range 8192, term (left m c) (right m c) (i 0).val (i 1).val t
  rw [show 0 + (i 0).val % 1024 = (i 0).val by omega, show 128 * ((4 * (1 * ((i 0).val / 1024 - 0) + 1 * ((i 1).val / 128 - 0)) + 3) / 4) + (i 1).val % 128 = (i 1).val by omega]

end Cert.Kernel9Ideal.Wgrad

namespace Cert.Reference9Ideal.Wgrad

open Cert.Reference9Ideal Cert.Reference9Ideal.Facts₀ Cert.FoxClaims.Sum
open Idealize.ShloMosaic Idealize.ShloMosaic.TcCoe Idealize.SL.Sem

/-- The reference's product, element by element. -/
theorem product (x : FVec Ideal S8192x1024 .f32) (y : FVec Ideal S8192x128 .f32) :
    truncf (F := Ideal) .bf16 (transpose S1024x128 [1, 0] (Host.dotGeneral (F := Ideal) dot_S8192x128_S8192x1024_S128x1024_0_0_1_1_n_n none y x) transposes_S128x1024_S1024x128_1_0) bitsLt_bf16_f32
      = whole (x : S8192x1024.Idx → EReal) (y : S8192x128.Idx → EReal) := by
  funext j
  unfold whole
  rw [Finset.sum_range]
  pointwise
  exact Finset.sum_congr rfl fun k _ => (mul_comm _ _).trans (congrArg₂ (· * ·) (at2_eq _ _) (at2_eq _ _))

end Cert.Reference9Ideal.Wgrad

namespace Cert.FoxClaims

open Idealize.ShloMosaic Idealize.ShloMosaic.TcCoe Idealize.SL.Sem

/-- The call's result is the reference's product, at any arguments. -/
theorem values9 : Cert.algebraic_Kernel9Ideal_Reference9Ideal := fun m ρ m' ρ' _ hm => by
  refine ⟨fun c => Sum.whole (Cert.Kernel9Ideal.Wgrad.left m c) (Cert.Kernel9Ideal.Wgrad.right m c), ?_, ?_⟩
  · refine (θ_run _ _ _).mono (fun r h c => ?_) (Cert.Kernel9Ideal.Value.run (F := Ideal) m ρ)
    obtain ⟨a, b⟩ := h c
    exact ⟨a.trans (Cert.Kernel9Ideal.Wgrad.result m c), b⟩
  · refine (θ_run _ _ _).mono (fun r h c => ?_) (Cert.Reference9Ideal.Value.run (F := Ideal) m' ρ')
    obtain ⟨a, b⟩ := h c
    refine ⟨a.trans ((Cert.Reference9Ideal.Wgrad.product _ _).trans ?_), b⟩
    obtain ⟨e0, e1⟩ := hm c
    rw [e0, e1]

end Cert.FoxClaims

end
-- ==== Proof.Rows.lean ====
/- Parts of a matrix read and written through a view, whatever the program. -/
module

public import proofs.«01_k».proof.Proof.NormMath
public import proofs.«01_k».proof.Proof.WgradSum
public import Idealize.ShloMosaic.Lib.VecWindow

@[expose] public section

set_option maxRecDepth 16384

noncomputable section

namespace Cert.FoxClaims.Norm

open Idealize.ShloMosaic

/-- A matrix, as one of a function of two numbers. -/
theorem matrix {a b : ℕ} (x : (⟨2, ![a, b]⟩ : Shape).Idx → EReal) : x = ce (Sum.at2 x) := funext fun i => Sum.at2_eq x i

variable {sig : RefSig} {κ : Kind} {sp : Space}

/-- A tile's 256 rows of a matrix, and the columns from `k`. -/
def tile (t : ℕ) (f : ℕ → ℕ → EReal) (a b : ℕ) : EReal := f (256 * t + a) b
def cut (k : ℕ) (f : ℕ → ℕ → EReal) (a b : ℕ) : EReal := f a (k + b)

/-- Some columns of a matrix, read from column `k`. -/
theorem cols {m n n' : ℕ} (v : View sig κ sp ⟨2, ![m, n]⟩ .bf16) (X : BufTy.Contents (Elt Ideal) v.ty) (f : ℕ → ℕ → EReal) (hX : v.read (Elt Ideal) X = ce f) (k : ℕ) (inb) :
    v.readAt (Elt Ideal) (Rect.unit (s := ⟨2, ![m, n]⟩) ![0, k] ![m, n'] inb).toLoadRect X = ce (m := m) (n := n') (cut k f) := by
  rw [View.readAt_unit v X inb rfl inb, hX]
  funext y
  show ((f (0 + 1 * (y 0).val) (k + 1 * (y 1).val) : EReal)) = _
  rw [one_mul, one_mul, zero_add]; rfl

/-- The whole of what a buffer holds, read. -/
theorem got {m n : ℕ} {e : EltTy} {M : Memref sig .tc .vmem ⟨2, ![m, n]⟩ e} (hM : M.IsWhole) {x y : Vec Ideal ⟨2, ![m, n]⟩ e} (h : x = y) (inb) :
    M.view.readAt (Elt Ideal) (Rect.unit (s := ⟨2, ![m, n]⟩) ![0, 0] ![m, n] inb).toLoadRect (hM.unread x) = y :=
  (View.readAt_full M.view _ inb).trans ((hM.read_unread x).trans h)

/-- A row of a stack. -/
theorem row {m n : ℕ} (v : View sig κ sp ⟨2, ![m, n]⟩ .f32) (X : BufTy.Contents (Elt Ideal) v.ty) (f : ℕ → ℕ → EReal) (hX : v.read (Elt Ideal) X = ce f) (k : ℕ) (inb) :
    v.readAt (Elt Ideal) (Rect.unit (s := ⟨2, ![m, n]⟩) ![k, 0] ![1, n] inb).toLoadRect X = ce (m := 1) (n := n) fun a b => f (k + a) b := by
  rw [View.readAt_unit v X inb rfl inb, hX]
  funext y
  show ((f (k + 1 * (y 0).val) (0 + 1 * (y 1).val) : EReal)) = _
  rw [one_mul, one_mul, zero_add]; rfl

theorem row_cov {m n : ℕ} (v : View sig κ sp ⟨2, ![m, n]⟩ .f32) (L : List (View.Piece (Elt Ideal) ⟨2, ![m, n]⟩ .f32)) (f : ℕ → ℕ → EReal)
    (hX : v.read (Elt Ideal) (v.writes (Elt Ideal) v.junk L) = ce f) (k : ℕ) (inb) :
    v.readCov L (Rect.unit (s := ⟨2, ![m, n]⟩) ![k, 0] ![1, n] inb).toLoadRect = ce (m := 1) (n := n) fun a b => f (k + a) b :=
  row v _ f hX k inb

/-- A stack with row `k` replaced. -/
theorem put_row {m n : ℕ} (v : View sig κ sp ⟨2, ![m, n]⟩ .f32) (G : BufTy.Contents (Elt Ideal) v.ty) (f g : ℕ → ℕ → EReal) (L : List (View.Piece (Elt Ideal) ⟨2, ![m, n]⟩ .f32))
    (hX : v.read (Elt Ideal) (v.writes (Elt Ideal) G L) = ce f) (k : ℕ) (inb) (w : (⟨2, ![1, n]⟩ : Shape).Idx → EReal) (hw : w = ce g) :
    v.read (Elt Ideal) (v.writes (Elt Ideal) G (⟨Rect.unit (s := ⟨2, ![m, n]⟩) ![k, 0] ![1, n] inb, w⟩ :: L)) = ce fun a b => if a = k then g 0 b else f a b := by
  subst hw
  rw [View.read_writes_cons_put v G inb _ L rfl, hX]
  funext y
  unfold VecWindow.put
  have hy : (y 1).val < n := (y 1).isLt
  by_cases h : (y 0).val = k
  · have h' : ∀ b : Fin 2, (![k, 0] : Fin 2 → ℕ) b ≤ (y b).val ∧ (y b).val < (![k, 0] : Fin 2 → ℕ) b + (![1, n] : Fin 2 → ℕ) b := by
      intro b; fin_cases b
      · show k ≤ (y 0).val ∧ (y 0).val < k + 1; omega
      · exact ⟨Nat.zero_le _, by show (y 1).val < 0 + n; omega⟩
    refine (dif_pos h').trans ?_
    show ((g ((y 0).val - k) ((y 1).val - 0) : EReal)) = (if (y 0).val = k then _ else _ : EReal)
    rw [if_pos h, h, Nat.sub_self, Nat.sub_zero]
  · have h' : ¬ ∀ b : Fin 2, (![k, 0] : Fin 2 → ℕ) b ≤ (y b).val ∧ (y b).val < (![k, 0] : Fin 2 → ℕ) b + (![1, n] : Fin 2 → ℕ) b := fun hh => h (by
      have h2 : k ≤ (y 0).val ∧ (y 0).val < k + 1 := hh 0
      omega)
    refine (dif_neg h').trans ?_
    show _ = (if (y 0).val = k then _ else _ : EReal)
    rw [if_neg h]; rfl

/-- A window's block: of a tile's rows, or of the whole matrix. -/
theorem at_tile (f : ℕ → ℕ → EReal) (n a b : ℕ) {i j t : ℕ} (h : i = t ∧ j = 0) : f (i * 256 + 1 * a) (j * n + 1 * b) = tile t f a b := by
  obtain ⟨rfl, rfl⟩ := h
  unfold tile
  rw [show i * 256 + 1 * a = 256 * i + a by omega, show 0 * n + 1 * b = b by omega]

theorem at_whole (f : ℕ → ℕ → EReal) (m n a b : ℕ) {i j : ℕ} (h : i = 0 ∧ j = 0) : f (i * m + 1 * a) (j * n + 1 * b) = f a b := by
  obtain ⟨rfl, rfl⟩ := h
  rw [show 0 * m + 1 * a = a by omega, show 0 * n + 1 * b = b by omega]

end Cert.FoxClaims.Norm

end
-- ==== Proof.FfnAct.lean ====
/- The feed-forward's first product, both halves of it, and the activation. -/
module

public import proofs.«01_k».proof.Defs
public import proofs.«01_k».proof.Proof.Rows
public import proofs.«01_k».proof.Proof.Gen.Kernel10Ideal.Value
public import proofs.«01_k».proof.Proof.Gen.Reference10Ideal.Run
public import Idealize.ShloMosaic.Lib.StableHlo.RunRead

@[expose] public section

set_option maxRecDepth 16384

noncomputable section

namespace Cert.FoxClaims.Act

open Cert.FoxClaims.Norm
open Idealize.ShloMosaic

/-- A row against a column of the weights. -/
def pr (X W : ℕ → ℕ → EReal) (a b : ℕ) : EReal := ∑ k ∈ Finset.range 1024, X a k * W k b
/-- The activation of a gate. -/
def silu (x : EReal) : EReal := x * Ideal.div 1 (1 + Ideal.exp (-x))
/-- The layer's activation of a gate's product and an up projection's. -/
def act (G U : ℕ → ℕ → EReal) (a b : ℕ) : EReal := silu (G a b) * U a b
/-- The part of a result a point computes: 512 rows of one half of the columns. -/
def part (t : ℕ) (f : ℕ → ℕ → EReal) (a b : ℕ) : EReal := f (512 * (t / 2) + a) (1408 * (t % 2) + b)
/-- A point's rows. -/
def rows (t : ℕ) (f : ℕ → ℕ → EReal) (a b : ℕ) : EReal := f (512 * (t / 2) + a) b

theorem sum_fin (f g : ℕ → EReal) : ∑ k : Fin 1024, f k.val * g k.val = ∑ k ∈ Finset.range 1024, f k * g k :=
  (Finset.sum_range fun k => f k * g k).symm

end Cert.FoxClaims.Act

namespace Cert.Kernel10Ideal.Act

open Cert.Kernel10Ideal Cert.Kernel10Ideal.Gen Cert.FoxClaims.Norm Cert.FoxClaims.Act
open Idealize.ShloMosaic Idealize.ShloMosaic.TcCoe Idealize.ShloMosaic.Tactic Idealize.SL.Sem

variable (X W U : ℕ → ℕ → EReal)

theorem pay2 : k0_pay2 (F := Ideal) (ce X) (ce W) = ce (pr X W) := by
  funext j; pointwise [k0_pay2, k0_pay1]; exact sum_fin (fun k => X (j 0).val k) fun k => W k (j 1).val

theorem pay3 : k0_pay3 (F := Ideal) (ce X) (ce W) = ce (pr X W) := pay2 X W

theorem pay6 : k0_pay6 (F := Ideal) (ce X) (ce W) (ce U) = ce (act (pr X W) (pr X U)) := by
  unfold k0_pay6
  rw [pay2, pay3]
  funext j; pointwise
  unfold ce act silu
  simp only [EReal.coe_zero, EReal.coe_one, zero_sub]

theorem hz : (![0, 0] : Fin 2 → Nat) = fun _ => 0 := funext fun a => by fin_cases a <;> rfl

theorem out3 : out0_3 (F := Ideal) (ce X) (ce W) (ce U) = ce (pr X W) := by
  unfold out0_3
  rw [View.canon_unit_zero hz, View.ld_unit_zero (S := S512x1024) hz, View.ld_unit_zero (S := S1024x1408) hz]
  exact pay2 X W

theorem out4 : out0_4 (F := Ideal) (ce X) (ce W) (ce U) = ce (pr X U) := by
  unfold out0_4
  rw [View.canon_unit_zero hz, View.ld_unit_zero (S := S512x1024) hz, View.ld_unit_zero (S := S1024x1408) hz]
  exact pay3 X U

theorem out5 : out0_5 (F := Ideal) (ce X) (ce W) (ce U) = ce (act (pr X W) (pr X U)) := by
  unfold out0_5
  rw [View.canon_unit_zero hz, View.ld_unit_zero (S := S512x1024) hz, View.ld_unit_zero (S := S1024x1408) hz, View.ld_unit_zero (S := S1024x1408) hz]
  exact pay6 X W U

variable (m : (ℓ : Loc nD τ sig) → Buf (Elt Ideal) ℓ) (c : Dev nD)

/-- The arguments are these matrices. -/
structure Args : Prop where
  X : m ((c.tc : Thread nD τ).loc main_arg0) = (ce X : S8192x1024.Idx → EReal)
  W : m ((c.tc : Thread nD τ).loc main_arg1) = (ce W : S1024x5632.Idx → EReal)

theorem index : ∀ t : Fin grid0.N, (win0_0.index t 0 = t.val / 2 ∧ win0_0.index t 1 = 0) ∧ (win0_1.index t 0 = 0 ∧ win0_1.index t 1 = t.val % 2) ∧ (win0_2.index t 0 = 0 ∧ win0_2.index t 1 = 2 + t.val % 2)
    ∧ (win0_3.index t 0 = t.val / 2 ∧ win0_3.index t 1 = t.val % 2) ∧ (win0_4.index t 0 = t.val / 2 ∧ win0_4.index t 1 = t.val % 2) ∧ (win0_5.index t 0 = t.val / 2 ∧ win0_5.index t 1 = t.val % 2) := by decide +kernel
theorem xsize : ∀ t : Fin grid0.N, (win0_3.xsize (grid0.coords t) 0 = 512 ∧ win0_3.xsize (grid0.coords t) 1 = 1408) ∧ (win0_4.xsize (grid0.coords t) 0 = 512 ∧ win0_4.xsize (grid0.coords t) 1 = 1408)
    ∧ (win0_5.xsize (grid0.coords t) 0 = 512 ∧ win0_5.xsize (grid0.coords t) 1 = 1408) := by decide +kernel

/-- A block of a window, by the number of its first row and column. -/
theorem at_block (f : ℕ → ℕ → EReal) {i j p q p' q' : ℕ} (h : i = p ∧ j = q) {n k : ℕ} (hp : p * n = p') (hq : q * k = q') (a b : ℕ) : f (i * n + 1 * a) (j * k + 1 * b) = f (p' + a) (q' + b) := by
  obtain ⟨rfl, rfl⟩ := h
  rw [hp, hq, one_mul, one_mul]

variable (h : Args X W m c)
include h

theorem read0 : V m c main_v0 = (ce X : S8192x1024.Idx → EReal) := by after_reads_simp; rw [h.X]; rfl
theorem read1 : V m c main_v1 = (ce W : S1024x5632.Idx → EReal) := by after_reads_simp; rw [h.W]; rfl

/-- The blocks a point reads. -/
structure Blks (t : Fin grid0.N) : Prop where
  b0 : iblk m c 0 t = (ce (rows t.val X) : S512x1024.Idx → EReal)
  b1 : iblk m c 1 t = (ce (cut (1408 * (t.val % 2)) W) : S1024x1408.Idx → EReal)
  b2 : iblk m c 2 t = (ce (cut (1408 * (t.val % 2)) (cut 2816 W)) : S1024x1408.Idx → EReal)

theorem blks (t : Fin grid0.N) : Blks X W m c t := by
  obtain ⟨i0, i1, i2, -⟩ := index t
  constructor <;> (funext y; unfold iblk; rw [View.read_apply])
  · show V m c main_v0 _ = _; rw [read0 X W m c h]
    exact (at_block X i0 (Nat.mul_comm _ 512) (Nat.zero_mul 1024) _ _).trans (congrArg (X _) (Nat.zero_add _))
  · show V m c main_v1 _ = _; rw [read1 X W m c h]
    exact (at_block W i1 (Nat.zero_mul 1024) (Nat.mul_comm _ 1408) _ _).trans (congrArg (fun z => W z _) (Nat.zero_add _))
  · show V m c main_v1 _ = _; rw [read1 X W m c h]
    refine (at_block W i2 (Nat.zero_mul 1024) (q' := 2816 + 1408 * (t.val % 2)) (k := 1408) (by omega) _ _).trans ?_
    rw [Nat.zero_add, Nat.add_assoc]; rfl

omit h
/-- The point that writes an element of a result. -/
theorem point (i : S8192x2816.Idx) : ∃ T : Fin cfg0.N, T.val / 2 = (i 0).val / 512 ∧ T.val % 2 = (i 1).val / 1408 := by
  have i0 : (i 0 : Nat) < 8192 := (i 0).isLt
  have i1 : (i 1 : Nat) < 2816 := (i 1).isLt
  exact ⟨⟨2 * ((i 0).val / 512) + (i 1).val / 1408, lt_of_lt_of_eq (b := 32) (by omega) N_0.symm⟩, by show (2 * ((i 0).val / 512) + (i 1).val / 1408) / 2 = _; omega,
    by show (2 * ((i 0).val / 512) + (i 1).val / 1408) % 2 = _; omega⟩

/-- An element lies in the block of its point. -/
theorem inside {i n p x : ℕ} (h : i = p / n) (hx : x = n) (hn : 0 < n) : i * n ≤ p ∧ p < i * n + x := by
  subst h; subst hx
  exact ⟨Nat.div_mul_le_self _ _, Nat.lt_div_mul_add hn⟩
include h

theorem final3 : (dats m 0 c).arrAt 3 cfg0.N = (ce (pr X W) : S8192x2816.Idx → EReal) := by
  refine (dats m 0 c).arrAt_eq_of_cover 3 (ce (pr X W) : S8192x2816.Idx → EReal) (fun t _ => ?_) fun i => ?_
  · obtain ⟨b0, b1, b2⟩ := blks X W m c h t
    show (cfg0.win 3).cut (grid0.coords t) ((dats m 0 c).after 3 t) = _
    rw [after0_3, b0, b1, b2, out3]
    funext y
    rw [View.read_apply]
    exact (at_block (pr X W) (index t).2.2.2.1 (Nat.mul_comm _ 512) (Nat.mul_comm _ 1408) (y 0).val (y 1).val).symm
  · obtain ⟨T, h0, h1⟩ := point i
    refine ⟨T, flush0_3 T, ?_⟩
    show i ∈ ((View.whole main_v2_0).slice (win0_3.rect T)).set
    rw [View.set_slice_whole, Rect.mem_set_unit]
    intro a
    match a with
    | ⟨0, _⟩ => exact inside (n := 512) ((index T).2.2.2.1.1.trans h0) (xsize T).1.1 (by decide)
    | ⟨1, _⟩ => exact inside (n := 1408) ((index T).2.2.2.1.2.trans h1) (xsize T).1.2 (by decide)

theorem final4 : (dats m 0 c).arrAt 4 cfg0.N = (ce (pr X (cut 2816 W)) : S8192x2816.Idx → EReal) := by
  refine (dats m 0 c).arrAt_eq_of_cover 4 (ce (pr X (cut 2816 W)) : S8192x2816.Idx → EReal) (fun t _ => ?_) fun i => ?_
  · obtain ⟨b0, b1, b2⟩ := blks X W m c h t
    show (cfg0.win 4).cut (grid0.coords t) ((dats m 0 c).after 4 t) = _
    rw [after0_4, b0, b1, b2, out4]
    funext y
    rw [View.read_apply]
    exact (at_block (pr X (cut 2816 W)) (index t).2.2.2.2.1 (Nat.mul_comm _ 512) (Nat.mul_comm _ 1408) (y 0).val (y 1).val).symm
  · obtain ⟨T, h0, h1⟩ := point i
    refine ⟨T, flush0_4 T, ?_⟩
    show i ∈ ((View.whole main_v2_1).slice (win0_4.rect T)).set
    rw [View.set_slice_whole, Rect.mem_set_unit]
    intro a
    match a with
    | ⟨0, _⟩ => exact inside (n := 512) ((index T).2.2.2.2.1.1.trans h0) (xsize T).2.1.1 (by decide)
    | ⟨1, _⟩ => exact inside (n := 1408) ((index T).2.2.2.2.1.2.trans h1) (xsize T).2.1.2 (by decide)

theorem final5 : (dats m 0 c).arrAt 5 cfg0.N = (ce (act (pr X W) (pr X (cut 2816 W))) : S8192x2816.Idx → EReal) := by
  refine (dats m 0 c).arrAt_eq_of_cover 5 (ce (act (pr X W) (pr X (cut 2816 W))) : S8192x2816.Idx → EReal) (fun t _ => ?_) fun i => ?_
  · obtain ⟨b0, b1, b2⟩ := blks X W m c h t
    show (cfg0.win 5).cut (grid0.coords t) ((dats m 0 c).after 5 t) = _
    rw [after0_5, b0, b1, b2, out5]
    funext y
    rw [View.read_apply]
    exact (at_block (act (pr X W) (pr X (cut 2816 W))) (index t).2.2.2.2.2 (Nat.mul_comm _ 512) (Nat.mul_comm _ 1408) (y 0).val (y 1).val).symm
  · obtain ⟨T, h0, h1⟩ := point i
    refine ⟨T, flush0_5 T, ?_⟩
    show i ∈ ((View.whole main_v2_2).slice (win0_5.rect T)).set
    rw [View.set_slice_whole, Rect.mem_set_unit]
    intro a
    match a with
    | ⟨0, _⟩ => exact inside (n := 512) ((index T).2.2.2.2.2.1.trans h0) (xsize T).2.2.1 (by decide)
    | ⟨1, _⟩ => exact inside (n := 1408) ((index T).2.2.2.2.2.2.trans h1) (xsize T).2.2.2 (by decide)

end Cert.Kernel10Ideal.Act

namespace Cert.Reference10Ideal.Act

open Cert.Reference10Ideal Cert.Reference10Ideal.Facts₀ Cert.FoxClaims.Norm Cert.FoxClaims.Act
open Idealize.ShloMosaic Idealize.ShloMosaic.TcCoe Idealize.SL.Sem

variable (X W : ℕ → ℕ → EReal)

/-- The reference's product, and its halves. -/
def prod (x : FVec Ideal S8192x1024 .f32) (w : FVec Ideal S1024x5632 .f32) : FVec Ideal S8192x5632 .f32 :=
  Host.dotGeneral dot_S8192x1024_S1024x5632_S8192x5632_1_0_0_1_n_n none x w
def gate (x : FVec Ideal S8192x1024 .f32) (w : FVec Ideal S1024x5632 .f32) : FVec Ideal S8192x2816 .f32 :=
  extractStridedSlice S8192x2816 ![0, 0] (prod x w) slices_S8192x5632_S8192x2816_0_0
def up (x : FVec Ideal S8192x1024 .f32) (w : FVec Ideal S1024x5632 .f32) : FVec Ideal S8192x2816 .f32 :=
  extractStridedSlice S8192x2816 ![0, 2816] (prod x w) slices_S8192x5632_S8192x2816_0_2816
/-- Its results. -/
def resG (x : FVec Ideal S8192x1024 .f32) (w : FVec Ideal S1024x5632 .f32) : FVec Ideal S8192x2816 .bf16 := truncf .bf16 (gate x w) bitsLt_bf16_f32
def resU (x : FVec Ideal S8192x1024 .f32) (w : FVec Ideal S1024x5632 .f32) : FVec Ideal S8192x2816 .bf16 := truncf .bf16 (up x w) bitsLt_bf16_f32
def resA (x : FVec Ideal S8192x1024 .f32) (w : FVec Ideal S1024x5632 .f32) : FVec Ideal S8192x2816 .bf16 :=
  truncf .bf16 (mulf (mulf (gate x w) (Host.divf (broadcastInDim S8192x2816 ![] bcast_S_S8192x2816 (constant S_ .f32 0x3F800000#32)) (addf (broadcastInDim S8192x2816 ![] bcast_S_S8192x2816 (constant S_ .f32 0x3F800000#32)) (Host.exp (Host.negf (gate x w)))))) (up x w)) bitsLt_bf16_f32

theorem prod_at : prod (ce X) (ce W) = ce (pr X W) := by
  funext j; pointwise [prod]; exact sum_fin (fun k => X (j 0).val k) fun k => W k (j 1).val

theorem gate_at : gate (ce X) (ce W) = ce (pr X W) := by
  unfold gate; rw [prod_at]; funext j; pointwise; rfl

theorem up_at : up (ce X) (ce W) = ce (pr X (cut 2816 W)) := by
  unfold up; rw [prod_at]; funext j; pointwise; rfl

theorem resG_at : resG (ce X) (ce W) = ce (pr X W) := by unfold resG; rw [gate_at]; rfl
theorem resU_at : resU (ce X) (ce W) = ce (pr X (cut 2816 W)) := by unfold resU; rw [up_at]; rfl
theorem resA_at : resA (ce X) (ce W) = ce (act (pr X W) (pr X (cut 2816 W))) := by
  unfold resA; rw [gate_at, up_at]; funext j; pointwise
  unfold ce act silu
  simp only [EReal.coe_one]

end Cert.Reference10Ideal.Act

namespace Cert.FoxClaims

open Cert.FoxClaims.Norm Cert.FoxClaims.Act Cert.Kernel10Ideal.Act Cert.Reference10Ideal.Act
open Idealize.ShloMosaic Idealize.ShloMosaic.TcCoe Idealize.SL.Sem

/-- The call's three results are the reference's, at any arguments. -/
theorem values10 : Cert.algebraic_Kernel10Ideal_Reference10Ideal := fun m ρ m' ρ' _ hm => by
  let x := fun c : Dev Cert.Kernel10Ideal.nD => (m ((c.tc : Thread Cert.Kernel10Ideal.nD Cert.Kernel10Ideal.τ).loc Cert.Kernel10Ideal.main_arg0) : Cert.Kernel10Ideal.S8192x1024.Idx → EReal)
  let w := fun c : Dev Cert.Kernel10Ideal.nD => (m ((c.tc : Thread Cert.Kernel10Ideal.nD Cert.Kernel10Ideal.τ).loc Cert.Kernel10Ideal.main_arg1) : Cert.Kernel10Ideal.S1024x5632.Idx → EReal)
  have hx := fun c => matrix (x c)
  have hw := fun c => matrix (w c)
  refine ⟨fun c => resG (x c) (w c), fun c => resU (x c) (w c), fun c => resA (x c) (w c), ?_, ?_⟩
  · refine (θ_run _ _ _).mono (fun r h c => ?_) (Cert.Kernel10Ideal.Value.run_blocks (F := Ideal) m ρ)
    obtain ⟨b0, b1, b2, hb⟩ := h c
    have a : Args (Sum.at2 (x c)) (Sum.at2 (w c)) m c := ⟨hx c, hw c⟩
    refine ⟨b0.trans ?_, b1.trans ?_, b2.trans ?_, hb⟩
    · exact ((final3 _ _ m c a).trans (resG_at _ _).symm).trans (congr (congrArg resG (hx c)) (hw c)).symm
    · exact ((final4 _ _ m c a).trans (resU_at _ _).symm).trans (congr (congrArg resU (hx c)) (hw c)).symm
    · exact ((final5 _ _ m c a).trans (resA_at _ _).symm).trans (congr (congrArg resA (hx c)) (hw c)).symm
  · refine (θ_run _ _ _).mono (fun r h c => ?_) (Cert.Reference10Ideal.Value.run (F := Ideal) m' ρ')
    obtain ⟨e0, e1⟩ := hm c
    obtain ⟨b0, b1, b2, hb⟩ := h c
    have eG := congr (congrArg resG e0) e1
    have eU := congr (congrArg resU e0) e1
    have eA := congr (congrArg resA e0) e1
    exact ⟨b0.trans eG, b1.trans eU, b2.trans eA, hb⟩

end Cert.FoxClaims

end
-- ==== Proof.InProjBody.lean ====
/- What the body of the call through the input projection computes of matrices. -/
module

public import proofs.«01_k».proof.Proof.Rows
public import proofs.«01_k».proof.Proof.Gen.Kernel8Ideal.Skeleton
public import Idealize.ShloMosaic.Lib.Pointwise

@[expose] public section

set_option maxRecDepth 16384

noncomputable section

namespace Cert.Kernel8Ideal.InProj

open Cert.Kernel8Ideal Cert.Kernel8Ideal.Gen Cert.FoxClaims.Norm
open Idealize.ShloMosaic

/-- The gradient of the normed activation: the gates' gradient and the other projections', against the weights. -/
def ih (E w D W : ℕ → ℕ → EReal) (a b : ℕ) : EReal := (∑ k ∈ Finset.range 128, E a k * w b k) + ∑ k ∈ Finset.range 9216, D a k * W b k
/-- The gradient of the activation. -/
def ix (x g E w D W Y : ℕ → ℕ → EReal) (a b : ℕ) : EReal := Y a b + nb x (sc (ih E w D W) g) a b
/-- A row's share in the gain's gradient, and the stack over the first `n` rows. -/
def it (x E w D W : ℕ → ℕ → EReal) (b u : ℕ) : EReal := ih E w D W u b * x u b * rs x u
def iv (x E w D W : ℕ → ℕ → EReal) (n a b : ℕ) : EReal := if a = 0 then ∑ u ∈ Finset.range n, it x E w D W b u else 0

/-- A sum over the columns of the weights is the sum of the seven pieces' sums. -/
theorem split (f : ℕ → EReal) : ∑ k ∈ Finset.range 9216, f k
    = (∑ k ∈ Finset.range 1024, f (0 + k)) + (∑ k ∈ Finset.range 1024, f (1024 + k)) + (∑ k ∈ Finset.range 1024, f (2048 + k)) + (∑ k ∈ Finset.range 1024, f (3072 + k))
      + (∑ k ∈ Finset.range 1024, f (4096 + k)) + (∑ k ∈ Finset.range 1024, f (5120 + k)) + ∑ k ∈ Finset.range 3072, f (6144 + k) := by
  simp only [Nat.zero_add]
  rw [Finset.sum_range_add f 6144 3072, Finset.sum_range_add f 5120 1024, Finset.sum_range_add f 4096 1024, Finset.sum_range_add f 3072 1024, Finset.sum_range_add f 2048 1024, Finset.sum_range_add f 1024 1024]

variable (X H Y g E w D W : ℕ → ℕ → EReal)

/-- The body's sum of eight products. -/
theorem body_ih : k0_pay4 (F := Ideal) (k0_pay3 (ce E) (ce w) (ce (cut 0 D)) (ce (cut 0 W)) (ce (cut 1024 D)) (ce (cut 1024 W)) (ce (cut 2048 D)) (ce (cut 2048 W)) (ce (cut 3072 D)) (ce (cut 3072 W)))
    (ce (cut 4096 D)) (ce (cut 4096 W)) (ce (cut 5120 D)) (ce (cut 5120 W)) (ce (cut 6144 D)) (ce (cut 6144 W)) = ce (ih E w D W) := by
  funext j
  unfold ce ih
  rw [split]
  pointwise [k0_pay3, k0_pay4]
  simp only [← add_assoc, Finset.sum_range]
  rfl

theorem pay5 : k0_pay5 (F := Ideal) (ce X) = ce fun a _ => rs X a := by
  funext j; pointwise [k0_pay5]
  exact congrArg Ideal.rsqrt (ms_eq X (j 0).val)

theorem pay1 : k0_pay1 (F := Ideal) (ce H) (ce X) (ce fun a _ => rs X a) (ce Y) (ce g) = ce fun a b => Y a b + nb X (sc H g) a b := by
  have e : mulf (F := Ideal) (φ := .f32) (ce H) (broadcastTo S256x1024 (ce g) broadcasts_S1x1024_S256x1024) = ce (sc H g) := by
    funext j; pointwise; rfl
  unfold k0_pay1
  dsimp only
  rw [e]
  funext j; pointwise
  exact congrArg (fun z : EReal => Y (j 0).val (j 1).val + z) (nb_eq X (sc H g) (j 0).val (j 1).val)

theorem pay6 (a : FVec Ideal S256x1024 .f32) (b c : FVec Ideal S256x1024 .bf16) (p q : FVec Ideal S1024x1024 .bf16) (d : FVec Ideal S256x3072 .bf16) (r : FVec Ideal S1024x3072 .bf16)
    (h : k0_pay4 (F := Ideal) a b p c q d r = ce H) :
    k0_pay6 (F := Ideal) a b p c q d r (ce X) (ce Y) = ce fun a b => Y a b + ∑ u ∈ Finset.range 256, H u b * X u b * rs X u := by
  unfold k0_pay6
  rw [h, pay5]
  funext j; pointwise
  exact congrArg (Y (j 0).val (j 1).val + ·) (sum_num (n := 256) fun u => H u (j 1).val * X u (j 1).val * rs X u)

end Cert.Kernel8Ideal.InProj

end
-- ==== Proof.InProj.lean ====
/- The backward call through the input projection: the gradients of the residual and of the norm's gain. -/
module

public import proofs.«01_k».proof.Defs
public import proofs.«01_k».proof.Proof.WgradSum
public import proofs.«01_k».proof.Proof.FfnUpRef
public import proofs.«01_k».proof.Proof.InProjBody
public import proofs.«01_k».proof.Proof.Gen.Kernel8Ideal.Value
public import proofs.«01_k».proof.Proof.Gen.Reference8Ideal.Run
public import Idealize.ShloMosaic.Lib.StableHlo.RunRead

@[expose] public section

set_option maxRecDepth 16384

noncomputable section

namespace Cert.Kernel8Ideal.InProj

open Cert.Kernel8Ideal Cert.Kernel8Ideal.Gen Cert.FoxClaims.Norm
open Idealize.ShloMosaic Idealize.ShloMosaic.TcCoe Idealize.ShloMosaic.Tactic Idealize.SL.Sem

variable (x g E w D W Y : ℕ → ℕ → EReal)

theorem ih_tile (t : ℕ) : ih (tile t E) w (tile t D) W = tile t (ih E w D W) := by
  funext a b; unfold tile ih; rfl
theorem ix_tile (t : ℕ) : (fun a b => tile t Y a b + nb (tile t x) (sc (tile t (ih E w D W)) g) a b) = tile t (ix x g E w D W Y) := by
  funext a b; unfold tile ix; rfl

/-- The stack with a tile's rows added. -/
theorem iv_tile (t : ℕ) : (fun a b => if a = 0 then iv x E w D W (256 * t) 0 b + ∑ u ∈ Finset.range 256, tile t (ih E w D W) u b * tile t x u b * rs (tile t x) u else iv x E w D W (256 * t) a b)
    = iv x E w D W (256 * (t + 1)) := by
  funext a b
  by_cases h0 : a = 0
  · subst h0
    exact (Finset.sum_range_add (fun u => it x E w D W b u) (256 * t) 256).symm
  · unfold iv; rw [if_neg h0, if_neg h0, if_neg h0]

theorem iv_zero : iv x E w D W (256 * 0) = fun _ _ => 0 := by
  funext a b
  unfold iv
  split_ifs <;> rfl

theorem zero_stack : k0_pay2 (F := Ideal) = ce fun _ _ => 0 := by
  funext j; pointwise [k0_pay2]; rfl

variable (m : (ℓ : Loc nD τ sig) → Buf (Elt Ideal) ℓ) (c : Dev nD)

/-- The arguments are these matrices. -/
structure Args : Prop where
  x : m ((c.tc : Thread nD τ).loc main_arg0) = (ce x : S8192x1024.Idx → EReal)
  g : m ((c.tc : Thread nD τ).loc main_arg1) = (ce g : S1x1024.Idx → EReal)
  W : m ((c.tc : Thread nD τ).loc main_arg2) = (ce W : S1024x9216.Idx → EReal)
  w : m ((c.tc : Thread nD τ).loc main_arg3) = (ce w : S1024x128.Idx → EReal)
  D : m ((c.tc : Thread nD τ).loc main_arg4) = (ce D : S8192x9216.Idx → EReal)
  E : m ((c.tc : Thread nD τ).loc main_arg5) = (ce E : S8192x128.Idx → EReal)
  Y : m ((c.tc : Thread nD τ).loc main_arg6) = (ce Y : S8192x1024.Idx → EReal)

variable (h : Args x g E w D W Y m c)
include h

theorem read1 : V m c main_v1 = (ce (cut 0 D) : S8192x1024.Idx → EReal) := by
  after_reads_simp; rw [h.D]; funext j; pointwise; exact congrArg (D (j 0).val) (Nat.zero_add _).symm
theorem read3 : V m c main_v3 = (ce (cut 1024 D) : S8192x1024.Idx → EReal) := by
  after_reads_simp; rw [h.D]; funext j; pointwise; rfl
theorem read5 : V m c main_v5 = (ce (cut 2048 D) : S8192x1024.Idx → EReal) := by
  after_reads_simp; rw [h.D]; funext j; pointwise; rfl
theorem read7 : V m c main_v7 = (ce (cut 3072 D) : S8192x1024.Idx → EReal) := by
  after_reads_simp; rw [h.D]; funext j; pointwise; rfl
theorem read9 : V m c main_v9 = (ce (cut 4096 D) : S8192x1024.Idx → EReal) := by
  after_reads_simp; rw [h.D]; funext j; pointwise; rfl
theorem read11 : V m c main_v11 = (ce (cut 5120 D) : S8192x1024.Idx → EReal) := by
  after_reads_simp; rw [h.D]; funext j; pointwise; rfl
theorem read13 : V m c main_v13 = (ce (cut 6144 D) : S8192x3072.Idx → EReal) := by
  after_reads_simp; rw [h.D]; funext j; pointwise; rfl
theorem read14 : V m c main_v14 = (ce E : S8192x128.Idx → EReal) := by after_reads_simp; rw [h.E]; rfl
theorem read15 : V m c main_v15 = (ce W : S1024x9216.Idx → EReal) := by after_reads_simp; rw [h.W]; rfl
theorem read16 : V m c main_v16 = (ce w : S1024x128.Idx → EReal) := by after_reads_simp; rw [h.w]; rfl

omit h
theorem index : ∀ t : Fin grid0.N, (win0_0.index t 0 = t.val ∧ win0_0.index t 1 = 0) ∧ (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0)
    ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = 0 ∧ win0_10.index t 1 = 0)
    ∧ (win0_11.index t 0 = 0 ∧ win0_11.index t 1 = 0) := by decide +kernel
theorem index12 : ∀ t : Fin grid0.N, win0_12.index t 0 = t.val ∧ win0_12.index t 1 = 0 := by decide +kernel
theorem index13 : ∀ t : Fin grid0.N, win0_13.index t 0 = 0 ∧ win0_13.index t 1 = 0 := by decide +kernel
theorem xsize12 : ∀ t : Fin grid0.N, win0_12.xsize (grid0.coords t) 0 = 256 ∧ win0_12.xsize (grid0.coords t) 1 = 1024 := by decide +kernel
theorem xsize13 : ∀ t : Fin grid0.N, win0_13.xsize (grid0.coords t) 0 = 8 ∧ win0_13.xsize (grid0.coords t) 1 = 1024 := by decide +kernel
include h

/-- The blocks a point reads. -/
structure Blks (t : Fin grid0.N) : Prop where
  b0 : iblk m c 0 t = (ce (cut 0 (tile t.val D)) : S256x1024.Idx → EReal)
  b1 : iblk m c 1 t = (ce (cut 1024 (tile t.val D)) : S256x1024.Idx → EReal)
  b2 : iblk m c 2 t = (ce (cut 2048 (tile t.val D)) : S256x1024.Idx → EReal)
  b3 : iblk m c 3 t = (ce (cut 3072 (tile t.val D)) : S256x1024.Idx → EReal)
  b4 : iblk m c 4 t = (ce (cut 4096 (tile t.val D)) : S256x1024.Idx → EReal)
  b5 : iblk m c 5 t = (ce (cut 5120 (tile t.val D)) : S256x1024.Idx → EReal)
  b6 : iblk m c 6 t = (ce (cut 6144 (tile t.val D)) : S256x3072.Idx → EReal)
  b7 : iblk m c 7 t = (ce (tile t.val E) : S256x128.Idx → EReal)
  b8 : iblk m c 8 t = (ce (tile t.val x) : S256x1024.Idx → EReal)
  b9 : iblk m c 9 t = (ce (tile t.val Y) : S256x1024.Idx → EReal)
  b10 : iblk m c 10 t = (ce g : S1x1024.Idx → EReal)
  b11 : iblk m c 11 t = (ce w : S1024x128.Idx → EReal)

theorem blks (t : Fin grid0.N) : Blks x g E w D Y m c t := by
  obtain ⟨i0, i1, i2, i3, i4, i5, i6, i7, i8, i9, i10, i11⟩ := index t
  constructor <;> (funext y; unfold iblk; rw [View.read_apply])
  · show V m c main_v1 _ = _; rw [read1 x g E w D W Y m c h]; exact at_tile (cut 0 D) 1024 _ _ i0
  · show V m c main_v3 _ = _; rw [read3 x g E w D W Y m c h]; exact at_tile (cut 1024 D) 1024 _ _ i1
  · show V m c main_v5 _ = _; rw [read5 x g E w D W Y m c h]; exact at_tile (cut 2048 D) 1024 _ _ i2
  · show V m c main_v7 _ = _; rw [read7 x g E w D W Y m c h]; exact at_tile (cut 3072 D) 1024 _ _ i3
  · show V m c main_v9 _ = _; rw [read9 x g E w D W Y m c h]; exact at_tile (cut 4096 D) 1024 _ _ i4
  · show V m c main_v11 _ = _; rw [read11 x g E w D W Y m c h]; exact at_tile (cut 5120 D) 1024 _ _ i5
  · show V m c main_v13 _ = _; rw [read13 x g E w D W Y m c h]; exact at_tile (cut 6144 D) 3072 _ _ i6
  · show V m c main_v14 _ = _; rw [read14 x g E w D W Y m c h]; exact at_tile E 128 _ _ i7
  · show V m c main_arg0 _ = _; rw [(V_main_arg0 m c).trans h.x]; exact at_tile x 1024 _ _ i8
  · show V m c main_arg6 _ = _; rw [(V_main_arg6 m c).trans h.Y]; exact at_tile Y 1024 _ _ i9
  · show V m c main_arg1 _ = _; rw [(V_main_arg1 m c).trans h.g]; exact at_whole g 1 1024 _ _ i10
  · show V m c main_v16 _ = _; rw [read16 x g E w D W Y m c h]; exact at_whole w 1024 128 _ _ i11

/-- What a point leaves: the residual's gradient on its rows, the gain's gradient over the rows so far, and the weights. -/
def Left (n : ℕ) (hn : n < cfg0.N) : Prop :=
  (outsAt0 m c n hn).1 = ce (tile n (ix x g E w D W Y)) ∧ (outsAt0 m c n hn).2.1 = ce (iv x E w D W (256 * (n + 1))) ∧ (outsAt0 m c n hn).2.2 = ce W

/-- The weights, as copied into the scratch by the first point, are what every point reads. -/
theorem copied (v : View sig .tc .vmem S1024x9216 .bf16) (f : BufTy.Contents (Elt Ideal) v.ty) :
    v.read (Elt Ideal) (v.writes (Elt Ideal) f [⟨Rect.whole S1024x9216, ReadAs.same.apply (View.read (Elt Ideal) (Memref.whole main_v15).view (V m c main_v15))⟩]) = ce W :=
  (View.read_writes_whole v f _).trans (read15 x g E w D W Y m c h)

omit h in
theorem zeroed (v : View sig .tc .vmem S8x1024 .f32) (G : BufTy.Contents (Elt Ideal) v.ty) (inb) :
    v.read (Elt Ideal) (v.writes (Elt Ideal) G [⟨Rect.unit (s := S8x1024) ![0, 0] S8x1024.size inb, k0_pay2 (F := Ideal)⟩]) = ce fun _ _ => 0 :=
  (View.read_writes_full v G inb _ []).trans zero_stack

set_option maxHeartbeats 1000000 in
theorem first (t : Fin cfg0.N) (ht : t.val % 32 = 0) (hz : t.val = 0) : Left x g E w D W Y m c t.val t.isLt := by
  have b := blks x g E w D W Y m c h t
  have hW := copied x g E w D W Y m c h scM0_0.view scM0_0.view.junk
  have col := fun (k n : ℕ) inb => cols (n' := n) scM0_0.view _ W hW k inb
  unfold Left
  rw [outsAt0_A m c t ht]
  refine ⟨?_, ?_, ?_⟩
  · dsimp only
    unfold out0_A_12 kernelRun0_A
    dsimp only
    sl_unfold_words
    refine (View.read_writes_full _ _ _ _ []).trans ?_
    unfold View.readCov
    rw [col 0, col 1024, col 2048, col 3072, col 4096, col 5120, col 6144, got (hs0_0 t) b.b0, got (hs0_1 t) b.b1, got (hs0_2 t) b.b2, got (hs0_3 t) b.b3, got (hs0_4 t) b.b4, got (hs0_5 t) b.b5, got (hs0_6 t) b.b6,
      got (hs0_7 t) b.b7, got (hs0_8 t) b.b8, got (hs0_9 t) b.b9, got (hs0_10 t) b.b10, got (hs0_11 t) b.b11, body_ih, ih_tile, pay5, pay1, ix_tile]
  · dsimp only
    unfold out0_A_13 kernelRun0_A
    dsimp only
    sl_unfold_words
    rw [row_cov _ _ _ (zeroed _ _ _)]
    unfold View.readCov
    rw [col 0, col 1024, col 2048, col 3072, col 4096, col 5120, col 6144, got (hs0_0 t) b.b0, got (hs0_1 t) b.b1, got (hs0_2 t) b.b2, got (hs0_3 t) b.b3, got (hs0_4 t) b.b4, got (hs0_5 t) b.b5, got (hs0_6 t) b.b6,
      got (hs0_7 t) b.b7, got (hs0_8 t) b.b8, got (hs0_11 t) b.b11, pay6 (tile t.val x) (ih (tile t.val E) w (tile t.val D) W) _ _ _ _ _ _ _ _ (body_ih _ _ _ _)]
    refine (put_row _ _ _ _ _ (zeroed _ _ _) 0 _ _ rfl).trans ?_
    rw [ih_tile, ← iv_tile, hz, iv_zero]
  · dsimp only
    unfold sout0_A_0 kernelRun0_A
    dsimp only
    exact copied x g E w D W Y m c h _ _

set_option maxHeartbeats 1000000 in
theorem later (t : Fin cfg0.N) (ht : ¬t.val % 32 = 0)
    (hv : (outsAt0 m c (t.val - 1) (Nat.lt_of_le_of_lt (Nat.sub_le _ _) t.isLt)).2.1 = ce (iv x E w D W (256 * t.val)))
    (hW : (outsAt0 m c (t.val - 1) (Nat.lt_of_le_of_lt (Nat.sub_le _ _) t.isLt)).2.2 = ce W) : Left x g E w D W Y m c t.val t.isLt := by
  have b := blks x g E w D W Y m c h t
  unfold Left
  rw [outsAt0_B m c t ht]
  dsimp only
  rw [hv, hW]
  have col := fun (k n : ℕ) inb => cols (n' := n) scM0_0.view _ W ((Memref.isWhole_whole _).read_unread _) k inb
  refine ⟨?_, ?_, ?_⟩
  · unfold out0_B_12 kernelRun0_B
    dsimp only
    sl_unfold_words
    refine (View.read_writes_full _ _ _ _ []).trans ?_
    rw [col 0, col 1024, col 2048, col 3072, col 4096, col 5120, col 6144, got (hs0_0 t) b.b0, got (hs0_1 t) b.b1, got (hs0_2 t) b.b2, got (hs0_3 t) b.b3, got (hs0_4 t) b.b4, got (hs0_5 t) b.b5, got (hs0_6 t) b.b6,
      got (hs0_7 t) b.b7, got (hs0_8 t) b.b8, got (hs0_9 t) b.b9, got (hs0_10 t) b.b10, got (hs0_11 t) b.b11, body_ih, ih_tile, pay5, pay1, ix_tile]
  · unfold out0_B_13 kernelRun0_B
    dsimp only
    sl_unfold_words
    rw [row _ _ _ ((hs0_13 t).read_unread _)]
    rw [col 0, col 1024, col 2048, col 3072, col 4096, col 5120, col 6144, got (hs0_0 t) b.b0, got (hs0_1 t) b.b1, got (hs0_2 t) b.b2, got (hs0_3 t) b.b3, got (hs0_4 t) b.b4, got (hs0_5 t) b.b5, got (hs0_6 t) b.b6,
      got (hs0_7 t) b.b7, got (hs0_8 t) b.b8, got (hs0_11 t) b.b11, pay6 (tile t.val x) (ih (tile t.val E) w (tile t.val D) W) _ _ _ _ _ _ _ _ (body_ih _ _ _ _)]
    refine (put_row _ _ _ _ _ ((hs0_13 t).read_unread _) 0 _ _ rfl).trans ?_
    rw [ih_tile, ← iv_tile]
  · rfl

theorem left : ∀ (n : ℕ) (hn : n < cfg0.N), Left x g E w D W Y m c n hn
  | 0, hn => first x g E w D W Y m c h ⟨0, hn⟩ rfl rfl
  | n + 1, hn => later x g E w D W Y m c h ⟨n + 1, hn⟩ (by have h' : n + 1 < 32 := lt_of_lt_of_eq hn N_0; show ¬(n + 1) % 32 = 0; omega) (left n (Nat.lt_of_succ_lt hn)).2.1 (left n (Nat.lt_of_succ_lt hn)).2.2

theorem final12 : (dats m 0 c).arrAt 12 cfg0.N = (ce (ix x g E w D W Y) : S8192x1024.Idx → EReal) := by
  refine (dats m 0 c).arrAt_eq_of_cover 12 (ce (ix x g E w D W Y) : S8192x1024.Idx → EReal) (fun t _ => ?_) fun i => ?_
  · show (cfg0.win 12).cut (grid0.coords t) ((dats m 0 c).after 12 t) = _
    rw [after0_12, (left x g E w D W Y m c h t.val t.isLt).1]
    funext y
    rw [View.read_apply]
    exact (at_tile (ix x g E w D W Y) 1024 (y 0).val (y 1).val (index12 t)).symm
  · have i0 : (i 0 : Nat) < 8192 := (i 0).isLt
    have i1 : (i 1 : Nat) < 1024 := (i 1).isLt
    obtain ⟨T, hv⟩ : ∃ T : Fin cfg0.N, T.val = (i 0).val / 256 := ⟨⟨(i 0).val / 256, lt_of_lt_of_eq (b := 32) (by omega) N_0.symm⟩, rfl⟩
    refine ⟨T, flush0_12 T, ?_⟩
    show i ∈ ((View.whole main_v17_0).slice (win0_12.rect T)).set
    rw [View.set_slice_whole, Rect.mem_set_unit]
    intro a
    match a with
    | ⟨0, _⟩ =>
      show win0_12.index T 0 * 256 ≤ (i 0 : Nat) ∧ (i 0 : Nat) < win0_12.index T 0 * 256 + win0_12.xsize (grid0.coords T) 0
      rw [(index12 T).1, (xsize12 T).1]; omega
    | ⟨1, _⟩ =>
      show win0_12.index T 1 * 1024 ≤ (i 1 : Nat) ∧ (i 1 : Nat) < win0_12.index T 1 * 1024 + win0_12.xsize (grid0.coords T) 1
      rw [(index12 T).2, (xsize12 T).2]; omega

theorem final13 : (dats m 0 c).arrAt 13 cfg0.N = (ce (iv x E w D W 8192) : S8x1024.Idx → EReal) := by
  refine (dats m 0 c).arrAt_eq_of_cover 13 (ce (iv x E w D W 8192) : S8x1024.Idx → EReal) (fun t hf => ?_) fun i => ?_
  · have ht : t.val = 31 := by
      have h' : t.val < 32 := lt_of_lt_of_eq t.isLt N_0
      have h'' := (flush0_13 t).mp hf
      omega
    show (cfg0.win 13).cut (grid0.coords t) ((dats m 0 c).after 13 t) = _
    rw [after0_13, (left x g E w D W Y m c h t.val t.isLt).2.1, show 256 * (t.val + 1) = 8192 by omega]
    funext y
    rw [View.read_apply]
    exact (at_whole (iv x E w D W 8192) 8 1024 (y 0).val (y 1).val (index13 t)).symm
  · have i0 : (i 0 : Nat) < 8 := (i 0).isLt
    have i1 : (i 1 : Nat) < 1024 := (i 1).isLt
    obtain ⟨T, hv⟩ : ∃ T : Fin cfg0.N, T.val = 31 := ⟨⟨31, lt_of_lt_of_eq (b := 32) (by omega) N_0.symm⟩, rfl⟩
    refine ⟨T, (flush0_13 T).mpr (by omega), ?_⟩
    show i ∈ ((View.whole main_v17_1).slice (win0_13.rect T)).set
    rw [View.set_slice_whole, Rect.mem_set_unit]
    intro a
    match a with
    | ⟨0, _⟩ =>
      show win0_13.index T 0 * 8 ≤ (i 0 : Nat) ∧ (i 0 : Nat) < win0_13.index T 0 * 8 + win0_13.xsize (grid0.coords T) 0
      rw [(index13 T).1, (xsize13 T).1]; omega
    | ⟨1, _⟩ =>
      show win0_13.index T 1 * 1024 ≤ (i 1 : Nat) ∧ (i 1 : Nat) < win0_13.index T 1 * 1024 + win0_13.xsize (grid0.coords T) 1
      rw [(index13 T).2, (xsize13 T).2]; omega

omit h
/-- The arguments, as launched. -/
abbrev arg (r : Fin 7) : (fun r : Fin 7 => ℕ → ℕ → EReal) r := match r with
  | 0 => Cert.FoxClaims.Sum.at2 (m ((c.tc : Thread nD τ).loc main_arg0) : S8192x1024.Idx → EReal)
  | 1 => Cert.FoxClaims.Sum.at2 (m ((c.tc : Thread nD τ).loc main_arg1) : S1x1024.Idx → EReal)
  | 2 => Cert.FoxClaims.Sum.at2 (m ((c.tc : Thread nD τ).loc main_arg2) : S1024x9216.Idx → EReal)
  | 3 => Cert.FoxClaims.Sum.at2 (m ((c.tc : Thread nD τ).loc main_arg3) : S1024x128.Idx → EReal)
  | 4 => Cert.FoxClaims.Sum.at2 (m ((c.tc : Thread nD τ).loc main_arg4) : S8192x9216.Idx → EReal)
  | 5 => Cert.FoxClaims.Sum.at2 (m ((c.tc : Thread nD τ).loc main_arg5) : S8192x128.Idx → EReal)
  | 6 => Cert.FoxClaims.Sum.at2 (m ((c.tc : Thread nD τ).loc main_arg6) : S8192x1024.Idx → EReal)

theorem args : Args (arg m c 0) (arg m c 1) (arg m c 5) (arg m c 3) (arg m c 4) (arg m c 2) (arg m c 6) m c :=
  ⟨matrix _, matrix _, matrix _, matrix _, matrix _, matrix _, matrix _⟩

end Cert.Kernel8Ideal.InProj

namespace Cert.Reference8Ideal.InProj

open Cert.Reference8Ideal Cert.Reference8Ideal.Facts₀ Cert.FoxClaims.Norm
open Cert.FoxClaims.Sum (at2)
open Cert.Kernel8Ideal.InProj (ih it iv ix)
open Cert.Reference3Ideal.FfnUp (M R up gain down back rsR rsR_co up_co scR back_co down_co)
open Idealize.ShloMosaic Idealize.ShloMosaic.TcCoe Idealize.SL.Sem

def ihR (W : FVec Ideal S1024x9216 .f32) (w : FVec Ideal S1024x128 .f32) (D : FVec Ideal S8192x9216 .f32) (E : FVec Ideal S8192x128 .f32) : M :=
  addf (Host.dotGeneral dot_S8192x128_S1024x128_S8192x1024_1_1_0_0_n_n none E w) (Host.dotGeneral dot_S8192x9216_S1024x9216_S8192x1024_1_1_0_0_n_n none D W)
/-- The two results. -/
def resI (x : M) (g : R) (W : FVec Ideal S1024x9216 .f32) (w : FVec Ideal S1024x128 .f32) (D : FVec Ideal S8192x9216 .f32) (E : FVec Ideal S8192x128 .f32) (Y : M) : M :=
  addf (addf (addf Y (mulf (mulf (ihR W w D E) (gain g)) (up (rsR x)))) (mulf x (back x (mulf (ihR W w D E) (gain g))))) (mulf (back x (mulf (ihR W w D E) (gain g))) x)
def resG (x : M) (W : FVec Ideal S1024x9216 .f32) (w : FVec Ideal S1024x128 .f32) (D : FVec Ideal S8192x9216 .f32) (E : FVec Ideal S8192x128 .f32) : FVec Ideal S8x1024 .f32 :=
  concatenate S8x1024 0 [⟨S1x1024, down (mulf (mulf x (up (rsR x))) (ihR W w D E))⟩, ⟨S7x1024, broadcastInDim S7x1024 ![] bcast_S_S7x1024 (constant S_ .f32 0x00000000#32)⟩] concatenates_S1x1024_S7x1024_S8x1024_d0

theorem ihR_co (W w D E : ℕ → ℕ → EReal) : ihR (ce W) (ce w) (ce D) (ce E) = ce (ih E w D W) := by
  funext j; pointwise [ihR]
  exact congrArg₂ (· + ·) (sum_num (n := 128) fun k => E (j 0).val k * w (j 1).val k) (sum_num (n := 9216) fun k => D (j 0).val k * W (j 1).val k)

theorem resI_co (x g W w D E Y : ℕ → ℕ → EReal) : resI (ce x) (ce g) (ce W) (ce w) (ce D) (ce E) (ce Y) = ce (ix x g E w D W Y) := by
  unfold resI
  rw [ihR_co, scR, back_co, rsR_co, up_co]
  funext j; pointwise
  exact bk_four x (sc (ih E w D W) g) _ (j 0).val (j 1).val

theorem resG_co (x W w D E : ℕ → ℕ → EReal) : resG (ce x) (ce W) (ce w) (ce D) (ce E) = ce (iv x E w D W 8192) := by
  have e : mulf (F := Ideal) (φ := .f32) (mulf (ce x) (up (ce fun a _ => rs x a))) (ce (ih E w D W)) = ce fun a b => it x E w D W b a := by
    rw [up_co]
    funext j; pointwise
    exact (mul_comm _ _).trans (mul_assoc _ _ _).symm
  unfold resG
  rw [ihR_co, rsR_co, e, down_co]
  funext j; pointwise
  unfold ce iv
  by_cases h0 : (j 0).val = 0
  · rw [dif_pos (by omega), if_pos h0]; rfl
  · rw [dif_neg (by omega), if_neg h0]

variable (x : M) (g : R) (W : FVec Ideal S1024x9216 .f32) (w : FVec Ideal S1024x128 .f32) (D : FVec Ideal S8192x9216 .f32) (E : FVec Ideal S8192x128 .f32) (Y : M)
theorem resI_at : resI x g W w D E Y = ce (ix (at2 (x : S8192x1024.Idx → EReal)) (at2 (g : S1x1024.Idx → EReal)) (at2 (E : S8192x128.Idx → EReal)) (at2 (w : S1024x128.Idx → EReal)) (at2 (D : S8192x9216.Idx → EReal)) (at2 (W : S1024x9216.Idx → EReal)) (at2 (Y : S8192x1024.Idx → EReal))) :=
  (congr (congr (congr (congr (congr (congr (congrArg resI (matrix _)) (matrix _)) (matrix _)) (matrix _)) (matrix _)) (matrix _)) (matrix _)).trans (resI_co _ _ _ _ _ _ _)
theorem resG_at : resG x W w D E = ce (iv (at2 (x : S8192x1024.Idx → EReal)) (at2 (E : S8192x128.Idx → EReal)) (at2 (w : S1024x128.Idx → EReal)) (at2 (D : S8192x9216.Idx → EReal)) (at2 (W : S1024x9216.Idx → EReal)) 8192) :=
  (congr (congr (congr (congr (congrArg resG (matrix _)) (matrix _)) (matrix _)) (matrix _)) (matrix _)).trans (resG_co _ _ _ _ _)

theorem res_i (m : (ℓ : Loc nD τ sig) → Buf (Elt Ideal) ℓ) (c : Dev nD) : Value.res_main_v39 m c = resI (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Value.res_main_v39
  rfl

end Cert.Reference8Ideal.InProj

namespace Cert.FoxClaims

open Cert.FoxClaims.Norm (ce)
open Cert.Kernel8Ideal.InProj (ix iv arg args final12 final13)
open Cert.Reference8Ideal.InProj (resI resG resI_at resG_at res_i)
open Idealize.ShloMosaic Idealize.ShloMosaic.TcCoe Idealize.SL.Sem

/-- The two results agree, whatever the arguments. -/
theorem values8 : Cert.algebraic_Kernel8Ideal_Reference8Ideal := fun m ρ m' ρ' _ hm => by
  refine ⟨fun c => ce (ix (arg m c 0) (arg m c 1) (arg m c 5) (arg m c 3) (arg m c 4) (arg m c 2) (arg m c 6)), fun c => ce (iv (arg m c 0) (arg m c 5) (arg m c 3) (arg m c 4) (arg m c 2) 8192), ?_, ?_⟩
  · refine (θ_run _ _ _).mono (fun r h c => ?_) (Cert.Kernel8Ideal.Value.run_blocks (F := Ideal) m ρ)
    obtain ⟨b0, b1, hb⟩ := h c
    exact ⟨b0.trans (final12 _ _ _ _ _ _ _ m c (args m c)), b1.trans (final13 _ _ _ _ _ _ _ m c (args m c)), hb⟩
  · refine (θ_run _ _ _).mono (fun r h c => ?_) (Cert.Reference8Ideal.Value.run (F := Ideal) m' ρ')
    obtain ⟨e0, e1, e2, e3, e4, e5, e6⟩ := hm c
    obtain ⟨b0, b1, hb⟩ := h c
    have e := congr (congr (congr (congr (congr (congr (congrArg resI e0) e1) e2) e3) e4) e5) e6
    have f := congr (congr (congr (congr (congrArg resG e0) e2) e3) e4) e5
    exact ⟨(b0.trans (res_i m' c)).trans (e.trans (resI_at _ _ _ _ _ _ _)), b1.trans (f.trans (resG_at _ _ _ _ _)), hb⟩

end Cert.FoxClaims

end
-- ==== Proof.lean ====
module

public import proofs.«01_k».proof.Defs
public import proofs.«01_k».proof.Proof.Claims
public import proofs.«01_k».proof.Proof.Values
public import proofs.«01_k».proof.Proof.Frames
public import proofs.«01_k».proof.Proof.FfnDown
public import proofs.«01_k».proof.Proof.FfnUp
public import proofs.«01_k».proof.Proof.Wgrad
public import proofs.«01_k».proof.Proof.WgradWide
public import proofs.«01_k».proof.Proof.WgradTall
public import proofs.«01_k».proof.Proof.WgradThird
public import proofs.«01_k».proof.Proof.WgradGate
public import proofs.«01_k».proof.Proof.FfnAct
public import proofs.«01_k».proof.Proof.InProj

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  FoxClaims.finite_facts, FoxClaims.finite2_facts,
  FoxClaims.frame_kernel, FoxClaims.frame_ideal, FoxClaims.frame_ideal_finite, FoxClaims.frame_reference, FoxClaims.frame_reference_finite,
  FoxClaims.frame_kernel2, FoxClaims.frame_ideal2, fun m ρ _ => FoxClaims.frame_ideal2 m ρ trivial, FoxClaims.frame_reference2, fun m ρ _ => FoxClaims.frame_reference2 m ρ trivial,
  FoxClaims.frame_kernel3, FoxClaims.frame_ideal3, FoxClaims.frame_reference3,
  FoxClaims.frame_kernel4, FoxClaims.frame_ideal4, FoxClaims.frame_reference4,
  FoxClaims.frame_kernel5, FoxClaims.frame_ideal5, FoxClaims.frame_reference5,
  FoxClaims.frame_kernel6, FoxClaims.frame_ideal6, FoxClaims.frame_reference6,
  FoxClaims.frame_kernel7, FoxClaims.frame_ideal7, FoxClaims.frame_reference7,
  FoxClaims.frame_kernel8, FoxClaims.frame_ideal8, FoxClaims.frame_reference8,
  FoxClaims.frame_kernel9, FoxClaims.frame_ideal9, FoxClaims.frame_reference9,
  FoxClaims.frame_kernel10, FoxClaims.frame_ideal10, FoxClaims.frame_reference10,
  FoxClaims.preserves, FoxClaims.values, trivial, FoxClaims.values2, trivial, FoxClaims.values3, trivial, FoxClaims.values4, trivial, FoxClaims.values5, trivial, FoxClaims.values6, trivial, FoxClaims.values7, trivial, FoxClaims.values8, trivial, FoxClaims.values9, trivial, FoxClaims.values10⟩

end Cert.Proof

end
